-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInRefIdeal (m : (ℓ : Loc Cert.SbInRefIdeal.nD Cert.SbInRefIdeal.τ Cert.SbInRefIdeal.sig) → Buf (Elt Ideal) ℓ) : Prop :=
  True

def Pre_DiffIn (m : (ℓ : Loc Cert.DiffIn.nD Cert.DiffIn.τ Cert.DiffIn.sig) → Buf (Elt Bits) ℓ) : Prop :=
  True

def Pre_DiffInIdeal (m : (ℓ : Loc Cert.DiffInIdeal.nD Cert.DiffInIdeal.τ Cert.DiffInIdeal.sig) → Buf (Elt Ideal) ℓ) : Prop :=
  True

def Pre_DiffInRefIdeal (m : (ℓ : Loc Cert.DiffInRefIdeal.nD Cert.DiffInRefIdeal.τ Cert.DiffInRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1)
      ∧ r.2.mem ((c.tc : Thread Cert.SbIn.nD Cert.SbIn.τ).loc Cert.SbIn.main_arg2) = m ((c.tc : Thread Cert.SbIn.nD Cert.SbIn.τ).loc Cert.SbIn.main_arg2)
      ∧ r.2.mem ((c.tc : Thread Cert.SbIn.nD Cert.SbIn.τ).loc Cert.SbIn.main_arg3) = m ((c.tc : Thread Cert.SbIn.nD Cert.SbIn.τ).loc Cert.SbIn.main_arg3)
      ∧ r.2.mem ((c.tc : Thread Cert.SbIn.nD Cert.SbIn.τ).loc Cert.SbIn.main_arg4) = m ((c.tc : Thread Cert.SbIn.nD Cert.SbIn.τ).loc Cert.SbIn.main_arg4))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
      ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2)
      ∧ r.2.mem ((c.tc : Thread Cert.SbInIdeal.nD Cert.SbInIdeal.τ).loc Cert.SbInIdeal.main_arg3) = m ((c.tc : Thread Cert.SbInIdeal.nD Cert.SbInIdeal.τ).loc Cert.SbInIdeal.main_arg3)
      ∧ r.2.mem ((c.tc : Thread Cert.SbInIdeal.nD Cert.SbInIdeal.τ).loc Cert.SbInIdeal.main_arg4) = m ((c.tc : Thread Cert.SbInIdeal.nD Cert.SbInIdeal.τ).loc Cert.SbInIdeal.main_arg4))
      ∧ r.2.sem = fun _ => 0)

def quiescent_SbInRefIdeal [hSbInRefIdeal : Cert.SbInRefIdeal.Facts] : Prop :=
  ∀ (m : (ℓ : Loc Cert.SbInRefIdeal.nD Cert.SbInRefIdeal.τ Cert.SbInRefIdeal.sig) → Buf (Elt Ideal) ℓ) (g : Dev Cert.SbInRefIdeal.nD → PrngReg), Pre_SbInRefIdeal m →
    θ_run (Cert.SbInRefIdeal.defs (F := Ideal)) (onTc (τ := Cert.SbInRefIdeal.τ) (Cert.SbInRefIdeal.main (F := Ideal))) ⟨m, fun _ => 0, g⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1)
      ∧ r.2.mem ((c.tc : Thread Cert.SbInRefIdeal.nD Cert.SbInRefIdeal.τ).loc Cert.SbInRefIdeal.main_arg2) = m ((c.tc : Thread Cert.SbInRefIdeal.nD Cert.SbInRefIdeal.τ).loc Cert.SbInRefIdeal.main_arg2)
      ∧ r.2.mem ((c.tc : Thread Cert.SbInRefIdeal.nD Cert.SbInRefIdeal.τ).loc Cert.SbInRefIdeal.main_arg3) = m ((c.tc : Thread Cert.SbInRefIdeal.nD Cert.SbInRefIdeal.τ).loc Cert.SbInRefIdeal.main_arg3)
      ∧ r.2.mem ((c.tc : Thread Cert.SbInRefIdeal.nD Cert.SbInRefIdeal.τ).loc Cert.SbInRefIdeal.main_arg4) = m ((c.tc : Thread Cert.SbInRefIdeal.nD Cert.SbInRefIdeal.τ).loc Cert.SbInRefIdeal.main_arg4))
      ∧ r.2.sem = fun _ => 0)

def quiescent_DiffIn [hDiffIn : Cert.DiffIn.Facts] : Prop :=
  ∀ (m : (ℓ : Loc Cert.DiffIn.nD Cert.DiffIn.τ Cert.DiffIn.sig) → Buf (Elt Bits) ℓ) (g : Dev Cert.DiffIn.nD → PrngReg), Pre_DiffIn m →
    θ_run (Cert.DiffIn.defs (F := Bits)) (onTc (τ := Cert.DiffIn.τ) (Cert.DiffIn.main (F := Bits))) ⟨m, fun _ => 0, g⟩ (fun r => (∀ c : Dev Cert.DiffIn.nD,
      r.2.mem ((c.tc : Thread Cert.DiffIn.nD Cert.DiffIn.τ).loc Cert.DiffIn.main_arg0) = m ((c.tc : Thread Cert.DiffIn.nD Cert.DiffIn.τ).loc Cert.DiffIn.main_arg0)
      ∧ r.2.mem ((c.tc : Thread Cert.DiffIn.nD Cert.DiffIn.τ).loc Cert.DiffIn.main_arg1) = m ((c.tc : Thread Cert.DiffIn.nD Cert.DiffIn.τ).loc Cert.DiffIn.main_arg1)
      ∧ r.2.mem ((c.tc : Thread Cert.DiffIn.nD Cert.DiffIn.τ).loc Cert.DiffIn.main_arg2) = m ((c.tc : Thread Cert.DiffIn.nD Cert.DiffIn.τ).loc Cert.DiffIn.main_arg2)
      ∧ r.2.mem ((c.tc : Thread Cert.DiffIn.nD Cert.DiffIn.τ).loc Cert.DiffIn.main_arg3) = m ((c.tc : Thread Cert.DiffIn.nD Cert.DiffIn.τ).loc Cert.DiffIn.main_arg3)
      ∧ r.2.mem ((c.tc : Thread Cert.DiffIn.nD Cert.DiffIn.τ).loc Cert.DiffIn.main_arg4) = m ((c.tc : Thread Cert.DiffIn.nD Cert.DiffIn.τ).loc Cert.DiffIn.main_arg4))
      ∧ r.2.sem = fun _ => 0)

def quiescent_DiffInIdeal [hDiffInIdeal : Cert.DiffInIdeal.Facts] : Prop :=
  ∀ (m : (ℓ : Loc Cert.DiffInIdeal.nD Cert.DiffInIdeal.τ Cert.DiffInIdeal.sig) → Buf (Elt Ideal) ℓ) (g : Dev Cert.DiffInIdeal.nD → PrngReg), Pre_DiffInIdeal m →
    θ_run (Cert.DiffInIdeal.defs (F := Ideal)) (onTc (τ := Cert.DiffInIdeal.τ) (Cert.DiffInIdeal.main (F := Ideal))) ⟨m, fun _ => 0, g⟩ (fun r => (∀ c : Dev Cert.DiffInIdeal.nD,
      r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
      ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1)
      ∧ r.2.mem ((c.tc : Thread Cert.DiffInIdeal.nD Cert.DiffInIdeal.τ).loc Cert.DiffInIdeal.main_arg2) = m ((c.tc : Thread Cert.DiffInIdeal.nD Cert.DiffInIdeal.τ).loc Cert.DiffInIdeal.main_arg2)
      ∧ r.2.mem ((c.tc : Thread Cert.DiffInIdeal.nD Cert.DiffInIdeal.τ).loc Cert.DiffInIdeal.main_arg3) = m ((c.tc : Thread Cert.DiffInIdeal.nD Cert.DiffInIdeal.τ).loc Cert.DiffInIdeal.main_arg3)
      ∧ r.2.mem ((c.tc : Thread Cert.DiffInIdeal.nD Cert.DiffInIdeal.τ).loc Cert.DiffInIdeal.main_arg4) = m ((c.tc : Thread Cert.DiffInIdeal.nD Cert.DiffInIdeal.τ).loc Cert.DiffInIdeal.main_arg4))
      ∧ r.2.sem = fun _ => 0)

def quiescent_DiffInRefIdeal [hDiffInRefIdeal : Cert.DiffInRefIdeal.Facts] : Prop :=
  ∀ (m : (ℓ : Loc Cert.DiffInRefIdeal.nD Cert.DiffInRefIdeal.τ Cert.DiffInRefIdeal.sig) → Buf (Elt Ideal) ℓ) (g : Dev Cert.DiffInRefIdeal.nD → PrngReg), Pre_DiffInRefIdeal m →
    θ_run (Cert.DiffInRefIdeal.defs (F := Ideal)) (onTc (τ := Cert.DiffInRefIdeal.τ) (Cert.DiffInRefIdeal.main (F := Ideal))) ⟨m, fun _ => 0, g⟩ (fun r => (∀ c : Dev Cert.DiffInRefIdeal.nD,
      r.2.mem ((c.tc : Thread Cert.DiffInRefIdeal.nD Cert.DiffInRefIdeal.τ).loc Cert.DiffInRefIdeal.main_arg0) = m ((c.tc : Thread Cert.DiffInRefIdeal.nD Cert.DiffInRefIdeal.τ).loc Cert.DiffInRefIdeal.main_arg0)
      ∧ r.2.mem ((c.tc : Thread Cert.DiffInRefIdeal.nD Cert.DiffInRefIdeal.τ).loc Cert.DiffInRefIdeal.main_arg1) = m ((c.tc : Thread Cert.DiffInRefIdeal.nD Cert.DiffInRefIdeal.τ).loc Cert.DiffInRefIdeal.main_arg1)
      ∧ r.2.mem ((c.tc : Thread Cert.DiffInRefIdeal.nD Cert.DiffInRefIdeal.τ).loc Cert.DiffInRefIdeal.main_arg2) = m ((c.tc : Thread Cert.DiffInRefIdeal.nD Cert.DiffInRefIdeal.τ).loc Cert.DiffInRefIdeal.main_arg2)
      ∧ r.2.mem ((c.tc : Thread Cert.DiffInRefIdeal.nD Cert.DiffInRefIdeal.τ).loc Cert.DiffInRefIdeal.main_arg3) = m ((c.tc : Thread Cert.DiffInRefIdeal.nD Cert.DiffInRefIdeal.τ).loc Cert.DiffInRefIdeal.main_arg3)
      ∧ r.2.mem ((c.tc : Thread Cert.DiffInRefIdeal.nD Cert.DiffInRefIdeal.τ).loc Cert.DiffInRefIdeal.main_arg4) = m ((c.tc : Thread Cert.DiffInRefIdeal.nD Cert.DiffInRefIdeal.τ).loc Cert.DiffInRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v53) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v13) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def preserves_SbIn_SbInIdeal : Prop :=
  True

def algebraic_SbInIdeal_SbInRefIdeal [hSbInIdeal : Cert.SbInIdeal.Facts] [hSbInRefIdeal : Cert.SbInRefIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInRefIdeal.nD Cert.SbInRefIdeal.τ Cert.SbInRefIdeal.sig) → Buf (Elt Ideal) ℓ) (g' : Dev Cert.SbInRefIdeal.nD → PrngReg), Pre_SbInIdeal m →
    (∀ c : Dev Cert.SbInIdeal.nD,
      m' ((c.tc : Thread Cert.SbInRefIdeal.nD Cert.SbInRefIdeal.τ).loc Cert.SbInRefIdeal.main_arg0) = m ((c.tc : Thread Cert.SbInIdeal.nD Cert.SbInIdeal.τ).loc Cert.SbInIdeal.main_arg0)
      ∧ m' ((c.tc : Thread Cert.SbInRefIdeal.nD Cert.SbInRefIdeal.τ).loc Cert.SbInRefIdeal.main_arg1) = m ((c.tc : Thread Cert.SbInIdeal.nD Cert.SbInIdeal.τ).loc Cert.SbInIdeal.main_arg1)
      ∧ m' ((c.tc : Thread Cert.SbInRefIdeal.nD Cert.SbInRefIdeal.τ).loc Cert.SbInRefIdeal.main_arg2) = m ((c.tc : Thread Cert.SbInIdeal.nD Cert.SbInIdeal.τ).loc Cert.SbInIdeal.main_arg2)
      ∧ m' ((c.tc : Thread Cert.SbInRefIdeal.nD Cert.SbInRefIdeal.τ).loc Cert.SbInRefIdeal.main_arg3) = m ((c.tc : Thread Cert.SbInIdeal.nD Cert.SbInIdeal.τ).loc Cert.SbInIdeal.main_arg3)
      ∧ m' ((c.tc : Thread Cert.SbInRefIdeal.nD Cert.SbInRefIdeal.τ).loc Cert.SbInRefIdeal.main_arg4) = m ((c.tc : Thread Cert.SbInIdeal.nD Cert.SbInIdeal.τ).loc Cert.SbInIdeal.main_arg4)) →
    ∃ (v0 : (c : Dev Cert.SbInIdeal.nD) → Buf (Elt Ideal) ((c.tc : Thread Cert.SbInIdeal.nD Cert.SbInIdeal.τ).loc Cert.SbInIdeal.main_v5)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v5) = v0 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
          ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2)
          ∧ r.2.mem ((c.tc : Thread Cert.SbInIdeal.nD Cert.SbInIdeal.τ).loc Cert.SbInIdeal.main_arg3) = m ((c.tc : Thread Cert.SbInIdeal.nD Cert.SbInIdeal.τ).loc Cert.SbInIdeal.main_arg3)
          ∧ r.2.mem ((c.tc : Thread Cert.SbInIdeal.nD Cert.SbInIdeal.τ).loc Cert.SbInIdeal.main_arg4) = m ((c.tc : Thread Cert.SbInIdeal.nD Cert.SbInIdeal.τ).loc Cert.SbInIdeal.main_arg4))
      ∧ θ_run (Cert.SbInRefIdeal.defs (F := Ideal)) (onTc (τ := Cert.SbInRefIdeal.τ) (Cert.SbInRefIdeal.main (F := Ideal))) ⟨m', fun _ => 0, g'⟩ (fun r => ∀ c : Dev Cert.SbInRefIdeal.nD,
          r.2.mem ((c.tc : Thread Cert.SbInRefIdeal.nD Cert.SbInRefIdeal.τ).loc Cert.SbInRefIdeal.main_v28) = v0 c
          ∧ r.2.mem ((c.tc : Thread Cert.SbInRefIdeal.nD Cert.SbInRefIdeal.τ).loc Cert.SbInRefIdeal.main_arg0) = m' ((c.tc : Thread Cert.SbInRefIdeal.nD Cert.SbInRefIdeal.τ).loc Cert.SbInRefIdeal.main_arg0)
          ∧ r.2.mem ((c.tc : Thread Cert.SbInRefIdeal.nD Cert.SbInRefIdeal.τ).loc Cert.SbInRefIdeal.main_arg1) = m' ((c.tc : Thread Cert.SbInRefIdeal.nD Cert.SbInRefIdeal.τ).loc Cert.SbInRefIdeal.main_arg1)
          ∧ r.2.mem ((c.tc : Thread Cert.SbInRefIdeal.nD Cert.SbInRefIdeal.τ).loc Cert.SbInRefIdeal.main_arg2) = m' ((c.tc : Thread Cert.SbInRefIdeal.nD Cert.SbInRefIdeal.τ).loc Cert.SbInRefIdeal.main_arg2)
          ∧ r.2.mem ((c.tc : Thread Cert.SbInRefIdeal.nD Cert.SbInRefIdeal.τ).loc Cert.SbInRefIdeal.main_arg3) = m' ((c.tc : Thread Cert.SbInRefIdeal.nD Cert.SbInRefIdeal.τ).loc Cert.SbInRefIdeal.main_arg3)
          ∧ r.2.mem ((c.tc : Thread Cert.SbInRefIdeal.nD Cert.SbInRefIdeal.τ).loc Cert.SbInRefIdeal.main_arg4) = m' ((c.tc : Thread Cert.SbInRefIdeal.nD Cert.SbInRefIdeal.τ).loc Cert.SbInRefIdeal.main_arg4))

def preserves_DiffIn_DiffInIdeal : Prop :=
  True

def algebraic_DiffInIdeal_DiffInRefIdeal [hDiffInIdeal : Cert.DiffInIdeal.Facts] [hDiffInRefIdeal : Cert.DiffInRefIdeal.Facts] : Prop :=
  ∀ (m : (ℓ : Loc Cert.DiffInIdeal.nD Cert.DiffInIdeal.τ Cert.DiffInIdeal.sig) → Buf (Elt Ideal) ℓ) (g : Dev Cert.DiffInIdeal.nD → PrngReg)
    (m' : (ℓ : Loc Cert.DiffInRefIdeal.nD Cert.DiffInRefIdeal.τ Cert.DiffInRefIdeal.sig) → Buf (Elt Ideal) ℓ) (g' : Dev Cert.DiffInRefIdeal.nD → PrngReg), Pre_DiffInIdeal m →
    (∀ c : Dev Cert.DiffInIdeal.nD,
      m' ((c.tc : Thread Cert.DiffInRefIdeal.nD Cert.DiffInRefIdeal.τ).loc Cert.DiffInRefIdeal.main_arg0) = m ((c.tc : Thread Cert.DiffInIdeal.nD Cert.DiffInIdeal.τ).loc Cert.DiffInIdeal.main_arg0)
      ∧ m' ((c.tc : Thread Cert.DiffInRefIdeal.nD Cert.DiffInRefIdeal.τ).loc Cert.DiffInRefIdeal.main_arg1) = m ((c.tc : Thread Cert.DiffInIdeal.nD Cert.DiffInIdeal.τ).loc Cert.DiffInIdeal.main_arg1)
      ∧ m' ((c.tc : Thread Cert.DiffInRefIdeal.nD Cert.DiffInRefIdeal.τ).loc Cert.DiffInRefIdeal.main_arg2) = m ((c.tc : Thread Cert.DiffInIdeal.nD Cert.DiffInIdeal.τ).loc Cert.DiffInIdeal.main_arg2)
      ∧ m' ((c.tc : Thread Cert.DiffInRefIdeal.nD Cert.DiffInRefIdeal.τ).loc Cert.DiffInRefIdeal.main_arg3) = m ((c.tc : Thread Cert.DiffInIdeal.nD Cert.DiffInIdeal.τ).loc Cert.DiffInIdeal.main_arg3)
      ∧ m' ((c.tc : Thread Cert.DiffInRefIdeal.nD Cert.DiffInRefIdeal.τ).loc Cert.DiffInRefIdeal.main_arg4) = m ((c.tc : Thread Cert.DiffInIdeal.nD Cert.DiffInIdeal.τ).loc Cert.DiffInIdeal.main_arg4)) →
    ∃ (v0 : (c : Dev Cert.DiffInIdeal.nD) → Buf (Elt Ideal) ((c.tc : Thread Cert.DiffInIdeal.nD Cert.DiffInIdeal.τ).loc Cert.DiffInIdeal.main_v5)),
      θ_run (Cert.DiffInIdeal.defs (F := Ideal)) (onTc (τ := Cert.DiffInIdeal.τ) (Cert.DiffInIdeal.main (F := Ideal))) ⟨m, fun _ => 0, g⟩ (fun r => ∀ c : Dev Cert.DiffInIdeal.nD,
          r.2.mem ((c.tc : Thread Cert.DiffInIdeal.nD Cert.DiffInIdeal.τ).loc Cert.DiffInIdeal.main_v5) = v0 c
          ∧ r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
          ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1)
          ∧ r.2.mem ((c.tc : Thread Cert.DiffInIdeal.nD Cert.DiffInIdeal.τ).loc Cert.DiffInIdeal.main_arg2) = m ((c.tc : Thread Cert.DiffInIdeal.nD Cert.DiffInIdeal.τ).loc Cert.DiffInIdeal.main_arg2)
          ∧ r.2.mem ((c.tc : Thread Cert.DiffInIdeal.nD Cert.DiffInIdeal.τ).loc Cert.DiffInIdeal.main_arg3) = m ((c.tc : Thread Cert.DiffInIdeal.nD Cert.DiffInIdeal.τ).loc Cert.DiffInIdeal.main_arg3)
          ∧ r.2.mem ((c.tc : Thread Cert.DiffInIdeal.nD Cert.DiffInIdeal.τ).loc Cert.DiffInIdeal.main_arg4) = m ((c.tc : Thread Cert.DiffInIdeal.nD Cert.DiffInIdeal.τ).loc Cert.DiffInIdeal.main_arg4))
      ∧ θ_run (Cert.DiffInRefIdeal.defs (F := Ideal)) (onTc (τ := Cert.DiffInRefIdeal.τ) (Cert.DiffInRefIdeal.main (F := Ideal))) ⟨m', fun _ => 0, g'⟩ (fun r => ∀ c : Dev Cert.DiffInRefIdeal.nD,
          r.2.mem ((c.tc : Thread Cert.DiffInRefIdeal.nD Cert.DiffInRefIdeal.τ).loc Cert.DiffInRefIdeal.main_v28) = v0 c
          ∧ r.2.mem ((c.tc : Thread Cert.DiffInRefIdeal.nD Cert.DiffInRefIdeal.τ).loc Cert.DiffInRefIdeal.main_arg0) = m' ((c.tc : Thread Cert.DiffInRefIdeal.nD Cert.DiffInRefIdeal.τ).loc Cert.DiffInRefIdeal.main_arg0)
          ∧ r.2.mem ((c.tc : Thread Cert.DiffInRefIdeal.nD Cert.DiffInRefIdeal.τ).loc Cert.DiffInRefIdeal.main_arg1) = m' ((c.tc : Thread Cert.DiffInRefIdeal.nD Cert.DiffInRefIdeal.τ).loc Cert.DiffInRefIdeal.main_arg1)
          ∧ r.2.mem ((c.tc : Thread Cert.DiffInRefIdeal.nD Cert.DiffInRefIdeal.τ).loc Cert.DiffInRefIdeal.main_arg2) = m' ((c.tc : Thread Cert.DiffInRefIdeal.nD Cert.DiffInRefIdeal.τ).loc Cert.DiffInRefIdeal.main_arg2)
          ∧ r.2.mem ((c.tc : Thread Cert.DiffInRefIdeal.nD Cert.DiffInRefIdeal.τ).loc Cert.DiffInRefIdeal.main_arg3) = m' ((c.tc : Thread Cert.DiffInRefIdeal.nD Cert.DiffInRefIdeal.τ).loc Cert.DiffInRefIdeal.main_arg3)
          ∧ r.2.mem ((c.tc : Thread Cert.DiffInRefIdeal.nD Cert.DiffInRefIdeal.τ).loc Cert.DiffInRefIdeal.main_arg4) = m' ((c.tc : Thread Cert.DiffInRefIdeal.nD Cert.DiffInRefIdeal.τ).loc Cert.DiffInRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v6)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v6) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v15) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v29)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v29) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v52) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v37) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hLast : Cert.Last.Facts) (hLastIdeal : Cert.LastIdeal.Facts) (hLastRefIdeal : Cert.LastRefIdeal.Facts) (hSbIn : Cert.SbIn.Facts) (hSbInIdeal : Cert.SbInIdeal.Facts) (hSbInRefIdeal : Cert.SbInRefIdeal.Facts) (hDiffIn : Cert.DiffIn.Facts) (hDiffInIdeal : Cert.DiffInIdeal.Facts) (hDiffInRefIdeal : Cert.DiffInRefIdeal.Facts) (hKv : Cert.Kv.Facts) (hKvIdeal : Cert.KvIdeal.Facts) (hKvRefIdeal : Cert.KvRefIdeal.Facts) (hQuery : Cert.Query.Facts) (hQueryIdeal : Cert.QueryIdeal.Facts) (hQueryRefIdeal : Cert.QueryRefIdeal.Facts) (hMod : Cert.Mod.Facts) (hModIdeal : Cert.ModIdeal.Facts) (hModRefIdeal : Cert.ModRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Last (hLast := hLast)
    ∧ quiescent_LastIdeal (hLastIdeal := hLastIdeal)
    ∧ quiescent_LastRefIdeal (hLastRefIdeal := hLastRefIdeal)
    ∧ quiescent_SbIn (hSbIn := hSbIn)
    ∧ quiescent_SbInIdeal (hSbInIdeal := hSbInIdeal)
    ∧ quiescent_SbInRefIdeal (hSbInRefIdeal := hSbInRefIdeal)
    ∧ quiescent_DiffIn (hDiffIn := hDiffIn)
    ∧ quiescent_DiffInIdeal (hDiffInIdeal := hDiffInIdeal)
    ∧ quiescent_DiffInRefIdeal (hDiffInRefIdeal := hDiffInRefIdeal)
    ∧ quiescent_Kv (hKv := hKv)
    ∧ quiescent_KvIdeal (hKvIdeal := hKvIdeal)
    ∧ quiescent_KvRefIdeal (hKvRefIdeal := hKvRefIdeal)
    ∧ quiescent_Query (hQuery := hQuery)
    ∧ quiescent_QueryIdeal (hQueryIdeal := hQueryIdeal)
    ∧ quiescent_QueryRefIdeal (hQueryRefIdeal := hQueryRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Last_LastIdeal
    ∧ algebraic_LastIdeal_LastRefIdeal (hLastIdeal := hLastIdeal) (hLastRefIdeal := hLastRefIdeal)
    ∧ preserves_SbIn_SbInIdeal
    ∧ algebraic_SbInIdeal_SbInRefIdeal (hSbInIdeal := hSbInIdeal) (hSbInRefIdeal := hSbInRefIdeal)
    ∧ preserves_DiffIn_DiffInIdeal
    ∧ algebraic_DiffInIdeal_DiffInRefIdeal (hDiffInIdeal := hDiffInIdeal) (hDiffInRefIdeal := hDiffInRefIdeal)
    ∧ preserves_Kv_KvIdeal
    ∧ algebraic_KvIdeal_KvRefIdeal (hKvIdeal := hKvIdeal) (hKvRefIdeal := hKvRefIdeal)
    ∧ preserves_Query_QueryIdeal
    ∧ algebraic_QueryIdeal_QueryRefIdeal (hQueryIdeal := hQueryIdeal) (hQueryRefIdeal := hQueryRefIdeal)
    ∧ preserves_Mod_ModIdeal
    ∧ algebraic_ModIdeal_ModRefIdeal (hModIdeal := hModIdeal) (hModRefIdeal := hModRefIdeal)
-- ==== Pre_finite.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S_ : Shape := ⟨0, ![]⟩
abbrev S8x4096x16x128 : Shape := ⟨4, ![8, 4096, 16, 128]⟩

class Facts : Prop where
  bcast_S_S8x4096x16x192 : S_.BroadcastsInDim S8x4096x16x192 (![] : Fin 0 → Fin S8x4096x16x192.rank)
  reducesTo_S8x4096x16x192_S_d0_1_2_3 : S8x4096x16x192.ReducesTo [0, 1, 2, 3] S_
  h_S_ : 0 < S_.numel
  slices_S8x4096x16x256_S8x4096x16x128_0_0_0_0 : S8x4096x16x256.Slices ![0, 0, 0, 0] S8x4096x16x128
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_
  bcast_S_S8x4096x64 : S_.BroadcastsInDim S8x4096x64 (![] : Fin 0 → Fin S8x4096x64.rank)
  reducesTo_S8x4096x64_S_d0_1_2 : S8x4096x64.ReducesTo [0, 1, 2] S_

variable [Facts]

def fn {F : FTy → Type} [FloatOps F] (main_arg0 : FVec F S8x4096x16x192 .f32) (main_arg1 : FVec F S8x4096x16x256 .f32) (main_arg2 : FVec F S8x4096x64 .f32) : IVec S_ 1 :=
  let main_v0 : FVec F S8x4096x16x192 .f32 := Host.absf main_arg0
  let main_cst : FVec F S_ .f32 := constant S_ .f32 0x7F800000#32
  let main_v1 : FVec F S8x4096x16x192 .f32 := broadcastInDim S8x4096x16x192 ![] bcast_S_S8x4096x16x192 main_cst
  let main_v2 : IVec S8x4096x16x192 1 := cmpf .olt main_v0 main_v1
  let main_c : IVec S_ 1 := constantI S_ 1 1#1
  let main_v3 : IVec S_ 1 := (fun x v => Host.reduce IntOp.andi x v reducesTo_S8x4096x16x192_S_d0_1_2_3 h_S_) main_v2 main_c
  let main_v4 : FVec F S8x4096x16x128 .f32 := (extractStridedSlice S8x4096x16x128 ![0, 0, 0, 0] · slices_S8x4096x16x256_S8x4096x16x128_0_0_0_0) main_arg1
  let main_v5 : FVec F S8x4096x16x128 .f32 := Host.absf main_v4
  let main_cst_0 : FVec F S_ .f32 := constant S_ .f32 0x7F800000#32
  let main_v6 : FVec F S8x4096x16x128 .f32 := broadcastInDim S8x4096x16x128 ![] bcast_S_S8x4096x16x128 main_cst_0
  let main_v7 : IVec S8x4096x16x128 1 := cmpf .olt main_v5 main_v6
  let main_c_1 : IVec S_ 1 := constantI S_ 1 1#1
  let main_v8 : IVec S_ 1 := (fun x v => Host.reduce IntOp.andi x v reducesTo_S8x4096x16x128_S_d0_1_2_3 h_S_) main_v7 main_c_1
  let main_v9 : IVec S_ 1 := andi main_v3 main_v8
  let main_v10 : FVec F S8x4096x64 .f32 := Host.absf main_arg2
  let main_cst_2 : FVec F S_ .f32 := constant S_ .f32 0x7F800000#32
  let main_v11 : FVec F S8x4096x64 .f32 := broadcastInDim S8x4096x64 ![] bcast_S_S8x4096x64 main_cst_2
  let main_v12 : IVec S8x4096x64 1 := cmpf .olt main_v10 main_v11
  let main_c_3 : IVec S_ 1 := constantI S_ 1 1#1
  let main_v13 : IVec S_ 1 := (fun x v => Host.reduce IntOp.andi x v reducesTo_S8x4096x64_S_d0_1_2 h_S_) main_v12 main_c_3
  let main_v14 : IVec S_ 1 := andi main_v9 main_v13
  main_v14
-- ==== Kernel.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S_ : Shape := ⟨0, ![]⟩
abbrev S8x4096x128 : Shape := ⟨3, ![8, 4096, 128]⟩
abbrev S8x4096x4096 : Shape := ⟨3, ![8, 4096, 4096]⟩
abbrev S8x4096x2048 : Shape := ⟨3, ![8, 4096, 2048]⟩
abbrev S1x512x1024 : Shape := ⟨3, ![1, 512, 1024]⟩
abbrev S1x4096x1024 : Shape := ⟨3, ![1, 4096, 1024]⟩
abbrev S1x4096x128 : Shape := ⟨3, ![1, 4096, 128]⟩
abbrev S1x512x512 : Shape := ⟨3, ![1, 512, 512]⟩
abbrev S4x512x128 : Shape := ⟨3, ![4, 512, 128]⟩
abbrev S1x512x256 : Shape := ⟨3, ![1, 512, 256]⟩
abbrev S512x256 : Shape := ⟨2, ![512, 256]⟩
abbrev S1x1024x128 : Shape := ⟨3, ![1, 1024, 128]⟩
abbrev S1024x128 : Shape := ⟨2, ![1024, 128]⟩
abbrev S1024x256 : Shape := ⟨2, ![1024, 256]⟩
abbrev S512x1024 : Shape := ⟨2, ![512, 1024]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩

abbrev nBuf : Space → Nat
  | .hbm => 21
  | .vmem => 11
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x256, .f32⟩
  | .hbm, ⟨2, _⟩ => ⟨S8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x16x192, .f32⟩
  | .hbm, ⟨8, _⟩ => ⟨S8x4096x16x192, .f32⟩
  | .hbm, ⟨9, _⟩ => ⟨S_, .i32⟩
  | .hbm, ⟨10, _⟩ => ⟨S_, .f32⟩
  | .hbm, ⟨11, _⟩ => ⟨S8x4096x16x256, .f32⟩
  | .hbm, ⟨12, _⟩ => ⟨S8x4096x16x256, .bf16⟩
  | .hbm, ⟨13, _⟩ => ⟨S_, .i32⟩
  | .hbm, ⟨14, _⟩ => ⟨S_, .f32⟩
  | .hbm, ⟨15, _⟩ => ⟨S8x4096x128, .f32⟩
  | .hbm, ⟨16, _⟩ => ⟨S8x4096x128, .bf16⟩
  | .hbm, ⟨17, _⟩ => ⟨S8x4096x16x256, .bf16⟩
  | .hbm, ⟨18, _⟩ => ⟨S8x4096x4096, .bf16⟩
  | .hbm, ⟨19, _⟩ => ⟨S8x4096x4096, .bf16⟩
  | .hbm, ⟨20, _⟩ => ⟨S8x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x512, .bf16⟩
  | .local _ .vmem, ⟨7, _⟩ => ⟨S1x512x512, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | _, _ => ⟨S8x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_26 : BitVec 32 := 1#32
  ⟨c0_i32_24, v41, c1_i32_26⟩
def k0_mult1 (i : grid0.Coords) (k0_t1 : Fin (k0_t1_loop i).trips) : BitVec 32 :=
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  v348
def k0_off1 (i : grid0.Coords) (k0_t1 : Fin (k0_t1_loop i).trips) : Fin 3 → Nat :=
  let c0_177 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v350 : Index := Scalar.indexCast v349
  let c0_178 : Index := 0#32
  ![0, v350.toNat, 0]
def k0_off2 (i : grid0.Coords) (k0_t1 : Fin (k0_t1_loop i).trips) : Fin 3 → Nat :=
  let c0_179 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v353 : Index := Scalar.indexCast v349
  let c0_180 : Index := 0#32
  ![0, v353.toNat, 0]
def k0_off3 (i : grid0.Coords) (k0_t1 : Fin (k0_t1_loop i).trips) : Fin 3 → Nat :=
  let c0_182 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v358 : Index := Scalar.indexCast v349
  let c128_183 : Index := 128#32
  ![0, v358.toNat, 128]
def k0_off4 (i : grid0.Coords) (k0_t1 : Fin (k0_t1_loop i).trips) : Fin 3 → Nat :=
  let c0_204 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v434 : Index := Scalar.indexCast v349
  let c256_205 : Index := 256#32
  ![0, v434.toNat, 256]
def k0_off5 (i : grid0.Coords) (k0_t1 : Fin (k0_t1_loop i).trips) : Fin 3 → Nat :=
  let c0_207 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v439 : Index := Scalar.indexCast v349
  let c384_208 : Index := 384#32
  ![0, v439.toNat, 384]
def k0_off6 (i : grid0.Coords) (k0_t1 : Fin (k0_t1_loop i).trips) : Fin 3 → Nat :=
  let c0_229 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v515 : Index := Scalar.indexCast v349
  let c512_230 : Index := 512#32
  ![0, v515.toNat, 512]
def k0_off7 (i : grid0.Coords) (k0_t1 : Fin (k0_t1_loop i).trips) : Fin 3 → Nat :=
  let c0_232 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v520 : Index := Scalar.indexCast v349
  let c640_233 : Index := 640#32
  ![0, v520.toNat, 640]
def k0_off8 (i : grid0.Coords) (k0_t1 : Fin (k0_t1_loop i).trips) : Fin 3 → Nat :=
  let c0_254 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v596 : Index := Scalar.indexCast v349
  let c768_255 : Index := 768#32
  ![0, v596.toNat, 768]
def k0_off9 (i : grid0.Coords) (k0_t1 : Fin (k0_t1_loop i).trips) : Fin 3 → Nat :=
  let c0_257 : Index := 0#32
  let c2_i32_175 : BitVec 32 := 2#32
  let c0_i32_24 : BitVec 32 := 0#32
  let c1_i32_26 : BitVec 32 := 1#32
  let arg10 : BitVec 32 := Scf.iv c0_i32_24 c1_i32_26 k0_t1
  let v347 : BitVec 32 := Scalar.muli c2_i32_175 arg10
  let c512_i32_176 : BitVec 32 := 512#32
  let v348 : BitVec 32 := Scalar.muli v347 c512_i32_176
  let v349 : BitVec 32 := v348
  let v601 : Index := Scalar.indexCast v349
  let c896_258 : Index := 896#32
  ![0, v601.toNat, 896]
@[reducible] def k0_t2_loop (i : grid0.Coords) : Scf.Loop 32 :=
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let v38 : BitVec 32 := Scalar.addi c0_i32_24 v37
  let c1_i32_27 : BitVec 32 := 1#32
  ⟨v41, v38, c1_i32_27⟩
def k0_mult2 (i : grid0.Coords) (k0_t2 : Fin (k0_t2_loop i).trips) : BitVec 32 :=
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  v348
def k0_off10 (i : grid0.Coords) (k0_t2 : Fin (k0_t2_loop i).trips) : Fin 3 → Nat :=
  let c0_177 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v350 : Index := Scalar.indexCast v349
  let c0_178 : Index := 0#32
  ![0, v350.toNat, 0]
def k0_off11 (i : grid0.Coords) (k0_t2 : Fin (k0_t2_loop i).trips) : Fin 3 → Nat :=
  let c0_179 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v353 : Index := Scalar.indexCast v349
  let c0_180 : Index := 0#32
  ![0, v353.toNat, 0]
def k0_off12 (i : grid0.Coords) (k0_t2 : Fin (k0_t2_loop i).trips) : Fin 3 → Nat :=
  let c0_182 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v358 : Index := Scalar.indexCast v349
  let c128_183 : Index := 128#32
  ![0, v358.toNat, 128]
def k0_off13 (i : grid0.Coords) (k0_t2 : Fin (k0_t2_loop i).trips) : Fin 3 → Nat :=
  let c0_204 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v434 : Index := Scalar.indexCast v349
  let c256_205 : Index := 256#32
  ![0, v434.toNat, 256]
def k0_off14 (i : grid0.Coords) (k0_t2 : Fin (k0_t2_loop i).trips) : Fin 3 → Nat :=
  let c0_207 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v439 : Index := Scalar.indexCast v349
  let c384_208 : Index := 384#32
  ![0, v439.toNat, 384]
def k0_off15 (i : grid0.Coords) (k0_t2 : Fin (k0_t2_loop i).trips) : Fin 3 → Nat :=
  let c0_229 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v515 : Index := Scalar.indexCast v349
  let c512_230 : Index := 512#32
  ![0, v515.toNat, 512]
def k0_off16 (i : grid0.Coords) (k0_t2 : Fin (k0_t2_loop i).trips) : Fin 3 → Nat :=
  let c0_232 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v520 : Index := Scalar.indexCast v349
  let c640_233 : Index := 640#32
  ![0, v520.toNat, 640]
def k0_off17 (i : grid0.Coords) (k0_t2 : Fin (k0_t2_loop i).trips) : Fin 3 → Nat :=
  let c0_254 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v596 : Index := Scalar.indexCast v349
  let c768_255 : Index := 768#32
  ![0, v596.toNat, 768]
def k0_off18 (i : grid0.Coords) (k0_t2 : Fin (k0_t2_loop i).trips) : Fin 3 → Nat :=
  let c0_257 : Index := 0#32
  let c2_i32_175 : BitVec 32 := 2#32
  let c0_i32_24 : BitVec 32 := 0#32
  let arg2 : BitVec 32 := BitVec.ofNat 32 (i 2).val
  let c0_i32 : BitVec 32 := 0#32
  let v21 : BitVec 1 := Scalar.cmpi .sgt arg2 c0_i32
  let v22 : BitVec 32 := Scalar.extui v21
  let c0_i32_19 : BitVec 32 := 0#32
  let v23 : BitVec 1 := Scalar.cmpi .slt arg2 c0_i32_19
  let v24 : BitVec 32 := Scalar.extui v23
  let v25 : BitVec 32 := Scalar.subi v22 v24
  let c2_i32 : BitVec 32 := 2#32
  let c0_i32_20 : BitVec 32 := 0#32
  let v26 : BitVec 1 := Scalar.cmpi .sgt c2_i32 c0_i32_20
  let v27 : BitVec 32 := Scalar.extui v26
  let c0_i32_21 : BitVec 32 := 0#32
  let v28 : BitVec 1 := Scalar.cmpi .slt c2_i32 c0_i32_21
  let v29 : BitVec 32 := Scalar.extui v28
  let v30 : BitVec 32 := Scalar.subi v27 v29
  let v31 : BitVec 1 := Scalar.cmpi .ne v25 v30
  let v32 : BitVec 32 := Scalar.remsi arg2 c2_i32
  let c0_i32_22 : BitVec 32 := 0#32
  let v33 : BitVec 1 := Scalar.cmpi .ne v32 c0_i32_22
  let v34 : BitVec 1 := Scalar.andi v31 v33
  let v20 : BitVec 32 := Scalar.divsi arg2 c2_i32
  let c1_i32 : BitVec 32 := 1#32
  let v35 : BitVec 32 := Scalar.subi v20 c1_i32
  let v36 : BitVec 32 := Scalar.select v34 v35 v20
  let v37 : BitVec 32 := Scalar.subi v36 c0_i32_24
  let c1_i32_25 : BitVec 32 := 1#32
  let v39 : BitVec 32 := Scalar.divsi v37 c1_i32_25
  let v40 : BitVec 32 := Scalar.muli v39 c1_i32_25
  let v41 : BitVec 32 := Scalar.addi c0_i32_24 v40
  let c1_i32_27 : BitVec 32 := 1#32
  let arg10 : BitVec 32 := Scf.iv v41 c1_i32_27 k0_t2
  let v347 : BitVec 32 := Scalar.muli c2_i32_175 arg10
  let c512_i32_176 : BitVec 32 := 512#32
  let v348 : BitVec 32 := Scalar.muli v347 c512_i32_176
  let v349 : BitVec 32 := v348
  let v601 : Index := Scalar.indexCast v349
  let c896_258 : Index := 896#32
  ![0, v601.toNat, 896]
def k0_cond1 (i : grid0.Coords) : BitVec 1 :=
  let arg2 : BitVec 32 := BitVec.ofNat 32 (i 2).val
  let c2_i32_28 : BitVec 32 := 2#32
  let c0_i32_29 : BitVec 32 := 0#32
  let v42 : BitVec 1 := Scalar.cmpi .eq c2_i32_28 c0_i32_29
  let c1_i32_30 : BitVec 32 := 1#32
  let v43 : BitVec 32 := Scalar.select v42 c1_i32_30 c2_i32_28
  let v44 : BitVec 32 := Scalar.remsi arg2 v43
  let c0_i32_32 : BitVec 32 := 0#32
  let v46 : BitVec 1 := Scalar.cmpi .slt v44 c0_i32_32
  let c0_i32_33 : BitVec 32 := 0#32
  let v47 : BitVec 1 := Scalar.cmpi .slt v43 c0_i32_33
  let v48 : BitVec 1 := Scalar.xori v46 v47
  let c0_i32_31 : BitVec 32 := 0#32
  let v45 : BitVec 1 := Scalar.cmpi .ne v44 c0_i32_31
  let v49 : BitVec 1 := Scalar.andi v48 v45
  let v50 : BitVec 32 := Scalar.addi v44 v43
  let v51 : BitVec 32 := Scalar.select v49 v50 v44
  let c1_i32_34 : BitVec 32 := 1#32
  let v52 : BitVec 1 := Scalar.cmpi .eq v51 c1_i32_34
  let v53 : BitVec 32 := Scalar.extui v52
  let c0_i32_35 : BitVec 32 := 0#32
  let v54 : BitVec 1 := Scalar.cmpi .ne v53 c0_i32_35
  v54

def k0_mult3 (i : grid0.Coords) : BitVec 32 :=
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  v348
def k0_off19 (i : grid0.Coords) : Fin 3 → Nat :=
  let c0_177 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v350 : Index := Scalar.indexCast v349
  let c0_178 : Index := 0#32
  ![0, v350.toNat, 0]
def k0_off20 (i : grid0.Coords) : Fin 3 → Nat :=
  let c0_179 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v353 : Index := Scalar.indexCast v349
  let c0_180 : Index := 0#32
  ![0, v353.toNat, 0]
def k0_off21 (i : grid0.Coords) : Fin 3 → Nat :=
  let c0_182 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v358 : Index := Scalar.indexCast v349
  let c128_183 : Index := 128#32
  ![0, v358.toNat, 128]
def k0_off22 (i : grid0.Coords) : Fin 3 → Nat :=
  let c0_204 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v410 : Index := Scalar.indexCast v349
  let c256_205 : Index := 256#32
  ![0, v410.toNat, 256]
def k0_off23 (i : grid0.Coords) : Fin 3 → Nat :=
  let c0_207 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v415 : Index := Scalar.indexCast v349
  let c384_208 : Index := 384#32
  ![0, v415.toNat, 384]
def k0_off24 (i : grid0.Coords) : Fin 3 → Nat :=
  let c0_229 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v467 : Index := Scalar.indexCast v349
  let c512_230 : Index := 512#32
  ![0, v467.toNat, 512]
def k0_off25 (i : grid0.Coords) : Fin 3 → Nat :=
  let c0_232 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v472 : Index := Scalar.indexCast v349
  let c640_233 : Index := 640#32
  ![0, v472.toNat, 640]
def k0_off26 (i : grid0.Coords) : Fin 3 → Nat :=
  let c0_254 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v524 : Index := Scalar.indexCast v349
  let c768_255 : Index := 768#32
  ![0, v524.toNat, 768]
def k0_off27 (i : grid0.Coords) : Fin 3 → Nat :=
  let c0_257 : Index := 0#32
  let arg2 : BitVec 32 := BitVec.ofNat 32 (i 2).val
  let c1_i32_175 : BitVec 32 := 1#32
  let v347 : BitVec 32 := Scalar.subi arg2 c1_i32_175
  let c512_i32_176 : BitVec 32 := 512#32
  let v348 : BitVec 32 := Scalar.muli v347 c512_i32_176
  let v349 : BitVec 32 := v348
  let v529 : Index := Scalar.indexCast v349
  let c896_258 : Index := 896#32
  ![0, v529.toNat, 896]
def k0_mult4 (i : grid0.Coords) : BitVec 32 :=
  let arg2 : BitVec 32 := BitVec.ofNat 32 (i 2).val
  let c512_i32 : BitVec 32 := 512#32
  let v58 : BitVec 32 := Scalar.muli arg2 c512_i32
  v58
def k0_off28 (i : grid0.Coords) : Fin 3 → Nat :=
  let c0_36 : Index := 0#32
  let arg2 : BitVec 32 := BitVec.ofNat 32 (i 2).val
  let c512_i32 : BitVec 32 := 512#32
  let v58 : BitVec 32 := Scalar.muli arg2 c512_i32
  let v59 : BitVec 32 := v58
  let v60 : Index := Scalar.indexCast v59
  let c0_37 : Index := 0#32
  ![0, v60.toNat, 0]
def k0_off29 (i : grid0.Coords) : Fin 3 → Nat :=
  let c0_38 : Index := 0#32
  let arg2 : BitVec 32 := BitVec.ofNat 32 (i 2).val
  let c512_i32 : BitVec 32 := 512#32
  let v58 : BitVec 32 := Scalar.muli arg2 c512_i32
  let v59 : BitVec 32 := v58
  let v63 : Index := Scalar.indexCast v59
  let c0_39 : Index := 0#32
  ![0, v63.toNat, 0]
def k0_off30 (i : grid0.Coords) : Fin 3 → Nat :=
  let c0_42 : Index := 0#32
  let arg2 : BitVec 32 := BitVec.ofNat 32 (i 2).val
  let c512_i32 : BitVec 32 := 512#32
  let v58 : BitVec 32 := Scalar.muli arg2 c512_i32
  let v59 : BitVec 32 := v58
  let v70 : Index := Scalar.indexCast v59
  let c128 : Index := 128#32
  ![0, v70.toNat, 128]
def k0_off31 (i : grid0.Coords) : Fin 3 → Nat :=
  let c0_63 : Index := 0#32
  let arg2 : BitVec 32 := BitVec.ofNat 32 (i 2).val
  let c512_i32 : BitVec 32 := 512#32
  let v58 : BitVec 32 := Scalar.muli arg2 c512_i32
  let v59 : BitVec 32 := v58
  let v122 : Index := Scalar.indexCast v59
  let c256_64 : Index := 256#32
  ![0, v122.toNat, 256]
def k0_off32 (i : grid0.Coords) : Fin 3 → Nat :=
  let c0_67 : Index := 0#32
  let arg2 : BitVec 32 := BitVec.ofNat 32 (i 2).val
  let c512_i32 : BitVec 32 := 512#32
  let v58 : BitVec 32 := Scalar.muli arg2 c512_i32
  let v59 : BitVec 32 := v58
  let v129 : Index := Scalar.indexCast v59
  let c384 : Index := 384#32
  ![0, v129.toNat, 384]
def k0_off33 (i : grid0.Coords) : Fin 3 → Nat :=
  let c0_87 : Index := 0#32
  let arg2 : BitVec 32 := BitVec.ofNat 32 (i 2).val
  let c512_i32 : BitVec 32 := 512#32
  let v58 : BitVec 32 := Scalar.muli arg2 c512_i32
  let v59 : BitVec 32 := v58
  let v181 : Index := Scalar.indexCast v59
  let c512_88 : Index := 512#32
  ![0, v181.toNat, 512]
def k0_off34 (i : grid0.Coords) : Fin 3 → Nat :=
  let c0_91 : Index := 0#32
  let arg2 : BitVec 32 := BitVec.ofNat 32 (i 2).val
  let c512_i32 : BitVec 32 := 512#32
  let v58 : BitVec 32 := Scalar.muli arg2 c512_i32
  let v59 : BitVec 32 := v58
  let v188 : Index := Scalar.indexCast v59
  let c640 : Index := 640#32
  ![0, v188.toNat, 640]
def k0_off35 (i : grid0.Coords) : Fin 3 → Nat :=
  let c0_111 : Index := 0#32
  let arg2 : BitVec 32 := BitVec.ofNat 32 (i 2).val
  let c512_i32 : BitVec 32 := 512#32
  let v58 : BitVec 32 := Scalar.muli arg2 c512_i32
  let v59 : BitVec 32 := v58
  let v240 : Index := Scalar.indexCast v59
  let c768_112 : Index := 768#32
  ![0, v240.toNat, 768]
def k0_off36 (i : grid0.Coords) : Fin 3 → Nat :=
  let c0_115 : Index := 0#32
  let arg2 : BitVec 32 := BitVec.ofNat 32 (i 2).val
  let c512_i32 : BitVec 32 := 512#32
  let v58 : BitVec 32 := Scalar.muli arg2 c512_i32
  let v59 : BitVec 32 := v58
  let v247 : Index := Scalar.indexCast v59
  let c896 : Index := 896#32
  ![0, v247.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S8x4096x16x128 : Shape := ⟨4, ![8, 4096, 16, 128]⟩
abbrev S8x4096x16x64 : Shape := ⟨4, ![8, 4096, 16, 64]⟩
abbrev S4096 : Shape := ⟨1, ![4096]⟩
abbrev S8x16x4096x4096 : Shape := ⟨4, ![8, 16, 4096, 4096]⟩
abbrev S8x4096x4096x16 : Shape := ⟨4, ![8, 4096, 4096, 16]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩
abbrev S8x4096x2048 : Shape := ⟨3, ![8, 4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x256, .f32⟩
  | .hbm, ⟨2, _⟩ => ⟨S8x4096x64, .f32⟩
  | .hbm, ⟨3, _⟩ => ⟨S8x4096x16x128, .f32⟩
  | .hbm, ⟨4, _⟩ => ⟨S8x4096x16x64, .f32⟩
  | .hbm, ⟨5, _⟩ => ⟨S8x4096x16x128, .f32⟩
  | .hbm, ⟨6, _⟩ => ⟨S8x4096x16x128, .f32⟩
  | .hbm, ⟨7, _⟩ => ⟨S4096, .i32⟩
  | .hbm, ⟨8, _⟩ => ⟨S8x16x4096x4096, .f32⟩
  | .hbm, ⟨9, _⟩ => ⟨S8x4096x4096x16, .f32⟩
  | .hbm, ⟨10, _⟩ => ⟨S8x16x4096x4096, .f32⟩
  | .hbm, ⟨11, _⟩ => ⟨S8x16x4096x4096, .f32⟩
  | .hbm, ⟨12, _⟩ => ⟨S_, .f32⟩
  | .hbm, ⟨13, _⟩ => ⟨S8x16x4096x4096, .f32⟩
  | .hbm, ⟨14, _⟩ => ⟨S8x16x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x16x4096x4096, .i1⟩
  | .hbm, ⟨23, _⟩ => ⟨S8x16x4096x4096, .f32⟩
  | .hbm, ⟨24, _⟩ => ⟨S8x16x4096x4096, .f32⟩
  | .hbm, ⟨25, _⟩ => ⟨S_, .f32⟩
  | .hbm, ⟨26, _⟩ => ⟨S8x16x4096, .f32⟩
  | .hbm, ⟨27, _⟩ => ⟨S8x16x4096x1, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .f32⟩
  | .hbm, ⟨31, _⟩ => ⟨S_, .f32⟩
  | .hbm, ⟨32, _⟩ => ⟨S_, .f32⟩
  | .hbm, ⟨33, _⟩ => ⟨S8x16x4096x4096, .i1⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S8x16x4096, .f32⟩
  | .hbm, ⟨38, _⟩ => ⟨S8x16x4096x1, .f32⟩
  | .hbm, ⟨39, _⟩ => ⟨S_, .f32⟩
  | .hbm, ⟨40, _⟩ => ⟨S8x16x4096x1, .f32⟩
  | .hbm, ⟨41, _⟩ => ⟨S8x16x4096x1, .f32⟩
  | .hbm, ⟨42, _⟩ => ⟨S8x16x4096x4096, .f32⟩
  | .hbm, ⟨43, _⟩ => ⟨S8x16x4096x4096, .f32⟩
  | .hbm, ⟨44, _⟩ => ⟨S8x16x128x4096, .f32⟩
  | .hbm, ⟨45, _⟩ => ⟨S8x4096x16x128, .f32⟩
  | .hbm, ⟨46, _⟩ => ⟨S8x4096x2048, .f32⟩
  | .hbm, ⟨47, _⟩ => ⟨S8x4096x2048, .bf16⟩
  | _, _ => ⟨S8x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Up.lean ====
abbrev S8x4096x2048 : Shape := ⟨3, ![8, 4096, 2048]⟩
abbrev S2048 : Shape := ⟨1, ![2048]⟩
abbrev S8x2048 : Shape := ⟨2, ![8, 2048]⟩
abbrev S2048x11264 : Shape := ⟨2, ![2048, 11264]⟩
abbrev S3x11264 : Shape := ⟨2, ![3, 11264]⟩
abbrev S11264 : Shape := ⟨1, ![11264]⟩
abbrev S32768x2048 : Shape := ⟨2, ![32768, 2048]⟩
abbrev S1x11264 : Shape := ⟨2, ![1, 11264]⟩
abbrev S1x2048 : Shape := ⟨2, ![1, 2048]⟩
abbrev S8x1x2048 : Shape := ⟨3, ![8, 1, 2048]⟩
abbrev S32768x5632 : Shape := ⟨2, ![32768, 5632]⟩
abbrev S1024x2048 : Shape := ⟨2, ![1024, 2048]⟩
abbrev S16x2048 : Shape := ⟨2, ![16, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1040x512 : Shape := ⟨2, ![1040, 512]⟩
abbrev S16x512 : Shape := ⟨2, ![16, 512]⟩

abbrev nBuf : Space → Nat
  | .hbm => 14
  | .vmem => 24
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S32768x2048, .f32⟩
  | .hbm, ⟨8, _⟩ => ⟨S2048x11264, .bf16⟩
  | .hbm, ⟨9, _⟩ => ⟨S1x11264, .f32⟩
  | .hbm, ⟨10, _⟩ => ⟨S1x2048, .f32⟩
  | .hbm, ⟨11, _⟩ => ⟨S8x1x2048, .f32⟩
  | .hbm, ⟨12, _⟩ => ⟨S8x1x2048, .f32⟩
  | .hbm, ⟨13, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1024x512, .bf16⟩
  | .local _ .vmem, ⟨22, _⟩ => ⟨S1024x512, .bf16⟩
  | .local _ .vmem, ⟨23, _⟩ => ⟨S1040x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32_5 : BitVec 32 := 0#32
  let v12 : BitVec 1 := Scalar.cmpi .eq arg1 c0_i32_5
  let v13 : BitVec 32 := Scalar.extui v12
  let c0_i32_6 : BitVec 32 := 0#32
  let v14 : BitVec 1 := Scalar.cmpi .ne v13 c0_i32_6
  v14

def k0_cond2 (i : grid0.Coords) : BitVec 1 :=
  let arg1 : BitVec 32 := BitVec.ofNat 32 (i 1).val
  let c0_i32_7 : BitVec 32 := 0#32
  let v15 : BitVec 1 := Scalar.cmpi .ne arg1 c0_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpRefIdeal.lean ====
abbrev S8x4096x2048 : Shape := ⟨3, ![8, 4096, 2048]⟩
abbrev S2048 : Shape := ⟨1, ![2048]⟩
abbrev S8x2048 : Shape := ⟨2, ![8, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S32768x5632 : Shape := ⟨2, ![32768, 5632]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x11264, .f32⟩
  | .hbm, ⟨5, _⟩ => ⟨S3x11264, .f32⟩
  | .hbm, ⟨6, _⟩ => ⟨S11264, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x4096x2048, .f32⟩
  | .hbm, ⟨28, _⟩ => ⟨S8x4096x2048, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x4096x11264, .f32⟩
  | .hbm, ⟨33, _⟩ => ⟨S_, .i32⟩
  | .hbm, ⟨34, _⟩ => ⟨S_, .f32⟩
  | .hbm, ⟨35, _⟩ => ⟨S8x4098x11264, .f32⟩
  | .hbm, ⟨36, _⟩ => ⟨S8x4096x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S8x4096x11264, .f32⟩
  | .hbm, ⟨41, _⟩ => ⟨S8x4096x11264, .f32⟩
  | .hbm, ⟨42, _⟩ => ⟨S_, .f32⟩
  | .hbm, ⟨43, _⟩ => ⟨S8x4096x11264, .f32⟩
  | .hbm, ⟨44, _⟩ => ⟨S8x4096x11264, .f32⟩
  | .hbm, ⟨45, _⟩ => ⟨S8x4096x11264, .f32⟩
  | .hbm, ⟨46, _⟩ => ⟨S1x11264, .f32⟩
  | .hbm, ⟨47, _⟩ => ⟨S11264, .f32⟩
  | .hbm, ⟨48, _⟩ => ⟨S1x1x11264, .f32⟩
  | .hbm, ⟨49, _⟩ => ⟨S8x4096x11264, .f32⟩
  | .hbm, ⟨50, _⟩ => ⟨S8x4096x11264, .f32⟩
  | .hbm, ⟨51, _⟩ => ⟨S8x4096x11264, .f32⟩
  | .hbm, ⟨52, _⟩ => ⟨S8x4096x11264, .f32⟩
  | .hbm, ⟨53, _⟩ => ⟨S1x11264, .f32⟩
  | .hbm, ⟨54, _⟩ => ⟨S11264, .f32⟩
  | .hbm, ⟨55, _⟩ => ⟨S1x1x11264, .f32⟩
  | .hbm, ⟨56, _⟩ => ⟨S8x4096x11264, .f32⟩
  | .hbm, ⟨57, _⟩ => ⟨S8x4096x11264, .f32⟩
  | .hbm, ⟨58, _⟩ => ⟨S8x4096x11264, .f32⟩
  | .hbm, ⟨59, _⟩ => ⟨S1x1x11264, .f32⟩
  | .hbm, ⟨60, _⟩ => ⟨S8x4096x11264, .f32⟩
  | .hbm, ⟨61, _⟩ => ⟨S8x4096x11264, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S_, .f32⟩
  | .hbm, ⟨67, _⟩ => ⟨S8x4096x5632, .f32⟩
  | .hbm, ⟨68, _⟩ => ⟨S8x4096x5632, .f32⟩
  | .hbm, ⟨69, _⟩ => ⟨S_, .f32⟩
  | .hbm, ⟨70, _⟩ => ⟨S8x4096x5632, .f32⟩
  | .hbm, ⟨71, _⟩ => ⟨S8x4096x5632, .f32⟩
  | .hbm, ⟨72, _⟩ => ⟨S8x4096x5632, .f32⟩
  | .hbm, ⟨73, _⟩ => ⟨S8x4096x5632, .f32⟩
  | .hbm, ⟨74, _⟩ => ⟨S8x4096x5632, .bf16⟩
  | .hbm, ⟨75, _⟩ => ⟨S32768x5632, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Down.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S8x2048 : Shape := ⟨2, ![8, 2048]⟩
abbrev S32768x5632 : Shape := ⟨2, ![32768, 5632]⟩
abbrev S32768x2048 : Shape := ⟨2, ![32768, 2048]⟩
abbrev S8x1x2048 : Shape := ⟨3, ![8, 1, 2048]⟩
abbrev S1024x5632 : Shape := ⟨2, ![1024, 5632]⟩
abbrev S5632x512 : Shape := ⟨2, ![5632, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x5632, .f32⟩
  | .hbm, ⟨1, _⟩ => ⟨S5632x2048, .f32⟩
  | .hbm, ⟨2, _⟩ => ⟨S8x4096x2048, .f32⟩
  | .hbm, ⟨3, _⟩ => ⟨S8x2048, .f32⟩
  | .hbm, ⟨4, _⟩ => ⟨S32768x5632, .f32⟩
  | .hbm, ⟨5, _⟩ => ⟨S32768x5632, .bf16⟩
  | .hbm, ⟨6, _⟩ => ⟨S5632x2048, .bf16⟩
  | .hbm, ⟨7, _⟩ => ⟨S32768x2048, .f32⟩
  | .hbm, ⟨8, _⟩ => ⟨S8x1x2048, .f32⟩
  | .hbm, ⟨9, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S8x4096x5632 : Shape := ⟨3, ![8, 4096, 5632]⟩
abbrev S5632x2048 : Shape := ⟨2, ![5632, 2048]⟩
abbrev S8x4096x2048 : Shape := ⟨3, ![8, 4096, 2048]⟩
abbrev S8x2048 : Shape := ⟨2, ![8, 2048]⟩
abbrev S8x1x2048 : Shape := ⟨3, ![8, 1, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x5632, .f32⟩
  | .hbm, ⟨1, _⟩ => ⟨S5632x2048, .f32⟩
  | .hbm, ⟨2, _⟩ => ⟨S8x4096x2048, .f32⟩
  | .hbm, ⟨3, _⟩ => ⟨S8x2048, .f32⟩
  | .hbm, ⟨4, _⟩ => ⟨S8x1x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S32768x2048, .f32⟩
  | _, _ => ⟨S8x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Out.lean ====
abbrev S8x4096x2048 : Shape := ⟨3, ![8, 4096, 2048]⟩
abbrev S2048x2048 : Shape := ⟨2, ![2048, 2048]⟩
abbrev S8x2048 : Shape := ⟨2, ![8, 2048]⟩
abbrev S32768x2048 : Shape := ⟨2, ![32768, 2048]⟩
abbrev S8x1x2048 : Shape := ⟨3, ![8, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S32768x2048, .f32⟩
  | .hbm, ⟨5, _⟩ => ⟨S32768x2048, .bf16⟩
  | .hbm, ⟨6, _⟩ => ⟨S2048x2048, .bf16⟩
  | .hbm, ⟨7, _⟩ => ⟨S32768x2048, .f32⟩
  | .hbm, ⟨8, _⟩ => ⟨S8x1x2048, .f32⟩
  | .hbm, ⟨9, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S8x4096x2048 : Shape := ⟨3, ![8, 4096, 2048]⟩
abbrev S2048x2048 : Shape := ⟨2, ![2048, 2048]⟩
abbrev S8x2048 : Shape := ⟨2, ![8, 2048]⟩
abbrev S8x1x2048 : Shape := ⟨3, ![8, 1, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S8x1x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Last.lean ====
abbrev S8x4096x2048 : Shape := ⟨3, ![8, 4096, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastRefIdeal.lean ====
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x4096x2048, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1, .f32⟩
  | .hbm, ⟨13, _⟩ => ⟨S8x4096x2048, .f32⟩
  | .hbm, ⟨14, _⟩ => ⟨S8x4096x2048, .f32⟩
  | .hbm, ⟨15, _⟩ => ⟨S1x1x2048, .f32⟩
  | .hbm, ⟨16, _⟩ => ⟨S8x4096x2048, .f32⟩
  | .hbm, ⟨17, _⟩ => ⟨S8x4096x2048, .f32⟩
  | .hbm, ⟨18, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SbIn.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S32768x2048 : Shape := ⟨2, ![32768, 2048]⟩
abbrev S1x2048 : Shape := ⟨2, ![1, 2048]⟩
abbrev S8x1x2048 : Shape := ⟨3, ![8, 1, 2048]⟩
abbrev S32768x6144 : Shape := ⟨2, ![32768, 6144]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S32768x2048, .f32⟩
  | .hbm, ⟨6, _⟩ => ⟨S2048x6144, .bf16⟩
  | .hbm, ⟨7, _⟩ => ⟨S1x2048, .f32⟩
  | .hbm, ⟨8, _⟩ => ⟨S8x1x2048, .f32⟩
  | .hbm, ⟨9, _⟩ => ⟨S8x1x2048, .f32⟩
  | .hbm, ⟨10, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbInRefIdeal.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x6144 : Shape := ⟨3, ![8, 4096, 6144]⟩
abbrev S8x4096x4096 : Shape := ⟨3, ![8, 4096, 4096]⟩
abbrev S32768x6144 : Shape := ⟨2, ![32768, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x1x2048, .f32⟩
  | .hbm, ⟨28, _⟩ => ⟨S8x4096x2048, .f32⟩
  | .hbm, ⟨29, _⟩ => ⟨S8x4096x2048, .f32⟩
  | .hbm, ⟨30, _⟩ => ⟨S8x4096x6144, .f32⟩
  | .hbm, ⟨31, _⟩ => ⟨S8x4096x2048, .f32⟩
  | .hbm, ⟨32, _⟩ => ⟨S_, .f32⟩
  | .hbm, ⟨33, _⟩ => ⟨S8x4096x2048, .f32⟩
  | .hbm, ⟨34, _⟩ => ⟨S8x4096x2048, .f32⟩
  | .hbm, ⟨35, _⟩ => ⟨S8x4096x4096, .f32⟩
  | .hbm, ⟨36, _⟩ => ⟨S8x4096x6144, .f32⟩
  | .hbm, ⟨37, _⟩ => ⟨S32768x6144, .f32⟩
  | .hbm, ⟨38, _⟩ => ⟨S32768x6144, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== DiffIn.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S32768x2048 : Shape := ⟨2, ![32768, 2048]⟩
abbrev S1x2048 : Shape := ⟨2, ![1, 2048]⟩
abbrev S8x1x2048 : Shape := ⟨3, ![8, 1, 2048]⟩
abbrev S32768x6144 : Shape := ⟨2, ![32768, 6144]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S32768x2048, .f32⟩
  | .hbm, ⟨6, _⟩ => ⟨S2048x6144, .bf16⟩
  | .hbm, ⟨7, _⟩ => ⟨S1x2048, .f32⟩
  | .hbm, ⟨8, _⟩ => ⟨S8x1x2048, .f32⟩
  | .hbm, ⟨9, _⟩ => ⟨S8x1x2048, .f32⟩
  | .hbm, ⟨10, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DiffInRefIdeal.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x6144 : Shape := ⟨3, ![8, 4096, 6144]⟩
abbrev S8x4096x4096 : Shape := ⟨3, ![8, 4096, 4096]⟩
abbrev S32768x6144 : Shape := ⟨2, ![32768, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x1x2048, .f32⟩
  | .hbm, ⟨28, _⟩ => ⟨S8x4096x2048, .f32⟩
  | .hbm, ⟨29, _⟩ => ⟨S8x4096x2048, .f32⟩
  | .hbm, ⟨30, _⟩ => ⟨S8x4096x6144, .f32⟩
  | .hbm, ⟨31, _⟩ => ⟨S8x4096x2048, .f32⟩
  | .hbm, ⟨32, _⟩ => ⟨S_, .f32⟩
  | .hbm, ⟨33, _⟩ => ⟨S8x4096x2048, .f32⟩
  | .hbm, ⟨34, _⟩ => ⟨S8x4096x2048, .f32⟩
  | .hbm, ⟨35, _⟩ => ⟨S8x4096x4096, .f32⟩
  | .hbm, ⟨36, _⟩ => ⟨S8x4096x6144, .f32⟩
  | .hbm, ⟨37, _⟩ => ⟨S32768x6144, .f32⟩
  | .hbm, ⟨38, _⟩ => ⟨S32768x6144, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kv.lean ====
abbrev S8x4096x512 : Shape := ⟨3, ![8, 4096, 512]⟩
abbrev S512 : Shape := ⟨1, ![512]⟩
abbrev S512x4096 : Shape := ⟨2, ![512, 4096]⟩
abbrev S_ : Shape := ⟨0, ![]⟩
abbrev S8x512 : Shape := ⟨2, ![8, 512]⟩
abbrev S32768x512 : Shape := ⟨2, ![32768, 512]⟩
abbrev S1x512 : Shape := ⟨2, ![1, 512]⟩
abbrev S8x1x512 : Shape := ⟨3, ![8, 1, 512]⟩
abbrev S32768x4096 : Shape := ⟨2, ![32768, 4096]⟩
abbrev S1024x512 : Shape := ⟨2, ![1024, 512]⟩
abbrev S1x1x512 : Shape := ⟨3, ![1, 1, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S512x4096, .f32⟩
  | .hbm, ⟨3, _⟩ => ⟨S_, .f32⟩
  | .hbm, ⟨4, _⟩ => ⟨S8x512, .f32⟩
  | .hbm, ⟨5, _⟩ => ⟨S32768x512, .f32⟩
  | .hbm, ⟨6, _⟩ => ⟨S512x4096, .bf16⟩
  | .hbm, ⟨7, _⟩ => ⟨S1x512, .f32⟩
  | .hbm, ⟨8, _⟩ => ⟨S8x1x512, .f32⟩
  | .hbm, ⟨9, _⟩ => ⟨S8x1x512, .f32⟩
  | .hbm, ⟨10, _⟩ => ⟨S32768x4096, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvRefIdeal.lean ====
abbrev S8x4096x512 : Shape := ⟨3, ![8, 4096, 512]⟩
abbrev S512 : Shape := ⟨1, ![512]⟩
abbrev S512x4096 : Shape := ⟨2, ![512, 4096]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x4096x4096 : Shape := ⟨3, ![8, 4096, 4096]⟩
abbrev S32768x4096 : Shape := ⟨2, ![32768, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512, .f32⟩
  | .hbm, ⟨2, _⟩ => ⟨S512x4096, .f32⟩
  | .hbm, ⟨3, _⟩ => ⟨S8x4096x512, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x512, .f32⟩
  | .hbm, ⟨15, _⟩ => ⟨S8x4096x512, .f32⟩
  | .hbm, ⟨16, _⟩ => ⟨S1x1x512, .f32⟩
  | .hbm, ⟨17, _⟩ => ⟨S8x4096x512, .f32⟩
  | .hbm, ⟨18, _⟩ => ⟨S8x4096x512, .f32⟩
  | .hbm, ⟨19, _⟩ => ⟨S8x4096x4096, .f32⟩
  | .hbm, ⟨20, _⟩ => ⟨S32768x4096, .f32⟩
  | .hbm, ⟨21, _⟩ => ⟨S32768x4096, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Query.lean ====
abbrev S8x4096x768 : Shape := ⟨3, ![8, 4096, 768]⟩
abbrev S768 : Shape := ⟨1, ![768]⟩
abbrev S768x3072 : Shape := ⟨2, ![768, 3072]⟩
abbrev S_ : Shape := ⟨0, ![]⟩
abbrev S8x768 : Shape := ⟨2, ![8, 768]⟩
abbrev S768x16x192 : Shape := ⟨3, ![768, 16, 192]⟩
abbrev S768x16x256 : Shape := ⟨3, ![768, 16, 256]⟩
abbrev S768x4096 : Shape := ⟨2, ![768, 4096]⟩
abbrev S32768x768 : Shape := ⟨2, ![32768, 768]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x768 : Shape := ⟨2, ![1, 768]⟩
abbrev S8x1x768 : Shape := ⟨3, ![8, 1, 768]⟩
abbrev S32768x4096 : Shape := ⟨2, ![32768, 4096]⟩
abbrev S1024x768 : Shape := ⟨2, ![1024, 768]⟩
abbrev S1x1x768 : Shape := ⟨3, ![1, 1, 768]⟩
abbrev S768x1024 : Shape := ⟨2, ![768, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 39
  | .vmem => 18
  | .smem => 0
  | _ => 0

abbrev bufTy : (tb : Table) → Fin (tcTables nBuf tb) → BufTy
  | .hbm, ⟨0, _⟩ => ⟨S8x4096x768, .f32⟩
  | .hbm, ⟨1, _⟩ => ⟨S768, .f32⟩
  | .hbm, ⟨2, _⟩ => ⟨S768x3072, .f32⟩
  | .hbm, ⟨3, _⟩ => ⟨S_, .f32⟩
  | .hbm, ⟨4, _⟩ => ⟨S8x768, .f32⟩
  | .hbm, ⟨5, _⟩ => ⟨S768x16x192, .f32⟩
  | .hbm, ⟨6, _⟩ => ⟨S_, .i32⟩
  | .hbm, ⟨7, _⟩ => ⟨S_, .f32⟩
  | .hbm, ⟨8, _⟩ => ⟨S768x16x256, .f32⟩
  | .hbm, ⟨9, _⟩ => ⟨S768x4096, .f32⟩
  | .hbm, ⟨10, _⟩ => ⟨S32768x768, .f32⟩
  | .hbm, ⟨11, _⟩ => ⟨S768x4096, .bf16⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S4096x128, .f32⟩
  | .hbm, ⟨32, _⟩ => ⟨S4096x32, .f32⟩
  | .hbm, ⟨33, _⟩ => ⟨S4096x128, .f32⟩
  | .hbm, ⟨34, _⟩ => ⟨S4096x128, .f32⟩
  | .hbm, ⟨35, _⟩ => ⟨S1x768, .f32⟩
  | .hbm, ⟨36, _⟩ => ⟨S8x1x768, .f32⟩
  | .hbm, ⟨37, _⟩ => ⟨S8x1x768, .f32⟩
  | .hbm, ⟨38, _⟩ => ⟨S32768x4096, .bf16⟩
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S1x1x768, .f32⟩
  | .local _ .vmem, ⟨7, _⟩ => ⟨S768x1024, .bf16⟩
  | .local _ .vmem, ⟨8, _⟩ => ⟨S768x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x768, .bf16⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QueryRefIdeal.lean ====
abbrev S8x4096x768 : Shape := ⟨3, ![8, 4096, 768]⟩
abbrev S768 : Shape := ⟨1, ![768]⟩
abbrev S768x3072 : Shape := ⟨2, ![768, 3072]⟩
abbrev S_ : Shape := ⟨0, ![]⟩
abbrev S8x4096 : Shape := ⟨2, ![8, 4096]⟩
abbrev S8x4096x1 : Shape := ⟨3, ![8, 4096, 1]⟩
abbrev S1x1x768 : Shape := ⟨3, ![1, 1, 768]⟩
abbrev S8x4096x3072 : Shape := ⟨3, ![8, 4096, 3072]⟩
abbrev S8x4096x16x192 : Shape := ⟨4, ![8, 4096, 16, 192]⟩
abbrev S8x4096x16x128 : Shape := ⟨4, ![8, 4096, 16, 128]⟩
abbrev S8x4096x16x64 : Shape := ⟨4, ![8, 4096, 16, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x16x32 : Shape := ⟨4, ![8, 4096, 16, 32]⟩
abbrev S8x4096x16x256 : Shape := ⟨4, ![8, 4096, 16, 256]⟩
abbrev S32768x4096 : Shape := ⟨2, ![32768, 4096]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768, .f32⟩
  | .hbm, ⟨2, _⟩ => ⟨S768x3072, .f32⟩
  | .hbm, ⟨3, _⟩ => ⟨S8x4096x768, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x768, .f32⟩
  | .hbm, ⟨15, _⟩ => ⟨S8x4096x768, .f32⟩
  | .hbm, ⟨16, _⟩ => ⟨S1x1x768, .f32⟩
  | .hbm, ⟨17, _⟩ => ⟨S8x4096x768, .f32⟩
  | .hbm, ⟨18, _⟩ => ⟨S8x4096x768, .f32⟩
  | .hbm, ⟨19, _⟩ => ⟨S8x4096x3072, .f32⟩
  | .hbm, ⟨20, _⟩ => ⟨S8x4096x16x192, .f32⟩
  | .hbm, ⟨21, _⟩ => ⟨S8x4096x16x128, .f32⟩
  | .hbm, ⟨22, _⟩ => ⟨S8x4096x16x64, .f32⟩
  | .hbm, ⟨23, _⟩ => ⟨S4096, .i32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S1x4096x1x32, .f32⟩
  | .hbm, ⟨40, _⟩ => ⟨S4096x32, .f32⟩
  | .hbm, ⟨41, _⟩ => ⟨S1x4096x1x32, .f32⟩
  | .hbm, ⟨42, _⟩ => ⟨S8x4096x16x32, .f32⟩
  | .hbm, ⟨43, _⟩ => ⟨S8x4096x16x32, .f32⟩
  | .hbm, ⟨44, _⟩ => ⟨S8x4096x16x32, .f32⟩
  | .hbm, ⟨45, _⟩ => ⟨S8x4096x16x32, .f32⟩
  | .hbm, ⟨46, _⟩ => ⟨S8x4096x16x32, .f32⟩
  | .hbm, ⟨47, _⟩ => ⟨S8x4096x16x32, .f32⟩
  | .hbm, ⟨48, _⟩ => ⟨S8x4096x16x32, .f32⟩
  | .hbm, ⟨49, _⟩ => ⟨S8x4096x16x32, .f32⟩
  | .hbm, ⟨50, _⟩ => ⟨S8x4096x16x32, .f32⟩
  | .hbm, ⟨51, _⟩ => ⟨S8x4096x16x32, .f32⟩
  | .hbm, ⟨52, _⟩ => ⟨S8x4096x16x32, .f32⟩
  | .hbm, ⟨53, _⟩ => ⟨S8x4096x16x32, .f32⟩
  | .hbm, ⟨54, _⟩ => ⟨S8x4096x16x64, .f32⟩
  | .hbm, ⟨55, _⟩ => ⟨S8x4096x16x192, .f32⟩
  | .hbm, ⟨56, _⟩ => ⟨S_, .f32⟩
  | .hbm, ⟨57, _⟩ => ⟨S8x4096x16x192, .f32⟩
  | .hbm, ⟨58, _⟩ => ⟨S8x4096x16x192, .f32⟩
  | .hbm, ⟨59, _⟩ => ⟨S_, .i32⟩
  | .hbm, ⟨60, _⟩ => ⟨S_, .f32⟩
  | .hbm, ⟨61, _⟩ => ⟨S8x4096x16x256, .f32⟩
  | .hbm, ⟨62, _⟩ => ⟨S32768x4096, .f32⟩
  | .hbm, ⟨63, _⟩ => ⟨S32768x4096, .bf16⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_c : Ref sig .tc := ⟨.hbm, 59, rfl⟩
abbrev main_call0_v0 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Mod.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 49
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x2048x12288, .f32⟩
  | .hbm, ⟨29, _⟩ => ⟨S2048x12288, .f32⟩
  | .hbm, ⟨30, _⟩ => ⟨S8x12288, .f32⟩
  | .hbm, ⟨31, _⟩ => ⟨S1x12288, .f32⟩
  | .hbm, ⟨32, _⟩ => ⟨S12288, .f32⟩
  | .hbm, ⟨33, _⟩ => ⟨S1x12288, .f32⟩
  | .hbm, ⟨34, _⟩ => ⟨S8x12288, .f32⟩
  | .hbm, ⟨35, _⟩ => ⟨S8x12288, .f32⟩
  | .hbm, ⟨36, _⟩ => ⟨S1x2048x12288, .f32⟩
  | .hbm, ⟨37, _⟩ => ⟨S2048x12288, .f32⟩
  | .hbm, ⟨38, _⟩ => ⟨S8x12288, .f32⟩
  | .hbm, ⟨39, _⟩ => ⟨S1x12288, .f32⟩
  | .hbm, ⟨40, _⟩ => ⟨S12288, .f32⟩
  | .hbm, ⟨41, _⟩ => ⟨S1x12288, .f32⟩
  | .hbm, ⟨42, _⟩ => ⟨S8x12288, .f32⟩
  | .hbm, ⟨43, _⟩ => ⟨S8x12288, .f32⟩
  | .hbm, ⟨44, _⟩ => ⟨S1x8x12288, .f32⟩
  | .hbm, ⟨45, _⟩ => ⟨S1x8x12288, .f32⟩
  | .hbm, ⟨46, _⟩ => ⟨S1x8x12288, .f32⟩
  | .hbm, ⟨47, _⟩ => ⟨S1x8x12288, .f32⟩
  | .hbm, ⟨48, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Softmax.lean ====
/-
  The running softmax over the extended reals: a maximum, a sum of weights kept in 128 lanes and a weighted sum are carried
  along while the keys come tile by tile, and each new maximum rescales what was summed before it.
-/
module

public import Idealize.ShloMosaic.PureOps.Ideal
public import Idealize.ShloMosaic.Lib.Pointwise

@[expose] public section

noncomputable section

namespace Cert.Flash

open Idealize.ShloMosaic

/-- The largest of the first `n` scores, `⊥` of none. -/
def mx (s : ℕ → EReal) (n : ℕ) : EReal := (Finset.range n).sup s

/-- The weights of the first `n` keys that fall in lane `c`, summed. -/
def lx (s : ℕ → EReal) (n c : ℕ) : EReal :=
  ∑ j ∈ Finset.range n, if j % 128 = c then Ideal.exp2 (s j - mx s n) else 0

/-- The values of the first `n` keys, weighted and summed. -/
def ax (s v : ℕ → EReal) (n : ℕ) : EReal := ∑ j ∈ Finset.range n, Ideal.exp2 (s j - mx s n) * v j

theorem mx_zero (s : ℕ → EReal) : mx s 0 = ⊥ := by simp [mx]
theorem lx_zero (s : ℕ → EReal) (c : ℕ) : lx s 0 c = 0 := by simp [lx]
theorem ax_zero (s v : ℕ → EReal) : ax s v 0 = 0 := by simp [ax]

theorem mx_mono (s : ℕ → EReal) {n k : ℕ} (h : n ≤ k) : mx s n ≤ mx s k :=
  Finset.sup_mono (by simpa using h)

theorem le_mx (s : ℕ → EReal) {n j : ℕ} (h : j < n) : s j ≤ mx s n := Finset.le_sup (Finset.mem_range.2 h)

theorem mx_lt_top (s : ℕ → EReal) (n : ℕ) (h : ∀ j, s j < ⊤) : mx s n < ⊤ :=
  (Finset.sup_lt_iff bot_lt_top).2 fun j _ => h j

/-- A power of two of a difference that is not `⊤` is a real number that is not negative. -/
theorem exp2_sub_real {x M : EReal} (h : x ≤ M) (hM : M < ⊤) : ∃ r : ℝ, 0 ≤ r ∧ Ideal.exp2 (x - M) = (r : EReal) := by
  induction x with
  | bot => exact ⟨0, le_rfl, by simp [EReal.bot_sub]⟩
  | top => exact absurd (lt_of_le_of_lt h hM) (lt_irrefl _)
  | coe x =>
    induction M with
    | bot => exact absurd h (by simp)
    | top => exact absurd hM (lt_irrefl _)
    | coe M =>
      refine ⟨Real.rpow 2 (x - M), Real.rpow_nonneg (by norm_num) _, ?_⟩
      rw [← EReal.coe_sub, Ideal.exp2_coe]

/-- Rescaling from one maximum to a larger one. -/
theorem exp2_rescale {x M M' : EReal} (h : x ≤ M) (h' : M ≤ M') (hM : M' < ⊤) :
    Ideal.exp2 (M - M') * Ideal.exp2 (x - M) = Ideal.exp2 (x - M') := by
  induction x with
  | bot => simp [EReal.bot_sub]
  | top => exact absurd (lt_of_le_of_lt (h.trans h') hM) (lt_irrefl _)
  | coe x =>
    induction M with
    | bot => exact absurd h (by simp)
    | top => exact absurd (lt_of_le_of_lt h' hM) (lt_irrefl _)
    | coe M =>
      induction M' with
      | bot => exact absurd h' (by simp)
      | top => exact absurd hM (lt_irrefl _)
      | coe M' =>
        simp only [← EReal.coe_sub, Ideal.exp2_coe, ← EReal.coe_mul]
        congr 1
        show (2 : ℝ) ^ (M - M') * (2 : ℝ) ^ (x - M) = (2 : ℝ) ^ (x - M')
        rw [← Real.rpow_add (by norm_num)]
        congr 1; ring

/-- A real coefficient that is not negative goes into a sum. -/
theorem coe_mul_sum {ι : Type*} (t : Finset ι) (f : ι → EReal) {r : ℝ} (hr : 0 ≤ r) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- The same on the other side. -/
theorem sum_mul_coe {ι : Type*} (t : Finset ι) (f : ι → EReal) {r : ℝ} (hr : 0 ≤ r) :
    (∑ i ∈ t, f i) * (r : EReal) = ∑ i ∈ t, f i * (r : EReal) := by
  rw [mul_comm, coe_mul_sum t f hr]; exact Finset.sum_congr rfl fun i _ => mul_comm _ _

/-- Rescaling the sum of the weighted values. -/
theorem ax_add (s v : ℕ → EReal) (n W : ℕ) (hs : ∀ j, s j < ⊤) :
    Ideal.exp2 (mx s n - mx s (n + W)) * ax s v n
        + ∑ k : Fin W, Ideal.exp2 (s (n + k) - mx s (n + W)) * v (n + k) = ax s v (n + W) := by
  have hle := mx_mono s (Nat.le_add_right n W)
  have htop := mx_lt_top s (n + W) hs
  obtain ⟨r, hr, e⟩ := exp2_sub_real hle htop
  rw [ax, ax, Finset.sum_range_add, e, coe_mul_sum _ _ hr,
    Fin.sum_univ_eq_sum_range (fun k => Ideal.exp2 (s (n + k) - mx s (n + W)) * v (n + k)) W]
  congr 1
  refine Finset.sum_congr rfl fun j hj => ?_
  rw [← mul_assoc, ← e, exp2_rescale (le_mx s (Finset.mem_range.1 hj)) hle htop]

/-- Every 128th of a run of numbers. -/
theorem sum_lane (g : ℕ → EReal) (K c : ℕ) (hc : c < 128) :
    (∑ x ∈ Finset.range (128 * K), if x % 128 = c then g x else 0) = ∑ k ∈ Finset.range K, g (128 * k + c) := by
  induction K with
  | zero => simp
  | succ K ih =>
    rw [Nat.mul_succ, Finset.sum_range_add, ih, Finset.sum_range_succ (fun k => g (128 * k + c))]
    congr 1
    rw [Finset.sum_eq_single_of_mem c (by simpa using hc)]
    · rw [if_pos (by omega)]
    · intro b hb hne
      rw [Finset.mem_range] at hb
      rw [if_neg (by omega)]

/-- Rescaling the sum of the weights of a lane. -/
theorem lx_add (s : ℕ → EReal) (n K c : ℕ) (hc : c < 128) (hn : n % 128 = 0) (hs : ∀ j, s j < ⊤) :
    Ideal.exp2 (mx s n - mx s (n + 128 * K)) * lx s n c
        + ∑ k ∈ Finset.range K, Ideal.exp2 (s (n + (128 * k + c)) - mx s (n + 128 * K)) = lx s (n + 128 * K) c := by
  have hle := mx_mono s (Nat.le_add_right n (128 * K))
  have htop := mx_lt_top s (n + 128 * K) hs
  obtain ⟨r, hr, e⟩ := exp2_sub_real hle htop
  rw [lx, lx, Finset.sum_range_add, e, coe_mul_sum _ _ hr]
  congr 1
  · refine Finset.sum_congr rfl fun j hj => ?_
    split
    · rw [← e, exp2_rescale (le_mx s (Finset.mem_range.1 hj)) hle htop]
    · rw [mul_zero]
  · rw [← sum_lane (fun x => Ideal.exp2 (s (n + x) - mx s (n + 128 * K))) K c hc]
    refine Finset.sum_congr rfl fun x _ => ?_
    have : (n + x) % 128 = x % 128 := by omega
    rw [this]

/-- The new maximum, taken over the lanes' maxima. -/
theorem mx_add (s : ℕ → EReal) (n K : ℕ) (g : Fin 128 → EReal)
    (hg : ∀ c : Fin 128, g c = (Finset.range K).sup fun k => s (n + (128 * k + c))) :
    max (mx s n) (Finset.univ.sup g) = mx s (n + 128 * K) := by
  apply le_antisymm
  · refine max_le (mx_mono s (Nat.le_add_right _ _)) (Finset.sup_le fun c _ => ?_)
    rw [hg]
    refine Finset.sup_le fun k hk => le_mx s ?_
    have := Finset.mem_range.1 hk
    have := c.isLt
    omega
  · refine Finset.sup_le fun j hj => ?_
    have hj := Finset.mem_range.1 hj
    by_cases h : j < n
    · exact (le_mx s h).trans (le_max_left _ _)
    · refine le_trans ?_ (le_max_right _ _)
      refine le_trans ?_ (Finset.le_sup (f := g) (Finset.mem_univ ⟨(j - n) % 128, Nat.mod_lt _ (by norm_num)⟩))
      rw [hg]
      have : j = n + (128 * ((j - n) / 128) + (j - n) % 128) := by omega
      refine le_trans (le_of_eq (congrArg s this))
        (Finset.le_sup (f := fun k => s (n + (128 * k + (j - n) % 128))) (Finset.mem_range.2 ?_))
      omega

/-- The lanes' sums add up to the sum of all the weights. -/
theorem sum_lx (s : ℕ → EReal) (n : ℕ) :
    ∑ c : Fin 128, lx s n c = ∑ j ∈ Finset.range n, Ideal.exp2 (s j - mx s n) := by
  unfold lx
  rw [Finset.sum_comm]
  refine Finset.sum_congr rfl fun j _ => ?_
  rw [Finset.sum_eq_single_of_mem (⟨j % 128, Nat.mod_lt _ (by norm_num)⟩ : Fin 128) (Finset.mem_univ _)]
  · simp
  · intro b _ hb
    rw [if_neg]
    intro h
    exact hb (Fin.ext h.symm)

/-- A sum of real numbers, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of weights is a real number, at least 1 once one score is a real number. -/
theorem sum_weights (s : ℕ → EReal) (n : ℕ) (hs : ∀ j, s j < ⊤) (h0 : ∃ j < n, ⊥ < s j) :
    ∃ D : ℝ, 1 ≤ D ∧ ∑ j ∈ Finset.range n, Ideal.exp2 (s j - mx s n) = (D : EReal) := by
  have htop := mx_lt_top s n hs
  have hr : ∀ j, ∃ r : ℝ, j < n → 0 ≤ r ∧ Ideal.exp2 (s j - mx s n) = (r : EReal) := fun j => by
    by_cases h : j < n
    · obtain ⟨r, h1, h2⟩ := exp2_sub_real (le_mx s h) htop
      exact ⟨r, fun _ => ⟨h1, h2⟩⟩
    · exact ⟨0, fun h' => absurd h' h⟩
  choose r hr using hr
  refine ⟨∑ j ∈ Finset.range n, r j, ?_, ?_⟩
  · obtain ⟨j0, hj0, hb⟩ := h0
    obtain ⟨jm, hjm, hmax⟩ := Finset.exists_mem_eq_sup (Finset.range n) ⟨j0, Finset.mem_range.2 hj0⟩ s
    have hjm' := Finset.mem_range.1 hjm
    have hM : mx s n = s jm := hmax
    have hlt : ⊥ < s jm := lt_of_lt_of_le hb (hM ▸ le_mx s hj0)
    have h1 : r jm = 1 := by
      have := (hr jm hjm').2
      rw [hM] at this
      have hx := hs jm
      clear hM hmax
      revert this hx hlt
      induction s jm with
      | bot => intro h _ _; exact absurd h (lt_irrefl _)
      | top => intro _ _ h; exact absurd h (lt_irrefl _)
      | coe x =>
        intro _ this _
        rw [← EReal.coe_sub, Ideal.exp2_coe, sub_self] at this
        have e : Real.rpow 2 0 = 1 := Real.rpow_zero 2
        rw [e] at this
        exact_mod_cast this.symm
    calc (1 : ℝ) = r jm := h1.symm
      _ ≤ _ := Finset.single_le_sum (f := r) (fun i hi => (hr i (Finset.mem_range.1 hi)).1) hjm
  · rw [coe_sum]
    exact Finset.sum_congr rfl fun j hj => (hr j (Finset.mem_range.1 hj)).2

/-- The result of a row: the weighted values over the sum of the weights are the values under the normalised weights. -/
theorem result (s v : ℕ → EReal) (n : ℕ) (hs : ∀ j, s j < ⊤) (h0 : ∃ j < n, ⊥ < s j) :
    Ideal.div (ax s v n) (∑ c : Fin 128, lx s n c)
      = ∑ j ∈ Finset.range n, Ideal.div (Ideal.exp2 (s j - mx s n)) (∑ i ∈ Finset.range n, Ideal.exp2 (s i - mx s n)) * v j := by
  obtain ⟨D, hD, e⟩ := sum_weights s n hs h0
  have hD0 : D ≠ 0 := by linarith
  rw [sum_lx, e, Ideal.div_coe hD0, ax, sum_mul_coe _ _ (by positivity)]
  refine Finset.sum_congr rfl fun j _ => ?_
  rw [Ideal.div_coe hD0, mul_assoc, mul_assoc, mul_comm (v j)]

end Cert.Flash

end
-- ==== Proof.Step.lean ====
/-
  One head's step over one tile of keys, as vector operations, and what it does to a row: over the extended reals it takes
  the running maximum, lane sums and weighted values of the keys before the tile to those of the keys up to its end.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Flash

open Idealize.ShloMosaic Cert.KernelIdeal Cert.KernelIdeal.Gen

/-- The scores of a head's 512 queries against 1024 keys: the query against the key and the rotary key side by side. -/
def scores8 (q : FVec Ideal S512x256 .bf16) (kr kn : Vec Ideal S1x1024x128 .bf16) : FVec Ideal S512x1024 .f32 :=
  matmul dot_S512x256_S1024x256_S512x1024_1_1_0_0_n_n none q
    (concatenate S1024x256 1 [⟨S1024x128, (shapeCast S1024x128 kn shapeCasts_S1x1024x128_S1024x128 : FVec Ideal S1024x128 .bf16)⟩,
      ⟨S1024x128, (shapeCast S1024x128 kr shapeCasts_S1x1024x128_S1024x128 : FVec Ideal S1024x128 .bf16)⟩] concatenates_S1024x128_S1024x128_S1024x256_d1)
    (constant S512x1024 .f32 0x00000000#32)

/-- The same against 512 keys. -/
def scores4 (q : FVec Ideal S512x256 .bf16) (kr kn : Vec Ideal S1x512x128 .bf16) : FVec Ideal S512x512 .f32 :=
  matmul dot_S512x256_S512x256_S512x512_1_1_0_0_n_n none q
    (concatenate S512x256 1 [⟨S512x128, (shapeCast S512x128 kn shapeCasts_S1x512x128_S512x128 : FVec Ideal S512x128 .bf16)⟩,
      ⟨S512x128, (shapeCast S512x128 kr shapeCasts_S1x512x128_S512x128 : FVec Ideal S512x128 .bf16)⟩] concatenates_S512x128_S512x128_S512x256_d1)
    (constant S512x512 .f32 0x00000000#32)

/-- The same on the diagonal tile, where a key after its query does not count. -/
def scoresD (q : FVec Ideal S512x256 .bf16) (kr kn : Vec Ideal S1x512x128 .bf16) : FVec Ideal S512x512 .f32 :=
  select k0_pay288 (scores4 q kr kn) (broadcast S512x512 (Named.named κ "mask" 0xF149F2CA#32))

/-- The new maximum of each row after 1024 keys, in every lane. -/
def top8 (S : FVec Ideal S512x1024 .f32) (M : Vec Ideal S1x512x128 .f32) : FVec Ideal S512x128 .f32 :=
  maximumf (shapeCast S512x128 M shapeCasts_S1x512x128_S512x128)
    (broadcastTo S512x128 (shapeCast S512x1 (multiReduction .maximumf [1] S512
      (maximumf (maximumf (maximumf (maximumf (maximumf (maximumf (maximumf
        (extractStridedSlice S512x128 ![0, 0] S slices_S512x1024_o0_0_S512x128)
        (extractStridedSlice S512x128 ![0, 128] S slices_S512x1024_o0_128_S512x128))
        (extractStridedSlice S512x128 ![0, 256] S slices_S512x1024_o0_256_S512x128))
        (extractStridedSlice S512x128 ![0, 384] S slices_S512x1024_o0_384_S512x128))
        (extractStridedSlice S512x128 ![0, 512] S slices_S512x1024_o0_512_S512x128))
        (extractStridedSlice S512x128 ![0, 640] S slices_S512x1024_o0_640_S512x128))
        (extractStridedSlice S512x128 ![0, 768] S slices_S512x1024_o0_768_S512x128))
        (extractStridedSlice S512x128 ![0, 896] S slices_S512x1024_o0_896_S512x128))
      0xFF800000#32 reduces_S512x128_S512 (.inl rfl) rfl) shapeCasts_S512_S512x1) broadcasts_S512x1_S512x128)

/-- The new maximum of each row after 512 keys, in every lane. -/
def top4 (S : FVec Ideal S512x512 .f32) (M : Vec Ideal S1x512x128 .f32) : FVec Ideal S512x128 .f32 :=
  maximumf (shapeCast S512x128 M shapeCasts_S1x512x128_S512x128)
    (broadcastTo S512x128 (shapeCast S512x1 (multiReduction .maximumf [1] S512
      (maximumf (maximumf (maximumf
        (extractStridedSlice S512x128 ![0, 0] S slices_S512x512_o0_0_S512x128)
        (extractStridedSlice S512x128 ![0, 128] S slices_S512x512_o0_128_S512x128))
        (extractStridedSlice S512x128 ![0, 256] S slices_S512x512_o0_256_S512x128))
        (extractStridedSlice S512x128 ![0, 384] S slices_S512x512_o0_384_S512x128))
      0xFF800000#32 reduces_S512x128_S512 (.inl rfl) rfl) shapeCasts_S512_S512x1) broadcasts_S512x1_S512x128)

/-- What rescales the earlier sums. -/
def scaleOf (M : Vec Ideal S1x512x128 .f32) (N : FVec Ideal S512x128 .f32) : FVec Ideal S512x128 .f32 :=
  exp2 (subf (shapeCast S512x128 M shapeCasts_S1x512x128_S512x128) N)

/-- The weights of one chunk of 128 keys. -/
def weights (C N : FVec Ideal S512x128 .f32) : FVec Ideal S512x128 .f32 := exp2 (subf C N)

/-- The lane sums after 1024 keys. -/
def lanes8 (S : FVec Ideal S512x1024 .f32) (M L : Vec Ideal S1x512x128 .f32) : Vec Ideal S1x512x128 .f32 :=
  shapeCast S1x512x128 (addf (mulf (scaleOf M (top8 S M)) (shapeCast S512x128 L shapeCasts_S1x512x128_S512x128))
    (addf (addf (addf (addf (addf (addf (addf
      (weights (extractStridedSlice S512x128 ![0, 0] S slices_S512x1024_o0_0_S512x128) (top8 S M))
      (weights (extractStridedSlice S512x128 ![0, 128] S slices_S512x1024_o0_128_S512x128) (top8 S M)))
      (weights (extractStridedSlice S512x128 ![0, 256] S slices_S512x1024_o0_256_S512x128) (top8 S M)))
      (weights (extractStridedSlice S512x128 ![0, 384] S slices_S512x1024_o0_384_S512x128) (top8 S M)))
      (weights (extractStridedSlice S512x128 ![0, 512] S slices_S512x1024_o0_512_S512x128) (top8 S M)))
      (weights (extractStridedSlice S512x128 ![0, 640] S slices_S512x1024_o0_640_S512x128) (top8 S M)))
      (weights (extractStridedSlice S512x128 ![0, 768] S slices_S512x1024_o0_768_S512x128) (top8 S M)))
      (weights (extractStridedSlice S512x128 ![0, 896] S slices_S512x1024_o0_896_S512x128) (top8 S M))))
    shapeCasts_S512x128_S1x512x128

/-- The lane sums after 512 keys. -/
def lanes4 (S : FVec Ideal S512x512 .f32) (M L : Vec Ideal S1x512x128 .f32) : Vec Ideal S1x512x128 .f32 :=
  shapeCast S1x512x128 (addf (mulf (scaleOf M (top4 S M)) (shapeCast S512x128 L shapeCasts_S1x512x128_S512x128))
    (addf (addf (addf
      (weights (extractStridedSlice S512x128 ![0, 0] S slices_S512x512_o0_0_S512x128) (top4 S M))
      (weights (extractStridedSlice S512x128 ![0, 128] S slices_S512x512_o0_128_S512x128) (top4 S M)))
      (weights (extractStridedSlice S512x128 ![0, 256] S slices_S512x512_o0_256_S512x128) (top4 S M)))
      (weights (extractStridedSlice S512x128 ![0, 384] S slices_S512x512_o0_384_S512x128) (top4 S M))))
    shapeCasts_S512x128_S1x512x128

/-- All the weights of 1024 keys. -/
def row8 (S : FVec Ideal S512x1024 .f32) (N : FVec Ideal S512x128 .f32) : FVec Ideal S512x1024 .bf16 :=
  concatenate S512x1024 1 [
    ⟨S512x128, truncf .bf16 (weights (extractStridedSlice S512x128 ![0, 0] S slices_S512x1024_o0_0_S512x128) N) bitsLt_bf16_f32⟩,
    ⟨S512x128, truncf .bf16 (weights (extractStridedSlice S512x128 ![0, 128] S slices_S512x1024_o0_128_S512x128) N) bitsLt_bf16_f32⟩,
    ⟨S512x128, truncf .bf16 (weights (extractStridedSlice S512x128 ![0, 256] S slices_S512x1024_o0_256_S512x128) N) bitsLt_bf16_f32⟩,
    ⟨S512x128, truncf .bf16 (weights (extractStridedSlice S512x128 ![0, 384] S slices_S512x1024_o0_384_S512x128) N) bitsLt_bf16_f32⟩,
    ⟨S512x128, truncf .bf16 (weights (extractStridedSlice S512x128 ![0, 512] S slices_S512x1024_o0_512_S512x128) N) bitsLt_bf16_f32⟩,
    ⟨S512x128, truncf .bf16 (weights (extractStridedSlice S512x128 ![0, 640] S slices_S512x1024_o0_640_S512x128) N) bitsLt_bf16_f32⟩,
    ⟨S512x128, truncf .bf16 (weights (extractStridedSlice S512x128 ![0, 768] S slices_S512x1024_o0_768_S512x128) N) bitsLt_bf16_f32⟩,
    ⟨S512x128, truncf .bf16 (weights (extractStridedSlice S512x128 ![0, 896] S slices_S512x1024_o0_896_S512x128) N) bitsLt_bf16_f32⟩]
    concatenates_S512x128_S512x128_S512x128_S512x128_S512x128_S512x128_S512x128_S512x128_S512x1024_d1

/-- All the weights of 512 keys. -/
def row4 (S : FVec Ideal S512x512 .f32) (N : FVec Ideal S512x128 .f32) : FVec Ideal S512x512 .bf16 :=
  concatenate S512x512 1 [
    ⟨S512x128, truncf .bf16 (weights (extractStridedSlice S512x128 ![0, 0] S slices_S512x512_o0_0_S512x128) N) bitsLt_bf16_f32⟩,
    ⟨S512x128, truncf .bf16 (weights (extractStridedSlice S512x128 ![0, 128] S slices_S512x512_o0_128_S512x128) N) bitsLt_bf16_f32⟩,
    ⟨S512x128, truncf .bf16 (weights (extractStridedSlice S512x128 ![0, 256] S slices_S512x512_o0_256_S512x128) N) bitsLt_bf16_f32⟩,
    ⟨S512x128, truncf .bf16 (weights (extractStridedSlice S512x128 ![0, 384] S slices_S512x512_o0_384_S512x128) N) bitsLt_bf16_f32⟩]
    concatenates_S512x128_S512x128_S512x128_S512x128_S512x512_d1

/-- The weighted values after 1024 keys. -/
def acc8 (S : FVec Ideal S512x1024 .f32) (M A : Vec Ideal S1x512x128 .f32) (v : Vec Ideal S1x1024x128 .bf16) : Vec Ideal S1x512x128 .f32 :=
  shapeCast S1x512x128 (addf (mulf (scaleOf M (top8 S M)) (shapeCast S512x128 A shapeCasts_S1x512x128_S512x128))
    (matmul dot_S512x1024_S1024x128_S512x128_1_0_0_1_n_n none (row8 S (top8 S M))
      (shapeCast S1024x128 v shapeCasts_S1x1024x128_S1024x128 : FVec Ideal S1024x128 .bf16) (constant S512x128 .f32 0x00000000#32)))
    shapeCasts_S512x128_S1x512x128

/-- The weighted values after 512 keys. -/
def acc4 (S : FVec Ideal S512x512 .f32) (M A : Vec Ideal S1x512x128 .f32) (v : Vec Ideal S1x512x128 .bf16) : Vec Ideal S1x512x128 .f32 :=
  shapeCast S1x512x128 (addf (mulf (scaleOf M (top4 S M)) (shapeCast S512x128 A shapeCasts_S1x512x128_S512x128))
    (matmul dot_S512x512_S512x128_S512x128_1_0_0_1_n_n none (row4 S (top4 S M))
      (shapeCast S512x128 v shapeCasts_S1x512x128_S512x128 : FVec Ideal S512x128 .bf16) (constant S512x128 .f32 0x00000000#32)))
    shapeCasts_S512x128_S1x512x128

/-- The maximum as it is stored. -/
def stored (N : FVec Ideal S512x128 .f32) : Vec Ideal S1x512x128 .f32 := shapeCast S1x512x128 N shapeCasts_S512x128_S1x512x128

/-- The constant that stands for "does not count" is the least extended real. -/
theorem mask_eq : (Named.named κ "mask" 0xF149F2CA#32 : Ideal .f32) = ⊥ := rfl

theorem ofBits_bot : Ideal.ofBits .f32 0xFF800000#32 = ⊥ := by simp [Ideal.ofBits, Ideal.ieee]

theorem fold_max {ι : Type*} [Fintype ι] (g : ι → EReal) : Finset.univ.fold max ⊥ g = Finset.univ.sup g := rfl

theorem ix2_congr {A B : ℕ} {α : Type*} (S : (⟨2, ![A, B]⟩ : Shape).Idx → α) (r : Fin A) {x y : Fin B} (h : x.val = y.val) :
    S (ix2 r x) = S (ix2 r y) := by rw [Fin.ext h]

/-- The row's maximum after the tile. -/
theorem top8_step {S : FVec Ideal S512x1024 .f32} {M : Vec Ideal S1x512x128 .f32} {s : ℕ → EReal} {n : ℕ} {r : Fin 512}
    (hS : ∀ j : Fin 1024, S (ix2 r j) = s (n + j)) (hM : ∀ c : Fin 128, M (ix3 0 r c) = mx s n) (c : Fin 128) :
    top8 S M (ix2 r c) = mx s (n + 1024) := by
  pointwise [top8]
  rw [ofBits_bot, hM]
  simp only [hS]
  rw [fold_max]
  refine mx_add s n 8 _ fun c => ?_
  simp only [Finset.range_add_one, Finset.range_zero, Finset.sup_insert, Finset.sup_empty]
  simp only [Nat.reduceMul, zero_add, Nat.mul_zero, sup_bot_eq, Nat.mul_one]
  ac_rfl

/-- The row's maximum after the tile. -/
theorem top4_step {S : FVec Ideal S512x512 .f32} {M : Vec Ideal S1x512x128 .f32} {s : ℕ → EReal} {n : ℕ} {r : Fin 512}
    (hS : ∀ j : Fin 512, S (ix2 r j) = s (n + j)) (hM : ∀ c : Fin 128, M (ix3 0 r c) = mx s n) (c : Fin 128) :
    top4 S M (ix2 r c) = mx s (n + 512) := by
  pointwise [top4]
  rw [ofBits_bot, hM]
  simp only [hS]
  rw [fold_max]
  refine mx_add s n 4 _ fun c => ?_
  simp only [Finset.range_add_one, Finset.range_zero, Finset.sup_insert, Finset.sup_empty]
  simp only [Nat.reduceMul, zero_add, Nat.mul_zero, sup_bot_eq, Nat.mul_one]
  ac_rfl

/-- The lane sums after the tile. -/
theorem lanes8_step {S : FVec Ideal S512x1024 .f32} {M L : Vec Ideal S1x512x128 .f32} {s : ℕ → EReal} {n : ℕ} {r : Fin 512}
    (hs : ∀ j, s j < ⊤) (hn : n % 128 = 0)
    (hS : ∀ j : Fin 1024, S (ix2 r j) = s (n + j)) (hM : ∀ c : Fin 128, M (ix3 0 r c) = mx s n)
    (hL : ∀ c : Fin 128, L (ix3 0 r c) = lx s n c) (c : Fin 128) :
    lanes8 S M L (ix3 0 r c) = lx s (n + 1024) c := by
  pointwise [lanes8, scaleOf, weights]
  simp only [top8_step hS hM, hM, hL, hS]
  rw [← lx_add s n 8 c c.isLt hn hs]
  simp only [Finset.sum_range_succ, Finset.sum_range_zero, Nat.reduceMul, zero_add, Nat.mul_zero, Nat.mul_one]
  rfl

/-- The lane sums after the tile. -/
theorem lanes4_step {S : FVec Ideal S512x512 .f32} {M L : Vec Ideal S1x512x128 .f32} {s : ℕ → EReal} {n : ℕ} {r : Fin 512}
    (hs : ∀ j, s j < ⊤) (hn : n % 128 = 0)
    (hS : ∀ j : Fin 512, S (ix2 r j) = s (n + j)) (hM : ∀ c : Fin 128, M (ix3 0 r c) = mx s n)
    (hL : ∀ c : Fin 128, L (ix3 0 r c) = lx s n c) (c : Fin 128) :
    lanes4 S M L (ix3 0 r c) = lx s (n + 512) c := by
  pointwise [lanes4, scaleOf, weights]
  simp only [top4_step hS hM, hM, hL, hS]
  rw [← lx_add s n 4 c c.isLt hn hs]
  simp only [Finset.sum_range_succ, Finset.sum_range_zero, Nat.reduceMul, zero_add, Nat.mul_zero, Nat.mul_one]
  rfl

theorem row8_step {S : FVec Ideal S512x1024 .f32} {N : FVec Ideal S512x128 .f32} {s : ℕ → EReal} {n : ℕ} {r : Fin 512} {m : EReal}
    (hS : ∀ j : Fin 1024, S (ix2 r j) = s (n + j)) (hN : ∀ c : Fin 128, N (ix2 r c) = m) (j : Fin 1024) :
    row8 S N (ix2 r j) = Ideal.exp2 (s (n + j) - m) := by
  have e : ∀ (x : Fin 1024), x.val = j.val → FloatOps.exp2 (F := Ideal) (φ := .f32) (S (ix2 r x) - m) = Ideal.exp2 (s (n + j) - m) := by
    intro x hx
    rw [hS, hx]; rfl
  pointwise [row8, weights]
  simp only [hN]
  split_ifs <;> first | exact e _ rfl | exact e _ (by simp only; omega)

theorem row4_step {S : FVec Ideal S512x512 .f32} {N : FVec Ideal S512x128 .f32} {s : ℕ → EReal} {n : ℕ} {r : Fin 512} {m : EReal}
    (hS : ∀ j : Fin 512, S (ix2 r j) = s (n + j)) (hN : ∀ c : Fin 128, N (ix2 r c) = m) (j : Fin 512) :
    row4 S N (ix2 r j) = Ideal.exp2 (s (n + j) - m) := by
  have e : ∀ (x : Fin 512), x.val = j.val → FloatOps.exp2 (F := Ideal) (φ := .f32) (S (ix2 r x) - m) = Ideal.exp2 (s (n + j) - m) := by
    intro x hx
    rw [hS, hx]; rfl
  pointwise [row4, weights]
  simp only [hN]
  split_ifs <;> first | exact e _ rfl | exact e _ (by simp only; omega)

/-- The weighted values after the tile. -/
theorem acc8_step {S : FVec Ideal S512x1024 .f32} {M A : Vec Ideal S1x512x128 .f32} {v : Vec Ideal S1x1024x128 .bf16} {s vs : ℕ → EReal}
    {n : ℕ} {r : Fin 512} {d : Fin 128} (hs : ∀ j, s j < ⊤)
    (hS : ∀ j : Fin 1024, S (ix2 r j) = s (n + j)) (hM : ∀ c : Fin 128, M (ix3 0 r c) = mx s n)
    (hv : ∀ j : Fin 1024, v (ix3 0 j d) = vs (n + j)) (hA : A (ix3 0 r d) = ax s vs n) :
    acc8 S M A v (ix3 0 r d) = ax s vs (n + 1024) := by
  pointwise [acc8, scaleOf]
  simp only [row8_step hS (top8_step hS hM), top8_step hS hM, hM, hA, hv]
  exact ax_add s vs n 1024 hs

/-- The weighted values after the tile. -/
theorem acc4_step {S : FVec Ideal S512x512 .f32} {M A : Vec Ideal S1x512x128 .f32} {v : Vec Ideal S1x512x128 .bf16} {s vs : ℕ → EReal}
    {n : ℕ} {r : Fin 512} {d : Fin 128} (hs : ∀ j, s j < ⊤)
    (hS : ∀ j : Fin 512, S (ix2 r j) = s (n + j)) (hM : ∀ c : Fin 128, M (ix3 0 r c) = mx s n)
    (hv : ∀ j : Fin 512, v (ix3 0 j d) = vs (n + j)) (hA : A (ix3 0 r d) = ax s vs n) :
    acc4 S M A v (ix3 0 r d) = ax s vs (n + 512) := by
  pointwise [acc4, scaleOf]
  simp only [row4_step hS (top4_step hS hM), top4_step hS hM, hM, hA, hv]
  exact ax_add s vs n 512 hs

theorem stored_apply (N : FVec Ideal S512x128 .f32) (r : Fin 512) (c : Fin 128) : stored N (ix3 0 r c) = N (ix2 r c) := by
  pointwise [stored]

theorem scores8_apply (q : FVec Ideal S512x256 .bf16) (kr kn : Vec Ideal S1x1024x128 .bf16) (r : Fin 512) (j : Fin 1024) :
    scores8 q kr kn (ix2 r j) = (∑ l : Fin 128, q (ix2 r ⟨l, by omega⟩) * kn (ix3 0 j l))
      + ∑ l : Fin 128, q (ix2 r ⟨128 + l, by omega⟩) * kr (ix3 0 j l) := by
  pointwise [scores8]

theorem scores4_apply (q : FVec Ideal S512x256 .bf16) (kr kn : Vec Ideal S1x512x128 .bf16) (r : Fin 512) (j : Fin 512) :
    scores4 q kr kn (ix2 r j) = (∑ l : Fin 128, q (ix2 r ⟨l, by omega⟩) * kn (ix3 0 j l))
      + ∑ l : Fin 128, q (ix2 r ⟨128 + l, by omega⟩) * kr (ix3 0 j l) := by
  pointwise [scores4]

theorem scoresD_apply (q : FVec Ideal S512x256 .bf16) (kr kn : Vec Ideal S1x512x128 .bf16) (r : Fin 512) (j : Fin 512) :
    scoresD q kr kn (ix2 r j) = if j.val ≤ r.val then scores4 q kr kn (ix2 r j) else ⊥ := by
  pointwise [scoresD, k0_pay288]
  rw [mask_eq]
  have h : (BitVec.ofNat 32 j.val).sle (BitVec.ofNat 32 r.val) = decide (j.val ≤ r.val) := by
    have h1 : (BitVec.ofNat 32 j.val).toInt = j.val := by
      rw [BitVec.toInt_eq_toNat_of_lt] <;> rw [BitVec.toNat_ofNat, Nat.mod_eq_of_lt] <;> omega
    have h2 : (BitVec.ofNat 32 r.val).toInt = r.val := by
      rw [BitVec.toInt_eq_toNat_of_lt] <;> rw [BitVec.toNat_ofNat, Nat.mod_eq_of_lt] <;> omega
    rw [BitVec.sle, h1, h2]
    simp
  by_cases hj : j.val ≤ r.val
  · simp [IntOp.cmpi, h, hj, Scalar.select]
  · simp [IntOp.cmpi, h, hj, Scalar.select]

end Cert.Flash

end
-- ==== Proof.Trip.lean ====
/-
  One trip of the loop over the double tiles: the pieces it writes into the three scratch buffers are, head by head, the
  stored step of Proof/Step.lean on the scores of that head's queries against the trip's 1024 keys.
-/
module

public import proofs.«01_k».proof.Proof.Gen.KernelIdeal.Loops
public import proofs.«01_k».proof.Proof.Step

@[expose] public section

set_option maxRecDepth 16384

noncomputable section

namespace Cert.Flash

open Idealize.ShloMosaic Cert.KernelIdeal Cert.KernelIdeal.Gen Idealize.ShloMosaic.TcCoe Idealize.ShloMosaic.Tactic

/-- A box of a buffer's contents. -/
abbrev box {s : Shape} {e : EltTy} (m : Memref sig .tc .vmem s e) (X : BufTy.Contents (Elt Ideal) m.view.ty) (off size : Fin s.rank → ℕ)
    (inb : ∀ a, off a + size a ≤ s.size a) : (Rect.unit off size inb).shape.Idx → Elt Ideal e :=
  View.readAt (Elt Ideal) m.view (Rect.unit off size inb).toLoadRect X

/-- One head's part of a scratch buffer. -/
abbrev headBox (m : Memref sig .tc .vmem S4x512x128 .f32) (f : BufTy.Contents (Elt Ideal) m.view.ty) (h : ℕ)
    (inb : ∀ a, (![h, 0, 0] : Fin 3 → ℕ) a + S1x512x128.size a ≤ S4x512x128.size a) : Vec Ideal S1x512x128 .f32 :=
  box m f ![h, 0, 0] S1x512x128.size inb

/-- A piece that writes one head's part. -/
abbrev headPiece (h : ℕ) (inb : ∀ a, (![h, 0, 0] : Fin 3 → ℕ) a + S1x512x128.size a ≤ S4x512x128.size a)
    (w : Vec Ideal S1x512x128 .f32) : View.Piece (Elt Ideal) S4x512x128 .f32 :=
  ⟨Rect.unit ![h, 0, 0] S1x512x128.size inb, w⟩

section

variable (c : Dev nD) (i : grid0.Coords) (arg3 : Memref sig .tc .vmem S1x512x1024 .bf16) (harg3 : arg3.IsWhole)
  (arg4 : Memref sig .tc .vmem S1x4096x1024 .bf16) (harg4 : arg4.IsWhole) (arg5 : Memref sig .tc .vmem S1x4096x128 .bf16)
  (harg5 : arg5.IsWhole) (arg6 : Memref sig .tc .vmem S1x512x512 .bf16) (harg6 : arg6.IsWhole)
  (arg7 : Memref sig .tc .vmem S4x512x128 .f32) (harg7 : arg7.IsWhole) (arg8 : Memref sig .tc .vmem S4x512x128 .f32)
  (harg8 : arg8.IsWhole) (arg9 : Memref sig .tc .vmem S4x512x128 .f32) (harg9 : arg9.IsWhole) (arg2 : BitVec 32)
  (q0 q1 q2 q3 : FVec Ideal S512x256 .bf16) (w1 w2 w3 w4 : BitVec 32)
  (X4 : BufTy.Contents (Elt Ideal) arg4.view.ty) (X5 : BufTy.Contents (Elt Ideal) arg5.view.ty) (k : Fin (k0_t1_loop i).trips)
  (f7 : BufTy.Contents (Elt Ideal) arg7.view.ty) (f8 : BufTy.Contents (Elt Ideal) arg8.view.ty)
  (f9 : BufTy.Contents (Elt Ideal) arg9.view.ty)
  (h1 : ∀ a, k0_off1 i k a + S1x1024x128.size a ≤ S1x4096x128.size a)
  (h2 : ∀ a, k0_off2 i k a + S1x1024x128.size a ≤ S1x4096x1024.size a)
  (h3 : ∀ a, k0_off3 i k a + S1x1024x128.size a ≤ S1x4096x1024.size a)
  (h4 : ∀ a, k0_off4 i k a + S1x1024x128.size a ≤ S1x4096x1024.size a)
  (h5 : ∀ a, k0_off5 i k a + S1x1024x128.size a ≤ S1x4096x1024.size a)
  (h6 : ∀ a, k0_off6 i k a + S1x1024x128.size a ≤ S1x4096x1024.size a)
  (h7 : ∀ a, k0_off7 i k a + S1x1024x128.size a ≤ S1x4096x1024.size a)
  (h8 : ∀ a, k0_off8 i k a + S1x1024x128.size a ≤ S1x4096x1024.size a)
  (h9 : ∀ a, k0_off9 i k a + S1x1024x128.size a ≤ S1x4096x1024.size a)
  (b0 : ∀ a, (![0, 0, 0] : Fin 3 → ℕ) a + S1x512x128.size a ≤ S4x512x128.size a)
  (b1 : ∀ a, (![1, 0, 0] : Fin 3 → ℕ) a + S1x512x128.size a ≤ S4x512x128.size a)
  (b2 : ∀ a, (![2, 0, 0] : Fin 3 → ℕ) a + S1x512x128.size a ≤ S4x512x128.size a)
  (b3 : ∀ a, (![3, 0, 0] : Fin 3 → ℕ) a + S1x512x128.size a ≤ S4x512x128.size a)

set_option maxHeartbeats 4000000 in
theorem trip_tops :
    (tripL_k0_t1 (F := Ideal) Variants.none c none i arg3 harg3 arg4 harg4 arg5 harg5 arg6 harg6 arg7 harg7 arg8 harg8 arg9 harg9 arg2
      q0 q1 q2 q3 w1 w2 w3 w4 X4 X5 k f7 f8 f9).1
    = [headPiece 3 b3 (stored (top8 (scores8 q3 (box arg5 X5 _ _ h1) (box arg4 X4 _ _ h8)) (headBox arg7 f7 3 b3))),
       headPiece 2 b2 (stored (top8 (scores8 q2 (box arg5 X5 _ _ h1) (box arg4 X4 _ _ h6)) (headBox arg7 f7 2 b2))),
       headPiece 1 b1 (stored (top8 (scores8 q1 (box arg5 X5 _ _ h1) (box arg4 X4 _ _ h4)) (headBox arg7 f7 1 b1))),
       headPiece 0 b0 (stored (top8 (scores8 q0 (box arg5 X5 _ _ h1) (box arg4 X4 _ _ h2)) (headBox arg7 f7 0 b0)))] := by
  unfold tripL_k0_t1 trip_k0_t1
  rfl

set_option maxHeartbeats 4000000 in
theorem trip_lanes :
    (tripL_k0_t1 (F := Ideal) Variants.none c none i arg3 harg3 arg4 harg4 arg5 harg5 arg6 harg6 arg7 harg7 arg8 harg8 arg9 harg9 arg2
      q0 q1 q2 q3 w1 w2 w3 w4 X4 X5 k f7 f8 f9).2.1
    = [headPiece 3 b3 (lanes8 (scores8 q3 (box arg5 X5 _ _ h1) (box arg4 X4 _ _ h8)) (headBox arg7 f7 3 b3) (headBox arg8 f8 3 b3)),
       headPiece 2 b2 (lanes8 (scores8 q2 (box arg5 X5 _ _ h1) (box arg4 X4 _ _ h6)) (headBox arg7 f7 2 b2) (headBox arg8 f8 2 b2)),
       headPiece 1 b1 (lanes8 (scores8 q1 (box arg5 X5 _ _ h1) (box arg4 X4 _ _ h4)) (headBox arg7 f7 1 b1) (headBox arg8 f8 1 b1)),
       headPiece 0 b0 (lanes8 (scores8 q0 (box arg5 X5 _ _ h1) (box arg4 X4 _ _ h2)) (headBox arg7 f7 0 b0) (headBox arg8 f8 0 b0))] := by
  unfold tripL_k0_t1 trip_k0_t1
  rfl

set_option maxHeartbeats 4000000 in
theorem trip_accs :
    (tripL_k0_t1 (F := Ideal) Variants.none c none i arg3 harg3 arg4 harg4 arg5 harg5 arg6 harg6 arg7 harg7 arg8 harg8 arg9 harg9 arg2
      q0 q1 q2 q3 w1 w2 w3 w4 X4 X5 k f7 f8 f9).2.2
    = [headPiece 3 b3 (acc8 (scores8 q3 (box arg5 X5 _ _ h1) (box arg4 X4 _ _ h8)) (headBox arg7 f7 3 b3) (headBox arg9 f9 3 b3) (box arg4 X4 _ _ h9)),
       headPiece 2 b2 (acc8 (scores8 q2 (box arg5 X5 _ _ h1) (box arg4 X4 _ _ h6)) (headBox arg7 f7 2 b2) (headBox arg9 f9 2 b2) (box arg4 X4 _ _ h7)),
       headPiece 1 b1 (acc8 (scores8 q1 (box arg5 X5 _ _ h1) (box arg4 X4 _ _ h4)) (headBox arg7 f7 1 b1) (headBox arg9 f9 1 b1) (box arg4 X4 _ _ h5)),
       headPiece 0 b0 (acc8 (scores8 q0 (box arg5 X5 _ _ h1) (box arg4 X4 _ _ h2)) (headBox arg7 f7 0 b0) (headBox arg9 f9 0 b0) (box arg4 X4 _ _ h3))] := by
  unfold tripL_k0_t1 trip_k0_t1
  rfl

end

end Cert.Flash

end
-- ==== Proof.Rows.lean ====
/-
  What the scratch buffers hold for one head: row by row, the running maximum, lane sums and weighted values of the keys
  before `n`. A step over a tile takes one head's rows to the tile's end and leaves the other heads' rows.
-/
module

public import proofs.«01_k».proof.Proof.Trip
public import Idealize.ShloMosaic.Lib.WritesUnit
public import Idealize.ShloMosaic.Lib.VecWindow

@[expose] public section

set_option maxRecDepth 16384

noncomputable section

namespace Cert.Flash

open Idealize.ShloMosaic Cert.KernelIdeal Cert.KernelIdeal.Gen Idealize.ShloMosaic.TcCoe Idealize.ShloMosaic.Tactic

/-- Head `h`'s rows hold the sums over the keys before `n`. -/
def Head (s : Fin 512 → ℕ → EReal) (vs : Fin 128 → ℕ → EReal) (n : ℕ) (h : Fin 4) (g7 g8 g9 : S4x512x128.Idx → EReal) : Prop :=
  ∀ (r : Fin 512) (c : Fin 128), g7 (ix3 h r c) = mx (s r) n ∧ g8 (ix3 h r c) = lx (s r) n c ∧ g9 (ix3 h r c) = ax (s r) (vs c) n

variable {s : Fin 512 → ℕ → EReal} {vs : Fin 128 → ℕ → EReal} {n : ℕ} {h : Fin 4}

theorem Head.step8 {g7 g8 g9 g7' g8' g9' : S4x512x128.Idx → EReal} (H : Head s vs n h g7 g8 g9)
    (hs : ∀ r j, s r j < ⊤) (hn : n % 128 = 0) {S : FVec Ideal S512x1024 .f32} {M L A : Vec Ideal S1x512x128 .f32}
    {V : Vec Ideal S1x1024x128 .bf16} (hS : ∀ r (j : Fin 1024), S (ix2 r j) = s r (n + j))
    (hV : ∀ (j : Fin 1024) d, V (ix3 0 j d) = vs d (n + j)) (hM : ∀ r c, M (ix3 0 r c) = g7 (ix3 h r c))
    (hL : ∀ r c, L (ix3 0 r c) = g8 (ix3 h r c)) (hA : ∀ r c, A (ix3 0 r c) = g9 (ix3 h r c))
    (h7 : ∀ r c, g7' (ix3 h r c) = stored (top8 S M) (ix3 0 r c)) (h8 : ∀ r c, g8' (ix3 h r c) = lanes8 S M L (ix3 0 r c))
    (h9 : ∀ r c, g9' (ix3 h r c) = acc8 S M A V (ix3 0 r c)) : Head s vs (n + 1024) h g7' g8' g9' := by
  intro r c
  have eM : ∀ c, M (ix3 0 r c) = mx (s r) n := fun c => (hM r c).trans (H r c).1
  have eL : ∀ c, L (ix3 0 r c) = lx (s r) n c := fun c => (hL r c).trans (H r c).2.1
  refine ⟨?_, ?_, ?_⟩
  · rw [h7, stored_apply]; exact top8_step (hS r) eM c
  · rw [h8]; exact lanes8_step (hs r) hn (hS r) eM eL c
  · rw [h9]; exact acc8_step (hs r) (hS r) eM (fun j => hV j c) ((hA r c).trans (H r c).2.2)

theorem Head.step4 {g7 g8 g9 g7' g8' g9' : S4x512x128.Idx → EReal} (H : Head s vs n h g7 g8 g9)
    (hs : ∀ r j, s r j < ⊤) (hn : n % 128 = 0) {S : FVec Ideal S512x512 .f32} {M L A : Vec Ideal S1x512x128 .f32}
    {V : Vec Ideal S1x512x128 .bf16} (hS : ∀ r (j : Fin 512), S (ix2 r j) = s r (n + j))
    (hV : ∀ (j : Fin 512) d, V (ix3 0 j d) = vs d (n + j)) (hM : ∀ r c, M (ix3 0 r c) = g7 (ix3 h r c))
    (hL : ∀ r c, L (ix3 0 r c) = g8 (ix3 h r c)) (hA : ∀ r c, A (ix3 0 r c) = g9 (ix3 h r c))
    (h7 : ∀ r c, g7' (ix3 h r c) = stored (top4 S M) (ix3 0 r c)) (h8 : ∀ r c, g8' (ix3 h r c) = lanes4 S M L (ix3 0 r c))
    (h9 : ∀ r c, g9' (ix3 h r c) = acc4 S M A V (ix3 0 r c)) : Head s vs (n + 512) h g7' g8' g9' := by
  intro r c
  have eM : ∀ c, M (ix3 0 r c) = mx (s r) n := fun c => (hM r c).trans (H r c).1
  have eL : ∀ c, L (ix3 0 r c) = lx (s r) n c := fun c => (hL r c).trans (H r c).2.1
  refine ⟨?_, ?_, ?_⟩
  · rw [h7, stored_apply]; exact top4_step (hS r) eM c
  · rw [h8]; exact lanes4_step (hs r) hn (hS r) eM eL c
  · rw [h9]; exact acc4_step (hs r) (hS r) eM (fun j => hV j c) ((hA r c).trans (H r c).2.2)

/-- A head's rows are kept where the buffers are. -/
theorem Head.keep {g7 g8 g9 g7' g8' g9' : S4x512x128.Idx → EReal} (H : Head s vs n h g7 g8 g9)
    (h7 : ∀ r c, g7' (ix3 h r c) = g7 (ix3 h r c)) (h8 : ∀ r c, g8' (ix3 h r c) = g8 (ix3 h r c))
    (h9 : ∀ r c, g9' (ix3 h r c) = g9 (ix3 h r c)) : Head s vs n h g7' g8' g9' := fun r c =>
  ⟨(h7 r c).trans (H r c).1, (h8 r c).trans (H r c).2.1, (h9 r c).trans (H r c).2.2⟩

/-! ## Reading one head's part -/

theorem piece_same (m : Memref sig .tc .vmem S4x512x128 .f32) (f : BufTy.Contents (Elt Ideal) m.view.ty) {k : ℕ}
    (b : ∀ a, (![k, 0, 0] : Fin 3 → ℕ) a + S1x512x128.size a ≤ S4x512x128.size a) (w : Vec Ideal S1x512x128 .f32)
    (L : List (View.Piece (Elt Ideal) S4x512x128 .f32)) {h : Fin 4} (hk : h.val = k) (r : Fin 512) (c : Fin 128) :
    m.view.read (Elt Ideal) (m.view.writes (Elt Ideal) f (headPiece k b w :: L)) (ix3 h r c) = w (ix3 0 r c) := by
  refine View.read_writes_cons_unit_of_mem m.view f b w L (ix3 h r c) (ix3 0 r c) rfl ?_
  intro a
  fin_cases a
  · show h.val = k + 0; omega
  · show r.val = 0 + r.val; omega
  · show c.val = 0 + c.val; omega

theorem piece_other (m : Memref sig .tc .vmem S4x512x128 .f32) (f : BufTy.Contents (Elt Ideal) m.view.ty) {k : ℕ}
    (b : ∀ a, (![k, 0, 0] : Fin 3 → ℕ) a + S1x512x128.size a ≤ S4x512x128.size a) (w : Vec Ideal S1x512x128 .f32)
    (L : List (View.Piece (Elt Ideal) S4x512x128 .f32)) {h : Fin 4} (hk : h.val ≠ k) (r : Fin 512) (c : Fin 128) :
    m.view.read (Elt Ideal) (m.view.writes (Elt Ideal) f (headPiece k b w :: L)) (ix3 h r c)
      = m.view.read (Elt Ideal) (m.view.writes (Elt Ideal) f L) (ix3 h r c) := by
  refine View.read_writes_cons_unit_of_not_mem m.view f b w L (ix3 h r c) rfl 0 ?_
  show h.val < k ∨ k + 1 ≤ h.val
  omega

theorem headBox_apply (m : Memref sig .tc .vmem S4x512x128 .f32) (f : BufTy.Contents (Elt Ideal) m.view.ty) {k : ℕ}
    (b : ∀ a, (![k, 0, 0] : Fin 3 → ℕ) a + S1x512x128.size a ≤ S4x512x128.size a) {h : Fin 4} (hk : h.val = k) (r : Fin 512)
    (c : Fin 128) : headBox m f k b (ix3 0 r c) = m.view.read (Elt Ideal) f (ix3 h r c) := by
  refine (congrFun (View.readAt_unit m.view f b rfl b) (ix3 0 r c)).trans ?_
  show m.view.read (Elt Ideal) f _ = _
  refine congrArg _ ?_
  funext a
  apply Fin.ext
  fin_cases a
  · show k + 1 * 0 = h.val; omega
  · show 0 + 1 * r.val = r.val; omega
  · show 0 + 1 * c.val = c.val; omega

/-- A box of a rank-3 block. -/
theorem box_apply {A B C D : ℕ} {e : EltTy} (m : Memref sig .tc .vmem ⟨3, ![1, A, B]⟩ e) (hm : m.IsWhole)
    (X : (⟨3, ![1, A, B]⟩ : Shape).Idx → Elt Ideal e) {off : Fin 3 → ℕ} {x y : ℕ} (ho : off = ![0, x, y])
    (b : ∀ a, off a + (⟨3, ![1, C, D]⟩ : Shape).size a ≤ (⟨3, ![1, A, B]⟩ : Shape).size a) (j : Fin C) (d : Fin D)
    (hj : x + j.val < A) (hd : y + d.val < B) :
    box m (hm.unread X) off (⟨3, ![1, C, D]⟩ : Shape).size b (ix3 0 j d) = X (ix3 0 ⟨x + j.val, hj⟩ ⟨y + d.val, hd⟩) := by
  subst ho
  refine (congrFun (View.readAt_unit m.view (hm.unread X) b rfl b) (ix3 0 j d)).trans ?_
  rw [hm.read_unread]
  show X _ = _
  refine congrArg _ ?_
  funext a
  apply Fin.ext
  fin_cases a
  · show 0 + 1 * 0 = 0; omega
  · show x + 1 * j.val = x + j.val; omega
  · show y + 1 * d.val = y + d.val; omega

/-! ## Scores and values -/

section

variable (X0 : S1x512x1024.Idx → EReal) (X1 : S1x4096x1024.Idx → EReal) (X2 : S1x4096x128.Idx → EReal)

/-- Key `j` (there are 4096 of them). -/
def key (j : ℕ) : Fin 4096 := ⟨j % 4096, Nat.mod_lt _ (by decide)⟩

/-- The score of key `j` for row `r` of head `h`. -/
def dotp (h : Fin 4) (r : Fin 512) (j : ℕ) : EReal :=
  (∑ l : Fin 128, X0 (ix3 0 r ⟨256 * h.val + l.val, by omega⟩) * X1 (ix3 0 (key j) ⟨256 * h.val + l.val, by omega⟩))
    + ∑ l : Fin 128, X0 (ix3 0 r ⟨256 * h.val + (128 + l.val), by omega⟩) * X2 (ix3 0 (key j) l)

/-- The score, where the key is not after the query. -/
def score (qi : ℕ) (h : Fin 4) (r : Fin 512) (j : ℕ) : EReal := if j ≤ 512 * qi + r.val then dotp X0 X1 X2 h r j else ⊥

/-- Coordinate `d` of the value of key `j`. -/
def value (h : Fin 4) (d : Fin 128) (j : ℕ) : EReal := X1 (ix3 0 (key j) ⟨256 * h.val + 128 + d.val, by omega⟩)

theorem key_of {j x : ℕ} (hx : x < 4096) (e : x = j) : (⟨x, hx⟩ : Fin 4096) = key j :=
  Fin.ext (show x = j % 4096 by omega)

end

end Cert.Flash

end
-- ==== Proof.Walk.lean ====
/-
  The loop over the double tiles: after `k` trips every head's rows hold the sums over the first 1024 k keys.
-/
module

public import proofs.«01_k».proof.Proof.Rows

@[expose] public section

set_option maxRecDepth 16384

noncomputable section

namespace Cert.Flash

open Idealize.ShloMosaic Cert.KernelIdeal Cert.KernelIdeal.Gen Idealize.ShloMosaic.TcCoe Idealize.ShloMosaic.Tactic

/-! ## Where the trips read -/

theorem trips_eq (i : grid0.Coords) : (k0_t1_loop i).trips = (i 2).val / 2 := by
  have e : (i 2).val < 8 := (i 2).isLt
  unfold k0_t1_loop
  generalize (i 2).val = x at e ⊢
  interval_cases x <;> rfl

theorem trip_word {k : ℕ} (h : k < 3) :
    (Scalar.indexCast (Scalar.muli (Scalar.muli 2#32 (Scf.iv 0#32 1#32 k)) 512#32)).toNat = 1024 * k := by
  interval_cases k <;> decide

section
variable (i : grid0.Coords) (k : Fin (k0_t1_loop i).trips)

theorem trip_lt : k.val < 3 := Nat.lt_of_lt_of_le k.isLt (k0_t1_abs i).2.1

theorem off1_eq : k0_off1 i k = ![0, 1024 * k.val, 0] := congrArg (fun x => ![0, x, 0]) (trip_word (trip_lt i k))
theorem off2_eq : k0_off2 i k = ![0, 1024 * k.val, 0] := congrArg (fun x => ![0, x, 0]) (trip_word (trip_lt i k))
theorem off3_eq : k0_off3 i k = ![0, 1024 * k.val, 128] := congrArg (fun x => ![0, x, 128]) (trip_word (trip_lt i k))
theorem off4_eq : k0_off4 i k = ![0, 1024 * k.val, 256] := congrArg (fun x => ![0, x, 256]) (trip_word (trip_lt i k))
theorem off5_eq : k0_off5 i k = ![0, 1024 * k.val, 384] := congrArg (fun x => ![0, x, 384]) (trip_word (trip_lt i k))
theorem off6_eq : k0_off6 i k = ![0, 1024 * k.val, 512] := congrArg (fun x => ![0, x, 512]) (trip_word (trip_lt i k))
theorem off7_eq : k0_off7 i k = ![0, 1024 * k.val, 640] := congrArg (fun x => ![0, x, 640]) (trip_word (trip_lt i k))
theorem off8_eq : k0_off8 i k = ![0, 1024 * k.val, 768] := congrArg (fun x => ![0, x, 768]) (trip_word (trip_lt i k))
theorem off9_eq : k0_off9 i k = ![0, 1024 * k.val, 896] := congrArg (fun x => ![0, x, 896]) (trip_word (trip_lt i k))

end

/-! ## A tile's scores and values, from the whole blocks -/

/-- Lane `l` of head `h`'s queries. -/
def lane (h : Fin 4) (l : Fin 256) : Fin 1024 := ⟨256 * h.val + l.val, by omega⟩

/-- `q` is head `h`'s queries. -/
def Query (X0 : S1x512x1024.Idx → EReal) (h : Fin 4) (q : FVec Ideal S512x256 .bf16) : Prop :=
  ∀ r l, q (ix2 r l) = X0 (ix3 0 r (lane h l))

theorem Query.apply {X0 : S1x512x1024.Idx → EReal} {h : Fin 4} {q : FVec Ideal S512x256 .bf16} (H : Query X0 h q) (r : Fin 512) (l : Fin 256) :
    q (ix2 r l) = X0 (ix3 0 r ⟨256 * h.val + l.val, by omega⟩) := H r l

section

variable {X0 : S1x512x1024.Idx → EReal} {X1 : S1x4096x1024.Idx → EReal} {X2 : S1x4096x128.Idx → EReal}
  {arg4 : Memref sig .tc .vmem S1x4096x1024 .bf16} (harg4 : arg4.IsWhole) {arg5 : Memref sig .tc .vmem S1x4096x128 .bf16}
  (harg5 : arg5.IsWhole)

theorem scores8_box {h : Fin 4} {q : FVec Ideal S512x256 .bf16}
    (hq : Query X0 h q)
    {o1 o2 : Fin 3 → ℕ} {n : ℕ} (e1 : o1 = ![0, n, 0]) (e2 : o2 = ![0, n, 256 * h.val]) (hn : n + 1024 ≤ 4096)
    (h1 : ∀ a, o1 a + S1x1024x128.size a ≤ S1x4096x128.size a) (h2 : ∀ a, o2 a + S1x1024x128.size a ≤ S1x4096x1024.size a)
    (r : Fin 512) (j : Fin 1024) :
    scores8 q (box arg5 (harg5.unread X2) o1 S1x1024x128.size h1) (box arg4 (harg4.unread X1) o2 S1x1024x128.size h2) (ix2 r j)
      = dotp X0 X1 X2 h r (n + j.val) := by
  rw [scores8_apply, dotp]
  refine congrArg₂ (· + ·) (Finset.sum_congr rfl fun l _ => ?_) (Finset.sum_congr rfl fun l _ => ?_)
  · rw [hq.apply]
    refine congrArg _ ((box_apply (C := 1024) (D := 128) arg4 harg4 X1 e2 h2 j l (by omega) (by omega)).trans ?_)
    rw [key_of _ rfl]
  · rw [hq.apply]
    refine congrArg _ ((box_apply (C := 1024) (D := 128) arg5 harg5 X2 e1 h1 j l (by omega) (by omega)).trans ?_)
    rw [key_of _ rfl]
    exact congrArg X2 (congrArg (ix3 0 (key (n + j.val))) (Fin.ext (show 0 + l.val = l.val by omega)))

theorem value8_box {h : Fin 4} {o : Fin 3 → ℕ} {n : ℕ} (e : o = ![0, n, 256 * h.val + 128]) (hn : n + 1024 ≤ 4096)
    (b : ∀ a, o a + S1x1024x128.size a ≤ S1x4096x1024.size a) (j : Fin 1024) (d : Fin 128) :
    box arg4 (harg4.unread X1) o S1x1024x128.size b (ix3 0 j d) = value X1 h d (n + j.val) := by
  refine (box_apply (C := 1024) (D := 128) arg4 harg4 X1 e b j d (by omega) (by omega)).trans ?_
  rw [key_of _ rfl]
  rfl

theorem scores4_box {h : Fin 4} {q : FVec Ideal S512x256 .bf16}
    (hq : Query X0 h q)
    {o1 o2 : Fin 3 → ℕ} {n : ℕ} (e1 : o1 = ![0, n, 0]) (e2 : o2 = ![0, n, 256 * h.val]) (hn : n + 512 ≤ 4096)
    (h1 : ∀ a, o1 a + S1x512x128.size a ≤ S1x4096x128.size a) (h2 : ∀ a, o2 a + S1x512x128.size a ≤ S1x4096x1024.size a)
    (r : Fin 512) (j : Fin 512) :
    scores4 q (box arg5 (harg5.unread X2) o1 S1x512x128.size h1) (box arg4 (harg4.unread X1) o2 S1x512x128.size h2) (ix2 r j)
      = dotp X0 X1 X2 h r (n + j.val) := by
  rw [scores4_apply, dotp]
  refine congrArg₂ (· + ·) (Finset.sum_congr rfl fun l _ => ?_) (Finset.sum_congr rfl fun l _ => ?_)
  · rw [hq.apply]
    refine congrArg _ ((box_apply (C := 512) (D := 128) arg4 harg4 X1 e2 h2 j l (by omega) (by omega)).trans ?_)
    rw [key_of _ rfl]
  · rw [hq.apply]
    refine congrArg _ ((box_apply (C := 512) (D := 128) arg5 harg5 X2 e1 h1 j l (by omega) (by omega)).trans ?_)
    rw [key_of _ rfl]
    exact congrArg X2 (congrArg (ix3 0 (key (n + j.val))) (Fin.ext (show 0 + l.val = l.val by omega)))

theorem value4_box {h : Fin 4} {o : Fin 3 → ℕ} {n : ℕ} (e : o = ![0, n, 256 * h.val + 128]) (hn : n + 512 ≤ 4096)
    (b : ∀ a, o a + S1x512x128.size a ≤ S1x4096x1024.size a) (j : Fin 512) (d : Fin 128) :
    box arg4 (harg4.unread X1) o S1x512x128.size b (ix3 0 j d) = value X1 h d (n + j.val) := by
  refine (box_apply (C := 512) (D := 128) arg4 harg4 X1 e b j d (by omega) (by omega)).trans ?_
  rw [key_of _ rfl]
  rfl

end

/-! ## Four pieces, one for each head -/

section
variable (m : Memref sig .tc .vmem S4x512x128 .f32) (f : BufTy.Contents (Elt Ideal) m.view.ty)
  (b0 : ∀ a, (![0, 0, 0] : Fin 3 → ℕ) a + S1x512x128.size a ≤ S4x512x128.size a)
  (b1 : ∀ a, (![1, 0, 0] : Fin 3 → ℕ) a + S1x512x128.size a ≤ S4x512x128.size a)
  (b2 : ∀ a, (![2, 0, 0] : Fin 3 → ℕ) a + S1x512x128.size a ≤ S4x512x128.size a)
  (b3 : ∀ a, (![3, 0, 0] : Fin 3 → ℕ) a + S1x512x128.size a ≤ S4x512x128.size a)
  (y0 y1 y2 y3 : Vec Ideal S1x512x128 .f32) (L : List (View.Piece (Elt Ideal) S4x512x128 .f32)) (r : Fin 512) (c : Fin 128)

/-- What a buffer reads after the four pieces. -/
abbrev four (h : Fin 4) : EReal := m.view.read (Elt Ideal) (m.view.writes (Elt Ideal) f
    (headPiece 3 b3 y3 :: headPiece 2 b2 y2 :: headPiece 1 b1 y1 :: headPiece 0 b0 y0 :: L)) (ix3 h r c)

theorem four_3 : four m f b0 b1 b2 b3 y0 y1 y2 y3 L r c 3 = y3 (ix3 0 r c) := piece_same m f b3 y3 _ rfl r c
theorem four_2 : four m f b0 b1 b2 b3 y0 y1 y2 y3 L r c 2 = y2 (ix3 0 r c) :=
  (piece_other m f b3 y3 _ (h := 2) (by decide) r c).trans (piece_same m f b2 y2 _ rfl r c)
theorem four_1 : four m f b0 b1 b2 b3 y0 y1 y2 y3 L r c 1 = y1 (ix3 0 r c) :=
  (piece_other m f b3 y3 _ (h := 1) (by decide) r c).trans ((piece_other m f b2 y2 _ (h := 1) (by decide) r c).trans
    (piece_same m f b1 y1 _ rfl r c))
theorem four_0 : four m f b0 b1 b2 b3 y0 y1 y2 y3 L r c 0 = y0 (ix3 0 r c) :=
  (piece_other m f b3 y3 _ (h := 0) (by decide) r c).trans ((piece_other m f b2 y2 _ (h := 0) (by decide) r c).trans
    ((piece_other m f b1 y1 _ (h := 0) (by decide) r c).trans (piece_same m f b0 y0 _ rfl r c)))

end

/-! ## The loop -/

theorem score_early {X0 : S1x512x1024.Idx → EReal} {X1 : S1x4096x1024.Idx → EReal} {X2 : S1x4096x128.Idx → EReal} {qi : ℕ}
    {h : Fin 4} {r : Fin 512} {j : ℕ} (hj : j < 512 * qi) : score X0 X1 X2 qi h r j = dotp X0 X1 X2 h r j := if_pos (by omega)

section

variable (c : Dev nD) (i : grid0.Coords) (arg3 : Memref sig .tc .vmem S1x512x1024 .bf16) (harg3 : arg3.IsWhole)
  (arg4 : Memref sig .tc .vmem S1x4096x1024 .bf16) (harg4 : arg4.IsWhole) (arg5 : Memref sig .tc .vmem S1x4096x128 .bf16)
  (harg5 : arg5.IsWhole) (arg6 : Memref sig .tc .vmem S1x512x512 .bf16) (harg6 : arg6.IsWhole)
  (arg7 : Memref sig .tc .vmem S4x512x128 .f32) (harg7 : arg7.IsWhole) (arg8 : Memref sig .tc .vmem S4x512x128 .f32)
  (harg8 : arg8.IsWhole) (arg9 : Memref sig .tc .vmem S4x512x128 .f32) (harg9 : arg9.IsWhole) (arg2 : BitVec 32)
  (q0 q1 q2 q3 : FVec Ideal S512x256 .bf16) (w1 w2 w3 w4 : BitVec 32)
  (X0 : S1x512x1024.Idx → EReal) (X1 : S1x4096x1024.Idx → EReal) (X2 : S1x4096x128.Idx → EReal)
  (G7 : BufTy.Contents (Elt Ideal) arg7.view.ty) (G8 : BufTy.Contents (Elt Ideal) arg8.view.ty)
  (G9 : BufTy.Contents (Elt Ideal) arg9.view.ty)
  (hq0 : Query X0 0 q0)
  (hq1 : Query X0 1 q1)
  (hq2 : Query X0 2 q2)
  (hq3 : Query X0 3 q3)
  (hs : ∀ h r j, score X0 X1 X2 (i 2).val h r j < ⊤)
include hq0 hq1 hq2 hq3 hs

theorem trip_rows (k : Fin (k0_t1_loop i).trips) (P7 P8 P9 : List (View.Piece (Elt Ideal) S4x512x128 .f32)) (h : Fin 4)
    (H : Head (score X0 X1 X2 (i 2).val h) (value X1 h) (1024 * k.val) h (arg7.view.read (Elt Ideal) (arg7.view.writes (Elt Ideal) G7 P7))
      (arg8.view.read (Elt Ideal) (arg8.view.writes (Elt Ideal) G8 P8)) (arg9.view.read (Elt Ideal) (arg9.view.writes (Elt Ideal) G9 P9))) :
    Head (score X0 X1 X2 (i 2).val h) (value X1 h) (1024 * k.val + 1024) h
      (arg7.view.read (Elt Ideal) (arg7.view.writes (Elt Ideal) G7 ((tripL_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) k
        (arg7.view.writes (Elt Ideal) G7 P7) (arg8.view.writes (Elt Ideal) G8 P8) (arg9.view.writes (Elt Ideal) G9 P9)).1 ++ P7)))
      (arg8.view.read (Elt Ideal) (arg8.view.writes (Elt Ideal) G8 ((tripL_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) k
        (arg7.view.writes (Elt Ideal) G7 P7) (arg8.view.writes (Elt Ideal) G8 P8) (arg9.view.writes (Elt Ideal) G9 P9)).2.1 ++ P8)))
      (arg9.view.read (Elt Ideal) (arg9.view.writes (Elt Ideal) G9 ((tripL_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) k
        (arg7.view.writes (Elt Ideal) G7 P7) (arg8.view.writes (Elt Ideal) G8 P8) (arg9.view.writes (Elt Ideal) G9 P9)).2.2 ++ P9))) := by
  have hk : k.val < (i 2).val / 2 := trips_eq i ▸ k.isLt
  have hi : (i 2).val < 8 := (i 2).isLt
  have b0 : ∀ a, (![0, 0, 0] : Fin 3 → ℕ) a + S1x512x128.size a ≤ S4x512x128.size a := by decide
  have b1 : ∀ a, (![1, 0, 0] : Fin 3 → ℕ) a + S1x512x128.size a ≤ S4x512x128.size a := by decide
  have b2 : ∀ a, (![2, 0, 0] : Fin 3 → ℕ) a + S1x512x128.size a ≤ S4x512x128.size a := by decide
  have b3 : ∀ a, (![3, 0, 0] : Fin 3 → ℕ) a + S1x512x128.size a ≤ S4x512x128.size a := by decide
  rw [trip_tops c i arg3 harg3 arg4 harg4 arg5 harg5 arg6 harg6 arg7 harg7 arg8 harg8 arg9 harg9 arg2 q0 q1 q2 q3 w1 w2 w3 w4
      (harg4.unread X1) (harg5.unread X2) k _ _ _ (k0_off1_inb i k) (k0_off2_inb i k) (k0_off4_inb i k) (k0_off6_inb i k)
      (k0_off8_inb i k) b0 b1 b2 b3,
    trip_lanes c i arg3 harg3 arg4 harg4 arg5 harg5 arg6 harg6 arg7 harg7 arg8 harg8 arg9 harg9 arg2 q0 q1 q2 q3 w1 w2 w3 w4
      (harg4.unread X1) (harg5.unread X2) k _ _ _ (k0_off1_inb i k) (k0_off2_inb i k) (k0_off4_inb i k) (k0_off6_inb i k)
      (k0_off8_inb i k) b0 b1 b2 b3,
    trip_accs c i arg3 harg3 arg4 harg4 arg5 harg5 arg6 harg6 arg7 harg7 arg8 harg8 arg9 harg9 arg2 q0 q1 q2 q3 w1 w2 w3 w4
      (harg4.unread X1) (harg5.unread X2) k _ _ _ (k0_off1_inb i k) (k0_off2_inb i k) (k0_off3_inb i k) (k0_off4_inb i k)
      (k0_off5_inb i k) (k0_off6_inb i k) (k0_off7_inb i k) (k0_off8_inb i k) (k0_off9_inb i k) b0 b1 b2 b3]
  simp only [List.cons_append, List.nil_append]
  have e : ∀ (h : Fin 4) r (j : Fin 1024), dotp X0 X1 X2 h r (1024 * k.val + j.val) = score X0 X1 X2 (i 2).val h r (1024 * k.val + j.val) :=
    fun h r j => (score_early (by omega)).symm
  obtain rfl | rfl | rfl | rfl : h = 0 ∨ h = 1 ∨ h = 2 ∨ h = 3 := by fin_cases h <;> simp
  · exact H.step8 (hs _) (by omega)
      (fun r j => (scores8_box harg4 harg5 hq0 (off1_eq i k) (off2_eq i k) (by omega) (k0_off1_inb i k) (k0_off2_inb i k) r j).trans (e _ r j))
      (fun j d => value8_box harg4 (off3_eq i k) (by omega) (k0_off3_inb i k) j d)
      (fun r c => headBox_apply arg7 _ b0 rfl r c) (fun r c => headBox_apply arg8 _ b0 rfl r c) (fun r c => headBox_apply arg9 _ b0 rfl r c)
      (four_0 arg7 _ b0 b1 b2 b3 _ _ _ _ _) (four_0 arg8 _ b0 b1 b2 b3 _ _ _ _ _) (four_0 arg9 _ b0 b1 b2 b3 _ _ _ _ _)
  · exact H.step8 (hs _) (by omega)
      (fun r j => (scores8_box harg4 harg5 hq1 (off1_eq i k) (off4_eq i k) (by omega) (k0_off1_inb i k) (k0_off4_inb i k) r j).trans (e _ r j))
      (fun j d => value8_box harg4 (off5_eq i k) (by omega) (k0_off5_inb i k) j d)
      (fun r c => headBox_apply arg7 _ b1 rfl r c) (fun r c => headBox_apply arg8 _ b1 rfl r c) (fun r c => headBox_apply arg9 _ b1 rfl r c)
      (four_1 arg7 _ b0 b1 b2 b3 _ _ _ _ _) (four_1 arg8 _ b0 b1 b2 b3 _ _ _ _ _) (four_1 arg9 _ b0 b1 b2 b3 _ _ _ _ _)
  · exact H.step8 (hs _) (by omega)
      (fun r j => (scores8_box harg4 harg5 hq2 (off1_eq i k) (off6_eq i k) (by omega) (k0_off1_inb i k) (k0_off6_inb i k) r j).trans (e _ r j))
      (fun j d => value8_box harg4 (off7_eq i k) (by omega) (k0_off7_inb i k) j d)
      (fun r c => headBox_apply arg7 _ b2 rfl r c) (fun r c => headBox_apply arg8 _ b2 rfl r c) (fun r c => headBox_apply arg9 _ b2 rfl r c)
      (four_2 arg7 _ b0 b1 b2 b3 _ _ _ _ _) (four_2 arg8 _ b0 b1 b2 b3 _ _ _ _ _) (four_2 arg9 _ b0 b1 b2 b3 _ _ _ _ _)
  · exact H.step8 (hs _) (by omega)
      (fun r j => (scores8_box harg4 harg5 hq3 (off1_eq i k) (off8_eq i k) (by omega) (k0_off1_inb i k) (k0_off8_inb i k) r j).trans (e _ r j))
      (fun j d => value8_box harg4 (off9_eq i k) (by omega) (k0_off9_inb i k) j d)
      (fun r c => headBox_apply arg7 _ b3 rfl r c) (fun r c => headBox_apply arg8 _ b3 rfl r c) (fun r c => headBox_apply arg9 _ b3 rfl r c)
      (four_3 arg7 _ b0 b1 b2 b3 _ _ _ _ _) (four_3 arg8 _ b0 b1 b2 b3 _ _ _ _ _) (four_3 arg9 _ b0 b1 b2 b3 _ _ _ _ _)

/-- After the first `k` trips. -/
theorem loop_rows (h : Fin 4)
    (H : Head (score X0 X1 X2 (i 2).val h) (value X1 h) 0 h (arg7.view.read (Elt Ideal) G7) (arg8.view.read (Elt Ideal) G8)
      (arg9.view.read (Elt Ideal) G9)) (k : ℕ) (hk : k ≤ (k0_t1_loop i).trips) :
    Head (score X0 X1 X2 (i 2).val h) (value X1 h) (1024 * k) h
      (arg7.view.read (Elt Ideal) (arg7.view.writes (Elt Ideal) G7 (pb_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) G7 G8 G9 k).1))
      (arg8.view.read (Elt Ideal) (arg8.view.writes (Elt Ideal) G8 (pb_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) G7 G8 G9 k).2.1))
      (arg9.view.read (Elt Ideal) (arg9.view.writes (Elt Ideal) G9 (pb_k0_t1 (F := Ideal) Variants.none c none i arg3 harg3 arg4 harg4
        arg5 harg5 arg6 harg6 arg7 harg7 arg8 harg8 arg9 harg9 arg2 q0 q1 q2 q3 w1 w2 w3 w4 (harg4.unread X1) (harg5.unread X2) G7 G8 G9 k).2.2)) := by
  induction k with
  | zero => exact H
  | succ k ih =>
    rw [pb_k0_t1_succ Variants.none c none i arg3 harg3 arg4 harg4 arg5 harg5 arg6 harg6 arg7 harg7 arg8 harg8 arg9 harg9 arg2 q0 q1 q2 q3
      w1 w2 w3 w4 (harg4.unread X1) (harg5.unread X2) G7 G8 G9 ⟨k, hk⟩]
    exact trip_rows c i arg3 harg3 arg4 harg4 arg5 harg5 arg6 harg6 arg7 harg7 arg8 harg8 arg9 harg9 arg2 q0 q1 q2 q3
      w1 w2 w3 w4 X0 X1 X2 G7 G8 G9 hq0 hq1 hq2 hq3 hs ⟨k, hk⟩ _ _ _ h (ih (Nat.le_of_lt hk))

end

end Cert.Flash

end
-- ==== Proof.Heads.lean ====
/-
  The stores into the three scratch buffers as three lists, newest first, and the step over a tile of 512 keys for one head.
-/
module

public import proofs.«01_k».proof.Proof.Walk

@[expose] public section

set_option maxRecDepth 16384

noncomputable section

namespace Cert.Flash

open Idealize.ShloMosaic Cert.KernelIdeal Cert.KernelIdeal.Gen Idealize.ShloMosaic.TcCoe Idealize.ShloMosaic.Tactic

/-- The stores into the three scratch buffers, newest first. -/
abbrev Lists := List (View.Piece (Elt Ideal) S4x512x128 .f32) × List (View.Piece (Elt Ideal) S4x512x128 .f32)
  × List (View.Piece (Elt Ideal) S4x512x128 .f32)

/-- The stores `T` after the stores `U`. -/
def app (T U : Lists) : Lists := (T.1 ++ U.1, T.2.1 ++ U.2.1, T.2.2 ++ U.2.2)

/-- A quotient of weighted values by sums over lanes, as it is stored. -/
def outv (A L : Vec Ideal S1x512x128 .f32) : Vec Ideal S1x512x128 .bf16 :=
  shapeCast S1x512x128 (truncf .bf16 (divf (shapeCast S512x128 A shapeCasts_S1x512x128_S512x128)
    (broadcastTo S512x128 (shapeCast S512x1 (multiReduction .add [1] S512 (shapeCast S512x128 L shapeCasts_S1x512x128_S512x128 : FVec Ideal S512x128 .f32)
      0x00000000#32 reduces_S512x128_S512 (.inl rfl) rfl) shapeCasts_S512_S512x1) broadcasts_S512x1_S512x128)) bitsLt_bf16_f32)
    shapeCasts_S512x128_S1x512x128

theorem outv_apply (A L : Vec Ideal S1x512x128 .f32) (r : Fin 512) (d : Fin 128) :
    outv A L (ix3 0 r d) = Ideal.div (A (ix3 0 r d)) (∑ c : Fin 128, L (ix3 0 r c)) := by
  pointwise [outv]

section

variable (m7 m8 m9 : Memref sig .tc .vmem S4x512x128 .f32)

/-- One head's three stores of a step over 512 keys. -/
def put (h : ℕ) (b : ∀ a, (![h, 0, 0] : Fin 3 → ℕ) a + S1x512x128.size a ≤ S4x512x128.size a) (S : FVec Ideal S512x512 .f32)
    (V : Vec Ideal S1x512x128 .bf16) (T : Lists) : Lists :=
  (headPiece h b (stored (top4 S (headBox m7 (m7.view.writes (Elt Ideal) m7.view.junk T.1) h b))) :: T.1,
    headPiece h b (lanes4 S (headBox m7 (m7.view.writes (Elt Ideal) m7.view.junk T.1) h b)
      (headBox m8 (m8.view.writes (Elt Ideal) m8.view.junk T.2.1) h b)) :: T.2.1,
    headPiece h b (acc4 S (headBox m7 (m7.view.writes (Elt Ideal) m7.view.junk T.1) h b)
      (headBox m9 (m9.view.writes (Elt Ideal) m9.view.junk T.2.2) h b) V) :: T.2.2)

/-- Every head's rows hold the sums over the keys before `ns` of the head. -/
def Heads (s : Fin 4 → Fin 512 → ℕ → EReal) (v : Fin 4 → Fin 128 → ℕ → EReal) (ns : Fin 4 → ℕ) (T : Lists) : Prop :=
  ∀ h, Head (s h) (v h) (ns h) h (m7.view.read (Elt Ideal) (m7.view.writes (Elt Ideal) m7.view.junk T.1))
    (m8.view.read (Elt Ideal) (m8.view.writes (Elt Ideal) m8.view.junk T.2.1))
    (m9.view.read (Elt Ideal) (m9.view.writes (Elt Ideal) m9.view.junk T.2.2))

variable {m7 m8 m9} {s : Fin 4 → Fin 512 → ℕ → EReal} {v : Fin 4 → Fin 128 → ℕ → EReal} {ns : Fin 4 → ℕ} {T : Lists}

theorem Heads.put (H : Heads m7 m8 m9 s v ns T) (hs : ∀ h r j, s h r j < ⊤) (k : Fin 4) (ns' : Fin 4 → ℕ) (hk : ns' k = ns k + 512)
    (hother : ∀ h, h ≠ k → ns' h = ns h) {n : ℕ} (hnk : n = k.val)
    (b : ∀ a, (![n, 0, 0] : Fin 3 → ℕ) a + S1x512x128.size a ≤ S4x512x128.size a) {S : FVec Ideal S512x512 .f32}
    {V : Vec Ideal S1x512x128 .bf16} (hn : ns k % 128 = 0) (hS : ∀ r (j : Fin 512), S (ix2 r j) = s k r (ns k + j.val))
    (hV : ∀ (j : Fin 512) d, V (ix3 0 j d) = v k d (ns k + j.val)) : Heads m7 m8 m9 s v ns' (put m7 m8 m9 n b S V T) := by
  intro h
  by_cases e : h = k
  · subst e
    rw [hk]
    exact (H h).step4 (hs h) hn hS hV (fun r c => headBox_apply m7 _ b hnk.symm r c) (fun r c => headBox_apply m8 _ b hnk.symm r c)
      (fun r c => headBox_apply m9 _ b hnk.symm r c) (fun r c => piece_same m7 _ b _ _ hnk.symm r c)
      (fun r c => piece_same m8 _ b _ _ hnk.symm r c) (fun r c => piece_same m9 _ b _ _ hnk.symm r c)
  · have hv : h.val ≠ n := fun h' => e (Fin.ext (h'.trans hnk))
    rw [hother h e]
    exact (H h).keep (fun r c => piece_other m7 _ b _ _ hv r c) (fun r c => piece_other m8 _ b _ _ hv r c)
      (fun r c => piece_other m9 _ b _ _ hv r c)

/-- The first `m` heads have taken the tile after the first `N` keys. -/
def reach (N m : ℕ) (h : Fin 4) : ℕ := if h.val < m then N + 512 else N

theorem Heads.next {N n : ℕ} (H : Heads m7 m8 m9 s v (reach N n) T) (hs : ∀ h r j, s h r j < ⊤) (k : Fin 4) (hnk : n = k.val)
    (b : ∀ a, (![n, 0, 0] : Fin 3 → ℕ) a + S1x512x128.size a ≤ S4x512x128.size a) {S : FVec Ideal S512x512 .f32}
    {V : Vec Ideal S1x512x128 .bf16} (hn : N % 128 = 0) (hS : ∀ r (j : Fin 512), S (ix2 r j) = s k r (N + j.val))
    (hV : ∀ (j : Fin 512) d, V (ix3 0 j d) = v k d (N + j.val)) : Heads m7 m8 m9 s v (reach N (n + 1)) (Flash.put m7 m8 m9 n b S V T) := by
  have e : reach N n k = N := if_neg (by omega)
  refine H.put hs k _ ?_ ?_ hnk b (by rw [e]; exact hn) (by rw [e]; exact hS) (by rw [e]; exact hV)
  · rw [e]; exact if_pos (by omega)
  · intro h hh
    have : h.val ≠ k.val := Fin.val_ne_of_ne hh
    simp only [reach]
    split_ifs <;> first | rfl | omega

theorem Heads.congr (H : Heads m7 m8 m9 s v ns T) {ns' : Fin 4 → ℕ} (e : ∀ h, ns h = ns' h) : Heads m7 m8 m9 s v ns' T :=
  fun h => e h ▸ H h

/-- What is divided out, and what comes of it. -/
theorem Heads.out (H : Heads m7 m8 m9 s v ns T) (k : Fin 4) {n : ℕ} (hnk : n = k.val)
    (b : ∀ a, (![n, 0, 0] : Fin 3 → ℕ) a + S1x512x128.size a ≤ S4x512x128.size a) (r : Fin 512) (d : Fin 128) :
    outv (headBox m9 (m9.view.writes (Elt Ideal) m9.view.junk T.2.2) n b) (headBox m8 (m8.view.writes (Elt Ideal) m8.view.junk T.2.1) n b)
      (ix3 0 r d) = Ideal.div (ax (s k r) (v k d) (ns k)) (∑ c : Fin 128, lx (s k r) (ns k) c) := by
  rw [outv_apply, headBox_apply m9 _ b hnk.symm, (H k r d).2.2]
  refine congrArg _ (Finset.sum_congr rfl fun c _ => ?_)
  rw [headBox_apply m8 _ b hnk.symm, (H k r c).2.1]

end

end Cert.Flash

end
-- ==== Proof.StoresA.lean ====
/-
  Case A: a query tile with an even number of key tiles before it. The run's stores into the scratch buffers, in order: the
  initial values, the loop over the double tiles, then the diagonal tile head by head. Its four output
  stores divide the weighted values by the sum of the lanes.
-/
module

public import proofs.«01_k».proof.Proof.Gen.KernelIdeal.Frame
public import proofs.«01_k».proof.Proof.Heads

@[expose] public section

set_option maxRecDepth 16384

noncomputable section

namespace Cert.Flash

open Idealize.ShloMosaic Cert.KernelIdeal Cert.KernelIdeal.Gen Idealize.ShloMosaic.TcCoe Idealize.ShloMosaic.Tactic

section

variable (c : Dev nD) (i : grid0.Coords) (arg3 : Memref sig .tc .vmem S1x512x1024 .bf16) (harg3 : arg3.IsWhole)
  (arg4 : Memref sig .tc .vmem S1x4096x1024 .bf16) (harg4 : arg4.IsWhole) (arg5 : Memref sig .tc .vmem S1x4096x128 .bf16)
  (harg5 : arg5.IsWhole) (arg6 : Memref sig .tc .vmem S1x512x512 .bf16) (harg6 : arg6.IsWhole)
  (arg7 : Memref sig .tc .vmem S4x512x128 .f32) (harg7 : arg7.IsWhole) (arg8 : Memref sig .tc .vmem S4x512x128 .f32)
  (harg8 : arg8.IsWhole) (arg9 : Memref sig .tc .vmem S4x512x128 .f32) (harg9 : arg9.IsWhole) (hc0 : ¬cond0_0 i)
  (x0 : Vec Ideal S1x512x1024 .bf16) (x1 : Vec Ideal S1x4096x1024 .bf16) (x2 : Vec Ideal S1x4096x128 .bf16)

/-- What the loop over the double tiles stores. -/
def doublesA : Lists :=
  pb_k0_t1 (F := Ideal) Variants.none c none i arg3 harg3 arg4 harg4 arg5 harg5 arg6 harg6 arg7 harg7 arg8 harg8 arg9 harg9
    (BitVec.ofNat 32 (i 2).val) (kernelRun0_A.sl.r (F := Ideal) c arg3 harg3 x0) (kernelRun0_A.sl.r_1 (F := Ideal) c arg3 harg3 x0) (kernelRun0_A.sl.r_2 (F := Ideal) c arg3 harg3 x0) (kernelRun0_A.sl.r_3 (F := Ideal) c arg3 harg3 x0) 2#32 (kernelRun0_A.sl.v20 i) (kernelRun0_A.sl.v25 i) 0#32 (harg4.unread x1) (harg5.unread x2)
    (arg7.view.writes (Elt Ideal) arg7.view.junk (kernelRun0_A.sl.HS0_1 (F := Ideal)))
    (arg8.view.writes (Elt Ideal) arg8.view.junk (kernelRun0_A.sl.HS1_1 (F := Ideal)))
    (arg9.view.writes (Elt Ideal) arg9.view.junk (kernelRun0_A.sl.HS2_1 (F := Ideal)))
    (Scf.trips (k0_t1_loop i).lb (k0_t1_loop i).ub (k0_t1_loop i).st)

/-- The scratch buffers after the initial stores and the loops. -/
def startA : Lists :=
  app (pb_k0_t2 (F := Ideal) Variants.none c none i arg3 harg3 arg4 harg4 arg5 harg5 arg6 harg6 arg7 harg7 arg8 harg8 arg9 harg9
    (BitVec.ofNat 32 (i 2).val) (kernelRun0_A.sl.r (F := Ideal) c arg3 harg3 x0) (kernelRun0_A.sl.r_1 (F := Ideal) c arg3 harg3 x0) (kernelRun0_A.sl.r_2 (F := Ideal) c arg3 harg3 x0) (kernelRun0_A.sl.r_3 (F := Ideal) c arg3 harg3 x0) 2#32 (kernelRun0_A.sl.v20 i) (kernelRun0_A.sl.v25 i) 0#32 (kernelRun0_A.sl.v41 i) (harg4.unread x1) (harg5.unread x2)
    (arg7.view.writes (Elt Ideal) arg7.view.junk ((doublesA c i arg3 harg3 arg4 harg4 arg5 harg5 arg6 harg6 arg7 harg7 arg8 harg8 arg9 harg9 x0 x1 x2).1 ++ kernelRun0_A.sl.HS0_1 (F := Ideal)))
    (arg8.view.writes (Elt Ideal) arg8.view.junk ((doublesA c i arg3 harg3 arg4 harg4 arg5 harg5 arg6 harg6 arg7 harg7 arg8 harg8 arg9 harg9 x0 x1 x2).2.1 ++ kernelRun0_A.sl.HS1_1 (F := Ideal)))
    (arg9.view.writes (Elt Ideal) arg9.view.junk ((doublesA c i arg3 harg3 arg4 harg4 arg5 harg5 arg6 harg6 arg7 harg7 arg8 harg8 arg9 harg9 x0 x1 x2).2.2 ++ kernelRun0_A.sl.HS2_1 (F := Ideal)))
    (Scf.trips (k0_t2_loop i).lb (k0_t2_loop i).ub (k0_t2_loop i).st))
    (app (doublesA c i arg3 harg3 arg4 harg4 arg5 harg5 arg6 harg6 arg7 harg7 arg8 harg8 arg9 harg9 x0 x1 x2) (kernelRun0_A.sl.HS0_1 (F := Ideal), kernelRun0_A.sl.HS1_1 (F := Ideal), kernelRun0_A.sl.HS2_1 (F := Ideal)))

/-- Stage 1: head 0, the diagonal tile. -/
theorem stageA_1 : ((kernelRun0_A.sl.HS0_1_1 (F := Ideal) c i arg3 harg3 arg4 harg4 arg5 harg5 arg6 harg6 arg7 harg7 arg8 harg8 arg9 harg9 x0 x1 x2),
      (kernelRun0_A.sl.HS1_1_1 (F := Ideal) c i arg3 harg3 arg4 harg4 arg5 harg5 arg6 harg6 arg7 harg7 arg8 harg8 arg9 harg9 x0 x1 x2),
      (kernelRun0_A.sl.HS2_1_1 (F := Ideal) c i arg3 harg3 arg4 harg4 arg5 harg5 arg6 harg6 arg7 harg7 arg8 harg8 arg9 harg9 x0 x1 x2))
    = put arg7 arg8 arg9 0 inb_S4x512x128_S1x512x128_0_0_0
      (scoresD (kernelRun0_A.sl.r (F := Ideal) c arg3 harg3 x0) (box arg5 (harg5.unread x2) (k0_off28 i) S1x512x128.size (k0_off28_inb i)) (box arg4 (harg4.unread x1) (k0_off29 i) S1x512x128.size (k0_off29_inb i)))
      (box arg4 (harg4.unread x1) (k0_off30 i) S1x512x128.size (k0_off30_inb i))
      (startA c i arg3 harg3 arg4 harg4 arg5 harg5 arg6 harg6 arg7 harg7 arg8 harg8 arg9 harg9 x0 x1 x2) := by
  refine Prod.ext ?_ (Prod.ext ?_ ?_) <;> rfl

/-- Stage 2: head 1, the diagonal tile. -/
theorem stageA_2 : ((kernelRun0_A.sl.HS0_2 (F := Ideal) c i arg3 harg3 arg4 harg4 arg5 harg5 arg6 harg6 arg7 harg7 arg8 harg8 arg9 harg9 x0 x1 x2),
      (kernelRun0_A.sl.HS1_2 (F := Ideal) c i arg3 harg3 arg4 harg4 arg5 harg5 arg6 harg6 arg7 harg7 arg8 harg8 arg9 harg9 x0 x1 x2),
      (kernelRun0_A.sl.HS2_2 (F := Ideal) c i arg3 harg3 arg4 harg4 arg5 harg5 arg6 harg6 arg7 harg7 arg8 harg8 arg9 harg9 x0 x1 x2))
    = put arg7 arg8 arg9 1 inb_S4x512x128_S1x512x128_1_0_0
      (scoresD (kernelRun0_A.sl.r_1 (F := Ideal) c arg3 harg3 x0) (box arg5 (harg5.unread x2) (k0_off28 i) S1x512x128.size (k0_off28_inb i)) (box arg4 (harg4.unread x1) (k0_off31 i) S1x512x128.size (k0_off31_inb i)))
      (box arg4 (harg4.unread x1) (k0_off32 i) S1x512x128.size (k0_off32_inb i))
      ((kernelRun0_A.sl.HS0_1_1 (F := Ideal) c i arg3 harg3 arg4 harg4 arg5 harg5 arg6 harg6 arg7 harg7 arg8 harg8 arg9 harg9 x0 x1 x2),
      (kernelRun0_A.sl.HS1_1_1 (F := Ideal) c i arg3 harg3 arg4 harg4 arg5 harg5 arg6 harg6 arg7 harg7 arg8 harg8 arg9 harg9 x0 x1 x2),
      (kernelRun0_A.sl.HS2_1_1 (F := Ideal) c i arg3 harg3 arg4 harg4 arg5 harg5 arg6 harg6 arg7 harg7 arg8 harg8 arg9 harg9 x0 x1 x2)) := by
  refine Prod.ext ?_ (Prod.ext ?_ ?_) <;> rfl

/-- Stage 3: head 2, the diagonal tile. -/
theorem stageA_3 : ((kernelRun0_A.sl.HS0_3 (F := Ideal) c i arg3 harg3 arg4 harg4 arg5 harg5 arg6 harg6 arg7 harg7 arg8 harg8 arg9 harg9 x0 x1 x2),
      (kernelRun0_A.sl.HS1_3 (F := Ideal) c i arg3 harg3 arg4 harg4 arg5 harg5 arg6 harg6 arg7 harg7 arg8 harg8 arg9 harg9 x0 x1 x2),
      (kernelRun0_A.sl.HS2_3 (F := Ideal) c i arg3 harg3 arg4 harg4 arg5 harg5 arg6 harg6 arg7 harg7 arg8 harg8 arg9 harg9 x0 x1 x2))
    = put arg7 arg8 arg9 2 inb_S4x512x128_S1x512x128_2_0_0
      (scoresD (kernelRun0_A.sl.r_2 (F := Ideal) c arg3 harg3 x0) (box arg5 (harg5.unread x2) (k0_off28 i) S1x512x128.size (k0_off28_inb i)) (box arg4 (harg4.unread x1) (k0_off33 i) S1x512x128.size (k0_off33_inb i)))
      (box arg4 (harg4.unread x1) (k0_off34 i) S1x512x128.size (k0_off34_inb i))
      ((kernelRun0_A.sl.HS0_2 (F := Ideal) c i arg3 harg3 arg4 harg4 arg5 harg5 arg6 harg6 arg7 harg7 arg8 harg8 arg9 harg9 x0 x1 x2),
      (kernelRun0_A.sl.HS1_2 (F := Ideal) c i arg3 harg3 arg4 harg4 arg5 harg5 arg6 harg6 arg7 harg7 arg8 harg8 arg9 harg9 x0 x1 x2),
      (kernelRun0_A.sl.HS2_2 (F := Ideal) c i arg3 harg3 arg4 harg4 arg5 harg5 arg6 harg6 arg7 harg7 arg8 harg8 arg9 harg9 x0 x1 x2)) := by
  refine Prod.ext ?_ (Prod.ext ?_ ?_) <;> rfl

/-- Stage 4: head 3, the diagonal tile. -/
theorem stageA_4 :
    ((kernelRun0_A.sl.HS1_4 (F := Ideal) c i arg3 harg3 arg4 harg4 arg5 harg5 arg6 harg6 arg7 harg7 arg8 harg8 arg9 harg9 x0 x1 x2),
      (kernelRun0_A.sl.HS2_4 (F := Ideal) c i arg3 harg3 arg4 harg4 arg5 harg5 arg6 harg6 arg7 harg7 arg8 harg8 arg9 harg9 x0 x1 x2))
    = (put arg7 arg8 arg9 3 inb_S4x512x128_S1x512x128_3_0_0
      (scoresD (kernelRun0_A.sl.r_3 (F := Ideal) c arg3 harg3 x0) (box arg5 (harg5.unread x2) (k0_off28 i) S1x512x128.size (k0_off28_inb i)) (box arg4 (harg4.unread x1) (k0_off35 i) S1x512x128.size (k0_off35_inb i)))
      (box arg4 (harg4.unread x1) (k0_off36 i) S1x512x128.size (k0_off36_inb i))
      ((kernelRun0_A.sl.HS0_3 (F := Ideal) c i arg3 harg3 arg4 harg4 arg5 harg5 arg6 harg6 arg7 harg7 arg8 harg8 arg9 harg9 x0 x1 x2),
      (kernelRun0_A.sl.HS1_3 (F := Ideal) c i arg3 harg3 arg4 harg4 arg5 harg5 arg6 harg6 arg7 harg7 arg8 harg8 arg9 harg9 x0 x1 x2),
      (kernelRun0_A.sl.HS2_3 (F := Ideal) c i arg3 harg3 arg4 harg4 arg5 harg5 arg6 harg6 arg7 harg7 arg8 harg8 arg9 harg9 x0 x1 x2))).2 := by
  refine Prod.ext ?_ ?_ <;> rfl

/-- The output's four stores. -/
theorem outsA : (kernelRun0_A (F := Ideal) c i arg3 harg3 arg4 harg4 arg5 harg5 arg6 harg6 arg7 harg7 arg8 harg8 arg9 harg9 hc0 x0 x1 x2).1
    = [⟨Rect.unit ![0, 0, 384] S1x512x128.size inb_S1x512x512_S1x512x128_0_0_384,
        outv (headBox arg9 (arg9.view.writes (Elt Ideal) arg9.view.junk (kernelRun0_A.sl.HS2_4 (F := Ideal) c i arg3 harg3 arg4 harg4 arg5 harg5 arg6 harg6 arg7 harg7 arg8 harg8 arg9 harg9 x0 x1 x2)) 3 inb_S4x512x128_S1x512x128_3_0_0)
          (headBox arg8 (arg8.view.writes (Elt Ideal) arg8.view.junk (kernelRun0_A.sl.HS1_4 (F := Ideal) c i arg3 harg3 arg4 harg4 arg5 harg5 arg6 harg6 arg7 harg7 arg8 harg8 arg9 harg9 x0 x1 x2)) 3 inb_S4x512x128_S1x512x128_3_0_0)⟩,
      ⟨Rect.unit ![0, 0, 256] S1x512x128.size inb_S1x512x512_S1x512x128_0_0_256,
        outv (headBox arg9 (arg9.view.writes (Elt Ideal) arg9.view.junk (kernelRun0_A.sl.HS2_4 (F := Ideal) c i arg3 harg3 arg4 harg4 arg5 harg5 arg6 harg6 arg7 harg7 arg8 harg8 arg9 harg9 x0 x1 x2)) 2 inb_S4x512x128_S1x512x128_2_0_0)
          (headBox arg8 (arg8.view.writes (Elt Ideal) arg8.view.junk (kernelRun0_A.sl.HS1_4 (F := Ideal) c i arg3 harg3 arg4 harg4 arg5 harg5 arg6 harg6 arg7 harg7 arg8 harg8 arg9 harg9 x0 x1 x2)) 2 inb_S4x512x128_S1x512x128_2_0_0)⟩,
      ⟨Rect.unit ![0, 0, 128] S1x512x128.size inb_S1x512x512_S1x512x128_0_0_128,
        outv (headBox arg9 (arg9.view.writes (Elt Ideal) arg9.view.junk (kernelRun0_A.sl.HS2_4 (F := Ideal) c i arg3 harg3 arg4 harg4 arg5 harg5 arg6 harg6 arg7 harg7 arg8 harg8 arg9 harg9 x0 x1 x2)) 1 inb_S4x512x128_S1x512x128_1_0_0)
          (headBox arg8 (arg8.view.writes (Elt Ideal) arg8.view.junk (kernelRun0_A.sl.HS1_4 (F := Ideal) c i arg3 harg3 arg4 harg4 arg5 harg5 arg6 harg6 arg7 harg7 arg8 harg8 arg9 harg9 x0 x1 x2)) 1 inb_S4x512x128_S1x512x128_1_0_0)⟩,
      ⟨Rect.unit ![0, 0, 0] S1x512x128.size inb_S1x512x512_S1x512x128_0_0_0,
        outv (headBox arg9 (arg9.view.writes (Elt Ideal) arg9.view.junk (kernelRun0_A.sl.HS2_4 (F := Ideal) c i arg3 harg3 arg4 harg4 arg5 harg5 arg6 harg6 arg7 harg7 arg8 harg8 arg9 harg9 x0 x1 x2)) 0 inb_S4x512x128_S1x512x128_0_0_0)
          (headBox arg8 (arg8.view.writes (Elt Ideal) arg8.view.junk (kernelRun0_A.sl.HS1_4 (F := Ideal) c i arg3 harg3 arg4 harg4 arg5 harg5 arg6 harg6 arg7 harg7 arg8 harg8 arg9 harg9 x0 x1 x2)) 0 inb_S4x512x128_S1x512x128_0_0_0)⟩] := by
  unfold kernelRun0_A
  rfl

end

end Cert.Flash

end
-- ==== Proof.StoresB.lean ====
/-
  Case B: a query tile with an odd number of key tiles before it. The run's stores into the scratch buffers, in order: the
  initial values, the loop over the double tiles, the single tile before the diagonal head by head, then the diagonal tile head by head. Its four output
  stores divide the weighted values by the sum of the lanes.
-/
module

public import proofs.«01_k».proof.Proof.Gen.KernelIdeal.Frame
public import proofs.«01_k».proof.Proof.Heads

@[expose] public section

set_option maxRecDepth 16384

noncomputable section

namespace Cert.Flash

open Idealize.ShloMosaic Cert.KernelIdeal Cert.KernelIdeal.Gen Idealize.ShloMosaic.TcCoe Idealize.ShloMosaic.Tactic

section

variable (c : Dev nD) (i : grid0.Coords) (arg3 : Memref sig .tc .vmem S1x512x1024 .bf16) (harg3 : arg3.IsWhole)
  (arg4 : Memref sig .tc .vmem S1x4096x1024 .bf16) (harg4 : arg4.IsWhole) (arg5 : Memref sig .tc .vmem S1x4096x128 .bf16)
  (harg5 : arg5.IsWhole) (arg6 : Memref sig .tc .vmem S1x512x512 .bf16) (harg6 : arg6.IsWhole)
  (arg7 : Memref sig .tc .vmem S4x512x128 .f32) (harg7 : arg7.IsWhole) (arg8 : Memref sig .tc .vmem S4x512x128 .f32)
  (harg8 : arg8.IsWhole) (arg9 : Memref sig .tc .vmem S4x512x128 .f32) (harg9 : arg9.IsWhole) (hc0 : cond0_0 i)
  (x0 : Vec Ideal S1x512x1024 .bf16) (x1 : Vec Ideal S1x4096x1024 .bf16) (x2 : Vec Ideal S1x4096x128 .bf16)

/-- What the loop over the double tiles stores. -/
def doublesB : Lists :=
  pb_k0_t1 (F := Ideal) Variants.none c none i arg3 harg3 arg4 harg4 arg5 harg5 arg6 harg6 arg7 harg7 arg8 harg8 arg9 harg9
    (BitVec.ofNat 32 (i 2).val) (kernelRun0_B.sl.r (F := Ideal) c arg3 harg3 x0) (kernelRun0_B.sl.r_1 (F := Ideal) c arg3 harg3 x0) (kernelRun0_B.sl.r_2 (F := Ideal) c arg3 harg3 x0) (kernelRun0_B.sl.r_3 (F := Ideal) c arg3 harg3 x0) 2#32 (kernelRun0_B.sl.v20 i) (kernelRun0_B.sl.v25 i) 0#32 (harg4.unread x1) (harg5.unread x2)
    (arg7.view.writes (Elt Ideal) arg7.view.junk (kernelRun0_B.sl.HS0_1 (F := Ideal)))
    (arg8.view.writes (Elt Ideal) arg8.view.junk (kernelRun0_B.sl.HS1_1 (F := Ideal)))
    (arg9.view.writes (Elt Ideal) arg9.view.junk (kernelRun0_B.sl.HS2_1 (F := Ideal)))
    (Scf.trips (k0_t1_loop i).lb (k0_t1_loop i).ub (k0_t1_loop i).st)

/-- The scratch buffers after the initial stores and the loops. -/
def startB : Lists :=
  app (pb_k0_t2 (F := Ideal) Variants.none c none i arg3 harg3 arg4 harg4 arg5 harg5 arg6 harg6 arg7 harg7 arg8 harg8 arg9 harg9
    (BitVec.ofNat 32 (i 2).val) (kernelRun0_B.sl.r (F := Ideal) c arg3 harg3 x0) (kernelRun0_B.sl.r_1 (F := Ideal) c arg3 harg3 x0) (kernelRun0_B.sl.r_2 (F := Ideal) c arg3 harg3 x0) (kernelRun0_B.sl.r_3 (F := Ideal) c arg3 harg3 x0) 2#32 (kernelRun0_B.sl.v20 i) (kernelRun0_B.sl.v25 i) 0#32 (kernelRun0_B.sl.v41 i) (harg4.unread x1) (harg5.unread x2)
    (arg7.view.writes (Elt Ideal) arg7.view.junk ((doublesB c i arg3 harg3 arg4 harg4 arg5 harg5 arg6 harg6 arg7 harg7 arg8 harg8 arg9 harg9 x0 x1 x2).1 ++ kernelRun0_B.sl.HS0_1 (F := Ideal)))
    (arg8.view.writes (Elt Ideal) arg8.view.junk ((doublesB c i arg3 harg3 arg4 harg4 arg5 harg5 arg6 harg6 arg7 harg7 arg8 harg8 arg9 harg9 x0 x1 x2).2.1 ++ kernelRun0_B.sl.HS1_1 (F := Ideal)))
    (arg9.view.writes (Elt Ideal) arg9.view.junk ((doublesB c i arg3 harg3 arg4 harg4 arg5 harg5 arg6 harg6 arg7 harg7 arg8 harg8 arg9 harg9 x0 x1 x2).2.2 ++ kernelRun0_B.sl.HS2_1 (F := Ideal)))
    (Scf.trips (k0_t2_loop i).lb (k0_t2_loop i).ub (k0_t2_loop i).st))
    (app (doublesB c i arg3 harg3 arg4 harg4 arg5 harg5 arg6 harg6 arg7 harg7 arg8 harg8 arg9 harg9 x0 x1 x2) (kernelRun0_B.sl.HS0_1 (F := Ideal), kernelRun0_B.sl.HS1_1 (F := Ideal), kernelRun0_B.sl.HS2_1 (F := Ideal)))

/-- Stage 1: head 0, the single tile. -/
theorem stageB_1 : ((kernelRun0_B.sl.HS0_1_1 (F := Ideal) c i arg3 harg3 arg4 harg4 arg5 harg5 arg6 harg6 arg7 harg7 arg8 harg8 arg9 harg9 hc0 x0 x1 x2),
      (kernelRun0_B.sl.HS1_1_1 (F := Ideal) c i arg3 harg3 arg4 harg4 arg5 harg5 arg6 harg6 arg7 harg7 arg8 harg8 arg9 harg9 hc0 x0 x1 x2),
      (kernelRun0_B.sl.HS2_1_1 (F := Ideal) c i arg3 harg3 arg4 harg4 arg5 harg5 arg6 harg6 arg7 harg7 arg8 harg8 arg9 harg9 hc0 x0 x1 x2))
    = put arg7 arg8 arg9 0 inb_S4x512x128_S1x512x128_0_0_0
      (scores4 (kernelRun0_B.sl.r (F := Ideal) c arg3 harg3 x0) (box arg5 (harg5.unread x2) (k0_off19 i) S1x512x128.size (k0_off19_inb i hc0)) (box arg4 (harg4.unread x1) (k0_off20 i) S1x512x128.size (k0_off20_inb i hc0)))
      (box arg4 (harg4.unread x1) (k0_off21 i) S1x512x128.size (k0_off21_inb i hc0))
      (startB c i arg3 harg3 arg4 harg4 arg5 harg5 arg6 harg6 arg7 harg7 arg8 harg8 arg9 harg9 x0 x1 x2) := by
  refine Prod.ext ?_ (Prod.ext ?_ ?_) <;> rfl

/-- Stage 2: head 1, the single tile. -/
theorem stageB_2 : ((kernelRun0_B.sl.HS0_2 (F := Ideal) c i arg3 harg3 arg4 harg4 arg5 harg5 arg6 harg6 arg7 harg7 arg8 harg8 arg9 harg9 hc0 x0 x1 x2),
      (kernelRun0_B.sl.HS1_2 (F := Ideal) c i arg3 harg3 arg4 harg4 arg5 harg5 arg6 harg6 arg7 harg7 arg8 harg8 arg9 harg9 hc0 x0 x1 x2),
      (kernelRun0_B.sl.HS2_2 (F := Ideal) c i arg3 harg3 arg4 harg4 arg5 harg5 arg6 harg6 arg7 harg7 arg8 harg8 arg9 harg9 hc0 x0 x1 x2))
    = put arg7 arg8 arg9 1 inb_S4x512x128_S1x512x128_1_0_0
      (scores4 (kernelRun0_B.sl.r_1 (F := Ideal) c arg3 harg3 x0) (box arg5 (harg5.unread x2) (k0_off19 i) S1x512x128.size (k0_off19_inb i hc0)) (box arg4 (harg4.unread x1) (k0_off22 i) S1x512x128.size (k0_off22_inb i hc0)))
      (box arg4 (harg4.unread x1) (k0_off23 i) S1x512x128.size (k0_off23_inb i hc0))
      ((kernelRun0_B.sl.HS0_1_1 (F := Ideal) c i arg3 harg3 arg4 harg4 arg5 harg5 arg6 harg6 arg7 harg7 arg8 harg8 arg9 harg9 hc0 x0 x1 x2),
      (kernelRun0_B.sl.HS1_1_1 (F := Ideal) c i arg3 harg3 arg4 harg4 arg5 harg5 arg6 harg6 arg7 harg7 arg8 harg8 arg9 harg9 hc0 x0 x1 x2),
      (kernelRun0_B.sl.HS2_1_1 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 3: head 2, the single tile. -/
theorem stageB_3 : ((kernelRun0_B.sl.HS0_3 (F := Ideal) c i arg3 harg3 arg4 harg4 arg5 harg5 arg6 harg6 arg7 harg7 arg8 harg8 arg9 harg9 hc0 x0 x1 x2),
      (kernelRun0_B.sl.HS1_3 (F := Ideal) c i arg3 harg3 arg4 harg4 arg5 harg5 arg6 harg6 arg7 harg7 arg8 harg8 arg9 harg9 hc0 x0 x1 x2),
      (kernelRun0_B.sl.HS2_3 (F := Ideal) c i arg3 harg3 arg4 harg4 arg5 harg5 arg6 harg6 arg7 harg7 arg8 harg8 arg9 harg9 hc0 x0 x1 x2))
    = put arg7 arg8 arg9 2 inb_S4x512x128_S1x512x128_2_0_0
      (scores4 (kernelRun0_B.sl.r_2 (F := Ideal) c arg3 harg3 x0) (box arg5 (harg5.unread x2) (k0_off19 i) S1x512x128.size (k0_off19_inb i hc0)) (box arg4 (harg4.unread x1) (k0_off24 i) S1x512x128.size (k0_off24_inb i hc0)))
      (box arg4 (harg4.unread x1) (k0_off25 i) S1x512x128.size (k0_off25_inb i hc0))
      ((kernelRun0_B.sl.HS0_2 (F := Ideal) c i arg3 harg3 arg4 harg4 arg5 harg5 arg6 harg6 arg7 harg7 arg8 harg8 arg9 harg9 hc0 x0 x1 x2),
      (kernelRun0_B.sl.HS1_2 (F := Ideal) c i arg3 harg3 arg4 harg4 arg5 harg5 arg6 harg6 arg7 harg7 arg8 harg8 arg9 harg9 hc0 x0 x1 x2),
      (kernelRun0_B.sl.HS2_2 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 4: head 3, the single tile. -/
theorem stageB_4 : ((kernelRun0_B.sl.HS0_4 (F := Ideal) c i arg3 harg3 arg4 harg4 arg5 harg5 arg6 harg6 arg7 harg7 arg8 harg8 arg9 harg9 hc0 x0 x1 x2),
      (kernelRun0_B.sl.HS1_4 (F := Ideal) c i arg3 harg3 arg4 harg4 arg5 harg5 arg6 harg6 arg7 harg7 arg8 harg8 arg9 harg9 hc0 x0 x1 x2),
      (kernelRun0_B.sl.HS2_4 (F := Ideal) c i arg3 harg3 arg4 harg4 arg5 harg5 arg6 harg6 arg7 harg7 arg8 harg8 arg9 harg9 hc0 x0 x1 x2))
    = put arg7 arg8 arg9 3 inb_S4x512x128_S1x512x128_3_0_0
      (scores4 (kernelRun0_B.sl.r_3 (F := Ideal) c arg3 harg3 x0) (box arg5 (harg5.unread x2) (k0_off19 i) S1x512x128.size (k0_off19_inb i hc0)) (box arg4 (harg4.unread x1) (k0_off26 i) S1x512x128.size (k0_off26_inb i hc0)))
      (box arg4 (harg4.unread x1) (k0_off27 i) S1x512x128.size (k0_off27_inb i hc0))
      ((kernelRun0_B.sl.HS0_3 (F := Ideal) c i arg3 harg3 arg4 harg4 arg5 harg5 arg6 harg6 arg7 harg7 arg8 harg8 arg9 harg9 hc0 x0 x1 x2),
      (kernelRun0_B.sl.HS1_3 (F := Ideal) c i arg3 harg3 arg4 harg4 arg5 harg5 arg6 harg6 arg7 harg7 arg8 harg8 arg9 harg9 hc0 x0 x1 x2),
      (kernelRun0_B.sl.HS2_3 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 5: head 0, the diagonal tile. -/
theorem stageB_5 : ((kernelRun0_B.sl.HS0_5 (F := Ideal) c i arg3 harg3 arg4 harg4 arg5 harg5 arg6 harg6 arg7 harg7 arg8 harg8 arg9 harg9 hc0 x0 x1 x2),
      (kernelRun0_B.sl.HS1_5 (F := Ideal) c i arg3 harg3 arg4 harg4 arg5 harg5 arg6 harg6 arg7 harg7 arg8 harg8 arg9 harg9 hc0 x0 x1 x2),
      (kernelRun0_B.sl.HS2_5 (F := Ideal) c i arg3 harg3 arg4 harg4 arg5 harg5 arg6 harg6 arg7 harg7 arg8 harg8 arg9 harg9 hc0 x0 x1 x2))
    = put arg7 arg8 arg9 0 inb_S4x512x128_S1x512x128_0_0_0
      (scoresD (kernelRun0_B.sl.r (F := Ideal) c arg3 harg3 x0) (box arg5 (harg5.unread x2) (k0_off28 i) S1x512x128.size (k0_off28_inb i)) (box arg4 (harg4.unread x1) (k0_off29 i) S1x512x128.size (k0_off29_inb i)))
      (box arg4 (harg4.unread x1) (k0_off30 i) S1x512x128.size (k0_off30_inb i))
      ((kernelRun0_B.sl.HS0_4 (F := Ideal) c i arg3 harg3 arg4 harg4 arg5 harg5 arg6 harg6 arg7 harg7 arg8 harg8 arg9 harg9 hc0 x0 x1 x2),
      (kernelRun0_B.sl.HS1_4 (F := Ideal) c i arg3 harg3 arg4 harg4 arg5 harg5 arg6 harg6 arg7 harg7 arg8 harg8 arg9 harg9 hc0 x0 x1 x2),
      (kernelRun0_B.sl.HS2_4 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 6: head 1, the diagonal tile. -/
theorem stageB_6 : ((kernelRun0_B.sl.HS0_6 (F := Ideal) c i arg3 harg3 arg4 harg4 arg5 harg5 arg6 harg6 arg7 harg7 arg8 harg8 arg9 harg9 hc0 x0 x1 x2),
      (kernelRun0_B.sl.HS1_6 (F := Ideal) c i arg3 harg3 arg4 harg4 arg5 harg5 arg6 harg6 arg7 harg7 arg8 harg8 arg9 harg9 hc0 x0 x1 x2),
      (kernelRun0_B.sl.HS2_6 (F := Ideal) c i arg3 harg3 arg4 harg4 arg5 harg5 arg6 harg6 arg7 harg7 arg8 harg8 arg9 harg9 hc0 x0 x1 x2))
    = put arg7 arg8 arg9 1 inb_S4x512x128_S1x512x128_1_0_0
      (scoresD (kernelRun0_B.sl.r_1 (F := Ideal) c arg3 harg3 x0) (box arg5 (harg5.unread x2) (k0_off28 i) S1x512x128.size (k0_off28_inb i)) (box arg4 (harg4.unread x1) (k0_off31 i) S1x512x128.size (k0_off31_inb i)))
      (box arg4 (harg4.unread x1) (k0_off32 i) S1x512x128.size (k0_off32_inb i))
      ((kernelRun0_B.sl.HS0_5 (F := Ideal) c i arg3 harg3 arg4 harg4 arg5 harg5 arg6 harg6 arg7 harg7 arg8 harg8 arg9 harg9 hc0 x0 x1 x2),
      (kernelRun0_B.sl.HS1_5 (F := Ideal) c i arg3 harg3 arg4 harg4 arg5 harg5 arg6 harg6 arg7 harg7 arg8 harg8 arg9 harg9 hc0 x0 x1 x2),
      (kernelRun0_B.sl.HS2_5 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 7: head 2, the diagonal tile. -/
theorem stageB_7 : ((kernelRun0_B.sl.HS0_7 (F := Ideal) c i arg3 harg3 arg4 harg4 arg5 harg5 arg6 harg6 arg7 harg7 arg8 harg8 arg9 harg9 hc0 x0 x1 x2),
      (kernelRun0_B.sl.HS1_7 (F := Ideal) c i arg3 harg3 arg4 harg4 arg5 harg5 arg6 harg6 arg7 harg7 arg8 harg8 arg9 harg9 hc0 x0 x1 x2),
      (kernelRun0_B.sl.HS2_7 (F := Ideal) c i arg3 harg3 arg4 harg4 arg5 harg5 arg6 harg6 arg7 harg7 arg8 harg8 arg9 harg9 hc0 x0 x1 x2))
    = put arg7 arg8 arg9 2 inb_S4x512x128_S1x512x128_2_0_0
      (scoresD (kernelRun0_B.sl.r_2 (F := Ideal) c arg3 harg3 x0) (box arg5 (harg5.unread x2) (k0_off28 i) S1x512x128.size (k0_off28_inb i)) (box arg4 (harg4.unread x1) (k0_off33 i) S1x512x128.size (k0_off33_inb i)))
      (box arg4 (harg4.unread x1) (k0_off34 i) S1x512x128.size (k0_off34_inb i))
      ((kernelRun0_B.sl.HS0_6 (F := Ideal) c i arg3 harg3 arg4 harg4 arg5 harg5 arg6 harg6 arg7 harg7 arg8 harg8 arg9 harg9 hc0 x0 x1 x2),
      (kernelRun0_B.sl.HS1_6 (F := Ideal) c i arg3 harg3 arg4 harg4 arg5 harg5 arg6 harg6 arg7 harg7 arg8 harg8 arg9 harg9 hc0 x0 x1 x2),
      (kernelRun0_B.sl.HS2_6 (F := Ideal) c i arg3 harg3 arg4 harg4 arg5 harg5 arg6 harg6 arg7 harg7 arg8 harg8 arg9 harg9 hc0 x0 x1 x2)) := by
  refine Prod.ext ?_ (Prod.ext ?_ ?_) <;> rfl

/-- Stage 8: head 3, the diagonal tile. -/
theorem stageB_8 :
    ((kernelRun0_B.sl.HS1_8 (F := Ideal) c i arg3 harg3 arg4 harg4 arg5 harg5 arg6 harg6 arg7 harg7 arg8 harg8 arg9 harg9 hc0 x0 x1 x2),
      (kernelRun0_B.sl.HS2_8 (F := Ideal) c i arg3 harg3 arg4 harg4 arg5 harg5 arg6 harg6 arg7 harg7 arg8 harg8 arg9 harg9 hc0 x0 x1 x2))
    = (put arg7 arg8 arg9 3 inb_S4x512x128_S1x512x128_3_0_0
      (scoresD (kernelRun0_B.sl.r_3 (F := Ideal) c arg3 harg3 x0) (box arg5 (harg5.unread x2) (k0_off28 i) S1x512x128.size (k0_off28_inb i)) (box arg4 (harg4.unread x1) (k0_off35 i) S1x512x128.size (k0_off35_inb i)))
      (box arg4 (harg4.unread x1) (k0_off36 i) S1x512x128.size (k0_off36_inb i))
      ((kernelRun0_B.sl.HS0_7 (F := Ideal) c i arg3 harg3 arg4 harg4 arg5 harg5 arg6 harg6 arg7 harg7 arg8 harg8 arg9 harg9 hc0 x0 x1 x2),
      (kernelRun0_B.sl.HS1_7 (F := Ideal) c i arg3 harg3 arg4 harg4 arg5 harg5 arg6 harg6 arg7 harg7 arg8 harg8 arg9 harg9 hc0 x0 x1 x2),
      (kernelRun0_B.sl.HS2_7 (F := Ideal) c i arg3 harg3 arg4 harg4 arg5 harg5 arg6 harg6 arg7 harg7 arg8 harg8 arg9 harg9 hc0 x0 x1 x2))).2 := by
  refine Prod.ext ?_ ?_ <;> rfl

/-- The output's four stores. -/
theorem outsB : (kernelRun0_B (F := Ideal) c i arg3 harg3 arg4 harg4 arg5 harg5 arg6 harg6 arg7 harg7 arg8 harg8 arg9 harg9 hc0 x0 x1 x2).1
    = [⟨Rect.unit ![0, 0, 384] S1x512x128.size inb_S1x512x512_S1x512x128_0_0_384,
        outv (headBox arg9 (arg9.view.writes (Elt Ideal) arg9.view.junk (kernelRun0_B.sl.HS2_8 (F := Ideal) c i arg3 harg3 arg4 harg4 arg5 harg5 arg6 harg6 arg7 harg7 arg8 harg8 arg9 harg9 hc0 x0 x1 x2)) 3 inb_S4x512x128_S1x512x128_3_0_0)
          (headBox arg8 (arg8.view.writes (Elt Ideal) arg8.view.junk (kernelRun0_B.sl.HS1_8 (F := Ideal) c i arg3 harg3 arg4 harg4 arg5 harg5 arg6 harg6 arg7 harg7 arg8 harg8 arg9 harg9 hc0 x0 x1 x2)) 3 inb_S4x512x128_S1x512x128_3_0_0)⟩,
      ⟨Rect.unit ![0, 0, 256] S1x512x128.size inb_S1x512x512_S1x512x128_0_0_256,
        outv (headBox arg9 (arg9.view.writes (Elt Ideal) arg9.view.junk (kernelRun0_B.sl.HS2_8 (F := Ideal) c i arg3 harg3 arg4 harg4 arg5 harg5 arg6 harg6 arg7 harg7 arg8 harg8 arg9 harg9 hc0 x0 x1 x2)) 2 inb_S4x512x128_S1x512x128_2_0_0)
          (headBox arg8 (arg8.view.writes (Elt Ideal) arg8.view.junk (kernelRun0_B.sl.HS1_8 (F := Ideal) c i arg3 harg3 arg4 harg4 arg5 harg5 arg6 harg6 arg7 harg7 arg8 harg8 arg9 harg9 hc0 x0 x1 x2)) 2 inb_S4x512x128_S1x512x128_2_0_0)⟩,
      ⟨Rect.unit ![0, 0, 128] S1x512x128.size inb_S1x512x512_S1x512x128_0_0_128,
        outv (headBox arg9 (arg9.view.writes (Elt Ideal) arg9.view.junk (kernelRun0_B.sl.HS2_8 (F := Ideal) c i arg3 harg3 arg4 harg4 arg5 harg5 arg6 harg6 arg7 harg7 arg8 harg8 arg9 harg9 hc0 x0 x1 x2)) 1 inb_S4x512x128_S1x512x128_1_0_0)
          (headBox arg8 (arg8.view.writes (Elt Ideal) arg8.view.junk (kernelRun0_B.sl.HS1_8 (F := Ideal) c i arg3 harg3 arg4 harg4 arg5 harg5 arg6 harg6 arg7 harg7 arg8 harg8 arg9 harg9 hc0 x0 x1 x2)) 1 inb_S4x512x128_S1x512x128_1_0_0)⟩,
      ⟨Rect.unit ![0, 0, 0] S1x512x128.size inb_S1x512x512_S1x512x128_0_0_0,
        outv (headBox arg9 (arg9.view.writes (Elt Ideal) arg9.view.junk (kernelRun0_B.sl.HS2_8 (F := Ideal) c i arg3 harg3 arg4 harg4 arg5 harg5 arg6 harg6 arg7 harg7 arg8 harg8 arg9 harg9 hc0 x0 x1 x2)) 0 inb_S4x512x128_S1x512x128_0_0_0)
          (headBox arg8 (arg8.view.writes (Elt Ideal) arg8.view.junk (kernelRun0_B.sl.HS1_8 (F := Ideal) c i arg3 harg3 arg4 harg4 arg5 harg5 arg6 harg6 arg7 harg7 arg8 harg8 arg9 harg9 hc0 x0 x1 x2)) 0 inb_S4x512x128_S1x512x128_0_0_0)⟩] := by
  unfold kernelRun0_B
  rfl

end

end Cert.Flash

end
-- ==== Proof.Block.lean ====
/-
  One point of the grid: the block it writes, at row `r` and lane `d` of head `h`, is the quotient of the weighted values by
  the weights of all the keys up to the end of the query tile.
-/
module

public import proofs.«01_k».proof.Proof.StoresA
public import proofs.«01_k».proof.Proof.StoresB

@[expose] public section

set_option maxRecDepth 16384

noncomputable section

namespace Cert.Flash

open Idealize.ShloMosaic Cert.KernelIdeal Cert.KernelIdeal.Gen Idealize.ShloMosaic.TcCoe Idealize.ShloMosaic.Tactic

/-! ## The initial values -/

theorem init_apply (m : Memref sig .tc .vmem S4x512x128 .f32) (f : BufTy.Contents (Elt Ideal) m.view.ty)
    (b : ∀ a, (![0, 0, 0] : Fin 3 → ℕ) a + S4x512x128.size a ≤ S4x512x128.size a) (w : Vec Ideal S4x512x128 .f32) (h : Fin 4) (r : Fin 512)
    (c : Fin 128) :
    m.view.read (Elt Ideal) (m.view.writes (Elt Ideal) f [⟨Rect.unit ![0, 0, 0] S4x512x128.size b, w⟩]) (ix3 h r c) = w (ix3 h r c) := by
  refine View.read_writes_cons_unit_of_mem m.view f b w [] (ix3 h r c) (ix3 h r c) rfl ?_
  intro a
  fin_cases a
  · show h.val = 0 + h.val; omega
  · show r.val = 0 + r.val; omega
  · show c.val = 0 + c.val; omega

theorem pay275_apply (h : Fin 4) (r : Fin 512) (c : Fin 128) : (k0_pay275 (F := Ideal)) (ix3 h r c) = ⊥ := by
  pointwise [k0_pay275]
  exact mask_eq
theorem pay276_apply (h : Fin 4) (r : Fin 512) (c : Fin 128) : (k0_pay276 (F := Ideal)) (ix3 h r c) = 0 := by
  pointwise [k0_pay276]
theorem pay277_apply (h : Fin 4) (r : Fin 512) (c : Fin 128) : (k0_pay277 (F := Ideal)) (ix3 h r c) = 0 := by
  pointwise [k0_pay277]

/-! ## The queries of the four heads -/

theorem query_apply (m : Memref sig .tc .vmem S1x512x1024 .bf16) (hm : m.IsWhole) (x0 : Vec Ideal S1x512x1024 .bf16) {y : ℕ} {h : Fin 4}
    (hy : y = 256 * h.val) (b : ∀ a, (![0, 0, y] : Fin 3 → ℕ) a + S1x512x256.size a ≤ S1x512x1024.size a) (r : Fin 512) (l : Fin 256) :
    box m (hm.unread x0) ![0, 0, y] S1x512x256.size b (ix3 0 r l) = x0 (ix3 0 r (lane h l)) := by
  subst hy
  refine (box_apply (C := 512) (D := 256) m hm x0 rfl b r l (by omega) (by omega)).trans ?_
  exact congrArg (fun z => x0 (ix3 0 z _)) (Fin.ext (show 0 + r.val = r.val by omega))

theorem pay271_apply (x : Vec Ideal S1x512x256 .bf16) (r : Fin 512) (l : Fin 256) : (k0_pay271 x) (ix2 r l) = x (ix3 0 r l) := by
  pointwise [k0_pay271]
theorem pay272_apply (x : Vec Ideal S1x512x256 .bf16) (r : Fin 512) (l : Fin 256) : (k0_pay272 x) (ix2 r l) = x (ix3 0 r l) := by
  pointwise [k0_pay272]
theorem pay273_apply (x : Vec Ideal S1x512x256 .bf16) (r : Fin 512) (l : Fin 256) : (k0_pay273 x) (ix2 r l) = x (ix3 0 r l) := by
  pointwise [k0_pay273]
theorem pay274_apply (x : Vec Ideal S1x512x256 .bf16) (r : Fin 512) (l : Fin 256) : (k0_pay274 x) (ix2 r l) = x (ix3 0 r l) := by
  pointwise [k0_pay274]

/-! ## The loops' trips and the other tiles' places -/

theorem rest_trips (i : grid0.Coords) : (k0_t2_loop i).trips = 0 := by
  have e : (i 2).val < 8 := (i 2).isLt
  unfold k0_t2_loop
  generalize (i 2).val = x at e ⊢
  interval_cases x <;> rfl

theorem parity (i : grid0.Coords) : cond0_0 i ↔ (i 2).val % 2 = 1 := by
  have e : (i 2).val < 8 := (i 2).isLt
  unfold cond0_0 k0_cond1
  generalize (i 2).val = x at e ⊢
  interval_cases x <;> decide

theorem single_word {x : ℕ} (h : x < 8) (h1 : x % 2 = 1) :
    (Scalar.indexCast (Scalar.muli (Scalar.subi (BitVec.ofNat 32 x) 1#32) 512#32)).toNat = 1024 * (x / 2) := by
  interval_cases x <;> first | (exfalso; omega) | decide

section
variable (i : grid0.Coords) (h : (i 2).val % 2 = 1)
include h
theorem off19_eq : k0_off19 i = ![0, 1024 * ((i 2).val / 2), 0] := congrArg (fun x => ![0, x, 0]) (single_word (i 2).isLt h)
theorem off20_eq : k0_off20 i = ![0, 1024 * ((i 2).val / 2), 0] := congrArg (fun x => ![0, x, 0]) (single_word (i 2).isLt h)
theorem off21_eq : k0_off21 i = ![0, 1024 * ((i 2).val / 2), 128] := congrArg (fun x => ![0, x, 128]) (single_word (i 2).isLt h)
theorem off22_eq : k0_off22 i = ![0, 1024 * ((i 2).val / 2), 256] := congrArg (fun x => ![0, x, 256]) (single_word (i 2).isLt h)
theorem off23_eq : k0_off23 i = ![0, 1024 * ((i 2).val / 2), 384] := congrArg (fun x => ![0, x, 384]) (single_word (i 2).isLt h)
theorem off24_eq : k0_off24 i = ![0, 1024 * ((i 2).val / 2), 512] := congrArg (fun x => ![0, x, 512]) (single_word (i 2).isLt h)
theorem off25_eq : k0_off25 i = ![0, 1024 * ((i 2).val / 2), 640] := congrArg (fun x => ![0, x, 640]) (single_word (i 2).isLt h)
theorem off26_eq : k0_off26 i = ![0, 1024 * ((i 2).val / 2), 768] := congrArg (fun x => ![0, x, 768]) (single_word (i 2).isLt h)
theorem off27_eq : k0_off27 i = ![0, 1024 * ((i 2).val / 2), 896] := congrArg (fun x => ![0, x, 896]) (single_word (i 2).isLt h)

end

/-! ## The output's four stores -/

section
variable {κ : Kind} {sp : Space} (v : View sig κ sp S1x512x512 .bf16) (f : v.ty.Contents (Elt Ideal))
  (b0 : ∀ a, (![0, 0, 0] : Fin 3 → ℕ) a + S1x512x128.size a ≤ S1x512x512.size a)
  (b1 : ∀ a, (![0, 0, 128] : Fin 3 → ℕ) a + S1x512x128.size a ≤ S1x512x512.size a)
  (b2 : ∀ a, (![0, 0, 256] : Fin 3 → ℕ) a + S1x512x128.size a ≤ S1x512x512.size a)
  (b3 : ∀ a, (![0, 0, 384] : Fin 3 → ℕ) a + S1x512x128.size a ≤ S1x512x512.size a)
  (y0 y1 y2 y3 : Vec Ideal S1x512x128 .bf16) (r : Fin 512) (d : Fin 128)

theorem lane_same {y : ℕ} (b : ∀ a, (![0, 0, y] : Fin 3 → ℕ) a + S1x512x128.size a ≤ S1x512x512.size a) (w : Vec Ideal S1x512x128 .bf16)
    (L : List (View.Piece (Elt Ideal) S1x512x512 .bf16)) (z : Fin 512) (hz : z.val = y + d.val) :
    v.read (Elt Ideal) (v.writes (Elt Ideal) f (⟨Rect.unit ![0, 0, y] S1x512x128.size b, w⟩ :: L)) (ix3 0 r z) = w (ix3 0 r d) := by
  refine View.read_writes_cons_unit_of_mem v f b w L (ix3 0 r z) (ix3 0 r d) rfl ?_
  intro a
  fin_cases a
  · rfl
  · show r.val = 0 + r.val; omega
  · exact hz

theorem lane_other {y : ℕ} (b : ∀ a, (![0, 0, y] : Fin 3 → ℕ) a + S1x512x128.size a ≤ S1x512x512.size a) (w : Vec Ideal S1x512x128 .bf16)
    (L : List (View.Piece (Elt Ideal) S1x512x512 .bf16)) (z : Fin 512) (hz : z.val < y) :
    v.read (Elt Ideal) (v.writes (Elt Ideal) f (⟨Rect.unit ![0, 0, y] S1x512x128.size b, w⟩ :: L)) (ix3 0 r z)
      = v.read (Elt Ideal) (v.writes (Elt Ideal) f L) (ix3 0 r z) := by
  exact View.read_writes_cons_unit_of_not_mem v f b w L (ix3 0 r z) rfl 2 (Or.inl hz)

/-- A fact about each head's store is a fact about what the block reads. -/
theorem block_apply {Q : Fin 4 → EReal} (h0 : y0 (ix3 0 r d) = Q 0) (h1 : y1 (ix3 0 r d) = Q 1) (h2 : y2 (ix3 0 r d) = Q 2)
    (h3 : y3 (ix3 0 r d) = Q 3) (h : Fin 4) :
    v.read (Elt Ideal) (v.writes (Elt Ideal) f [⟨Rect.unit ![0, 0, 384] S1x512x128.size b3, y3⟩,
      ⟨Rect.unit ![0, 0, 256] S1x512x128.size b2, y2⟩, ⟨Rect.unit ![0, 0, 128] S1x512x128.size b1, y1⟩,
      ⟨Rect.unit ![0, 0, 0] S1x512x128.size b0, y0⟩]) (ix3 0 r ⟨128 * h.val + d.val, by omega⟩) = Q h := by
  obtain rfl | rfl | rfl | rfl : h = 0 ∨ h = 1 ∨ h = 2 ∨ h = 3 := by fin_cases h <;> simp
  · rw [lane_other v f r b3 _ _ _ (show 128 * 0 + d.val < 384 by omega), lane_other v f r b2 _ _ _ (show 128 * 0 + d.val < 256 by omega),
      lane_other v f r b1 _ _ _ (show 128 * 0 + d.val < 128 by omega), lane_same v f r d b0 _ _ _ (show 128 * 0 + d.val = 0 + d.val by omega), h0]
  · rw [lane_other v f r b3 _ _ _ (show 128 * 1 + d.val < 384 by omega), lane_other v f r b2 _ _ _ (show 128 * 1 + d.val < 256 by omega),
      lane_same v f r d b1 _ _ _ (show 128 * 1 + d.val = 128 + d.val by omega), h1]
  · rw [lane_other v f r b3 _ _ _ (show 128 * 2 + d.val < 384 by omega),
      lane_same v f r d b2 _ _ _ (show 128 * 2 + d.val = 256 + d.val by omega), h2]
  · rw [lane_same v f r d b3 _ _ _ (show 128 * 3 + d.val = 384 + d.val by omega), h3]

end

/-- The quotient for row `r` and lane `d` of head `h`. -/
def quotient (X0 : S1x512x1024.Idx → EReal) (X1 : S1x4096x1024.Idx → EReal) (X2 : S1x4096x128.Idx → EReal) (qi : ℕ) (h : Fin 4)
    (r : Fin 512) (d : Fin 128) : EReal :=
  Ideal.div (ax (score X0 X1 X2 qi h r) (value X1 h d) (512 * qi + 512))
    (∑ c : Fin 128, lx (score X0 X1 X2 qi h r) (512 * qi + 512) c)

section

variable (c : Dev nD) (i : grid0.Coords) (arg3 : Memref sig .tc .vmem S1x512x1024 .bf16) (harg3 : arg3.IsWhole)
  (arg4 : Memref sig .tc .vmem S1x4096x1024 .bf16) (harg4 : arg4.IsWhole) (arg5 : Memref sig .tc .vmem S1x4096x128 .bf16)
  (harg5 : arg5.IsWhole) (arg6 : Memref sig .tc .vmem S1x512x512 .bf16) (harg6 : arg6.IsWhole)
  (arg7 : Memref sig .tc .vmem S4x512x128 .f32) (harg7 : arg7.IsWhole) (arg8 : Memref sig .tc .vmem S4x512x128 .f32)
  (harg8 : arg8.IsWhole) (arg9 : Memref sig .tc .vmem S4x512x128 .f32) (harg9 : arg9.IsWhole)
  (x0 : Vec Ideal S1x512x1024 .bf16) (x1 : Vec Ideal S1x4096x1024 .bf16) (x2 : Vec Ideal S1x4096x128 .bf16)
  (hs : ∀ h r j, score x0 x1 x2 (i 2).val h r j < ⊤)

/-- The diagonal tile's scores. -/
theorem diag_box {q : FVec Ideal S512x256 .bf16} {h : Fin 4} (hq : Query x0 h q)
    {o1 o2 : Fin 3 → ℕ} (e1 : o1 = ![0, 512 * (i 2).val, 0]) (e2 : o2 = ![0, 512 * (i 2).val, 256 * h.val])
    (h1 : ∀ a, o1 a + S1x512x128.size a ≤ S1x4096x128.size a) (h2 : ∀ a, o2 a + S1x512x128.size a ≤ S1x4096x1024.size a)
    (r : Fin 512) (j : Fin 512) :
    scoresD q (box arg5 (harg5.unread x2) o1 S1x512x128.size h1) (box arg4 (harg4.unread x1) o2 S1x512x128.size h2) (ix2 r j)
      = score x0 x1 x2 (i 2).val h r (512 * (i 2).val + j.val) := by
  have hi : (i 2).val < 8 := (i 2).isLt
  rw [scoresD_apply, scores4_box harg4 harg5 hq e1 e2 (by omega) h1 h2 r j, score]
  by_cases e : j.val ≤ r.val
  · rw [if_pos e, if_pos (by omega)]
  · rw [if_neg e, if_neg (by omega)]

theorem queryA_0 : Query x0 0 (kernelRun0_A.sl.r (F := Ideal) c arg3 harg3 x0) := fun r l =>
  (pay271_apply _ r l).trans (query_apply arg3 harg3 x0 (h := 0) rfl inb_S1x512x1024_S1x512x256_0_0_0 r l)
theorem queryA_1 : Query x0 1 (kernelRun0_A.sl.r_1 (F := Ideal) c arg3 harg3 x0) := fun r l =>
  (pay272_apply _ r l).trans (query_apply arg3 harg3 x0 (h := 1) rfl inb_S1x512x1024_S1x512x256_0_0_256 r l)
theorem queryA_2 : Query x0 2 (kernelRun0_A.sl.r_2 (F := Ideal) c arg3 harg3 x0) := fun r l =>
  (pay273_apply _ r l).trans (query_apply arg3 harg3 x0 (h := 2) rfl inb_S1x512x1024_S1x512x256_0_0_512 r l)
theorem queryA_3 : Query x0 3 (kernelRun0_A.sl.r_3 (F := Ideal) c arg3 harg3 x0) := fun r l =>
  (pay274_apply _ r l).trans (query_apply arg3 harg3 x0 (h := 3) rfl inb_S1x512x1024_S1x512x256_0_0_768 r l)

include hs in
/-- After the loops. -/
theorem startA_heads : Heads arg7 arg8 arg9 (score x0 x1 x2 (i 2).val) (value x1) (fun _ => 1024 * ((i 2).val / 2))
    (startA c i arg3 harg3 arg4 harg4 arg5 harg5 arg6 harg6 arg7 harg7 arg8 harg8 arg9 harg9 x0 x1 x2) := by
  intro h
  have H := loop_rows c i arg3 harg3 arg4 harg4 arg5 harg5 arg6 harg6 arg7 harg7 arg8 harg8 arg9 harg9
    (BitVec.ofNat 32 (i 2).val) (kernelRun0_A.sl.r (F := Ideal) c arg3 harg3 x0) (kernelRun0_A.sl.r_1 (F := Ideal) c arg3 harg3 x0)
    (kernelRun0_A.sl.r_2 (F := Ideal) c arg3 harg3 x0) (kernelRun0_A.sl.r_3 (F := Ideal) c arg3 harg3 x0) 2#32 (kernelRun0_A.sl.v20 i) (kernelRun0_A.sl.v25 i) 0#32
    x0 x1 x2 (arg7.view.writes (Elt Ideal) arg7.view.junk (kernelRun0_A.sl.HS0_1 (F := Ideal)))
    (arg8.view.writes (Elt Ideal) arg8.view.junk (kernelRun0_A.sl.HS1_1 (F := Ideal)))
    (arg9.view.writes (Elt Ideal) arg9.view.junk (kernelRun0_A.sl.HS2_1 (F := Ideal)))
    (queryA_0 c arg3 harg3 x0) (queryA_1 c arg3 harg3 x0) (queryA_2 c arg3 harg3 x0) (queryA_3 c arg3 harg3 x0) hs h
    (fun r d => ⟨(init_apply arg7 _ _ _ h r d).trans ((pay275_apply h r d).trans (mx_zero _).symm),
      (init_apply arg8 _ _ _ h r d).trans ((pay276_apply h r d).trans (lx_zero _ _).symm),
      (init_apply arg9 _ _ _ h r d).trans ((pay277_apply h r d).trans (ax_zero _ _).symm)⟩)
    (k0_t1_loop i).trips le_rfl
  rw [trips_eq] at H
  have e1 : Scf.trips (k0_t1_loop i).lb (k0_t1_loop i).ub (k0_t1_loop i).st = (i 2).val / 2 := trips_eq i
  have e2 : Scf.trips (k0_t2_loop i).lb (k0_t2_loop i).ub (k0_t2_loop i).st = 0 := rest_trips i
  unfold startA doublesA
  rw [e1, e2]
  simp only [app, pb_k0_t2, List.nil_append, View.writes_append]
  exact H

include hs in
/-- The block the point writes. -/
theorem blockA (hc0 : ¬cond0_0 i) (h : Fin 4) (r : Fin 512) (d : Fin 128) :
    out0_A_3 (F := Ideal) c i arg3 harg3 arg4 harg4 arg5 harg5 arg6 harg6 arg7 harg7 arg8 harg8 arg9 harg9 hc0 x0 x1 x2
      (ix3 0 r ⟨128 * h.val + d.val, by omega⟩) = quotient x0 x1 x2 (i 2).val h r d := by
  have hi : (i 2).val < 8 := (i 2).isLt
  have hp : ¬ (i 2).val % 2 = 1 := fun e => hc0 ((parity i).mpr e)
  have en : 1024 * ((i 2).val / 2) = 512 * (i 2).val := by omega
  have H0 := startA_heads c i arg3 harg3 arg4 harg4 arg5 harg5 arg6 harg6 arg7 harg7 arg8 harg8 arg9 harg9 x0 x1 x2 hs
  replace H0 : Heads arg7 arg8 arg9 (score x0 x1 x2 (i 2).val) (value x1) (reach (512 * (i 2).val) 0) (startA c i arg3 harg3 arg4 harg4 arg5 harg5 arg6 harg6 arg7 harg7 arg8 harg8 arg9 harg9 x0 x1 x2) :=
    H0.congr fun h => by have := h.isLt; simp only [reach]; split_ifs <;> omega
  have H1 := H0.next hs 0 rfl inb_S4x512x128_S1x512x128_0_0_0 (by omega)
    (fun r j => diag_box i arg4 harg4 arg5 harg5 x0 x1 x2 (queryA_0 c arg3 harg3 x0) (k0_off28_eq i) (k0_off29_eq i) (k0_off28_inb i) (k0_off29_inb i) r j)
    (fun j d => value4_box harg4 (k0_off30_eq i) (by omega) (k0_off30_inb i) j d)
  rw [← stageA_1 c i arg3 harg3 arg4 harg4 arg5 harg5 arg6 harg6 arg7 harg7 arg8 harg8 arg9 harg9 x0 x1 x2] at H1
  have H2 := H1.next hs 1 rfl inb_S4x512x128_S1x512x128_1_0_0 (by omega)
    (fun r j => diag_box i arg4 harg4 arg5 harg5 x0 x1 x2 (queryA_1 c arg3 harg3 x0) (k0_off28_eq i) (k0_off31_eq i) (k0_off28_inb i) (k0_off31_inb i) r j)
    (fun j d => value4_box harg4 (k0_off32_eq i) (by omega) (k0_off32_inb i) j d)
  rw [← stageA_2 c i arg3 harg3 arg4 harg4 arg5 harg5 arg6 harg6 arg7 harg7 arg8 harg8 arg9 harg9 x0 x1 x2] at H2
  have H3 := H2.next hs 2 rfl inb_S4x512x128_S1x512x128_2_0_0 (by omega)
    (fun r j => diag_box i arg4 harg4 arg5 harg5 x0 x1 x2 (queryA_2 c arg3 harg3 x0) (k0_off28_eq i) (k0_off33_eq i) (k0_off28_inb i) (k0_off33_inb i) r j)
    (fun j d => value4_box harg4 (k0_off34_eq i) (by omega) (k0_off34_inb i) j d)
  rw [← stageA_3 c i arg3 harg3 arg4 harg4 arg5 harg5 arg6 harg6 arg7 harg7 arg8 harg8 arg9 harg9 x0 x1 x2] at H3
  have H4 := H3.next hs 3 rfl inb_S4x512x128_S1x512x128_3_0_0 (by omega)
    (fun r j => diag_box i arg4 harg4 arg5 harg5 x0 x1 x2 (queryA_3 c arg3 harg3 x0) (k0_off28_eq i) (k0_off35_eq i) (k0_off28_inb i) (k0_off35_inb i) r j)
    (fun j d => value4_box harg4 (k0_off36_eq i) (by omega) (k0_off36_inb i) j d)
  replace H4 := H4.congr (ns' := fun _ => 512 * (i 2).val + 512) fun h => if_pos h.isLt
  have E := stageA_4 c i arg3 harg3 arg4 harg4 arg5 harg5 arg6 harg6 arg7 harg7 arg8 harg8 arg9 harg9 x0 x1 x2
  have E1 := congrArg Prod.fst E
  have E2 := congrArg Prod.snd E
  dsimp only at E1 E2
  unfold out0_A_3
  rw [outsA c i arg3 harg3 arg4 harg4 arg5 harg5 arg6 harg6 arg7 harg7 arg8 harg8 arg9 harg9 hc0 x0 x1 x2, E1, E2]
  refine block_apply _ _ _ _ _ _ _ _ _ _ r d (Q := fun h => quotient x0 x1 x2 (i 2).val h r d) ?_ ?_ ?_ ?_ h
  · exact H4.out 0 rfl inb_S4x512x128_S1x512x128_0_0_0 r d
  · exact H4.out 1 rfl inb_S4x512x128_S1x512x128_1_0_0 r d
  · exact H4.out 2 rfl inb_S4x512x128_S1x512x128_2_0_0 r d
  · exact H4.out 3 rfl inb_S4x512x128_S1x512x128_3_0_0 r d

theorem queryB_0 : Query x0 0 (kernelRun0_B.sl.r (F := Ideal) c arg3 harg3 x0) := fun r l =>
  (pay271_apply _ r l).trans (query_apply arg3 harg3 x0 (h := 0) rfl inb_S1x512x1024_S1x512x256_0_0_0 r l)
theorem queryB_1 : Query x0 1 (kernelRun0_B.sl.r_1 (F := Ideal) c arg3 harg3 x0) := fun r l =>
  (pay272_apply _ r l).trans (query_apply arg3 harg3 x0 (h := 1) rfl inb_S1x512x1024_S1x512x256_0_0_256 r l)
theorem queryB_2 : Query x0 2 (kernelRun0_B.sl.r_2 (F := Ideal) c arg3 harg3 x0) := fun r l =>
  (pay273_apply _ r l).trans (query_apply arg3 harg3 x0 (h := 2) rfl inb_S1x512x1024_S1x512x256_0_0_512 r l)
theorem queryB_3 : Query x0 3 (kernelRun0_B.sl.r_3 (F := Ideal) c arg3 harg3 x0) := fun r l =>
  (pay274_apply _ r l).trans (query_apply arg3 harg3 x0 (h := 3) rfl inb_S1x512x1024_S1x512x256_0_0_768 r l)

include hs in
/-- After the loops. -/
theorem startB_heads : Heads arg7 arg8 arg9 (score x0 x1 x2 (i 2).val) (value x1) (fun _ => 1024 * ((i 2).val / 2))
    (startB c i arg3 harg3 arg4 harg4 arg5 harg5 arg6 harg6 arg7 harg7 arg8 harg8 arg9 harg9 x0 x1 x2) := by
  intro h
  have H := loop_rows c i arg3 harg3 arg4 harg4 arg5 harg5 arg6 harg6 arg7 harg7 arg8 harg8 arg9 harg9
    (BitVec.ofNat 32 (i 2).val) (kernelRun0_B.sl.r (F := Ideal) c arg3 harg3 x0) (kernelRun0_B.sl.r_1 (F := Ideal) c arg3 harg3 x0)
    (kernelRun0_B.sl.r_2 (F := Ideal) c arg3 harg3 x0) (kernelRun0_B.sl.r_3 (F := Ideal) c arg3 harg3 x0) 2#32 (kernelRun0_B.sl.v20 i) (kernelRun0_B.sl.v25 i) 0#32
    x0 x1 x2 (arg7.view.writes (Elt Ideal) arg7.view.junk (kernelRun0_B.sl.HS0_1 (F := Ideal)))
    (arg8.view.writes (Elt Ideal) arg8.view.junk (kernelRun0_B.sl.HS1_1 (F := Ideal)))
    (arg9.view.writes (Elt Ideal) arg9.view.junk (kernelRun0_B.sl.HS2_1 (F := Ideal)))
    (queryB_0 c arg3 harg3 x0) (queryB_1 c arg3 harg3 x0) (queryB_2 c arg3 harg3 x0) (queryB_3 c arg3 harg3 x0) hs h
    (fun r d => ⟨(init_apply arg7 _ _ _ h r d).trans ((pay275_apply h r d).trans (mx_zero _).symm),
      (init_apply arg8 _ _ _ h r d).trans ((pay276_apply h r d).trans (lx_zero _ _).symm),
      (init_apply arg9 _ _ _ h r d).trans ((pay277_apply h r d).trans (ax_zero _ _).symm)⟩)
    (k0_t1_loop i).trips le_rfl
  rw [trips_eq] at H
  have e1 : Scf.trips (k0_t1_loop i).lb (k0_t1_loop i).ub (k0_t1_loop i).st = (i 2).val / 2 := trips_eq i
  have e2 : Scf.trips (k0_t2_loop i).lb (k0_t2_loop i).ub (k0_t2_loop i).st = 0 := rest_trips i
  unfold startB doublesB
  rw [e1, e2]
  simp only [app, pb_k0_t2, List.nil_append, View.writes_append]
  exact H

include hs in
/-- The block the point writes. -/
theorem blockB (hc0 : cond0_0 i) (h : Fin 4) (r : Fin 512) (d : Fin 128) :
    out0_B_3 (F := Ideal) c i arg3 harg3 arg4 harg4 arg5 harg5 arg6 harg6 arg7 harg7 arg8 harg8 arg9 harg9 hc0 x0 x1 x2
      (ix3 0 r ⟨128 * h.val + d.val, by omega⟩) = quotient x0 x1 x2 (i 2).val h r d := by
  have hi : (i 2).val < 8 := (i 2).isLt
  have hp : (i 2).val % 2 = 1 := (parity i).mp hc0
  have en : 1024 * ((i 2).val / 2) + 512 = 512 * (i 2).val := by omega
  have H0 := startB_heads c i arg3 harg3 arg4 harg4 arg5 harg5 arg6 harg6 arg7 harg7 arg8 harg8 arg9 harg9 x0 x1 x2 hs
  replace H0 : Heads arg7 arg8 arg9 (score x0 x1 x2 (i 2).val) (value x1) (reach (1024 * ((i 2).val / 2)) 0) (startB c i arg3 harg3 arg4 harg4 arg5 harg5 arg6 harg6 arg7 harg7 arg8 harg8 arg9 harg9 x0 x1 x2) :=
    H0.congr fun h => by have := h.isLt; simp only [reach]; split_ifs <;> omega
  have H1 := H0.next hs 0 rfl inb_S4x512x128_S1x512x128_0_0_0 (by omega)
    (fun r j => (scores4_box harg4 harg5 (queryB_0 c arg3 harg3 x0) (off19_eq i hp) (off20_eq i hp) (by omega) (k0_off19_inb i hc0) (k0_off20_inb i hc0) r j).trans
      (score_early (by omega)).symm)
    (fun j d => value4_box harg4 (off21_eq i hp) (by omega) (k0_off21_inb i hc0) j d)
  rw [← stageB_1 c i arg3 harg3 arg4 harg4 arg5 harg5 arg6 harg6 arg7 harg7 arg8 harg8 arg9 harg9 hc0 x0 x1 x2] at H1
  have H2 := H1.next hs 1 rfl inb_S4x512x128_S1x512x128_1_0_0 (by omega)
    (fun r j => (scores4_box harg4 harg5 (queryB_1 c arg3 harg3 x0) (off19_eq i hp) (off22_eq i hp) (by omega) (k0_off19_inb i hc0) (k0_off22_inb i hc0) r j).trans
      (score_early (by omega)).symm)
    (fun j d => value4_box harg4 (off23_eq i hp) (by omega) (k0_off23_inb i hc0) j d)
  rw [← stageB_2 c i arg3 harg3 arg4 harg4 arg5 harg5 arg6 harg6 arg7 harg7 arg8 harg8 arg9 harg9 hc0 x0 x1 x2] at H2
  have H3 := H2.next hs 2 rfl inb_S4x512x128_S1x512x128_2_0_0 (by omega)
    (fun r j => (scores4_box harg4 harg5 (queryB_2 c arg3 harg3 x0) (off19_eq i hp) (off24_eq i hp) (by omega) (k0_off19_inb i hc0) (k0_off24_inb i hc0) r j).trans
      (score_early (by omega)).symm)
    (fun j d => value4_box harg4 (off25_eq i hp) (by omega) (k0_off25_inb i hc0) j d)
  rw [← stageB_3 c i arg3 harg3 arg4 harg4 arg5 harg5 arg6 harg6 arg7 harg7 arg8 harg8 arg9 harg9 hc0 x0 x1 x2] at H3
  have H4 := H3.next hs 3 rfl inb_S4x512x128_S1x512x128_3_0_0 (by omega)
    (fun r j => (scores4_box harg4 harg5 (queryB_3 c arg3 harg3 x0) (off19_eq i hp) (off26_eq i hp) (by omega) (k0_off19_inb i hc0) (k0_off26_inb i hc0) r j).trans
      (score_early (by omega)).symm)
    (fun j d => value4_box harg4 (off27_eq i hp) (by omega) (k0_off27_inb i hc0) j d)
  rw [← stageB_4 c i arg3 harg3 arg4 harg4 arg5 harg5 arg6 harg6 arg7 harg7 arg8 harg8 arg9 harg9 hc0 x0 x1 x2] at H4
  replace H4 : Heads arg7 arg8 arg9 (score x0 x1 x2 (i 2).val) (value x1) (reach (512 * (i 2).val) 0) (kernelRun0_B.sl.HS0_4 (F := Ideal) c i arg3 harg3 arg4 harg4 arg5 harg5 arg6 harg6 arg7 harg7 arg8 harg8 arg9 harg9 hc0 x0 x1 x2, kernelRun0_B.sl.HS1_4 (F := Ideal) c i arg3 harg3 arg4 harg4 arg5 harg5 arg6 harg6 arg7 harg7 arg8 harg8 arg9 harg9 hc0 x0 x1 x2, kernelRun0_B.sl.HS2_4 (F := Ideal) c i arg3 harg3 arg4 harg4 arg5 harg5 arg6 harg6 arg7 harg7 arg8 harg8 arg9 harg9 hc0 x0 x1 x2) :=
    H4.congr fun h => by have := h.isLt; simp only [reach]; split_ifs <;> omega
  have H5 := H4.next hs 0 rfl inb_S4x512x128_S1x512x128_0_0_0 (by omega)
    (fun r j => diag_box i arg4 harg4 arg5 harg5 x0 x1 x2 (queryB_0 c arg3 harg3 x0) (k0_off28_eq i) (k0_off29_eq i) (k0_off28_inb i) (k0_off29_inb i) r j)
    (fun j d => value4_box harg4 (k0_off30_eq i) (by omega) (k0_off30_inb i) j d)
  rw [← stageB_5 c i arg3 harg3 arg4 harg4 arg5 harg5 arg6 harg6 arg7 harg7 arg8 harg8 arg9 harg9 hc0 x0 x1 x2] at H5
  have H6 := H5.next hs 1 rfl inb_S4x512x128_S1x512x128_1_0_0 (by omega)
    (fun r j => diag_box i arg4 harg4 arg5 harg5 x0 x1 x2 (queryB_1 c arg3 harg3 x0) (k0_off28_eq i) (k0_off31_eq i) (k0_off28_inb i) (k0_off31_inb i) r j)
    (fun j d => value4_box harg4 (k0_off32_eq i) (by omega) (k0_off32_inb i) j d)
  rw [← stageB_6 c i arg3 harg3 arg4 harg4 arg5 harg5 arg6 harg6 arg7 harg7 arg8 harg8 arg9 harg9 hc0 x0 x1 x2] at H6
  have H7 := H6.next hs 2 rfl inb_S4x512x128_S1x512x128_2_0_0 (by omega)
    (fun r j => diag_box i arg4 harg4 arg5 harg5 x0 x1 x2 (queryB_2 c arg3 harg3 x0) (k0_off28_eq i) (k0_off33_eq i) (k0_off28_inb i) (k0_off33_inb i) r j)
    (fun j d => value4_box harg4 (k0_off34_eq i) (by omega) (k0_off34_inb i) j d)
  rw [← stageB_7 c i arg3 harg3 arg4 harg4 arg5 harg5 arg6 harg6 arg7 harg7 arg8 harg8 arg9 harg9 hc0 x0 x1 x2] at H7
  have H8 := H7.next hs 3 rfl inb_S4x512x128_S1x512x128_3_0_0 (by omega)
    (fun r j => diag_box i arg4 harg4 arg5 harg5 x0 x1 x2 (queryB_3 c arg3 harg3 x0) (k0_off28_eq i) (k0_off35_eq i) (k0_off28_inb i) (k0_off35_inb i) r j)
    (fun j d => value4_box harg4 (k0_off36_eq i) (by omega) (k0_off36_inb i) j d)
  replace H8 := H8.congr (ns' := fun _ => 512 * (i 2).val + 512) fun h => if_pos h.isLt
  have E := stageB_8 c i arg3 harg3 arg4 harg4 arg5 harg5 arg6 harg6 arg7 harg7 arg8 harg8 arg9 harg9 hc0 x0 x1 x2
  have E1 := congrArg Prod.fst E
  have E2 := congrArg Prod.snd E
  dsimp only at E1 E2
  unfold out0_B_3
  rw [outsB c i arg3 harg3 arg4 harg4 arg5 harg5 arg6 harg6 arg7 harg7 arg8 harg8 arg9 harg9 hc0 x0 x1 x2, E1, E2]
  refine block_apply _ _ _ _ _ _ _ _ _ _ r d (Q := fun h => quotient x0 x1 x2 (i 2).val h r d) ?_ ?_ ?_ ?_ h
  · exact H8.out 0 rfl inb_S4x512x128_S1x512x128_0_0_0 r d
  · exact H8.out 1 rfl inb_S4x512x128_S1x512x128_1_0_0 r d
  · exact H8.out 2 rfl inb_S4x512x128_S1x512x128_2_0_0 r d
  · exact H8.out 3 rfl inb_S4x512x128_S1x512x128_3_0_0 r d

end

end Cert.Flash

end
-- ==== Proof.Host.lean ====
/-
  The arrays that the call reads, as the host lines before it make them of the arguments: the scaled queries padded to 256
  lanes a head, the keys and values, and the common rotary keys padded to 128 lanes.
-/
module

public import proofs.«01_k».proof.Proof.Gen.KernelIdeal.Value
public import Idealize.ShloMosaic.Lib.Pointwise
public import Idealize.ShloMosaic.Lib.Claim
public import Idealize.ShloMosaic.Lib.Tactic

@[expose] public section

noncomputable section

namespace Cert.Flash

open Idealize.ShloMosaic Cert.KernelIdeal Cert.KernelIdeal.Gen Idealize.ShloMosaic.TcCoe Idealize.ShloMosaic.Tactic
open Idealize.ShloMosaic.StableHlo

/-- The queries times the scale over `log 2`, padded to 256 lanes. -/
def padQ (q : FVec Ideal S8x4096x16x192 .f32) : FVec Ideal S8x4096x16x256 .f32 :=
  pad S8x4096x16x256 ![0, 0, 0, 0] ![0, 0, 0, 64] ![0, 0, 0, 0]
    (mulf q (broadcastInDim S8x4096x16x192 ![] bcast_S_S8x4096x16x192
      (Host.divf (constant (F := Ideal) S_ .f32 0x3D93CD3A#32) (Host.log (constant (F := Ideal) S_ .f32 0x40000000#32)))))
    (sitofp .f32 (constantI S_ 32 0#32)) pads_S8x4096x16x192_S8x4096x16x256_000_000_000_0640 h_S_

/-- The rotary keys, padded to 128 lanes. -/
def padK (k : FVec Ideal S8x4096x64 .f32) : FVec Ideal S8x4096x128 .f32 :=
  pad S8x4096x128 ![0, 0, 0] ![0, 0, 64] ![0, 0, 0] k (sitofp .f32 (constantI S_ 32 0#32)) pads_S8x4096x64_S8x4096x128_000_000_0640 h_S_

theorem padQ_apply (q : FVec Ideal S8x4096x16x192 .f32) (b : Fin 8) (s : Fin 4096) (hd : Fin 16) (l : Fin 256) :
    padQ q (ix4 b s hd l) = if h : l.val < 192 then
      q (ix4 b s hd ⟨l.val, h⟩) * Ideal.div (Ideal.ofBits .f32 0x3D93CD3A#32) (Ideal.log (Ideal.ofBits .f32 0x40000000#32)) else 0 := by
  pointwise [padQ]
  split_ifs
  · rfl
  · show (((0#32 : BitVec 32).toInt : ℝ) : EReal) = 0
    simp

theorem padK_apply (k : FVec Ideal S8x4096x64 .f32) (b : Fin 8) (s : Fin 4096) (l : Fin 128) :
    padK k (ix3 b s l) = if h : l.val < 64 then k (ix3 b s ⟨l.val, h⟩) else 0 := by
  pointwise [padK]
  split_ifs
  · rfl
  · show (((0#32 : BitVec 32).toInt : ℝ) : EReal) = 0
    simp

variable (m : (ℓ : Loc nD τ sig) → Buf (Elt Ideal) ℓ)

theorem V_rope (c : Dev nD) :
    V m c main_v7 = (truncf .bf16 (padK (m ((c : Thread nD τ).loc main_arg2))) bitsLt_bf16_f32 : FVec Ideal S8x4096x128 .bf16) := by
  simp only [V, hostOps0, hostOps0_1, hostOps0_2, hostOps0_3, hostOps0_4, List.flatten_cons, List.flatten_nil, List.append_nil, List.cons_append,
      List.nil_append, TRef.unary, TRef.binary, TRef.toBuf, TRef.ofBuf, cast_eq]
  after_results_simp
  rfl

theorem V_keys (c : Dev nD) :
    V m c main_v10 = (shapeCast S8x4096x4096 (truncf .bf16 (m ((c : Thread nD τ).loc main_arg1) : FVec Ideal S8x4096x16x256 .f32) bitsLt_bf16_f32) shapeCasts_S8x4096x16x256_S8x4096x4096 : FVec Ideal S8x4096x4096 .bf16) := by
  simp only [V, hostOps0, hostOps0_1, hostOps0_2, hostOps0_3, hostOps0_4, List.flatten_cons, List.flatten_nil, List.append_nil, List.cons_append,
      List.nil_append, TRef.unary, TRef.binary, TRef.toBuf, TRef.ofBuf, cast_eq]
  after_results_simp
  rfl

theorem V_query (c : Dev nD) :
    V m c main_v9 = (shapeCast S8x4096x4096 (truncf .bf16 (padQ (m ((c : Thread nD τ).loc main_arg0))) bitsLt_bf16_f32) shapeCasts_S8x4096x16x256_S8x4096x4096 : FVec Ideal S8x4096x4096 .bf16) := by
  simp only [V, hostOps0, hostOps0_1, hostOps0_2, hostOps0_3, hostOps0_4, List.flatten_cons, List.flatten_nil, List.append_nil, List.cons_append,
      List.nil_append, TRef.unary, TRef.binary, TRef.toBuf, TRef.ofBuf, cast_eq]
  after_results_simp
  rfl

theorem cast_apply (x : FVec Ideal S8x4096x16x256 .f32) (b : Fin 8) (s : Fin 4096) (hd : Fin 16) (l : Fin 256) :
    (shapeCast S8x4096x4096 (truncf .bf16 x bitsLt_bf16_f32) shapeCasts_S8x4096x16x256_S8x4096x4096 : FVec Ideal S8x4096x4096 .bf16)
      (ix3 b s ⟨256 * hd.val + l.val, by omega⟩) = x (ix4 b s hd l) := by
  pointwise

end Cert.Flash

end
-- ==== Proof.Equation.lean ====
/-
  The two ways to the same weights: powers of two of scores over `log 2`, of a query's keys up to the end of its tile, and
  exponentials of the scores of all keys, those after the query left out.
-/
module

public import proofs.«01_k».proof.Proof.Softmax
public import proofs.«01_k».proof.Proof.Rows

@[expose] public section

noncomputable section

namespace Cert.Flash

open Idealize.ShloMosaic

/-- The scores of the keys up to position `p`; the later keys have none. -/
def seen (T : Fin 4096 → EReal) (p : ℕ) (j : Fin 4096) : EReal := if j.val ≤ p then T j else ⊥

/-- The largest score. -/
def peak (T : Fin 4096 → EReal) (p : ℕ) : EReal := Finset.univ.fold max ⊥ (seen T p)

/-- The exponential of a score less the largest. -/
def power (T : Fin 4096 → EReal) (p : ℕ) (j : Fin 4096) : EReal :=
  if j.val ≤ p then Ideal.exp (seen T p j - peak T p) else 0

/-- The values weighted by the softmax of the scores. -/
def attended (T : Fin 4096 → EReal) (p : ℕ) (v : Fin 4096 → EReal) : EReal :=
  ∑ j, v j * Ideal.div (power T p j) (max (∑ i, power T p i) (Ideal.ofBits .f32 0x0DA24260#32))

/-- The smallest denominator is not above one. -/
theorem floor_le_one : Ideal.ofBits .f32 0x0DA24260#32 ≤ ((1 : ℝ) : EReal) := by
  simp only [Ideal.ofBits, Ideal.ieee, EReal.coe_one]
  simp
  rw [← EReal.coe_mul, ← EReal.coe_one, EReal.coe_le_coe_iff]
  norm_num

/-- Some key has the largest score, when the scores are real numbers. -/
theorem peak_real (t : Fin 4096 → ℝ) (p : ℕ) :
    ∃ i : Fin 4096, i.val ≤ p ∧ (∀ j : Fin 4096, j.val ≤ p → t j ≤ t i) ∧ peak (fun j => (t j : EReal)) p = (t i : EReal) := by
  obtain ⟨i, hi, hmax⟩ := (Finset.univ.filter fun j : Fin 4096 => j.val ≤ p).exists_max_image t ⟨0, by simp⟩
  have hi' : i.val ≤ p := by simpa using hi
  have hm : ∀ j : Fin 4096, j.val ≤ p → t j ≤ t i := fun j hj => hmax j (by simpa using hj)
  refine ⟨i, hi', hm, le_antisymm ?_ ?_⟩
  · refine Finset.fold_max_le _ |>.2 ⟨bot_le, fun j _ => ?_⟩
    unfold seen
    split_ifs with h
    · exact EReal.coe_le_coe_iff.2 (hm j h)
    · exact bot_le
  · refine Finset.le_fold_max _ |>.2 (Or.inr ⟨i, Finset.mem_univ _, ?_⟩)
    simp [seen, hi']

/-- A power of two of a number over `log 2` is its exponential. -/
theorem exp2_over (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos (by norm_num), mul_div_cancel₀ _ (Real.log_pos (by norm_num)).ne']

/-- The kernel's scores, of key numbers: a score over `log 2`, none after the query. -/
def scaled (t : Fin 4096 → ℝ) (p : ℕ) (j : ℕ) : EReal := if j ≤ p then ((t (key j) / Real.log 2 : ℝ) : EReal) else ⊥

theorem key_lt (j : ℕ) (h : j < 4096) : key j = ⟨j, h⟩ := Fin.ext (Nat.mod_eq_of_lt h)

theorem weights_eq (t : Fin 4096 → ℝ) (v : Fin 4096 → EReal) (p n : ℕ) (hp : p < n) (hn : n ≤ 4096) :
    ∑ j ∈ Finset.range n, Ideal.div (Ideal.exp2 (scaled t p j - mx (scaled t p) n))
        (∑ i ∈ Finset.range n, Ideal.exp2 (scaled t p i - mx (scaled t p) n)) * v (key j)
      = attended (fun j => (t j : EReal)) p v := by
  obtain ⟨i, hi, hmax, hpeak⟩ := peak_real t p
  have hlog : 0 < Real.log 2 := Real.log_pos (by norm_num)
  have hmx : mx (scaled t p) n = ((t i / Real.log 2 : ℝ) : EReal) := by
    apply le_antisymm
    · refine Finset.sup_le fun j hj => ?_
      unfold scaled
      split_ifs with h
      · have hj' : j < 4096 := lt_of_lt_of_le (Finset.mem_range.1 hj) hn
        refine EReal.coe_le_coe_iff.2 (div_le_div_of_nonneg_right (hmax _ ?_) hlog.le)
        rw [key_lt j hj']; exact h
      · exact bot_le
    · have := le_mx (scaled t p) (n := n) (j := i.val) (by omega)
      rwa [scaled, if_pos hi, key_lt i.val i.isLt] at this
  let e : Fin 4096 → ℝ := fun j => if j.val ≤ p then Real.exp (t j - t i) else 0
  have hk : ∀ j, j < n → Ideal.exp2 (scaled t p j - mx (scaled t p) n) = (e (key j) : EReal) := fun j hj => by
    have hj' : j < 4096 := by omega
    rw [hmx, key_lt j hj']
    unfold scaled
    by_cases h : j ≤ p
    · rw [if_pos h, key_lt j hj', ← EReal.coe_sub, ← sub_div, exp2_over]
      simp [e, h]
    · rw [if_neg h, EReal.bot_sub]
      simp [e, h]
  have hr : ∀ j, power (fun j => (t j : EReal)) p j = (e j : EReal) := fun j => by
    unfold power
    rw [hpeak]
    by_cases h : j.val ≤ p
    · rw [if_pos h, seen, if_pos h, ← EReal.coe_sub, Ideal.exp_coe]
      simp [e, h]
    · rw [if_neg h]
      simp [e, h]
  have hsplit : ∀ g : Fin 4096 → EReal, (∀ j, ¬ j.val ≤ p → g j = 0) → ∑ j ∈ Finset.range n, g (key j) = ∑ j, g j := fun g hg => by
    have h1 : ∑ j ∈ Finset.range 4096, g (key j) = ∑ j, g j := by
      rw [← Fin.sum_univ_eq_sum_range (fun j => g (key j)) 4096]
      exact Finset.sum_congr rfl fun j _ => by rw [key_lt j.val j.isLt]
    rw [← h1]
    refine Finset.sum_subset (Finset.range_mono hn) fun j hj hj' => hg _ ?_
    rw [key_lt j (Finset.mem_range.1 hj)]
    have := Finset.mem_range.not.1 hj'
    show ¬ j ≤ p
    omega
  have he0 : ∀ j, 0 ≤ e j := fun j => by simp only [e]; split_ifs <;> positivity
  have hsumR : ∑ j, power (fun j => (t j : EReal)) p j = ((∑ j, e j : ℝ) : EReal) := by
    rw [coe_sum]; exact Finset.sum_congr rfl fun j _ => hr j
  have hsumK : ∑ j ∈ Finset.range n, Ideal.exp2 (scaled t p j - mx (scaled t p) n) = ((∑ j, e j : ℝ) : EReal) := by
    rw [coe_sum, ← hsplit (fun j => (e j : EReal)) fun j hj => by simp [e, hj]]
    exact Finset.sum_congr rfl fun j hj => hk j (Finset.mem_range.1 hj)
  have hD : 1 ≤ ∑ j, e j := by
    have h1 : e i = 1 := by simp [e, hi]
    rw [← h1]
    exact Finset.single_le_sum (fun j _ => he0 j) (Finset.mem_univ i)
  have hne : (∑ j, e j) ≠ 0 := by linarith
  unfold attended
  rw [hsumR, hsumK, max_eq_left (floor_le_one.trans (EReal.coe_le_coe_iff.2 hD))]
  rw [← hsplit]
  · refine Finset.sum_congr rfl fun j hj => ?_
    rw [hk j (Finset.mem_range.1 hj), hr, mul_comm]
  · intro j hj
    rw [hr, Ideal.div_coe hne]
    simp [e, hj]

/-- The scale over the logarithm of two. -/
theorem scale_real : ∃ a : ℝ, Ideal.ofBits .f32 0x3D93CD3A#32 = (a : EReal) ∧
    Ideal.div (Ideal.ofBits .f32 0x3D93CD3A#32) (Ideal.log (Ideal.ofBits .f32 0x40000000#32)) = ((a / Real.log 2 : ℝ) : EReal) := by
  have h2 : Ideal.ofBits .f32 0x40000000#32 = ((2 : ℝ) : EReal) := by
    simp [Ideal.ofBits, Ideal.ieee]
    rw [← EReal.coe_mul]
    congr 1
    norm_num
  have ha : ∃ a : ℝ, Ideal.ofBits .f32 0x3D93CD3A#32 = (a : EReal) := by
    simp [Ideal.ofBits, Ideal.ieee]
    exact ⟨_, (EReal.coe_mul _ _).symm⟩
  obtain ⟨a, ha⟩ := ha
  refine ⟨a, ha, ?_⟩
  rw [h2, ha, Ideal.log_coe, if_neg (by norm_num), Ideal.div_coe (Real.log_pos (by norm_num)).ne', ← EReal.coe_mul]
  congr 1
  ring

/-- The padded products of the scaled queries are the scaled products over `log 2`. -/
theorem score_real (q : Fin 192 → EReal) (kn : Fin 128 → EReal) (kr : Fin 64 → EReal)
    (hq : ∀ l, ∃ x : ℝ, q l = (x : EReal)) (hn : ∀ l, ∃ x : ℝ, kn l = (x : EReal)) (hr : ∀ l, ∃ x : ℝ, kr l = (x : EReal))
    (Q : Fin 256 → EReal) (R : Fin 128 → EReal)
    (hQ : ∀ l, Q l = if h : l.val < 192 then q ⟨l.val, h⟩ * Ideal.div (Ideal.ofBits .f32 0x3D93CD3A#32) (Ideal.log (Ideal.ofBits .f32 0x40000000#32)) else 0)
    (hR : ∀ l, R l = if h : l.val < 64 then kr ⟨l.val, h⟩ else 0) :
    ∃ t : ℝ, (∑ l : Fin 128, q ⟨l.val, by omega⟩ * kn l + ∑ l : Fin 64, kr l * q ⟨128 + l.val, by omega⟩) * Ideal.ofBits .f32 0x3D93CD3A#32 = (t : EReal)
      ∧ ∑ l : Fin 128, Q ⟨l.val, by omega⟩ * kn l + ∑ l : Fin 128, Q ⟨128 + l.val, by omega⟩ * R l = ((t / Real.log 2 : ℝ) : EReal) := by
  choose q' hq using hq
  choose n' hn using hn
  choose r' hr using hr
  obtain ⟨a, ha, hb⟩ := scale_real
  refine ⟨(∑ l : Fin 128, q' ⟨l.val, by omega⟩ * n' l + ∑ l : Fin 64, r' l * q' ⟨128 + l.val, by omega⟩) * a, ?_, ?_⟩
  · rw [ha, EReal.coe_mul, EReal.coe_add, coe_sum, coe_sum]
    simp only [hq, hn, hr, EReal.coe_mul]
  · have e1 : ∑ l : Fin 128, Q ⟨l.val, by omega⟩ * kn l = ((∑ l : Fin 128, q' ⟨l.val, by omega⟩ * n' l * (a / Real.log 2) : ℝ) : EReal) := by
      rw [coe_sum]
      refine Finset.sum_congr rfl fun l _ => ?_
      rw [hQ, dif_pos (show l.val < 192 by omega), hb, hq, hn, ← EReal.coe_mul, ← EReal.coe_mul]
      congr 1; ring
    have e2 : ∑ l : Fin 128, Q ⟨128 + l.val, by omega⟩ * R l = ((∑ l : Fin 64, r' l * q' ⟨128 + l.val, by omega⟩ * (a / Real.log 2) : ℝ) : EReal) := by
      rw [show (∑ l : Fin 128, Q ⟨128 + l.val, by omega⟩ * R l) = ∑ l : Fin (64 + 64), Q ⟨128 + l.val, by omega⟩ * R l from rfl,
        Fin.sum_univ_add, coe_sum]
      rw [show (∑ l : Fin 64, Q ⟨128 + (Fin.natAdd 64 l).val, by omega⟩ * R (Fin.natAdd 64 l)) = 0 from
        Finset.sum_eq_zero fun l _ => by rw [hR, dif_neg (by simp), mul_zero], add_zero]
      refine Finset.sum_congr rfl fun l _ => ?_
      rw [hQ, dif_pos (show 128 + (Fin.castAdd 64 l).val < 192 by simp; omega), hb, hq, hR, dif_pos (show (Fin.castAdd 64 l).val < 64 by simp), hr,
        ← EReal.coe_mul, ← EReal.coe_mul]
      congr 1
      show q' ⟨128 + l.val, _⟩ * _ * r' l = _
      ring
    rw [e1, e2, ← EReal.coe_add]
    congr 1
    rw [← Finset.sum_mul, ← Finset.sum_mul]
    ring

end Cert.Flash

end
-- ==== Proof.Ref.lean ====
/-
  The reference at an index.
-/
module

public import proofs.«01_k».proof.Proof.Gen.ReferenceIdeal.Run
public import Idealize.ShloMosaic.Lib.Pointwise
public import Idealize.ShloMosaic.Lib.Claim
public import proofs.«01_k».proof.Proof.Equation

@[expose] public section

noncomputable section

namespace Cert.Flash.Ref

open Idealize.ShloMosaic Cert.ReferenceIdeal Cert.ReferenceIdeal.Gen Idealize.ShloMosaic.TcCoe Idealize.ShloMosaic.Tactic

/-- The causal mask: key `j` is not after query `s`. -/
def causal : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The scaled products of the queries with the keys. -/
def products (q : FVec Ideal S8x4096x16x192 .f32) (kv : FVec Ideal S8x4096x16x256 .f32) (k : FVec Ideal S8x4096x64 .f32) :
    FVec Ideal S8x16x4096x4096 .f32 :=
  mulf (addf (Host.dotGeneral dot_S8x4096x16x128_S8x4096x16x128_S8x16x4096x4096_3_3_1_1_02_02 none
        (extractStridedSlice S8x4096x16x128 ![0, 0, 0, 0] q slices_S8x4096x16x192_S8x4096x16x128_0_0_0_0)
        (extractStridedSlice S8x4096x16x128 ![0, 0, 0, 0] kv slices_S8x4096x16x256_S8x4096x16x128_0_0_0_0))
      (transpose S8x16x4096x4096 [0, 3, 2, 1] (Host.dotGeneral dot_S8x4096x64_S8x4096x16x64_S8x4096x4096x16_2_3_1_12_0_0 none k
        (extractStridedSlice S8x4096x16x64 ![0, 0, 0, 128] q slices_S8x4096x16x192_S8x4096x16x64_0_0_0_128))
        transposes_S8x4096x4096x16_S8x16x4096x4096_0_3_2_1))
    (broadcastInDim S8x16x4096x4096 ![] bcast_S_S8x16x4096x4096 (constant S_ .f32 0x3D93CD3A#32))

/-- `x` where the mask is set, else the constant of word `w`. -/
def masked (x : FVec Ideal S8x16x4096x4096 .f32) (w : BitVec 32) : FVec Ideal S8x16x4096x4096 .f32 :=
  select (broadcastInDim S8x16x4096x4096 ![2, 3] bcast_S4096x4096_S8x16x4096x4096_2_3 causal) x
    (broadcastInDim S8x16x4096x4096 ![] bcast_S_S8x16x4096x4096 (id (constant S_ .f32 w)))

/-- Each row's largest entry. -/
def tops (x : FVec Ideal S8x16x4096x4096 .f32) : FVec Ideal S8x16x4096 .f32 :=
  Host.reduce FloatOps.maximumf x (constant (F := Ideal) S_ .f32 0xFF800000#32) reducesTo_S8x16x4096x4096_S8x16x4096_d3 h_S_

/-- A value of each row, along the row. -/
def along (x : FVec Ideal S8x16x4096x1 .f32) : FVec Ideal S8x16x4096x4096 .f32 :=
  broadcastInDim S8x16x4096x4096 ![0, 1, 2, 3] bcast_S8x16x4096x1_S8x16x4096x4096_0_1_2_3 x

/-- A row's value as a column. -/
def column (x : FVec Ideal S8x16x4096 .f32) : FVec Ideal S8x16x4096x1 .f32 :=
  broadcastInDim S8x16x4096x1 ![0, 1, 2] bcast_S8x16x4096_S8x16x4096x1_0_1_2 x

/-- The exponentials of the entries less their row's largest, nothing where the mask is off. -/
def powers (x : FVec Ideal S8x16x4096x4096 .f32) : FVec Ideal S8x16x4096x4096 .f32 :=
  masked (Host.exp (subf x (along (column (tops x))))) 0x00000000#32

/-- Each row's sum, at least the small constant. -/
def totals (x : FVec Ideal S8x16x4096x4096 .f32) : FVec Ideal S8x16x4096x1 .f32 :=
  maximumf (column (Host.reduceAdd x (constant S_ .f32 0x00000000#32) reducesTo_S8x16x4096x4096_S8x16x4096_d3 h_S_))
    (broadcastInDim S8x16x4096x1 ![] bcast_S_S8x16x4096x1 (constant S_ .f32 0x0DA24260#32))

/-- The weighted values. -/
def mixed (kv : FVec Ideal S8x4096x16x256 .f32) (x : FVec Ideal S8x16x4096x4096 .f32) : FVec Ideal S8x4096x2048 .bf16 :=
  truncf .bf16 (shapeCast S8x4096x2048 (transpose S8x4096x16x128 [0, 3, 1, 2]
    (Host.dotGeneral dot_S8x4096x16x128_S8x16x4096x4096_S8x16x128x4096_1_3_3_2_02_01 none
      (extractStridedSlice S8x4096x16x128 ![0, 0, 0, 128] kv slices_S8x4096x16x256_S8x4096x16x128_0_0_0_128) x)
    transposes_S8x16x128x4096_S8x4096x16x128_0_3_1_2) shapeCasts_S8x4096x16x128_S8x4096x2048) bitsLt_bf16_f32

theorem res_eq (m : (ℓ : Loc nD τ sig) → Buf (Elt Ideal) ℓ) (c : Dev nD) (q kv k)
    (hq : q = m ((c : Thread nD τ).loc main_arg0)) (hkv : kv = m ((c : Thread nD τ).loc main_arg1)) (hk : k = m ((c : Thread nD τ).loc main_arg2)) :
    Cert.ReferenceIdeal.Value.res_main_v32 m c =
      mixed kv (Host.divf (powers (masked (products q kv k) 0xFF800000#32)) (along (totals (powers (masked (products q kv k) 0xFF800000#32))))) := by
  subst hq hkv hk
  rfl

theorem causal_apply (s j : Fin 4096) : causal (ix2 s j) = if j.val ≤ s.val then 1#1 else 0#1 := by
  pointwise [causal]
  have word : ∀ x : Fin 4096, (BitVec.ofNat 32 x.val).toInt = x.val := fun x => by
    have hx := x.isLt
    have e : (BitVec.ofNat 32 x.val).toNat = x.val := by rw [BitVec.toNat_ofNat]; omega
    rw [BitVec.toInt_eq_toNat_of_lt (by omega), e]
  simp only [IntOp.cmpi, BitVec.sle, word, Nat.cast_le]
  by_cases e : j.val ≤ s.val <;> simp [e]

/-- The scores of one query with all keys. -/
def score (q : FVec Ideal S8x4096x16x192 .f32) (kv : FVec Ideal S8x4096x16x256 .f32) (k : FVec Ideal S8x4096x64 .f32)
    (b : Fin 8) (h : Fin 16) (s : Fin 4096) (j : Fin 4096) : EReal :=
  (∑ l : Fin 128, q (ix4 b s h ⟨l.val, by omega⟩) * kv (ix4 b j h ⟨l.val, by omega⟩)
    + ∑ l : Fin 64, k (ix3 b j l) * q (ix4 b s h ⟨128 + l.val, by omega⟩)) * Ideal.ofBits .f32 0x3D93CD3A#32

theorem products_apply (q kv k) (b : Fin 8) (h : Fin 16) (s j : Fin 4096) : products q kv k (ix4 b h s j) = score q kv k b h s j := by
  pointwise [products]
  rfl

theorem masked_apply (x w) (b : Fin 8) (h : Fin 16) (s j : Fin 4096) :
    masked x w (ix4 b h s j) = if j.val ≤ s.val then x (ix4 b h s j) else Ideal.ofBits .f32 w := by
  pointwise [masked]
  rw [causal_apply]
  by_cases e : j.val ≤ s.val
  · rw [if_pos e, if_pos e]; rfl
  · rw [if_neg e, if_neg e]; rfl

theorem bot_word : Ideal.ofBits .f32 0xFF800000#32 = ⊥ := by
  simp [Ideal.ofBits, Ideal.ieee]

theorem seen_apply (q kv k) (b : Fin 8) (h : Fin 16) (s j : Fin 4096) :
    masked (products q kv k) 0xFF800000#32 (ix4 b h s j) = seen (score q kv k b h s) s.val j := by
  rw [masked_apply, products_apply, bot_word]; rfl

theorem powers_apply (x : FVec Ideal S8x16x4096x4096 .f32) (b : Fin 8) (h : Fin 16) (s j : Fin 4096) :
    powers x (ix4 b h s j) = if j.val ≤ s.val then Ideal.exp (x (ix4 b h s j) - Finset.univ.fold max ⊥ fun i => x (ix4 b h s i)) else 0 := by
  have e : Host.exp (subf x (along (column (tops x)))) (ix4 b h s j)
      = Ideal.exp (x (ix4 b h s j) - Finset.univ.fold max (Ideal.ofBits .f32 0xFF800000#32) fun i => x (ix4 b h s i)) := by
    pointwise [along, column, tops]
  unfold powers
  rw [masked_apply, Ideal.ofBits_zero_f32, e, bot_word]

theorem power_apply (q kv k) (b : Fin 8) (h : Fin 16) (s j : Fin 4096) :
    powers (masked (products q kv k) 0xFF800000#32) (ix4 b h s j) = power (score q kv k b h s) s.val j := by
  rw [powers_apply]
  simp only [seen_apply]
  rfl

theorem mixed_apply (x : FVec Ideal S8x4096x16x256 .f32) (y : FVec Ideal S8x16x4096x4096 .f32) (b : Fin 8) (h : Fin 16) (s : Fin 4096) (d : Fin 128) :
    mixed x (Host.divf y (along (totals y))) (ix3 b s ⟨128 * h.val + d.val, by omega⟩) =
      ∑ j : Fin 4096, x (ix4 b j h ⟨128 + d.val, by omega⟩) *
        Ideal.div (y (ix4 b h s j)) (max (∑ i, y (ix4 b h s i)) (Ideal.ofBits .f32 0x0DA24260#32)) := by
  pointwise [mixed, along, totals, column]

/-- The reference at a query's lane: the values weighted by the softmax of the query's scores. -/
theorem ref_apply (m : (ℓ : Loc nD τ sig) → Buf (Elt Ideal) ℓ) (c : Dev nD) (q kv k)
    (hq : q = m ((c : Thread nD τ).loc main_arg0)) (hkv : kv = m ((c : Thread nD τ).loc main_arg1)) (hk : k = m ((c : Thread nD τ).loc main_arg2))
    (b : Fin 8) (h : Fin 16) (s : Fin 4096) (d : Fin 128) :
    (Cert.ReferenceIdeal.Value.res_main_v32 m c : FVec Ideal S8x4096x2048 .bf16) (ix3 b s ⟨128 * h.val + d.val, by omega⟩) =
      attended (score q kv k b h s) s.val fun j => kv (ix4 b j h ⟨128 + d.val, by omega⟩) := by
  rw [res_eq m c q kv k hq hkv hk, mixed_apply]
  simp only [power_apply]
  rfl

end Cert.Flash.Ref

end
-- ==== Proof.Attend.lean ====
/-
  One block's quotient is the reference's weighted values; and the reference's result as one array.
-/
module

public import proofs.«01_k».proof.Proof.Block
public import proofs.«01_k».proof.Proof.Host
public import proofs.«01_k».proof.Proof.Ref

@[expose] public section

noncomputable section

namespace Cert.Flash

open Idealize.ShloMosaic Cert.KernelIdeal Cert.KernelIdeal.Gen Idealize.ShloMosaic.TcCoe Idealize.ShloMosaic.Tactic

/-! ## One block -/

/-- The numbers that make a score are real. -/
structure Finite (q : FVec Ideal S8x4096x16x192 .f32) (kv : FVec Ideal S8x4096x16x256 .f32) (k : FVec Ideal S8x4096x64 .f32) : Prop where
  query : ∀ i, ∃ x : ℝ, q i = (x : EReal)
  keys : ∀ b j h (l : Fin 128), ∃ x : ℝ, kv (ix4 b j h ⟨l.val, by omega⟩) = (x : EReal)
  rope : ∀ i, ∃ x : ℝ, k i = (x : EReal)

theorem quotient_eq {q kv k} (fin : Finite q kv k) (X0 : Vec Ideal S1x512x1024 .bf16) (X1 : Vec Ideal S1x4096x1024 .bf16)
    (X2 : Vec Ideal S1x4096x128 .bf16) (b : Fin 8) (hd : Fin 16) (s : Fin 4096) (qi : ℕ) (h : Fin 4) (r : Fin 512)
    (hsv : s.val = 512 * qi + r.val)
    (h0 : ∀ l : Fin 256, X0 (ix3 0 r ⟨256 * h.val + l.val, by omega⟩) = padQ q (ix4 b s hd l))
    (h1 : ∀ (j : Fin 4096) (l : Fin 256), X1 (ix3 0 j ⟨256 * h.val + l.val, by omega⟩) = kv (ix4 b j hd l))
    (h2 : ∀ (j : Fin 4096) (l : Fin 128), X2 (ix3 0 j l) = padK k (ix3 b j l)) :
    (∀ j, score X0 X1 X2 qi h r j < ⊤) ∧ ∀ d : Fin 128,
      quotient X0 X1 X2 qi h r d = attended (Ref.score q kv k b hd s) s.val fun j => kv (ix4 b j hd ⟨128 + d.val, by omega⟩) := by
  have hj : ∀ j : Fin 4096, ∃ t : ℝ, Ref.score q kv k b hd s j = (t : EReal) ∧
      ∑ l : Fin 128, padQ q (ix4 b s hd ⟨l.val, by omega⟩) * kv (ix4 b j hd ⟨l.val, by omega⟩)
        + ∑ l : Fin 128, padQ q (ix4 b s hd ⟨128 + l.val, by omega⟩) * padK k (ix3 b j l) = ((t / Real.log 2 : ℝ) : EReal) := fun j =>
    score_real (fun l => q (ix4 b s hd l)) (fun l => kv (ix4 b j hd ⟨l.val, by omega⟩)) (fun l => k (ix3 b j l))
      (fun l => fin.query _) (fun l => fin.keys b j hd l) (fun l => fin.rope _)
      (fun l => padQ q (ix4 b s hd l)) (fun l => padK k (ix3 b j l)) (fun l => padQ_apply q b s hd l) (fun l => padK_apply k b j l)
  choose t ht hd' using hj
  have hdot : ∀ j, dotp X0 X1 X2 h r j = ((t (key j) / Real.log 2 : ℝ) : EReal) := fun j => by
    rw [← hd' (key j)]
    unfold dotp
    refine congrArg₂ (· + ·) (Finset.sum_congr rfl fun l _ => ?_) (Finset.sum_congr rfl fun l _ => ?_)
    · exact congrArg₂ (· * ·) (h0 ⟨l.val, by omega⟩) (h1 (key j) ⟨l.val, by omega⟩)
    · exact congrArg₂ (· * ·) (h0 ⟨128 + l.val, by omega⟩) (h2 (key j) l)
  have hscore : score X0 X1 X2 qi h r = scaled t s.val := funext fun j => by
    unfold score scaled
    rw [hsv, hdot]
  have hlt : ∀ j, scaled t s.val j < ⊤ := fun j => by
    unfold scaled
    split_ifs
    · exact EReal.coe_lt_top _
    · exact bot_lt_top
  have hn : 512 * qi + 512 ≤ 4096 := by have := s.isLt; have := r.isLt; omega
  refine ⟨fun j => hscore ▸ hlt j, fun d => ?_⟩
  unfold quotient
  rw [hscore, result (scaled t s.val) _ _ hlt ⟨0, by omega, by unfold scaled; rw [if_pos (Nat.zero_le _)]; exact EReal.bot_lt_coe _⟩]
  rw [show Ref.score q kv k b hd s = fun j => (t j : EReal) from funext ht]
  rw [← weights_eq t _ s.val (512 * qi + 512) (by have := r.isLt; omega) hn]
  refine Finset.sum_congr rfl fun j _ => congrArg₂ (· * ·) rfl ?_
  refine Eq.trans ?_ (h1 (key j) ⟨128 + d.val, by omega⟩)
  unfold value
  refine congrArg X1 (congrArg (ix3 0 (key j)) (Fin.ext ?_))
  show 256 * h.val + 128 + d.val = 256 * h.val + (128 + d.val)
  omega

/-! ## The reference's result -/

/-- The result, lane by lane of the row of all heads. -/
def attention (q : FVec Ideal S8x4096x16x192 .f32) (kv : FVec Ideal S8x4096x16x256 .f32) (k : FVec Ideal S8x4096x64 .f32) :
    FVec Ideal S8x4096x2048 .bf16 := fun i =>
  attended (Ref.score q kv k (i 0) ⟨(i 2).val / 128, by have : (i 2).val < 2048 := (i 2).isLt; omega⟩ (i 1)) (i 1).val fun j =>
    kv (ix4 (i 0) j ⟨(i 2).val / 128, by have : (i 2).val < 2048 := (i 2).isLt; omega⟩ ⟨128 + (i 2).val % 128, by omega⟩)

theorem attention_apply (q : FVec Ideal S8x4096x16x192 .f32) (kv : FVec Ideal S8x4096x16x256 .f32) (k : FVec Ideal S8x4096x64 .f32)
    (b : Fin 8) (s : Fin 4096) (x : Fin 2048) (hd : Fin 16) (d : Fin 128) (hx : x.val = 128 * hd.val + d.val) :
    attention q kv k (ix3 b s x) = attended (Ref.score q kv k b hd s) s.val fun j => kv (ix4 b j hd ⟨128 + d.val, by omega⟩) := by
  have e1 : (⟨x.val / 128, by omega⟩ : Fin 16) = hd := Fin.ext (show x.val / 128 = hd.val by omega)
  have e2 : (⟨128 + x.val % 128, by omega⟩ : Fin 256) = ⟨128 + d.val, by omega⟩ := Fin.ext (show 128 + x.val % 128 = 128 + d.val by omega)
  show attended (Ref.score q kv k b ⟨x.val / 128, _⟩ s) s.val (fun j => kv (ix4 b j ⟨x.val / 128, _⟩ ⟨128 + x.val % 128, _⟩)) = _
  rw [e1, e2]

/-- The reference's result is the same array. -/
theorem reference_eq (m : (ℓ : Loc Cert.ReferenceIdeal.nD Cert.ReferenceIdeal.τ Cert.ReferenceIdeal.sig) → Buf (Elt Ideal) ℓ) (c : Dev Cert.ReferenceIdeal.nD) (q kv k)
    (hq : q = m ((c.tc : Thread _ _).loc Cert.ReferenceIdeal.main_arg0)) (hkv : kv = m ((c.tc : Thread _ _).loc Cert.ReferenceIdeal.main_arg1)) (hk : k = m ((c.tc : Thread _ _).loc Cert.ReferenceIdeal.main_arg2)) :
    Cert.ReferenceIdeal.Value.res_main_v32 m c = attention q kv k := by
  funext i
  have h2 : (i 2).val < 2048 := (i 2).isLt
  have hi : i = (ix3 (i 0) (i 1) ⟨128 * ((i 2).val / 128) + (i 2).val % 128, by omega⟩ : S8x4096x2048.Idx) := by
    funext a
    apply Fin.ext
    match a with
    | ⟨0, _⟩ => rfl
    | ⟨1, _⟩ => rfl
    | ⟨2, _⟩ => show (i 2).val = 128 * ((i 2).val / 128) + (i 2).val % 128; omega
  refine (congrArg _ hi).trans ((Ref.ref_apply m c q kv k hq hkv hk (i 0) ⟨(i 2).val / 128, by omega⟩ (i 1) ⟨(i 2).val % 128, by omega⟩).trans ?_)
  rfl

end Cert.Flash

end
-- ==== Proof.Blocks.lean ====
/-
  The blocks of the arrays that a grid point reads.
-/
module

public import proofs.«01_k».proof.Proof.Gen.KernelIdeal.Value
public import Idealize.ShloMosaic.Lib.Pointwise
public import Idealize.ShloMosaic.Lib.Pipeline.ValueKit.Geometry

@[expose] public section

noncomputable section

namespace Cert.Flash

open Idealize.ShloMosaic Cert.KernelIdeal Cert.KernelIdeal.Gen Idealize.ShloMosaic.TcCoe Idealize.ShloMosaic.Tactic

/-! ## The blocks of the arrays -/

theorem coords_of : ∀ t : Fin grid0.N,
    (grid0.coords t 0).val = t.val / 32 ∧ (grid0.coords t 1).val = t.val / 8 % 4 ∧ (grid0.coords t 2).val = t.val % 8 := by
  decide +kernel

theorem point_lt (t : Fin cfg0.N) : t.val < 256 := lt_of_lt_of_eq t.isLt N_0

theorem tile_of (t : Fin cfg0.N) : (grid0.coords t 2).val = t.val % 8 := (coords_of t).2.2

/-- A small number, as a word and back. -/
theorem word_back (n : ℕ) (h : n < 256) : (BitVec.ofNat 32 n).toNat = n := by
  rw [BitVec.toNat_ofNat]; omega

theorem index_query (t : Fin cfg0.N) : win0_0.index t 0 = t.val / 32 ∧ win0_0.index t 1 = t.val % 8 ∧ win0_0.index t 2 = t.val / 8 % 4 := by
  have ht := point_lt t
  obtain ⟨e0, e1, e2⟩ := coords_of t
  refine ⟨?_, ?_, ?_⟩
  · show (BitVec.ofNat 32 (grid0.coords t 0).val).toNat = _
    rw [e0, word_back _ (by omega)]
  · show (BitVec.ofNat 32 (grid0.coords t 2).val).toNat = _
    rw [e2, word_back _ (by omega)]
  · show (BitVec.ofNat 32 (grid0.coords t 1).val).toNat = _
    rw [e1, word_back _ (by omega)]

theorem index_keys (t : Fin cfg0.N) : win0_1.index t 0 = t.val / 32 ∧ win0_1.index t 1 = 0 ∧ win0_1.index t 2 = t.val / 8 % 4 := by
  have ht := point_lt t
  obtain ⟨e0, e1, e2⟩ := coords_of t
  refine ⟨?_, ?_, ?_⟩
  · show (BitVec.ofNat 32 (grid0.coords t 0).val).toNat = _
    rw [e0, word_back _ (by omega)]
  · rfl
  · show (BitVec.ofNat 32 (grid0.coords t 1).val).toNat = _
    rw [e1, word_back _ (by omega)]

theorem index_rope (t : Fin cfg0.N) : win0_2.index t 0 = t.val / 32 ∧ win0_2.index t 1 = 0 ∧ win0_2.index t 2 = 0 := by
  have ht := point_lt t
  obtain ⟨e0, e1, e2⟩ := coords_of t
  refine ⟨?_, ?_, ?_⟩
  · show (BitVec.ofNat 32 (grid0.coords t 0).val).toNat = _
    rw [e0, word_back _ (by omega)]
  · rfl
  · rfl

theorem index_out (t : Fin cfg0.N) : win0_3.index t 0 = t.val / 32 ∧ win0_3.index t 1 = t.val % 8 ∧ win0_3.index t 2 = t.val / 8 % 4 := by
  have ht := point_lt t
  obtain ⟨e0, e1, e2⟩ := coords_of t
  refine ⟨?_, ?_, ?_⟩
  · show (BitVec.ofNat 32 (grid0.coords t 0).val).toNat = _
    rw [e0, word_back _ (by omega)]
  · show (BitVec.ofNat 32 (grid0.coords t 2).val).toNat = _
    rw [e2, word_back _ (by omega)]
  · show (BitVec.ofNat 32 (grid0.coords t 1).val).toNat = _
    rw [e1, word_back _ (by omega)]

variable (m : (ℓ : Loc nD τ sig) → Buf (Elt Ideal) ℓ)

theorem place_query (t : Fin cfg0.N) (r : Fin 512) (x : Fin 1024) :
    (((cfg0.win 0).blk t).view.emb (ix3 0 r x : S1x512x1024.Idx) : S8x4096x4096.Idx) = ix3 ⟨t.val / 32, by have := point_lt t; omega⟩ ⟨512 * (t.val % 8) + r.val, by omega⟩ ⟨1024 * (t.val / 8 % 4) + x.val, by omega⟩ := by
  have hi := index_query t
  blk_ext [hi.1, hi.2.1, hi.2.2]

theorem read_query (f : FVec Ideal S8x4096x4096 .bf16) (t : Fin cfg0.N) (y : S1x512x1024.Idx) :
    (((cfg0.win 0).blk t).view.read (Elt Ideal) f : Vec Ideal S1x512x1024 .bf16) y = f (((cfg0.win 0).blk t).view.emb y) := rfl

theorem block_query (c : Dev nD) (t : Fin cfg0.N) (r : Fin 512) (x : Fin 1024) :
    (iblk m c 0 t : Vec Ideal S1x512x1024 .bf16) (ix3 0 r x) = (V m c main_v9 : FVec Ideal S8x4096x4096 .bf16) (ix3 ⟨t.val / 32, by have := point_lt t; omega⟩ ⟨512 * (t.val % 8) + r.val, by omega⟩ ⟨1024 * (t.val / 8 % 4) + x.val, by omega⟩) :=
  (read_query (V m c main_v9) t (ix3 0 r x)).trans (congrArg (V m c main_v9 : FVec Ideal S8x4096x4096 .bf16) (place_query t r x))

theorem place_keys (t : Fin cfg0.N) (j : Fin 4096) (x : Fin 1024) :
    (((cfg0.win 1).blk t).view.emb (ix3 0 j x : S1x4096x1024.Idx) : S8x4096x4096.Idx) = ix3 ⟨t.val / 32, by have := point_lt t; omega⟩ j ⟨1024 * (t.val / 8 % 4) + x.val, by omega⟩ := by
  have hi := index_keys t
  blk_ext [hi.1, hi.2.1, hi.2.2]

theorem read_keys (f : FVec Ideal S8x4096x4096 .bf16) (t : Fin cfg0.N) (y : S1x4096x1024.Idx) :
    (((cfg0.win 1).blk t).view.read (Elt Ideal) f : Vec Ideal S1x4096x1024 .bf16) y = f (((cfg0.win 1).blk t).view.emb y) := rfl

theorem block_keys (c : Dev nD) (t : Fin cfg0.N) (j : Fin 4096) (x : Fin 1024) :
    (iblk m c 1 t : Vec Ideal S1x4096x1024 .bf16) (ix3 0 j x) = (V m c main_v10 : FVec Ideal S8x4096x4096 .bf16) (ix3 ⟨t.val / 32, by have := point_lt t; omega⟩ j ⟨1024 * (t.val / 8 % 4) + x.val, by omega⟩) :=
  (read_keys (V m c main_v10) t (ix3 0 j x)).trans (congrArg (V m c main_v10 : FVec Ideal S8x4096x4096 .bf16) (place_keys t j x))

theorem place_rope (t : Fin cfg0.N) (j : Fin 4096) (l : Fin 128) :
    (((cfg0.win 2).blk t).view.emb (ix3 0 j l : S1x4096x128.Idx) : S8x4096x128.Idx) = ix3 ⟨t.val / 32, by have := point_lt t; omega⟩ j l := by
  have hi := index_rope t
  blk_ext [hi.1, hi.2.1, hi.2.2]

theorem read_rope (f : FVec Ideal S8x4096x128 .bf16) (t : Fin cfg0.N) (y : S1x4096x128.Idx) :
    (((cfg0.win 2).blk t).view.read (Elt Ideal) f : Vec Ideal S1x4096x128 .bf16) y = f (((cfg0.win 2).blk t).view.emb y) := rfl

theorem block_rope (c : Dev nD) (t : Fin cfg0.N) (j : Fin 4096) (l : Fin 128) :
    (iblk m c 2 t : Vec Ideal S1x4096x128 .bf16) (ix3 0 j l) = (V m c main_v7 : FVec Ideal S8x4096x128 .bf16) (ix3 ⟨t.val / 32, by have := point_lt t; omega⟩ j l) :=
  (read_rope (V m c main_v7) t (ix3 0 j l)).trans (congrArg (V m c main_v7 : FVec Ideal S8x4096x128 .bf16) (place_rope t j l))

theorem place_out (t : Fin cfg0.N) (r : Fin 512) (x : Fin 512) :
    (((cfg0.win 3).blk t).view.emb (ix3 0 r x : S1x512x512.Idx) : S8x4096x2048.Idx) = ix3 ⟨t.val / 32, by have := point_lt t; omega⟩ ⟨512 * (t.val % 8) + r.val, by omega⟩ ⟨512 * (t.val / 8 % 4) + x.val, by omega⟩ := by
  have hi := index_out t
  blk_ext [hi.1, hi.2.1, hi.2.2]

theorem read_out (f : FVec Ideal S8x4096x2048 .bf16) (t : Fin cfg0.N) (y : S1x512x512.Idx) :
    (((cfg0.win 3).blk t).view.read (Elt Ideal) f : Vec Ideal S1x512x512 .bf16) y = f (((cfg0.win 3).blk t).view.emb y) := rfl

end Cert.Flash

end
-- ==== Proof.Array.lean ====
/-
  The array that the call leaves: at every query, head and lane, the values weighted by the softmax of the query's scores.
-/
module

public import proofs.«01_k».proof.Proof.Attend
public import proofs.«01_k».proof.Proof.Blocks
public import Idealize.ShloMosaic.Lib.Pipeline.Value

@[expose] public section

noncomputable section

namespace Cert.Flash

open Idealize.ShloMosaic Cert.KernelIdeal Cert.KernelIdeal.Gen Idealize.ShloMosaic.TcCoe Idealize.ShloMosaic.Tactic

variable (m : (ℓ : Loc nD τ sig) → Buf (Elt Ideal) ℓ)

/-! ## The whole array -/

theorem flushed_eq {c : Dev nD} {q kv k} (hq : q = m ((c : Thread nD τ).loc main_arg0)) (hkv : kv = m ((c : Thread nD τ).loc main_arg1))
    (hk : k = m ((c : Thread nD τ).loc main_arg2)) (fin : Finite q kv k) (t : Fin cfg0.N) :
    (dats m 0 c).flushed 3 t = ((cfg0.win 3).blk t).view.read (Elt Ideal) (attention q kv k) := by
  have ht := point_lt t
  have hi := index_out t
  have key : ∀ (h : Fin 4) (r : Fin 512), _ := fun h r =>
    quotient_eq fin (iblk m c 0 t) (iblk m c 1 t) (iblk m c 2 t) ⟨t.val / 32, by omega⟩ ⟨4 * (t.val / 8 % 4) + h.val, by omega⟩
      ⟨512 * (t.val % 8) + r.val, by omega⟩ (grid0.coords t 2).val h r (by rw [tile_of])
      (fun l => by
        rw [block_query, V_query, ← hq]
        refine Eq.trans (congrArg _ (congrArg (ix3 _ _) (Fin.ext ?_))) (cast_apply (padQ q) _ _ _ l)
        show 1024 * (t.val / 8 % 4) + (256 * h.val + l.val) = 256 * (4 * (t.val / 8 % 4) + h.val) + l.val
        omega)
      (fun j l => by
        rw [block_keys, V_keys, ← hkv]
        refine Eq.trans (congrArg _ (congrArg (ix3 _ _) (Fin.ext ?_))) (cast_apply kv _ _ _ l)
        show 1024 * (t.val / 8 % 4) + (256 * h.val + l.val) = 256 * (4 * (t.val / 8 % 4) + h.val) + l.val
        omega)
      (fun j l => by rw [block_rope, V_rope, ← hk]; rfl)
  have hs := fun h r => (key h r).1
  have hout : ∀ (h : Fin 4) (r : Fin 512) (d : Fin 128), (dats m 0 c).flushed 3 t (ix3 0 r ⟨128 * h.val + d.val, by omega⟩)
      = quotient (iblk m c 0 t) (iblk m c 1 t) (iblk m c 2 t) (grid0.coords t 2).val h r d := fun h r d => by
    by_cases h0 : t.val % 2 = 1
    · rw [Cert.KernelIdeal.Value.flushed3_B m c t h0]
      exact blockB c (grid0.coords t) _ _ _ _ _ _ _ _ _ _ _ _ _ _ _ _ _ hs ((hcond0_0 t).mpr h0) h r d
    · rw [Cert.KernelIdeal.Value.flushed3_A m c t h0]
      exact blockA c (grid0.coords t) _ _ _ _ _ _ _ _ _ _ _ _ _ _ _ _ _ hs (fun h => h0 ((hcond0_0 t).mp h)) h r d
  funext y
  have y1 : (y 1).val < 512 := (y 1).isLt
  have y2 : (y 2).val < 512 := (y 2).isLt
  have hy : y = (ix3 0 ⟨(y 1).val, y1⟩ ⟨128 * ((y 2).val / 128) + (y 2).val % 128, by omega⟩ : S1x512x512.Idx) := by
    funext a
    apply Fin.ext
    match a with
    | ⟨0, _⟩ => have : (y 0).val < 1 := (y 0).isLt; show (y 0).val = 0; omega
    | ⟨1, _⟩ => rfl
    | ⟨2, _⟩ => show (y 2).val = 128 * ((y 2).val / 128) + (y 2).val % 128; omega
  generalize hr : (⟨(y 1).val, y1⟩ : Fin 512) = r at hy
  obtain ⟨h, hh⟩ : ∃ h : Fin 4, h.val = (y 2).val / 128 := ⟨⟨(y 2).val / 128, by omega⟩, rfl⟩
  obtain ⟨d, hd⟩ : ∃ d : Fin 128, d.val = (y 2).val % 128 := ⟨⟨(y 2).val % 128, by omega⟩, rfl⟩
  simp only [← hh, ← hd] at hy
  rw [hy, hout h r d, (key h r).2 d]
  refine Eq.trans ?_ (read_out (attention q kv k) t _).symm
  rw [place_out]
  exact (attention_apply q kv k _ _ _ _ d (show 512 * (t.val / 8 % 4) + (128 * h.val + d.val) = 128 * (4 * (t.val / 8 % 4) + h.val) + d.val by omega)).symm

theorem array_eq {c : Dev nD} {q kv k} (hq : q = m ((c : Thread nD τ).loc main_arg0)) (hkv : kv = m ((c : Thread nD τ).loc main_arg1))
    (hk : k = m ((c : Thread nD τ).loc main_arg2)) (fin : Finite q kv k) :
    (dats m 0 c).arrAt 3 cfg0.N = attention q kv k :=
  (dats m 0 c).arrAt_eq_of_cover 3 (attention q kv k) (fun t _ => flushed_eq m hq hkv hk fin t) fun i => by
    have h0 : (i 0 : Nat) < 8 := (i 0).isLt
    have h1 : (i 1 : Nat) < 4096 := (i 1).isLt
    have h2 : (i 2 : Nat) < 2048 := (i 2).isLt
    obtain ⟨t, ht⟩ : ∃ t : Fin cfg0.N, t.val = 32 * (i 0 : Nat) + 8 * ((i 2 : Nat) / 512) + (i 1 : Nat) / 512 :=
      ⟨⟨32 * (i 0 : Nat) + 8 * ((i 2 : Nat) / 512) + (i 1 : Nat) / 512, by rw [show cfg0.N = 256 from N_0]; omega⟩, rfl⟩
    refine ⟨t, flush0_3 t, ?_⟩
    have hi := index_out t
    show i ∈ ((View.whole main_v11).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [hi.1]; omega
    | ⟨1, _⟩ =>
      show win0_3.index t 1 * 512 ≤ (i 1 : Nat) ∧ (i 1 : Nat) < win0_3.index t 1 * 512 + 512
      rw [hi.2.1]; omega
    | ⟨2, _⟩ =>
      show win0_3.index t 2 * 512 ≤ (i 2 : Nat) ∧ (i 2 : Nat) < win0_3.index t 2 * 512 + 512
      rw [hi.2.2]; omega

end Cert.Flash

end
-- ==== Proof.Pre.lean ====
/-
  The precondition, read: every query and every key coordinate is a real number.
-/
module

public import proofs.«01_k».proof.Proof.Attend
public import proofs.«01_k».proof.Pre_finite
public import Idealize.ShloMosaic.Lib.ReduceAll

@[expose] public section

noncomputable section

namespace Cert.Flash

open Idealize.ShloMosaic Idealize.ShloMosaic.Tactic

/-- The shape facts the precondition's operations take. -/
theorem preFacts : Cert.Pre_finite.Facts where
  bcast_S_S8x4096x16x192 := by decide
  reducesTo_S8x4096x16x192_S_d0_1_2_3 := by decide
  h_S_ := by decide
  slices_S8x4096x16x256_S8x4096x16x128_0_0_0_0 := by decide
  bcast_S_S8x4096x16x128 := by decide
  reducesTo_S8x4096x16x128_S_d0_1_2_3 := by decide
  bcast_S_S8x4096x64 := by decide
  reducesTo_S8x4096x64_S_d0_1_2 := by decide

/-- A number whose absolute value compares below infinity is real. -/
theorem real_of_cmp (x : EReal) (h : FloatOps.cmpf (F := Ideal) (φ := .f32) .olt (FloatOps.hostAbsf x) (FloatOps.ofBits .f32 0x7F800000#32) = 1#1) :
    ∃ r : ℝ, x = (r : EReal) := by
  have htop : (FloatOps.ofBits (F := Ideal) .f32 0x7F800000#32 : EReal) = ⊤ := by simp [Ideal.ofBits, Ideal.ieee]
  have h' : BitVec.ofBool (decide (max x (-x) < (FloatOps.ofBits (F := Ideal) .f32 0x7F800000#32 : EReal))) = 1#1 := h
  rw [htop] at h'
  have hlt : max x (-x) < ⊤ := by
    by_contra hn
    rw [decide_eq_false hn] at h'
    exact absurd h' (by decide)
  induction x with
  | bot => simp at hlt
  | top => simp at hlt
  | coe r => exact ⟨r, rfl⟩

/-- Every element of an array passes the test when their conjunction does. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : ∃ r : ℝ, x i = (r : EReal) :=
  real_of_cmp (x i) (Host.reduce_andi_all _ _ _ _ j e i)

/-- The precondition gives the reals the equation of the two sides needs. -/
theorem finite_of (q : FVec Ideal Cert.KernelIdeal.S8x4096x16x192 .f32) (kv : FVec Ideal Cert.KernelIdeal.S8x4096x16x256 .f32)
    (k : FVec Ideal Cert.KernelIdeal.S8x4096x64 .f32)
    (h : @Cert.Pre_finite.fn preFacts Ideal _ q kv k = fun _ => 1#1) : Finite q kv k := by
  have h0 := congrFun h (Shape.Idx.first preFacts.h_S_)
  obtain ⟨h1, hk⟩ := IntOp.andi_eq_one.1 h0
  obtain ⟨hq, hkv⟩ := IntOp.andi_eq_one.1 h1
  refine ⟨real_of_all q _ _ _ _ hq, fun b j hd l => ?_, real_of_all k _ _ _ _ hk⟩
  obtain ⟨r, hr⟩ := real_of_all _ _ _ _ _ hkv (ix4 b j hd l)
  refine ⟨r, ?_⟩
  rw [← hr]
  pointwise []

end Cert.Flash

end
-- ==== Proof.UpRef.lean ====
/-
  The feed-forward part's first call, as the reference computes it, at an index: the norm with its modulation, the product,
  the causal convolution over three rows, the gate.
-/
module

public import proofs.«01_k».proof.Proof.Gen.UpRefIdeal.Run
public import Idealize.ShloMosaic.Lib.Pointwise
public import Idealize.ShloMosaic.Lib.Claim

@[expose] public section

set_option maxRecDepth 8192

noncomputable section

namespace Cert.FfnUp

open Idealize.ShloMosaic Cert.UpRefIdeal Cert.UpRefIdeal.Gen Idealize.ShloMosaic.TcCoe Idealize.ShloMosaic.Tactic

/-! ## The reference's lines, in four stages -/

/-- The norm and its modulation: `rmsnorm(x, g) * (1 + scale) + shift`. -/
def hidden (x : FVec Ideal S8x4096x2048 .f32) (g : FVec Ideal S2048 .f32) (shift scale : FVec Ideal S8x2048 .f32) : FVec Ideal S8x4096x2048 .f32 :=
  addf (mulf (mulf (mulf x (broadcastInDim S8x4096x2048 ![0, 1, 2] bcast_S8x4096x1_S8x4096x2048_0_1_2 (Host.rsqrt (addf (Host.divf
      (broadcastInDim S8x4096x1 ![0, 1] bcast_S8x4096_S8x4096x1_0_1 (Host.reduceAdd (mulf x x) (constant S_ .f32 0x00000000#32) reducesTo_S8x4096x2048_S8x4096_d2 h_S_))
      (broadcastInDim S8x4096x1 ![] bcast_S_S8x4096x1 (constant S_ .f32 0x45000000#32)))
      (broadcastInDim S8x4096x1 ![] bcast_S_S8x4096x1 (constant S_ .f32 0x358637BD#32))))))
      (broadcastInDim S8x4096x2048 ![0, 1, 2] bcast_S1x1x2048_S8x4096x2048_0_1_2 (broadcastInDim S1x1x2048 ![2] bcast_S2048_S1x1x2048_2 g)))
      (broadcastInDim S8x4096x2048 ![0, 1, 2] bcast_S8x1x2048_S8x4096x2048_0_1_2 (addf (broadcastInDim S8x1x2048 ![] bcast_S_S8x1x2048 (constant S_ .f32 0x3F800000#32))
        (broadcastInDim S8x1x2048 ![0, 2] bcast_S8x2048_S8x1x2048_0_2 scale))))
    (broadcastInDim S8x4096x2048 ![0, 1, 2] bcast_S8x1x2048_S8x4096x2048_0_1_2 (broadcastInDim S8x1x2048 ![0, 2] bcast_S8x2048_S8x1x2048_0_2 shift))

/-- The product with the weight, two rows of zeros before each sequence. -/
def padded (h : FVec Ideal S8x4096x2048 .f32) (w : FVec Ideal S2048x11264 .f32) : FVec Ideal S8x4098x11264 .f32 :=
  pad S8x4098x11264 ![0, 2, 0] ![0, 0, 0] ![0, 0, 0] (Host.dotGeneral dot_S8x4096x2048_S2048x11264_S8x4096x11264_2_0_01_1_n_n none h w)
    (sitofp .f32 (constantI S_ 32 0#32)) pads_S8x4096x11264_S8x4098x11264_000_200_000 h_S_

/-- The convolution: each row's sum with the two before it, by the three rows of `cw`, plus the bias. -/
def conv (p : FVec Ideal S8x4098x11264 .f32) (cw : FVec Ideal S3x11264 .f32) (cb : FVec Ideal S11264 .f32) : FVec Ideal S8x4096x11264 .f32 :=
  addf (addf (addf (addf (broadcastInDim S8x4096x11264 ![] bcast_S_S8x4096x11264 (constant S_ .f32 0x00000000#32))
    (mulf (extractStridedSlice S8x4096x11264 ![0, 0, 0] p slices_S8x4098x11264_S8x4096x11264_0_0_0)
      (broadcastInDim S8x4096x11264 ![0, 1, 2] bcast_S1x1x11264_S8x4096x11264_0_1_2 (broadcastInDim S1x1x11264 ![2] bcast_S11264_S1x1x11264_2
        (shapeCast _ (extractStridedSlice S1x11264 ![0, 0] cw slices_S3x11264_S1x11264_0_0) shapeCasts_S1x11264_S11264)))))
    (mulf (extractStridedSlice S8x4096x11264 ![0, 1, 0] p slices_S8x4098x11264_S8x4096x11264_0_1_0)
      (broadcastInDim S8x4096x11264 ![0, 1, 2] bcast_S1x1x11264_S8x4096x11264_0_1_2 (broadcastInDim S1x1x11264 ![2] bcast_S11264_S1x1x11264_2
        (shapeCast _ (extractStridedSlice S1x11264 ![1, 0] cw slices_S3x11264_S1x11264_1_0) shapeCasts_S1x11264_S11264)))))
    (mulf (extractStridedSlice S8x4096x11264 ![0, 2, 0] p slices_S8x4098x11264_S8x4096x11264_0_2_0)
      (broadcastInDim S8x4096x11264 ![0, 1, 2] bcast_S1x1x11264_S8x4096x11264_0_1_2 (broadcastInDim S1x1x11264 ![2] bcast_S11264_S1x1x11264_2
        (shapeCast _ (extractStridedSlice S1x11264 ![2, 0] cw slices_S3x11264_S1x11264_2_0) shapeCasts_S1x11264_S11264)))))
    (broadcastInDim S8x4096x11264 ![0, 1, 2] bcast_S1x1x11264_S8x4096x11264_0_1_2 (broadcastInDim S1x1x11264 ![2] bcast_S11264_S1x1x11264_2 cb))

/-- The gate: the first half's `silu` times the second half, the batch's rows one after the other. -/
def gated (u : FVec Ideal S8x4096x11264 .f32) : FVec Ideal S32768x5632 .bf16 :=
  shapeCast _ (truncf .bf16 (mulf (mulf (extractStridedSlice S8x4096x5632 ![0, 0, 0] u slices_S8x4096x11264_S8x4096x5632_0_0_0)
      (Host.divf (broadcastInDim S8x4096x5632 ![] bcast_S_S8x4096x5632 (constant S_ .f32 0x3F800000#32))
        (addf (broadcastInDim S8x4096x5632 ![] bcast_S_S8x4096x5632 (constant S_ .f32 0x3F800000#32))
          (Host.exp (Host.negf (extractStridedSlice S8x4096x5632 ![0, 0, 0] u slices_S8x4096x11264_S8x4096x5632_0_0_0))))))
    (extractStridedSlice S8x4096x5632 ![0, 0, 5632] u slices_S8x4096x11264_S8x4096x5632_0_0_5632)) bitsLt_bf16_f32) shapeCasts_S8x4096x5632_S32768x5632

/-- All the lines. -/
def result (x : FVec Ideal S8x4096x2048 .f32) (g : FVec Ideal S2048 .f32) (shift scale : FVec Ideal S8x2048 .f32) (w : FVec Ideal S2048x11264 .f32)
    (cw : FVec Ideal S3x11264 .f32) (cb : FVec Ideal S11264 .f32) : FVec Ideal S32768x5632 .bf16 :=
  gated (conv (padded (hidden x g shift scale) w) cw cb)

theorem res_eq (m : (ℓ : Loc nD τ sig) → Buf (Elt Ideal) ℓ) (c : Dev nD) {x g shift scale w cw cb} (hx : x = m ((c.tc : Thread nD τ).loc main_arg0))
    (hg : g = m ((c.tc : Thread nD τ).loc main_arg1)) (hs : shift = m ((c.tc : Thread nD τ).loc main_arg2)) (hc : scale = m ((c.tc : Thread nD τ).loc main_arg3))
    (hw : w = m ((c.tc : Thread nD τ).loc main_arg4)) (hcw : cw = m ((c.tc : Thread nD τ).loc main_arg5)) (hcb : cb = m ((c.tc : Thread nD τ).loc main_arg6)) :
    Cert.UpRefIdeal.Value.res_main_v53 m c = result x g shift scale w cw cb := by
  subst hx hg hs hc hw hcw hcb
  rfl

/-! ## The stages at an index -/

/-- A row's number by which the norm scales it, of the sum of the row's squares: the two words are 2048 and the small number added. -/
abbrev inv (q : EReal) : EReal := Ideal.rsqrt (Ideal.div q (Ideal.ofBits .f32 1157627904#32) + Ideal.ofBits .f32 897988541#32)

theorem hidden_apply (x : FVec Ideal S8x4096x2048 .f32) (g : FVec Ideal S2048 .f32) (shift scale : FVec Ideal S8x2048 .f32)
    (b : Fin 8) (s : Fin 4096) (k : Fin 2048) :
    hidden x g shift scale (ix3 b s k)
      = x (ix3 b s k) * inv (∑ l : Fin 2048, x (ix3 b s l) * x (ix3 b s l)) * g (ix1 k) * (Ideal.ofBits .f32 1065353216#32 + scale (ix2 b k)) + shift (ix2 b k) := by
  pointwise [hidden]

/-- A row of the norm with its modulation. -/
abbrev row (x : Fin 2048 → EReal) (g scale shift : Fin 2048 → EReal) (k : Fin 2048) : EReal :=
  x k * inv (∑ l : Fin 2048, x l * x l) * g k * (1 + scale k) + shift k

theorem hidden_row (x : FVec Ideal S8x4096x2048 .f32) (g : FVec Ideal S2048 .f32) (shift scale : FVec Ideal S8x2048 .f32)
    (b : Fin 8) (s : Fin 4096) (k : Fin 2048) : hidden x g shift scale (ix3 b s k)
    = row (fun l => x (ix3 b s l)) (fun l => g (ix1 l)) (fun l => scale (ix2 b l)) (fun l => shift (ix2 b l)) k := by
  rw [hidden_apply, Ideal.ofBits_one_f32]

theorem padded_apply (h : FVec Ideal S8x4096x2048 .f32) (w : FVec Ideal S2048x11264 .f32) (b : Fin 8) (p : Fin 4098) (n : Fin 11264) :
    padded h w (ix3 b p n) = if hp : 2 ≤ p.val then ∑ k : Fin 2048, h (ix3 b ⟨p.val - 2, by omega⟩ k) * w (ix2 k n) else 0 := by
  pointwise [padded]
  by_cases hp : 2 ≤ p.val
  · rw [dif_pos hp, dif_pos ⟨hp, by omega⟩]
  · rw [dif_neg hp, dif_neg fun h => hp h.1]
    simp [FloatOps.sitofp]

theorem conv_apply (p : FVec Ideal S8x4098x11264 .f32) (cw : FVec Ideal S3x11264 .f32) (cb : FVec Ideal S11264 .f32) (b : Fin 8) (s : Fin 4096) (n : Fin 11264) :
    conv p cw cb (ix3 b s n) = p (ix3 b ⟨s.val, by omega⟩ n) * cw (ix2 0 n) + p (ix3 b ⟨1 + s.val, by omega⟩ n) * cw (ix2 1 n)
      + p (ix3 b ⟨2 + s.val, by omega⟩ n) * cw (ix2 2 n) + cb (ix1 n) := by
  pointwise [conv]

theorem gated_apply (u : FVec Ideal S8x4096x11264 .f32) (b : Fin 8) (s : Fin 4096) (n : Fin 5632) :
    gated u (ix2 ⟨4096 * b.val + s.val, by omega⟩ n)
      = u (ix3 b s ⟨n.val, by omega⟩) * Ideal.div 1 (1 + Ideal.exp (-u (ix3 b s ⟨n.val, by omega⟩))) * u (ix3 b s ⟨5632 + n.val, by omega⟩) := by
  pointwise [gated]

end Cert.FfnUp

end
-- ==== Proof.Whole.lean ====
/-
  Whole loads of a buffer, as the calls that begin with a norm make them.
-/
module

public import Idealize.ShloMosaic.PureOps
public import Idealize.ShloMosaic.Lib.Pointwise
public import Idealize.ShloMosaic.Lib.Pipeline.Value
public import Idealize.ShloMosaic.Lib.WritesUnit

@[expose] public section

noncomputable section

namespace Cert.Whole

open Idealize.ShloMosaic Idealize.ShloMosaic.TcCoe Idealize.ShloMosaic.Tactic

/-- What a load of a box of a buffer reads. -/
abbrev rd {sig : RefSig} {s : Shape} {e : EltTy} (m : Memref sig .tc .vmem s e) (X : BufTy.Contents (Elt Ideal) m.view.ty) (off : Fin s.rank → ℕ)
    (b : ∀ a, off a + s.size a ≤ s.size a) : s.Idx → Elt Ideal e :=
  m.view.readAt (Elt Ideal) (Rect.unit off s.size b).toLoadRect X

theorem rd_eq {sig : RefSig} {s : Shape} {e : EltTy} (m : Memref sig .tc .vmem s e) (hm : m.IsWhole) (X : s.Idx → Elt Ideal e) {off : Fin s.rank → ℕ}
    (h : off = fun _ => 0) (b : ∀ a, off a + s.size a ≤ s.size a) : rd m (hm.unread X) off b = X := by
  funext j
  rw [rd, View.readAt_apply, hm.read_unread]
  exact congrFun (View.ld_unit_zero h b X) j

/-- A box that is the whole of the contents reads them. -/
theorem box_eq {s : Shape} {e : EltTy} (X : s.Idx → Elt Ideal e) {off : Fin s.rank → ℕ} (h : off = fun _ => 0) (b : ∀ a, off a + s.size a ≤ s.size a) :
    (fun j => X ((Rect.unit off s.size b).idx j)) = X :=
  View.ld_unit_zero h b X

theorem zero2 : (![0, 0] : Fin 2 → ℕ) = fun _ => 0 := by decide
theorem zero3 : (![0, 0, 0] : Fin 3 → ℕ) = fun _ => 0 := by decide

end Cert.Whole

end
-- ==== Proof.UpStores.lean ====
/-
  One point of the feed-forward part's first call: what its stores leave in the scratch buffer and in the output's block.
-/
module

public import proofs.«01_k».proof.Proof.UpRef
public import proofs.«01_k».proof.Proof.Whole
public import proofs.«01_k».proof.Proof.Gen.UpIdeal.Value

@[expose] public section

set_option maxRecDepth 16384

noncomputable section

namespace Cert.FfnUp

open Idealize.ShloMosaic Cert.Whole Cert.UpIdeal Cert.UpIdeal.Gen Idealize.ShloMosaic.TcCoe Idealize.ShloMosaic.Tactic

/-! ## The body's arithmetic, in named parts -/

/-- Half of the convolution of one block: rows 16 on of the product `u`, each with the two rows before it. -/
def half (u : FVec Ideal S1040x512 .f32) (cw : Vec Ideal S3x512 .f32) (cb : Vec Ideal S1x512 .f32) : FVec Ideal S1024x512 .f32 :=
  addf (addf (addf
    (mulf (broadcastTo S1024x512 (extractStridedSlice S1x512 ![0, 0] cw slices_S3x512_o0_0_S1x512) broadcasts_S1x512_S1024x512)
      (extractStridedSlice S1024x512 ![16, 0] (dynamicRotate 0 2#32 none u rotates_S1040x512_d0) slices_S1040x512_o16_0_S1024x512))
    (mulf (broadcastTo S1024x512 (extractStridedSlice S1x512 ![1, 0] cw slices_S3x512_o1_0_S1x512) broadcasts_S1x512_S1024x512)
      (extractStridedSlice S1024x512 ![16, 0] (dynamicRotate 0 1#32 none u rotates_S1040x512_d0) slices_S1040x512_o16_0_S1024x512)))
    (mulf (broadcastTo S1024x512 (extractStridedSlice S1x512 ![2, 0] cw slices_S3x512_o2_0_S1x512) broadcasts_S1x512_S1024x512)
      (extractStridedSlice S1024x512 ![16, 0] u slices_S1040x512_o16_0_S1024x512)))
    (broadcastTo S1024x512 (shapeCast S1x512 cb shapeCasts_S1x512_S1x512) broadcasts_S1x512_S1024x512)

/-- The gate of one block. -/
def gate (v u : FVec Ideal S1024x512 .f32) : FVec Ideal S1024x512 .bf16 := truncf .bf16 (mulf (mulf v (logistic v)) u) bitsLt_bf16_f32

/-- One block of the output, of the scratch buffer's rows `H`: the products' first 16 rows are scaled by `keep`. -/
def point (keep : EReal) (H : Vec Ideal S1040x2048 .bf16) (wg wu : Vec Ideal S2048x512 .bf16) (cg cu : Vec Ideal S3x512 .f32) (bg bu : Vec Ideal S1x512 .f32) :
    FVec Ideal S1024x512 .bf16 :=
  gate (half (k0_pay14 (F := Ideal) keep H wg) cg bg) (half (k0_pay14 (F := Ideal) keep H wu) cu bu)

theorem prod_apply (keep : EReal) (H : Vec Ideal S1040x2048 .bf16) (w : Vec Ideal S2048x512 .bf16) (p : Fin 1040) (n : Fin 512) :
    k0_pay14 (F := Ideal) keep H w (ix2 p n)
      = if p.val < 16 then (∑ k : Fin 2048, H (ix2 p k) * w (ix2 k n)) * keep else ∑ k : Fin 2048, H (ix2 p k) * w (ix2 k n) := by
  pointwise [k0_pay14]
  by_cases hp : p.val < 16
  · rw [dif_pos hp, if_pos hp]
  · rw [dif_neg hp, if_neg hp]
    have e : (⟨16 + (p.val - 16), by omega⟩ : Fin 1040) = p := Fin.ext (by show 16 + (p.val - 16) = p.val; omega)
    rw [e]

theorem half_apply (u : FVec Ideal S1040x512 .f32) (cw : Vec Ideal S3x512 .f32) (cb : Vec Ideal S1x512 .f32) (r : Fin 1024) (n : Fin 512) :
    half u cw cb (ix2 r n) = cw (ix2 0 n) * u (ix2 ⟨14 + r.val, by omega⟩ n) + cw (ix2 1 n) * u (ix2 ⟨15 + r.val, by omega⟩ n)
      + cw (ix2 2 n) * u (ix2 ⟨16 + r.val, by omega⟩ n) + cb (ix2 0 n) := by
  pointwise [half]
  have e2 : (⟨(16 + r.val + 1040 - 2) % 1040, Nat.mod_lt _ (by decide)⟩ : Fin 1040) = ⟨14 + r.val, by omega⟩ := Fin.ext (by
    show (16 + r.val + 1040 - 2) % 1040 = 14 + r.val; omega)
  have e1 : (⟨(16 + r.val + 1040 - 1) % 1040, Nat.mod_lt _ (by decide)⟩ : Fin 1040) = ⟨15 + r.val, by omega⟩ := Fin.ext (by
    show (16 + r.val + 1040 - 1) % 1040 = 15 + r.val; omega)
  rw [e2, e1]

theorem gate_apply (v u : FVec Ideal S1024x512 .f32) (r : Fin 1024) (n : Fin 512) :
    gate v u (ix2 r n) = v (ix2 r n) * Ideal.div 1 (1 + Ideal.exp (-v (ix2 r n))) * u (ix2 r n) := by
  pointwise [gate]
  rfl

theorem tile_apply (x : Vec Ideal S1024x2048 .f32) (g : Vec Ideal S1x2048 .f32) (scale shift : Vec Ideal S1x1x2048 .f32) (r : Fin 1024) (k : Fin 2048) :
    k0_pay3 (F := Ideal) x g scale shift (ix2 r k)
      = row (fun l => x (ix2 r l)) (fun l => g (ix2 0 l)) (fun l => scale (ix3 0 0 l)) (fun l => shift (ix3 0 0 l)) k := by
  pointwise [k0_pay3]

theorem halo_apply (x : Vec Ideal S16x2048 .f32) (g : Vec Ideal S1x2048 .f32) (scale shift : Vec Ideal S1x1x2048 .f32) (r : Fin 16) (k : Fin 2048) :
    k0_pay7 (F := Ideal) (k0_pay4 x) (k0_pay5 x) k0_pay6 g scale shift (ix2 r k)
      = row (fun l => x (ix2 r l)) (fun l => g (ix2 0 l)) (fun l => scale (ix3 0 0 l)) (fun l => shift (ix3 0 0 l)) k := by
  pointwise [k0_pay7, k0_pay4, k0_pay5, k0_pay6]

/-! ## The scratch buffer's two stores -/

/-- The scratch buffer's two stores: 16 rows, then 1024. -/
abbrev stores (h : Vec Ideal S16x2048 .bf16) (t : Vec Ideal S1024x2048 .bf16) : List (View.Piece (Elt Ideal) S1040x2048 .bf16) :=
  [⟨Rect.unit ![0, 0] S16x2048.size inb_S1040x2048_S16x2048_0_0, h⟩, ⟨Rect.unit ![16, 0] S1024x2048.size inb_S1040x2048_S1024x2048_16_0, t⟩]

theorem stores_low (m : Memref sig .tc .vmem S1040x2048 .bf16) (h : Vec Ideal S16x2048 .bf16) (t : Vec Ideal S1024x2048 .bf16)
    (p : Fin 16) (p' : Fin 1040) (hp : p'.val = p.val) (k : Fin 2048) : View.canon (stores h t) (ix2 p' k) = h (ix2 p k) := by
  rw [← View.read_writes_junk_apply_eq_canon m.view]
  refine View.read_writes_cons_unit_of_mem m.view _ inb_S1040x2048_S16x2048_0_0 h _ (ix2 p' k) (ix2 p k) rfl ?_
  intro a
  fin_cases a
  · show p'.val = 0 + p.val; omega
  · show k.val = 0 + k.val; omega

theorem stores_high (m : Memref sig .tc .vmem S1040x2048 .bf16) (h : Vec Ideal S16x2048 .bf16) (t : Vec Ideal S1024x2048 .bf16)
    (r : Fin 1024) (p' : Fin 1040) (hp : p'.val = 16 + r.val) (k : Fin 2048) : View.canon (stores h t) (ix2 p' k) = t (ix2 r k) := by
  rw [← View.read_writes_junk_apply_eq_canon m.view]
  refine (View.read_writes_cons_unit_of_not_mem m.view _ inb_S1040x2048_S16x2048_0_0 h _ (ix2 p' k) rfl 0 (Or.inr ?_)).trans ?_
  · show 0 + 16 ≤ p'.val; omega
  · refine View.read_writes_cons_unit_of_mem m.view _ inb_S1040x2048_S1024x2048_16_0 t _ (ix2 p' k) (ix2 r k) rfl ?_
    intro a
    fin_cases a
    · exact hp
    · show k.val = 0 + k.val; omega

section

variable (c : Dev nD) (i : grid0.Coords) (arg2 : Memref sig .tc .vmem S1024x2048 .f32) (harg2 : arg2.IsWhole) (arg3 : Memref sig .tc .vmem S16x2048 .f32) (harg3 : arg3.IsWhole)
  (arg4 : Memref sig .tc .vmem S1x2048 .f32) (harg4 : arg4.IsWhole) (arg5 : Memref sig .tc .vmem S1x1x2048 .f32) (harg5 : arg5.IsWhole) (arg6
  : Memref sig .tc .vmem S1x1x2048 .f32) (harg6 : arg6.IsWhole) (arg7 : Memref sig .tc .vmem S2048x512 .bf16) (harg7 : arg7.IsWhole) (arg8 :
  Memref sig .tc .vmem S2048x512 .bf16) (harg8 : arg8.IsWhole) (arg9 : Memref sig .tc .vmem S3x512 .f32) (harg9 : arg9.IsWhole) (arg10 :
  Memref sig .tc .vmem S3x512 .f32) (harg10 : arg10.IsWhole) (arg11 : Memref sig .tc .vmem S1x512 .f32) (harg11 : arg11.IsWhole) (arg12 :
  Memref sig .tc .vmem S1x512 .f32) (harg12 : arg12.IsWhole) (arg13 : Memref sig .tc .vmem S1024x512 .bf16) (harg13 : arg13.IsWhole) (arg14 :
  Memref sig .tc .vmem S1040x2048 .bf16) (harg14 : arg14.IsWhole)
  (x0 : Vec Ideal S1024x2048 .f32) (x1 : Vec Ideal S16x2048 .f32) (x2 : Vec Ideal S1x2048 .f32) (x3 x4 : Vec Ideal S1x1x2048 .f32)
  (x5 x6 : Vec Ideal S2048x512 .bf16) (x7 x8 : Vec Ideal S3x512 .f32) (x9 x10 : Vec Ideal S1x512 .f32)

/-- The rows a point at the start of a row of blocks leaves in the scratch buffer. -/
def rows : Vec Ideal S1040x2048 .bf16 := View.canon (stores (k0_pay7 (F := Ideal) (k0_pay4 x1) (k0_pay5 x1) k0_pay6 x2 x3 x4) (k0_pay3 (F := Ideal) x0 x2 x3 x4))

theorem scratchA (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1
    = stores (k0_pay7 (F := Ideal) (k0_pay4 (rd arg3 (harg3.unread x1) ![0, 0] inb_S16x2048_S16x2048_0_0)) (k0_pay5 (rd arg3 (harg3.unread x1) ![0, 0] inb_S16x2048_S16x2048_0_0)) k0_pay6
          (rd arg4 (harg4.unread x2) ![0, 0] inb_S1x2048_S1x2048_0_0) (rd arg5 (harg5.unread x3) ![0, 0, 0] inb_S1x1x2048_S1x1x2048_0_0_0)
          (rd arg6 (harg6.unread x4) ![0, 0, 0] inb_S1x1x2048_S1x1x2048_0_0_0))
        (k0_pay3 (F := Ideal) (rd arg2 (harg2.unread x0) ![0, 0] inb_S1024x2048_S1024x2048_0_0) (rd arg4 (harg4.unread x2) ![0, 0] inb_S1x2048_S1x2048_0_0)
          (rd arg5 (harg5.unread x3) ![0, 0, 0] inb_S1x1x2048_S1x1x2048_0_0_0) (rd arg6 (harg6.unread x4) ![0, 0, 0] inb_S1x1x2048_S1x1x2048_0_0_0)) := by
  unfold kernelRun0_A
  rfl

theorem outputA (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).1
    = [⟨Rect.unit ![0, 0] S1024x512.size inb_S1024x512_S1024x512_0_0, point (k0_pay1 (F := Ideal) i)
        (arg14.view.readCov ((kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1) (Rect.unit ![0, 0] S1040x2048.size inb_S1040x2048_S1040x2048_0_0).toLoadRect)
        (rd arg7 (harg7.unread x5) ![0, 0] inb_S2048x512_S2048x512_0_0) (rd arg8 (harg8.unread x6) ![0, 0] inb_S2048x512_S2048x512_0_0)
        (rd arg9 (harg9.unread x7) ![0, 0] inb_S3x512_S3x512_0_0) (rd arg10 (harg10.unread x8) ![0, 0] inb_S3x512_S3x512_0_0)
        (rd arg11 (harg11.unread x9) ![0, 0] inb_S1x512_S1x512_0_0) (rd arg12 (harg12.unread x10) ![0, 0] inb_S1x512_S1x512_0_0)⟩] := by
  unfold kernelRun0_A
  rfl

theorem outputB (hc0 : ¬cond0_0 i) (hc1 : cond0_1 i) (xs0 : Vec Ideal S1040x2048 .bf16) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1
    = [⟨Rect.unit ![0, 0] S1024x512.size inb_S1024x512_S1024x512_0_0, point (k0_pay1 (F := Ideal) i) (rd arg14 (harg14.unread xs0) ![0, 0] inb_S1040x2048_S1040x2048_0_0)
        (rd arg7 (harg7.unread x5) ![0, 0] inb_S2048x512_S2048x512_0_0) (rd arg8 (harg8.unread x6) ![0, 0] inb_S2048x512_S2048x512_0_0)
        (rd arg9 (harg9.unread x7) ![0, 0] inb_S3x512_S3x512_0_0) (rd arg10 (harg10.unread x8) ![0, 0] inb_S3x512_S3x512_0_0)
        (rd arg11 (harg11.unread x9) ![0, 0] inb_S1x512_S1x512_0_0) (rd arg12 (harg12.unread x10) ![0, 0] inb_S1x512_S1x512_0_0)⟩] := by
  unfold kernelRun0_B
  rfl

/-- The scratch buffer after a point at the start of a row of blocks. -/
theorem sout_eq (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 = rows x0 x1 x2 x3 x4 := by
  unfold sout0_A_0
  rw [View.read_writes_junk_eq_canon, scratchA, rd_eq arg2 harg2 x0 zero2, rd_eq arg3 harg3 x1 zero2, rd_eq arg4 harg4 x2 zero2,
    rd_eq arg5 harg5 x3 zero3, rd_eq arg6 harg6 x4 zero3]
  rfl

/-- The block a point at the start of a row of blocks writes. -/
theorem outA_eq (hc0 : cond0_0 i) (hc1 : ¬cond0_1 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10
    = point (k0_pay1 (F := Ideal) i) (rows x0 x1 x2 x3 x4) x5 x6 x7 x8 x9 x10 := by
  unfold out0_A_11
  rw [View.read_writes_junk_eq_canon, outputA, View.canon_unit_zero zero2, View.readCov_eq_canon', scratchA, rd_eq arg2 harg2 x0 zero2, rd_eq arg3 harg3 x1 zero2,
    rd_eq arg4 harg4 x2 zero2, rd_eq arg5 harg5 x3 zero3, rd_eq arg6 harg6 x4 zero3, rd_eq arg7 harg7 x5 zero2, rd_eq arg8 harg8 x6 zero2,
    rd_eq arg9 harg9 x7 zero2, rd_eq arg10 harg10 x8 zero2, rd_eq arg11 harg11 x9 zero2, rd_eq arg12 harg12 x10 zero2]
  exact congrArg (fun H => point (k0_pay1 (F := Ideal) i) H x5 x6 x7 x8 x9 x10) (View.ld_unit_zero zero2 _ (rows x0 x1 x2 x3 x4))

/-- The block any other point writes. -/
theorem outB_eq (hc0 : ¬cond0_0 i) (hc1 : cond0_1 i) (xs0 : Vec Ideal S1040x2048 .bf16) : out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
    = point (k0_pay1 (F := Ideal) i) xs0 x5 x6 x7 x8 x9 x10 := by
  unfold out0_B_11
  rw [View.read_writes_junk_eq_canon, outputB, View.canon_unit_zero zero2, rd_eq arg14 harg14 xs0 zero2, rd_eq arg7 harg7 x5 zero2, rd_eq arg8 harg8 x6 zero2,
    rd_eq arg9 harg9 x7 zero2, rd_eq arg10 harg10 x8 zero2, rd_eq arg11 harg11 x9 zero2, rd_eq arg12 harg12 x10 zero2]

end

end Cert.FfnUp

end
-- ==== Proof.UpBlocks.lean ====
/-
  The blocks that the feed-forward part's first call reads, and the array that it leaves: the reference's.
-/
module

public import proofs.«01_k».proof.Proof.UpStores
public import Idealize.ShloMosaic.Lib.Pipeline.ValueKit.Geometry

@[expose] public section

set_option maxRecDepth 16384

noncomputable section

namespace Cert.FfnUp

open Idealize.ShloMosaic Cert.UpIdeal Cert.UpIdeal.Gen Idealize.ShloMosaic.TcCoe Idealize.ShloMosaic.Tactic
open Idealize.ShloMosaic.StableHlo

/-! ## The blocks' places -/

theorem point_lt (t : Fin cfg0.N) : t.val < 352 := lt_of_lt_of_eq t.isLt N_0

theorem coord_row : ∀ t : Fin grid0.N, (grid0.coords t 0).val = t.val / 11 := by decide +kernel
theorem index_tile : ∀ t : Fin grid0.N, win0_0.index t 0 = t.val / 11 ∧ win0_0.index t 1 = 0 := by decide +kernel
theorem index_halo : ∀ t : Fin grid0.N, win0_1.index t 0 = 64 * (t.val / 11) - 1 ∧ win0_1.index t 1 = 0 := by decide +kernel
theorem index_norm : ∀ t : Fin grid0.N, win0_2.index t 0 = 0 ∧ win0_2.index t 1 = 0 := by decide +kernel
theorem index_scale : ∀ t : Fin grid0.N, win0_3.index t 0 = t.val / 44 ∧ win0_3.index t 1 = 0 ∧ win0_3.index t 2 = 0 := by decide +kernel
theorem index_shift : ∀ t : Fin grid0.N, win0_4.index t 0 = t.val / 44 ∧ win0_4.index t 1 = 0 ∧ win0_4.index t 2 = 0 := by decide +kernel
theorem index_wg : ∀ t : Fin grid0.N, win0_5.index t 0 = 0 ∧ win0_5.index t 1 = t.val % 11 := by decide +kernel
theorem index_wu : ∀ t : Fin grid0.N, win0_6.index t 0 = 0 ∧ win0_6.index t 1 = t.val % 11 + 11 := by decide +kernel
theorem index_cg : ∀ t : Fin grid0.N, win0_7.index t 0 = 0 ∧ win0_7.index t 1 = t.val % 11 := by decide +kernel
theorem index_cu : ∀ t : Fin grid0.N, win0_8.index t 0 = 0 ∧ win0_8.index t 1 = t.val % 11 + 11 := by decide +kernel
theorem index_bg : ∀ t : Fin grid0.N, win0_9.index t 0 = 0 ∧ win0_9.index t 1 = t.val % 11 := by decide +kernel
theorem index_bu : ∀ t : Fin grid0.N, win0_10.index t 0 = 0 ∧ win0_10.index t 1 = t.val % 11 + 11 := by decide +kernel
theorem index_out : ∀ t : Fin grid0.N, win0_11.index t 0 = t.val / 11 ∧ win0_11.index t 1 = t.val % 11 := by decide +kernel

theorem place_tile (t : Fin cfg0.N) (r : Fin 1024) (k : Fin 2048) :
    (((cfg0.win 0).blk t).view.emb (ix2 r k : S1024x2048.Idx) : S32768x2048.Idx) = ix2 ⟨1024 * (t.val / 11) + r.val, by have := point_lt t; omega⟩ k := by
  have hi := index_tile t
  blk_ext [hi.1, hi.2]

theorem place_halo (t : Fin cfg0.N) (r : Fin 16) (k : Fin 2048) :
    (((cfg0.win 1).blk t).view.emb (ix2 r k : S16x2048.Idx) : S32768x2048.Idx)
      = ix2 ⟨16 * (64 * (t.val / 11) - 1) + r.val, by have := point_lt t; omega⟩ k := by
  have hi := index_halo t
  blk_ext [hi.1, hi.2]

theorem place_norm (t : Fin cfg0.N) (k : Fin 2048) : (((cfg0.win 2).blk t).view.emb (ix2 0 k : S1x2048.Idx) : S1x2048.Idx) = ix2 0 k := by
  have hi := index_norm t
  blk_ext [hi.1, hi.2]

theorem place_scale (t : Fin cfg0.N) (k : Fin 2048) :
    (((cfg0.win 3).blk t).view.emb (ix3 0 0 k : S1x1x2048.Idx) : S8x1x2048.Idx) = ix3 ⟨t.val / 44, by have := point_lt t; omega⟩ 0 k := by
  have hi := index_scale t
  blk_ext [hi.1, hi.2.1, hi.2.2]

theorem place_shift (t : Fin cfg0.N) (k : Fin 2048) :
    (((cfg0.win 4).blk t).view.emb (ix3 0 0 k : S1x1x2048.Idx) : S8x1x2048.Idx) = ix3 ⟨t.val / 44, by have := point_lt t; omega⟩ 0 k := by
  have hi := index_shift t
  blk_ext [hi.1, hi.2.1, hi.2.2]

theorem place_wg (t : Fin cfg0.N) (k : Fin 2048) (n : Fin 512) :
    (((cfg0.win 5).blk t).view.emb (ix2 k n : S2048x512.Idx) : S2048x11264.Idx) = ix2 k ⟨512 * (t.val % 11) + n.val, by omega⟩ := by
  have hi := index_wg t
  blk_ext [hi.1, hi.2]

theorem place_wu (t : Fin cfg0.N) (k : Fin 2048) (n : Fin 512) :
    (((cfg0.win 6).blk t).view.emb (ix2 k n : S2048x512.Idx) : S2048x11264.Idx) = ix2 k ⟨5632 + 512 * (t.val % 11) + n.val, by omega⟩ := by
  have hi := index_wu t
  blk_ext [hi.1, hi.2]

theorem place_cg (t : Fin cfg0.N) (j : Fin 3) (n : Fin 512) :
    (((cfg0.win 7).blk t).view.emb (ix2 j n : S3x512.Idx) : S3x11264.Idx) = ix2 j ⟨512 * (t.val % 11) + n.val, by omega⟩ := by
  have hi := index_cg t
  blk_ext [hi.1, hi.2]

theorem place_cu (t : Fin cfg0.N) (j : Fin 3) (n : Fin 512) :
    (((cfg0.win 8).blk t).view.emb (ix2 j n : S3x512.Idx) : S3x11264.Idx) = ix2 j ⟨5632 + 512 * (t.val % 11) + n.val, by omega⟩ := by
  have hi := index_cu t
  blk_ext [hi.1, hi.2]

theorem place_bg (t : Fin cfg0.N) (n : Fin 512) :
    (((cfg0.win 9).blk t).view.emb (ix2 0 n : S1x512.Idx) : S1x11264.Idx) = ix2 0 ⟨512 * (t.val % 11) + n.val, by omega⟩ := by
  have hi := index_bg t
  blk_ext [hi.1, hi.2]

theorem place_bu (t : Fin cfg0.N) (n : Fin 512) :
    (((cfg0.win 10).blk t).view.emb (ix2 0 n : S1x512.Idx) : S1x11264.Idx) = ix2 0 ⟨5632 + 512 * (t.val % 11) + n.val, by omega⟩ := by
  have hi := index_bu t
  blk_ext [hi.1, hi.2]

theorem place_out (t : Fin cfg0.N) (r : Fin 1024) (n : Fin 512) :
    (((cfg0.win 11).blk t).view.emb (ix2 r n : S1024x512.Idx) : S32768x5632.Idx)
      = ix2 ⟨1024 * (t.val / 11) + r.val, by have := point_lt t; omega⟩ ⟨512 * (t.val % 11) + n.val, by omega⟩ := by
  have hi := index_out t
  blk_ext [hi.1, hi.2]

theorem read_tile (f : FVec Ideal S32768x2048 .f32) (t : Fin cfg0.N) (y : S1024x2048.Idx) :
    (((cfg0.win 0).blk t).view.read (Elt Ideal) f : Vec Ideal S1024x2048 .f32) y = f (((cfg0.win 0).blk t).view.emb y) := rfl

theorem read_halo (f : FVec Ideal S32768x2048 .f32) (t : Fin cfg0.N) (y : S16x2048.Idx) :
    (((cfg0.win 1).blk t).view.read (Elt Ideal) f : Vec Ideal S16x2048 .f32) y = f (((cfg0.win 1).blk t).view.emb y) := rfl

theorem read_norm (f : FVec Ideal S1x2048 .f32) (t : Fin cfg0.N) (y : S1x2048.Idx) :
    (((cfg0.win 2).blk t).view.read (Elt Ideal) f : Vec Ideal S1x2048 .f32) y = f (((cfg0.win 2).blk t).view.emb y) := rfl

theorem read_scale (f : FVec Ideal S8x1x2048 .f32) (t : Fin cfg0.N) (y : S1x1x2048.Idx) :
    (((cfg0.win 3).blk t).view.read (Elt Ideal) f : Vec Ideal S1x1x2048 .f32) y = f (((cfg0.win 3).blk t).view.emb y) := rfl

theorem read_shift (f : FVec Ideal S8x1x2048 .f32) (t : Fin cfg0.N) (y : S1x1x2048.Idx) :
    (((cfg0.win 4).blk t).view.read (Elt Ideal) f : Vec Ideal S1x1x2048 .f32) y = f (((cfg0.win 4).blk t).view.emb y) := rfl

theorem read_wg (f : FVec Ideal S2048x11264 .bf16) (t : Fin cfg0.N) (y : S2048x512.Idx) :
    (((cfg0.win 5).blk t).view.read (Elt Ideal) f : Vec Ideal S2048x512 .bf16) y = f (((cfg0.win 5).blk t).view.emb y) := rfl

theorem read_wu (f : FVec Ideal S2048x11264 .bf16) (t : Fin cfg0.N) (y : S2048x512.Idx) :
    (((cfg0.win 6).blk t).view.read (Elt Ideal) f : Vec Ideal S2048x512 .bf16) y = f (((cfg0.win 6).blk t).view.emb y) := rfl

theorem read_cg (f : FVec Ideal S3x11264 .f32) (t : Fin cfg0.N) (y : S3x512.Idx) :
    (((cfg0.win 7).blk t).view.read (Elt Ideal) f : Vec Ideal S3x512 .f32) y = f (((cfg0.win 7).blk t).view.emb y) := rfl

theorem read_cu (f : FVec Ideal S3x11264 .f32) (t : Fin cfg0.N) (y : S3x512.Idx) :
    (((cfg0.win 8).blk t).view.read (Elt Ideal) f : Vec Ideal S3x512 .f32) y = f (((cfg0.win 8).blk t).view.emb y) := rfl

theorem read_bg (f : FVec Ideal S1x11264 .f32) (t : Fin cfg0.N) (y : S1x512.Idx) :
    (((cfg0.win 9).blk t).view.read (Elt Ideal) f : Vec Ideal S1x512 .f32) y = f (((cfg0.win 9).blk t).view.emb y) := rfl

theorem read_bu (f : FVec Ideal S1x11264 .f32) (t : Fin cfg0.N) (y : S1x512.Idx) :
    (((cfg0.win 10).blk t).view.read (Elt Ideal) f : Vec Ideal S1x512 .f32) y = f (((cfg0.win 10).blk t).view.emb y) := rfl

theorem read_out (f : FVec Ideal S32768x5632 .bf16) (t : Fin cfg0.N) (y : S1024x512.Idx) :
    (((cfg0.win 11).blk t).view.read (Elt Ideal) f : Vec Ideal S1024x512 .bf16) y = f (((cfg0.win 11).blk t).view.emb y) := rfl

/-! ## The arrays that the call reads -/

variable (m : (ℓ : Loc nD τ sig) → Buf (Elt Ideal) ℓ)

theorem V_rows (c : Dev nD) : V m c main_v0 = (shapeCast S32768x2048 (m ((c : Thread nD τ).loc main_arg0) : FVec Ideal S8x4096x2048 .f32)
    shapeCasts_S8x4096x2048_S32768x2048 : FVec Ideal S32768x2048 .f32) := by
  simp only [V, hostOps0, TRef.unary, TRef.binary, TRef.toBuf, TRef.ofBuf, cast_eq]
  after_results_simp
  rfl

theorem V_weight (c : Dev nD) : V m c main_v1 = (truncf .bf16 (m ((c : Thread nD τ).loc main_arg4) : FVec Ideal S2048x11264 .f32) bitsLt_bf16_f32 : FVec Ideal S2048x11264 .bf16) := by
  simp only [V, hostOps0, TRef.unary, TRef.binary, TRef.toBuf, TRef.ofBuf, cast_eq]
  after_results_simp

theorem V_bias (c : Dev nD) : V m c main_v2 = (shapeCast S1x11264 (m ((c : Thread nD τ).loc main_arg6) : FVec Ideal S11264 .f32)
    shapeCasts_S11264_S1x11264 : FVec Ideal S1x11264 .f32) := by
  simp only [V, hostOps0, TRef.unary, TRef.binary, TRef.toBuf, TRef.ofBuf, cast_eq]
  after_results_simp
  rfl

theorem V_norm (c : Dev nD) : V m c main_v3 = (shapeCast S1x2048 (m ((c : Thread nD τ).loc main_arg1) : FVec Ideal S2048 .f32)
    shapeCasts_S2048_S1x2048 : FVec Ideal S1x2048 .f32) := by
  simp only [V, hostOps0, TRef.unary, TRef.binary, TRef.toBuf, TRef.ofBuf, cast_eq]
  after_results_simp
  rfl

theorem V_scale (c : Dev nD) : V m c main_v4 = (shapeCast S8x1x2048 (m ((c : Thread nD τ).loc main_arg3) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem V_shift (c : Dev nD) : V m c main_v5 = (shapeCast S8x1x2048 (m ((c : Thread nD τ).loc main_arg2) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem V_conv (c : Dev nD) : V m c main_arg5 = m ((c : Thread nD τ).loc main_arg5) := by
  simp only [V, hostOps0, TRef.unary, TRef.binary, TRef.toBuf, TRef.ofBuf, cast_eq]
  after_results_simp

theorem rows_apply (x : FVec Ideal S8x4096x2048 .f32) (b : Fin 8) (s : Fin 4096) (n : Fin 2048) :
    (shapeCast S32768x2048 x shapeCasts_S8x4096x2048_S32768x2048 : FVec Ideal S32768x2048 .f32) (ix2 ⟨4096 * b.val + s.val, by omega⟩ n) = x (ix3 b s n) := by
  pointwise

theorem norm_apply (g : FVec Ideal S2048 .f32) (n : Fin 2048) :
    (shapeCast S1x2048 g shapeCasts_S2048_S1x2048 : FVec Ideal S1x2048 .f32) (ix2 0 n) = g (ix1 n) := by
  pointwise

theorem bias_apply (g : FVec Ideal S11264 .f32) (n : Fin 11264) :
    (shapeCast S1x11264 g shapeCasts_S11264_S1x11264 : FVec Ideal S1x11264 .f32) (ix2 0 n) = g (ix1 n) := by
  pointwise

theorem mod_apply (g : FVec Ideal S8x2048 .f32) (b : Fin 8) (n : Fin 2048) :
    (shapeCast S8x1x2048 g shapeCasts_S8x2048_S8x1x2048 : FVec Ideal S8x1x2048 .f32) (ix3 b 0 n) = g (ix2 b n) := by
  pointwise

end Cert.FfnUp

end
-- ==== Proof.Up.lean ====
/-
  The feed-forward part's first call: the array that it leaves is the reference's.
-/
module

public import proofs.«01_k».proof.Proof.UpBlocks

@[expose] public section

set_option maxRecDepth 16384

noncomputable section

namespace Cert.FfnUp

open Idealize.ShloMosaic Cert.UpIdeal Cert.UpIdeal.Gen Idealize.ShloMosaic.TcCoe Idealize.ShloMosaic.Tactic

/-! ## The first rows' factor -/

/-- The factor on the rows before a block: zero at the first block of a sequence, where there are none, and one elsewhere. -/
theorem keep_eq (i : grid0.Coords) : k0_pay1 (F := Ideal) i = if (i 0).val % 4 = 0 then 0 else 1 := by
  have hi : (i 0).val < 32 := (i 0).isLt
  unfold k0_pay1
  generalize (i 0).val = n at hi ⊢
  dsimp only
  have z : (Scalar.ofBits .f32 0x00000000#32 : Ideal .f32) = 0 := Ideal.ofBits_zero_f32
  have o : (Scalar.ofBits .f32 0x3F800000#32 : Ideal .f32) = 1 := Ideal.ofBits_one_f32
  rw [z, o]
  interval_cases n <;> rfl

/-! ## One point, of blocks that hold what they should -/

section

variable (x : FVec Ideal S8x4096x2048 .f32) (g : FVec Ideal S2048 .f32) (shift scale : FVec Ideal S8x2048 .f32) (w : FVec Ideal S2048x11264 .f32)
  (cw : FVec Ideal S3x11264 .f32) (cb : FVec Ideal S11264 .f32)

/-- `H` holds the norm's rows of row block `q`, with those before it: row `p` is the sequence's row `1024 (q % 4) + p - 16`, where there is such a row. -/
def Holds (q : ℕ) (hq : q < 32) (H : Vec Ideal S1040x2048 .bf16) : Prop :=
  ∀ (p : Fin 1040) (k : Fin 2048), 16 ≤ 1024 * (q % 4) + p.val →
    H (ix2 p k) = hidden x g shift scale (ix3 ⟨q / 4, by omega⟩ ⟨1024 * (q % 4) + p.val - 16, by omega⟩ k)

variable {x g shift scale} {q : ℕ} {hq : q < 32} {H : Vec Ideal S1040x2048 .bf16} {o : ℕ}

/-- The product's rows are the padded product's, from row 14 on. -/
theorem prod_eq (h : Holds x g shift scale q hq H) {wb : Vec Ideal S2048x512 .bf16} (ho : o + 512 ≤ 11264)
    (hw : ∀ k n, wb (ix2 k n) = w (ix2 k ⟨o + n.val, by omega⟩)) (p : Fin 1040) (hp : 14 ≤ p.val) (n : Fin 512) :
    k0_pay14 (F := Ideal) (if q % 4 = 0 then 0 else 1) H wb (ix2 p n)
      = padded (hidden x g shift scale) w (ix3 ⟨q / 4, by omega⟩ ⟨1024 * (q % 4) + p.val - 14, by omega⟩ ⟨o + n.val, by omega⟩) := by
  have sum (h16 : 16 ≤ 1024 * (q % 4) + p.val) : (∑ k : Fin 2048, H (ix2 p k) * wb (ix2 k n))
      = ∑ k : Fin 2048, hidden x g shift scale (ix3 ⟨q / 4, by omega⟩ ⟨1024 * (q % 4) + p.val - 14 - 2, by omega⟩ k) * w (ix2 k ⟨o + n.val, by omega⟩) :=
    Finset.sum_congr rfl fun k _ => by rw [h p k h16, hw]; rfl
  rw [prod_apply, padded_apply]
  by_cases h0 : q % 4 = 0
  · rw [if_pos h0, mul_zero]
    by_cases h16 : p.val < 16
    · rw [if_pos h16, dif_neg (by dsimp only; omega)]
    · rw [if_neg h16, dif_pos (by dsimp only; omega), sum (by omega)]
  · rw [if_neg h0, mul_one, ite_self, dif_pos (by dsimp only; omega), sum (by omega)]

/-- Half of the convolution is the reference's convolution. -/
theorem half_eq (h : Holds x g shift scale q hq H) {wb : Vec Ideal S2048x512 .bf16} {cwb : Vec Ideal S3x512 .f32} {cbb : Vec Ideal S1x512 .f32}
    (ho : o + 512 ≤ 11264) (hw : ∀ k n, wb (ix2 k n) = w (ix2 k ⟨o + n.val, by omega⟩)) (hcw : ∀ j n, cwb (ix2 j n) = cw (ix2 j ⟨o + n.val, by omega⟩))
    (hcb : ∀ n, cbb (ix2 0 n) = cb (ix1 ⟨o + n.val, by omega⟩)) (r : Fin 1024) (n : Fin 512) :
    half (k0_pay14 (F := Ideal) (if q % 4 = 0 then 0 else 1) H wb) cwb cbb (ix2 r n)
      = conv (padded (hidden x g shift scale) w) cw cb (ix3 ⟨q / 4, by omega⟩ ⟨1024 * (q % 4) + r.val, by omega⟩ ⟨o + n.val, by omega⟩) := by
  have at_row (j : ℕ) (hj : j < 3) (p : Fin 1040) (hp : p.val = 14 + j + r.val) (s : Fin 4098) (hs : s.val = j + (1024 * (q % 4) + r.val)) :
      k0_pay14 (F := Ideal) (if q % 4 = 0 then 0 else 1) H wb (ix2 p n)
        = padded (hidden x g shift scale) w (ix3 ⟨q / 4, by omega⟩ s ⟨o + n.val, by omega⟩) := by
    exact (prod_eq w h ho hw p (by omega) n).trans
      (congrArg (fun z : Fin 4098 => padded (hidden x g shift scale) w (ix3 ⟨q / 4, by omega⟩ z ⟨o + n.val, by omega⟩)) (Fin.ext (by dsimp only; omega)))
  rw [half_apply, conv_apply, hcw, hcw, hcw, hcb, at_row 0 (by omega) _ rfl ⟨1024 * (q % 4) + r.val, by omega⟩ (by dsimp only; omega),
    at_row 1 (by omega) _ rfl ⟨1 + (1024 * (q % 4) + r.val), by omega⟩ (by dsimp only),
    at_row 2 (by omega) _ rfl ⟨2 + (1024 * (q % 4) + r.val), by omega⟩ (by dsimp only),
    mul_comm (cw _), mul_comm (cw _), mul_comm (cw _)]

end

/-! ## The points -/

variable (m : (ℓ : Loc nD τ sig) → Buf (Elt Ideal) ℓ) {c : Dev nD} {x g shift scale w cw cb}

theorem row_lt (t : Fin cfg0.N) : t.val / 11 < 32 := by have := point_lt t; omega

section

variable (hx : x = m ((c : Thread nD τ).loc main_arg0)) (hg : g = m ((c : Thread nD τ).loc main_arg1))
  (hs : shift = m ((c : Thread nD τ).loc main_arg2)) (hc : scale = m ((c : Thread nD τ).loc main_arg3))

include hx in
theorem tile_row (t : Fin cfg0.N) (r : Fin 1024) (b : Fin 8) (s : Fin 4096) (h : 1024 * (t.val / 11) + r.val = 4096 * b.val + s.val) :
    (fun l => (iblk m c 0 t : Vec Ideal S1024x2048 .f32) (ix2 r l)) = fun l => x (ix3 b s l) := funext fun l => by
  have hrow : (⟨1024 * (t.val / 11) + r.val, by have := point_lt t; omega⟩ : Fin 32768) = ⟨4096 * b.val + s.val, by omega⟩ := Fin.ext h
  refine (read_tile (V m c main_v0) t _).trans ?_
  rw [place_tile, V_rows, ← hx, hrow, rows_apply]

include hx in
theorem halo_row (t : Fin cfg0.N) (r : Fin 16) (b : Fin 8) (s : Fin 4096) (h : 16 * (64 * (t.val / 11) - 1) + r.val = 4096 * b.val + s.val) :
    (fun l => (iblk m c 1 t : Vec Ideal S16x2048 .f32) (ix2 r l)) = fun l => x (ix3 b s l) := funext fun l => by
  have hrow : (⟨16 * (64 * (t.val / 11) - 1) + r.val, by have := point_lt t; omega⟩ : Fin 32768) = ⟨4096 * b.val + s.val, by omega⟩ := Fin.ext h
  refine (read_halo (V m c main_v0) t _).trans ?_
  rw [place_halo, V_rows, ← hx, hrow, rows_apply]

include hg in
theorem norm_row (t : Fin cfg0.N) : (fun l => (iblk m c 2 t : Vec Ideal S1x2048 .f32) (ix2 0 l)) = fun l => g (ix1 l) := funext fun l => by
  refine (read_norm (V m c main_v3) t _).trans ?_
  rw [place_norm, V_norm, ← hg, norm_apply]

include hc in
theorem scale_row (t : Fin cfg0.N) (b : Fin 8) (h : t.val / 44 = b.val) :
    (fun l => (iblk m c 3 t : Vec Ideal S1x1x2048 .f32) (ix3 0 0 l)) = fun l => scale (ix2 b l) := funext fun l => by
  have hb : (⟨t.val / 44, by omega⟩ : Fin 8) = b := Fin.ext h
  refine (read_scale (V m c main_v4) t _).trans ?_
  rw [place_scale, V_scale, ← hc, hb, mod_apply]

include hs in
theorem shift_row (t : Fin cfg0.N) (b : Fin 8) (h : t.val / 44 = b.val) :
    (fun l => (iblk m c 4 t : Vec Ideal S1x1x2048 .f32) (ix3 0 0 l)) = fun l => shift (ix2 b l) := funext fun l => by
  have hb : (⟨t.val / 44, by omega⟩ : Fin 8) = b := Fin.ext h
  refine (read_shift (V m c main_v5) t _).trans ?_
  rw [place_shift, V_shift, ← hs, hb, mod_apply]

include hx hg hs hc in
/-- What a point at the start of a row of blocks leaves in the scratch buffer. -/
theorem rows_holds (t : Fin cfg0.N) :
    Holds x g shift scale (t.val / 11) (row_lt t) (rows (iblk m c 0 t) (iblk m c 1 t) (iblk m c 2 t) (iblk m c 3 t) (iblk m c 4 t)) := by
  intro p k h16
  have ht := point_lt t
  have hb : t.val / 44 = t.val / 11 / 4 := by omega
  rw [hidden_row, rows]
  by_cases hp : p.val < 16
  · refine (stores_low scM0_0 _ _ ⟨p.val, hp⟩ p rfl k).trans ((halo_apply (iblk m c 1 t) (iblk m c 2 t) (iblk m c 3 t) (iblk m c 4 t) ⟨p.val, hp⟩ k).trans ?_)
    rw [halo_row m hx t ⟨p.val, hp⟩ ⟨t.val / 11 / 4, by omega⟩ ⟨1024 * (t.val / 11 % 4) + p.val - 16, by omega⟩ (by dsimp only; omega),
      norm_row m hg t, scale_row m hc t ⟨t.val / 11 / 4, by omega⟩ hb, shift_row m hs t ⟨t.val / 11 / 4, by omega⟩ hb]
  · refine (stores_high scM0_0 _ _ ⟨p.val - 16, by omega⟩ p (by dsimp only; omega) k).trans
      ((tile_apply (iblk m c 0 t) (iblk m c 2 t) (iblk m c 3 t) (iblk m c 4 t) ⟨p.val - 16, by omega⟩ k).trans ?_)
    rw [tile_row m hx t ⟨p.val - 16, by omega⟩ ⟨t.val / 11 / 4, by omega⟩ ⟨1024 * (t.val / 11 % 4) + p.val - 16, by omega⟩ (by dsimp only; omega),
      norm_row m hg t, scale_row m hc t ⟨t.val / 11 / 4, by omega⟩ hb, shift_row m hs t ⟨t.val / 11 / 4, by omega⟩ hb]

include hx hg hs hc in
/-- The scratch buffer holds the same rows after every point of a row of blocks. -/
theorem scratch_holds : ∀ (n : ℕ) (hn : n < cfg0.N), Holds x g shift scale (n / 11) (row_lt ⟨n, hn⟩) (outsAt0 m c n hn).2
  | n, hn => by
    by_cases h0 : n % 11 = 0
    · rw [outsAt0_A m c ⟨n, hn⟩ h0 (by dsimp only; omega)]
      dsimp only
      rw [sout_eq]
      exact rows_holds m hx hg hs hc ⟨n, hn⟩
    · obtain ⟨k, rfl⟩ : ∃ k, n = k + 1 := ⟨n - 1, by omega⟩
      have ih := scratch_holds k (by omega)
      have e : (k + 1) / 11 = k / 11 := by omega
      rw [outsAt0_B m c ⟨k + 1, hn⟩ h0 (by dsimp only; omega)]
      intro p l h16
      have := ih p l (by omega)
      simp only [e]
      exact this

variable (hw : w = m ((c : Thread nD τ).loc main_arg4)) (hcw : cw = m ((c : Thread nD τ).loc main_arg5)) (hcb : cb = m ((c : Thread nD τ).loc main_arg6))

include hw hcw hcb in
/-- The block a point writes, of the rows in the scratch buffer. -/
theorem point_eq (t : Fin cfg0.N) {H : Vec Ideal S1040x2048 .bf16} (h : Holds x g shift scale (t.val / 11) (row_lt t) H) :
    point (k0_pay1 (F := Ideal) (grid0.coords t)) H (iblk m c 5 t) (iblk m c 6 t) (iblk m c 7 t) (iblk m c 8 t) (iblk m c 9 t) (iblk m c 10 t)
      = (((cfg0.win 11).blk t).view.read (Elt Ideal) (result x g shift scale w cw cb) : Vec Ideal S1024x512 .bf16) := by
  have ht := point_lt t
  funext y
  obtain ⟨r, n, rfl⟩ : ∃ (r : Fin 1024) (n : Fin 512), y = (ix2 r n : S1024x512.Idx) := ⟨y 0, y 1, (ix2_eta y).symm⟩
  refine Eq.trans ?_ (read_out (result x g shift scale w cw cb) t _).symm
  rw [place_out]
  have hrow : (⟨1024 * (t.val / 11) + r.val, by omega⟩ : Fin 32768)
      = ⟨4096 * (⟨t.val / 11 / 4, by omega⟩ : Fin 8).val + (⟨1024 * (t.val / 11 % 4) + r.val, by omega⟩ : Fin 4096).val, by dsimp only; omega⟩ :=
    Fin.ext (by dsimp only; omega)
  have e : k0_pay1 (F := Ideal) (grid0.coords t) = if t.val / 11 % 4 = 0 then 0 else 1 := by rw [keep_eq, coord_row]
  have hG := half_eq (o := 512 * (t.val % 11)) w cw cb h (wb := iblk m c 5 t) (cwb := iblk m c 7 t) (cbb := iblk m c 9 t) (by omega)
    (fun k n => by
      refine (read_wg (V m c main_v1) t _).trans ?_
      rw [place_wg, V_weight, ← hw]
      rfl)
    (fun j n => by
      refine (read_cg (V m c main_arg5) t _).trans ?_
      rw [place_cg, V_conv, ← hcw])
    (fun n => by
      refine (read_bg (V m c main_v2) t _).trans ?_
      rw [place_bg, V_bias, ← hcb, bias_apply]) r n
  have hU := half_eq (o := 5632 + 512 * (t.val % 11)) w cw cb h (wb := iblk m c 6 t) (cwb := iblk m c 8 t) (cbb := iblk m c 10 t) (by omega)
    (fun k n => by
      refine (read_wu (V m c main_v1) t _).trans ?_
      rw [place_wu, V_weight, ← hw]
      rfl)
    (fun j n => by
      refine (read_cu (V m c main_arg5) t _).trans ?_
      rw [place_cu, V_conv, ← hcw])
    (fun n => by
      refine (read_bu (V m c main_v2) t _).trans ?_
      rw [place_bu, V_bias, ← hcb, bias_apply]) r n
  have hN : (⟨5632 + 512 * (t.val % 11) + n.val, by omega⟩ : Fin 11264) = ⟨5632 + (⟨512 * (t.val % 11) + n.val, by omega⟩ : Fin 5632).val, by dsimp only; omega⟩ :=
    Fin.ext (by dsimp only; omega)
  rw [hrow, result, gated_apply, point, gate_apply, e, hG, hU, hN]

include hx hg hs hc hw hcw hcb in
theorem flushed_eq (t : Fin cfg0.N) : (dats m 0 c).flushed 11 t = ((cfg0.win 11).blk t).view.read (Elt Ideal) (result x g shift scale w cw cb) := by
  by_cases h0 : t.val % 11 = 0
  · rw [Cert.UpIdeal.Value.flushed11_A m c t h0 (by omega), outA_eq]
    exact point_eq m hw hcw hcb t (rows_holds m hx hg hs hc t)
  · rw [Cert.UpIdeal.Value.flushed11_B m c t h0 (by omega), outB_eq]
    have H := scratch_holds m hx hg hs hc (t.val - 1) (Nat.lt_of_le_of_lt (Nat.sub_le _ _) t.isLt)
    have e : (t.val - 1) / 11 = t.val / 11 := by omega
    refine point_eq m hw hcw hcb t ?_
    intro p l h16
    have := H p l (by omega)
    simp only [e] at this
    exact this

include hx hg hs hc hw hcw hcb in
theorem array_eq : (dats m 0 c).arrAt 11 cfg0.N = result x g shift scale w cw cb :=
  (dats m 0 c).arrAt_eq_of_cover 11 (result x g shift scale w cw cb) (fun t _ => flushed_eq m hx hg hs hc hw hcw hcb t) fun i => by
    have h0 : (i 0 : Nat) < 32768 := (i 0).isLt
    have h1 : (i 1 : Nat) < 5632 := (i 1).isLt
    obtain ⟨t, ht⟩ : ∃ t : Fin cfg0.N, t.val = 11 * ((i 0 : Nat) / 1024) + (i 1 : Nat) / 512 :=
      ⟨⟨11 * ((i 0 : Nat) / 1024) + (i 1 : Nat) / 512, by rw [show cfg0.N = 352 from N_0]; omega⟩, rfl⟩
    refine ⟨t, flush0_11 t, ?_⟩
    have hi := index_out t
    show i ∈ ((View.whole main_v6).slice (win0_11.rect t)).set
    rw [View.set_slice_whole, Rect.mem_set_unit]
    intro a
    match a with
    | ⟨0, _⟩ =>
      show win0_11.index t 0 * 1024 ≤ (i 0 : Nat) ∧ (i 0 : Nat) < win0_11.index t 0 * 1024 + 1024
      rw [hi.1]; omega
    | ⟨1, _⟩ =>
      show win0_11.index t 1 * 512 ≤ (i 1 : Nat) ∧ (i 1 : Nat) < win0_11.index t 1 * 512 + 512
      rw [hi.2]; omega

end

end Cert.FfnUp

end
-- ==== Proof.DownRef.lean ====
/-
  The feed-forward part's last product with its gate and residual, as the reference computes it, at an index.
-/
module

public import proofs.«01_k».proof.Proof.Gen.DownRefIdeal.Run
public import Idealize.ShloMosaic.Lib.Pointwise
public import Idealize.ShloMosaic.Lib.Claim

@[expose] public section

noncomputable section

namespace Cert.Down

open Idealize.ShloMosaic Cert.DownRefIdeal Cert.DownRefIdeal.Gen Idealize.ShloMosaic.TcCoe Idealize.ShloMosaic.Tactic

/-- The reference's lines: `x + gate * (a @ w)`, the batch's rows one after the other. -/
def result (a : FVec Ideal S8x4096x5632 .f32) (w : FVec Ideal S5632x2048 .f32) (x : FVec Ideal S8x4096x2048 .f32) (g : FVec Ideal S8x2048 .f32) :
    FVec Ideal S32768x2048 .f32 :=
  shapeCast _ (addf x (mulf (broadcastInDim S8x4096x2048 ![0, 1, 2] bcast_S8x1x2048_S8x4096x2048_0_1_2
      (broadcastInDim S8x1x2048 ![0, 2] bcast_S8x2048_S8x1x2048_0_2 g))
    (Host.dotGeneral dot_S8x4096x5632_S5632x2048_S8x4096x2048_2_0_01_1_n_n none a w))) shapeCasts_S8x4096x2048_S32768x2048

theorem result_apply (a : FVec Ideal S8x4096x5632 .f32) (w : FVec Ideal S5632x2048 .f32) (x : FVec Ideal S8x4096x2048 .f32) (g : FVec Ideal S8x2048 .f32)
    (b : Fin 8) (s : Fin 4096) (n : Fin 2048) :
    result a w x g (ix2 ⟨4096 * b.val + s.val, by omega⟩ n)
      = x (ix3 b s n) + g (ix2 b n) * ∑ k : Fin 5632, a (ix3 b s k) * w (ix2 k n) := by
  pointwise [result]

end Cert.Down

end
-- ==== Proof.Down.lean ====
/-
  The feed-forward part's last product with its gate and residual: the array that the call leaves is the reference's.
-/
module

public import proofs.«01_k».proof.Proof.DownRef
public import proofs.«01_k».proof.Proof.Gen.DownIdeal.Value
public import Idealize.ShloMosaic.Lib.Pointwise
public import Idealize.ShloMosaic.Lib.Claim
public import Idealize.ShloMosaic.Lib.Pipeline.Value
public import Idealize.ShloMosaic.Lib.Pipeline.ValueKit.Geometry

@[expose] public section

noncomputable section

namespace Cert.Down

open Idealize.ShloMosaic Cert.DownIdeal Cert.DownIdeal.Gen Idealize.ShloMosaic.TcCoe Idealize.ShloMosaic.Tactic
open Idealize.ShloMosaic.StableHlo

/-! ## One block -/

/-- What the body stores, at an index of the block. -/
theorem pay_apply (X2 : Vec Ideal S1024x512 .f32) (X3 : Vec Ideal S1x1x512 .f32) (X0 : Vec Ideal S1024x5632 .bf16) (X1 : Vec Ideal S5632x512 .bf16)
    (r : Fin 1024) (n : Fin 512) :
    k0_pay1 X2 X3 X0 X1 (ix2 r n) = X2 (ix2 r n) + X3 (ix3 0 0 n) * ∑ k : Fin 5632, X0 (ix2 r k) * X1 (ix2 k n) := by
  pointwise [k0_pay1]

/-- The block the body leaves is its one store's. -/
theorem out_eq (X0 : Vec Ideal S1024x5632 .bf16) (X1 : Vec Ideal S5632x512 .bf16) (X2 : Vec Ideal S1024x512 .f32) (X3 : Vec Ideal S1x1x512 .f32) :
    out0_4 X0 X1 X2 X3 = k0_pay1 X2 X3 X0 X1 := by
  have z2 : (![0, 0] : Fin 2 → ℕ) = fun _ => 0 := by decide
  have z3 : (![0, 0, 0] : Fin 3 → ℕ) = fun _ => 0 := by decide
  unfold out0_4
  rw [View.canon_unit_zero z2, View.ld_unit_zero z2, View.ld_unit_zero z3, View.ld_unit_zero z2, View.ld_unit_zero z2]

/-! ## The blocks' places -/

theorem point_lt (t : Fin cfg0.N) : t.val < 128 := lt_of_lt_of_eq t.isLt N_0

theorem index_act : ∀ t : Fin grid0.N, win0_0.index t 0 = t.val / 4 ∧ win0_0.index t 1 = 0 := by decide +kernel
theorem index_weight : ∀ t : Fin grid0.N, win0_1.index t 0 = 0 ∧ win0_1.index t 1 = t.val % 4 := by decide +kernel
theorem index_res : ∀ t : Fin grid0.N, win0_2.index t 0 = t.val / 4 ∧ win0_2.index t 1 = t.val % 4 := by decide +kernel
theorem index_gate : ∀ t : Fin grid0.N, win0_3.index t 0 = t.val / 16 ∧ win0_3.index t 1 = 0 ∧ win0_3.index t 2 = t.val % 4 := by decide +kernel
theorem index_out : ∀ t : Fin grid0.N, win0_4.index t 0 = t.val / 4 ∧ win0_4.index t 1 = t.val % 4 := by decide +kernel

theorem place_act (t : Fin cfg0.N) (r : Fin 1024) (k : Fin 5632) :
    (((cfg0.win 0).blk t).view.emb (ix2 r k : S1024x5632.Idx) : S32768x5632.Idx) = ix2 ⟨1024 * (t.val / 4) + r.val, by have := point_lt t; omega⟩ k := by
  have hi := index_act t
  blk_ext [hi.1, hi.2]

theorem place_weight (t : Fin cfg0.N) (k : Fin 5632) (n : Fin 512) :
    (((cfg0.win 1).blk t).view.emb (ix2 k n : S5632x512.Idx) : S5632x2048.Idx) = ix2 k ⟨512 * (t.val % 4) + n.val, by omega⟩ := by
  have hi := index_weight t
  blk_ext [hi.1, hi.2]

theorem place_res (t : Fin cfg0.N) (r : Fin 1024) (n : Fin 512) :
    (((cfg0.win 2).blk t).view.emb (ix2 r n : S1024x512.Idx) : S32768x2048.Idx)
      = ix2 ⟨1024 * (t.val / 4) + r.val, by have := point_lt t; omega⟩ ⟨512 * (t.val % 4) + n.val, by omega⟩ := by
  have hi := index_res t
  blk_ext [hi.1, hi.2]

theorem place_gate (t : Fin cfg0.N) (n : Fin 512) :
    (((cfg0.win 3).blk t).view.emb (ix3 0 0 n : S1x1x512.Idx) : S8x1x2048.Idx)
      = ix3 ⟨t.val / 16, by have := point_lt t; omega⟩ 0 ⟨512 * (t.val % 4) + n.val, by omega⟩ := by
  have hi := index_gate t
  blk_ext [hi.1, hi.2.1, hi.2.2]

theorem place_out (t : Fin cfg0.N) (r : Fin 1024) (n : Fin 512) :
    (((cfg0.win 4).blk t).view.emb (ix2 r n : S1024x512.Idx) : S32768x2048.Idx)
      = ix2 ⟨1024 * (t.val / 4) + r.val, by have := point_lt t; omega⟩ ⟨512 * (t.val % 4) + n.val, by omega⟩ := by
  have hi := index_out t
  blk_ext [hi.1, hi.2]

theorem read_act (f : FVec Ideal S32768x5632 .bf16) (t : Fin cfg0.N) (y : S1024x5632.Idx) :
    (((cfg0.win 0).blk t).view.read (Elt Ideal) f : Vec Ideal S1024x5632 .bf16) y = f (((cfg0.win 0).blk t).view.emb y) := rfl

theorem read_weight (f : FVec Ideal S5632x2048 .bf16) (t : Fin cfg0.N) (y : S5632x512.Idx) :
    (((cfg0.win 1).blk t).view.read (Elt Ideal) f : Vec Ideal S5632x512 .bf16) y = f (((cfg0.win 1).blk t).view.emb y) := rfl

theorem read_res (f : FVec Ideal S32768x2048 .f32) (t : Fin cfg0.N) (y : S1024x512.Idx) :
    (((cfg0.win 2).blk t).view.read (Elt Ideal) f : Vec Ideal S1024x512 .f32) y = f (((cfg0.win 2).blk t).view.emb y) := rfl

theorem read_gate (f : FVec Ideal S8x1x2048 .f32) (t : Fin cfg0.N) (y : S1x1x512.Idx) :
    (((cfg0.win 3).blk t).view.read (Elt Ideal) f : Vec Ideal S1x1x512 .f32) y = f (((cfg0.win 3).blk t).view.emb y) := rfl

theorem read_out (f : FVec Ideal S32768x2048 .f32) (t : Fin cfg0.N) (y : S1024x512.Idx) :
    (((cfg0.win 4).blk t).view.read (Elt Ideal) f : Vec Ideal S1024x512 .f32) y = f (((cfg0.win 4).blk t).view.emb y) := rfl

/-! ## The arrays that the call reads -/

variable (m : (ℓ : Loc nD τ sig) → Buf (Elt Ideal) ℓ)

theorem V_act (c : Dev nD) : V m c main_v1 = (truncf .bf16 (shapeCast S32768x5632 (m ((c : Thread nD τ).loc main_arg0) : FVec Ideal S8x4096x5632 .f32)
    shapeCasts_S8x4096x5632_S32768x5632) bitsLt_bf16_f32 : FVec Ideal S32768x5632 .bf16) := by
  simp only [V, hostOps0, TRef.unary, TRef.binary, TRef.toBuf, TRef.ofBuf, cast_eq]
  after_results_simp
  rfl

theorem V_weight (c : Dev nD) : V m c main_v2 = (truncf .bf16 (m ((c : Thread nD τ).loc main_arg1) : FVec Ideal S5632x2048 .f32) bitsLt_bf16_f32 : FVec Ideal S5632x2048 .bf16) := by
  simp only [V, hostOps0, TRef.unary, TRef.binary, TRef.toBuf, TRef.ofBuf, cast_eq]
  after_results_simp

theorem V_res (c : Dev nD) : V m c main_v3 = (shapeCast S32768x2048 (m ((c : Thread nD τ).loc main_arg2) : FVec Ideal S8x4096x2048 .f32)
    shapeCasts_S8x4096x2048_S32768x2048 : FVec Ideal S32768x2048 .f32) := by
  simp only [V, hostOps0, TRef.unary, TRef.binary, TRef.toBuf, TRef.ofBuf, cast_eq]
  after_results_simp
  rfl

theorem V_gate (c : Dev nD) : V m c main_v4 = (shapeCast S8x1x2048 (m ((c : Thread nD τ).loc main_arg3) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem act_apply (a : FVec Ideal S8x4096x5632 .f32) (b : Fin 8) (s : Fin 4096) (k : Fin 5632) :
    (truncf .bf16 (shapeCast S32768x5632 a shapeCasts_S8x4096x5632_S32768x5632) bitsLt_bf16_f32 : FVec Ideal S32768x5632 .bf16)
      (ix2 ⟨4096 * b.val + s.val, by omega⟩ k) = a (ix3 b s k) := by
  pointwise

theorem res_apply (x : FVec Ideal S8x4096x2048 .f32) (b : Fin 8) (s : Fin 4096) (n : Fin 2048) :
    (shapeCast S32768x2048 x shapeCasts_S8x4096x2048_S32768x2048 : FVec Ideal S32768x2048 .f32) (ix2 ⟨4096 * b.val + s.val, by omega⟩ n) = x (ix3 b s n) := by
  pointwise

theorem gate_apply (g : FVec Ideal S8x2048 .f32) (b : Fin 8) (n : Fin 2048) :
    (shapeCast S8x1x2048 g shapeCasts_S8x2048_S8x1x2048 : FVec Ideal S8x1x2048 .f32) (ix3 b 0 n) = g (ix2 b n) := by
  pointwise

/-! ## The whole array -/

/-- Row `1024 i + r` of all the batch's rows, as its sequence and its position there. -/
theorem row_eq (i r : ℕ) : 1024 * i + r = 4096 * (i / 4) + (1024 * (i % 4) + r) := by omega

theorem flushed_eq {c : Dev nD} {a w x g} (ha : a = m ((c : Thread nD τ).loc main_arg0)) (hw : w = m ((c : Thread nD τ).loc main_arg1))
    (hx : x = m ((c : Thread nD τ).loc main_arg2)) (hg : g = m ((c : Thread nD τ).loc main_arg3)) (t : Fin cfg0.N) :
    (dats m 0 c).flushed 4 t = ((cfg0.win 4).blk t).view.read (Elt Ideal) (result a w x g) := by
  have ht := point_lt t
  rw [Cert.DownIdeal.Value.flushed4 m c t, out_eq]
  funext y
  obtain ⟨r, n, rfl⟩ : ∃ (r : Fin 1024) (n : Fin 512), y = (ix2 r n : S1024x512.Idx) := ⟨y 0, y 1, (ix2_eta y).symm⟩
  refine Eq.trans ?_ (read_out (result a w x g) t _).symm
  rw [place_out]
  have hrow : (⟨1024 * (t.val / 4) + r.val, by omega⟩ : Fin 32768)
      = ⟨4096 * (⟨t.val / 16, by omega⟩ : Fin 8).val + (⟨1024 * (t.val / 4 % 4) + r.val, by omega⟩ : Fin 4096).val, by dsimp only; omega⟩ :=
    Fin.ext (by dsimp only; omega)
  rw [hrow, result_apply]
  refine Eq.trans (pay_apply (iblk m c 2 t) (iblk m c 3 t) (iblk m c 0 t) (iblk m c 1 t) r n) ?_
  refine congrArg₂ (· + ·) ?_ (congrArg₂ (· * ·) ?_ (Finset.sum_congr rfl fun k _ => congrArg₂ (· * ·) ?_ ?_))
  · refine (read_res (V m c main_v3) t _).trans ?_
    rw [place_res, V_res, ← hx, hrow, res_apply]
  · refine (read_gate (V m c main_v4) t _).trans ?_
    rw [place_gate, V_gate, ← hg, gate_apply]
  · refine (read_act (V m c main_v1) t _).trans ?_
    rw [place_act, V_act, ← ha, hrow, act_apply]
  · refine (read_weight (V m c main_v2) t _).trans ?_
    rw [place_weight, V_weight, ← hw]
    rfl

theorem array_eq {c : Dev nD} {a w x g} (ha : a = m ((c : Thread nD τ).loc main_arg0)) (hw : w = m ((c : Thread nD τ).loc main_arg1))
    (hx : x = m ((c : Thread nD τ).loc main_arg2)) (hg : g = m ((c : Thread nD τ).loc main_arg3)) :
    (dats m 0 c).arrAt 4 cfg0.N = result a w x g :=
  (dats m 0 c).arrAt_eq_of_cover 4 (result a w x g) (fun t _ => flushed_eq m ha hw hx hg t) fun i => by
    have h0 : (i 0 : Nat) < 32768 := (i 0).isLt
    have h1 : (i 1 : Nat) < 2048 := (i 1).isLt
    obtain ⟨t, ht⟩ : ∃ t : Fin cfg0.N, t.val = 4 * ((i 0 : Nat) / 1024) + (i 1 : Nat) / 512 :=
      ⟨⟨4 * ((i 0 : Nat) / 1024) + (i 1 : Nat) / 512, by rw [show cfg0.N = 128 from N_0]; omega⟩, rfl⟩
    refine ⟨t, flush0_4 t, ?_⟩
    have hi := index_out t
    show i ∈ ((View.whole main_v5).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [hi.1]; omega
    | ⟨1, _⟩ =>
      show win0_4.index t 1 * 512 ≤ (i 1 : Nat) ∧ (i 1 : Nat) < win0_4.index t 1 * 512 + 512
      rw [hi.2]; omega

end Cert.Down

end
-- ==== Proof.OutRef.lean ====
/-
  An output projection with its gate and residual, as the reference computes it, at an index.
-/
module

public import proofs.«01_k».proof.Proof.Gen.OutRefIdeal.Run
public import Idealize.ShloMosaic.Lib.Pointwise
public import Idealize.ShloMosaic.Lib.Claim

@[expose] public section

noncomputable section

namespace Cert.Out

open Idealize.ShloMosaic Cert.OutRefIdeal Cert.OutRefIdeal.Gen Idealize.ShloMosaic.TcCoe Idealize.ShloMosaic.Tactic

/-- The reference's lines: `x + gate * (a @ w)`, the batch's rows one after the other. -/
def result (a : FVec Ideal S8x4096x2048 .f32) (w : FVec Ideal S2048x2048 .f32) (x : FVec Ideal S8x4096x2048 .f32) (g : FVec Ideal S8x2048 .f32) :
    FVec Ideal S32768x2048 .f32 :=
  shapeCast _ (addf x (mulf (broadcastInDim S8x4096x2048 ![0, 1, 2] bcast_S8x1x2048_S8x4096x2048_0_1_2
      (broadcastInDim S8x1x2048 ![0, 2] bcast_S8x2048_S8x1x2048_0_2 g))
    (Host.dotGeneral dot_S8x4096x2048_S2048x2048_S8x4096x2048_2_0_01_1_n_n none a w))) shapeCasts_S8x4096x2048_S32768x2048

theorem result_apply (a : FVec Ideal S8x4096x2048 .f32) (w : FVec Ideal S2048x2048 .f32) (x : FVec Ideal S8x4096x2048 .f32) (g : FVec Ideal S8x2048 .f32)
    (b : Fin 8) (s : Fin 4096) (n : Fin 2048) :
    result a w x g (ix2 ⟨4096 * b.val + s.val, by omega⟩ n)
      = x (ix3 b s n) + g (ix2 b n) * ∑ k : Fin 2048, a (ix3 b s k) * w (ix2 k n) := by
  pointwise [result]

end Cert.Out

end
-- ==== Proof.Out.lean ====
/-
  An output projection with its gate and residual: the array that the call leaves is the reference's.
-/
module

public import proofs.«01_k».proof.Proof.OutRef
public import proofs.«01_k».proof.Proof.Gen.OutIdeal.Value
public import Idealize.ShloMosaic.Lib.Pointwise
public import Idealize.ShloMosaic.Lib.Claim
public import Idealize.ShloMosaic.Lib.Pipeline.Value
public import Idealize.ShloMosaic.Lib.Pipeline.ValueKit.Geometry

@[expose] public section

noncomputable section

namespace Cert.Out

open Idealize.ShloMosaic Cert.OutIdeal Cert.OutIdeal.Gen Idealize.ShloMosaic.TcCoe Idealize.ShloMosaic.Tactic
open Idealize.ShloMosaic.StableHlo

/-! ## One block -/

/-- What the body stores, at an index of the block. -/
theorem pay_apply (X2 : Vec Ideal S1024x1024 .f32) (X3 : Vec Ideal S1x1x1024 .f32) (X0 : Vec Ideal S1024x2048 .bf16) (X1 : Vec Ideal S2048x1024 .bf16)
    (r : Fin 1024) (n : Fin 1024) :
    k0_pay1 X2 X3 X0 X1 (ix2 r n) = X2 (ix2 r n) + X3 (ix3 0 0 n) * ∑ k : Fin 2048, X0 (ix2 r k) * X1 (ix2 k n) := by
  pointwise [k0_pay1]

/-- The block the body leaves is its one store's. -/
theorem out_eq (X0 : Vec Ideal S1024x2048 .bf16) (X1 : Vec Ideal S2048x1024 .bf16) (X2 : Vec Ideal S1024x1024 .f32) (X3 : Vec Ideal S1x1x1024 .f32) :
    out0_4 X0 X1 X2 X3 = k0_pay1 X2 X3 X0 X1 := by
  have z2 : (![0, 0] : Fin 2 → ℕ) = fun _ => 0 := by decide
  have z3 : (![0, 0, 0] : Fin 3 → ℕ) = fun _ => 0 := by decide
  unfold out0_4
  rw [View.canon_unit_zero z2, View.ld_unit_zero z2, View.ld_unit_zero z3, View.ld_unit_zero z2, View.ld_unit_zero z2]

/-! ## The blocks' places -/

theorem point_lt (t : Fin cfg0.N) : t.val < 64 := lt_of_lt_of_eq t.isLt N_0

theorem index_act : ∀ t : Fin grid0.N, win0_0.index t 0 = t.val / 2 ∧ win0_0.index t 1 = 0 := by decide +kernel
theorem index_weight : ∀ t : Fin grid0.N, win0_1.index t 0 = 0 ∧ win0_1.index t 1 = t.val % 2 := by decide +kernel
theorem index_res : ∀ t : Fin grid0.N, win0_2.index t 0 = t.val / 2 ∧ win0_2.index t 1 = t.val % 2 := by decide +kernel
theorem index_gate : ∀ t : Fin grid0.N, win0_3.index t 0 = t.val / 8 ∧ win0_3.index t 1 = 0 ∧ win0_3.index t 2 = t.val % 2 := by decide +kernel
theorem index_out : ∀ t : Fin grid0.N, win0_4.index t 0 = t.val / 2 ∧ win0_4.index t 1 = t.val % 2 := by decide +kernel

theorem place_act (t : Fin cfg0.N) (r : Fin 1024) (k : Fin 2048) :
    (((cfg0.win 0).blk t).view.emb (ix2 r k : S1024x2048.Idx) : S32768x2048.Idx) = ix2 ⟨1024 * (t.val / 2) + r.val, by have := point_lt t; omega⟩ k := by
  have hi := index_act t
  blk_ext [hi.1, hi.2]

theorem place_weight (t : Fin cfg0.N) (k : Fin 2048) (n : Fin 1024) :
    (((cfg0.win 1).blk t).view.emb (ix2 k n : S2048x1024.Idx) : S2048x2048.Idx) = ix2 k ⟨1024 * (t.val % 2) + n.val, by omega⟩ := by
  have hi := index_weight t
  blk_ext [hi.1, hi.2]

theorem place_res (t : Fin cfg0.N) (r : Fin 1024) (n : Fin 1024) :
    (((cfg0.win 2).blk t).view.emb (ix2 r n : S1024x1024.Idx) : S32768x2048.Idx)
      = ix2 ⟨1024 * (t.val / 2) + r.val, by have := point_lt t; omega⟩ ⟨1024 * (t.val % 2) + n.val, by omega⟩ := by
  have hi := index_res t
  blk_ext [hi.1, hi.2]

theorem place_gate (t : Fin cfg0.N) (n : Fin 1024) :
    (((cfg0.win 3).blk t).view.emb (ix3 0 0 n : S1x1x1024.Idx) : S8x1x2048.Idx)
      = ix3 ⟨t.val / 8, by have := point_lt t; omega⟩ 0 ⟨1024 * (t.val % 2) + n.val, by omega⟩ := by
  have hi := index_gate t
  blk_ext [hi.1, hi.2.1, hi.2.2]

theorem place_out (t : Fin cfg0.N) (r : Fin 1024) (n : Fin 1024) :
    (((cfg0.win 4).blk t).view.emb (ix2 r n : S1024x1024.Idx) : S32768x2048.Idx)
      = ix2 ⟨1024 * (t.val / 2) + r.val, by have := point_lt t; omega⟩ ⟨1024 * (t.val % 2) + n.val, by omega⟩ := by
  have hi := index_out t
  blk_ext [hi.1, hi.2]

theorem read_act (f : FVec Ideal S32768x2048 .bf16) (t : Fin cfg0.N) (y : S1024x2048.Idx) :
    (((cfg0.win 0).blk t).view.read (Elt Ideal) f : Vec Ideal S1024x2048 .bf16) y = f (((cfg0.win 0).blk t).view.emb y) := rfl

theorem read_weight (f : FVec Ideal S2048x2048 .bf16) (t : Fin cfg0.N) (y : S2048x1024.Idx) :
    (((cfg0.win 1).blk t).view.read (Elt Ideal) f : Vec Ideal S2048x1024 .bf16) y = f (((cfg0.win 1).blk t).view.emb y) := rfl

theorem read_res (f : FVec Ideal S32768x2048 .f32) (t : Fin cfg0.N) (y : S1024x1024.Idx) :
    (((cfg0.win 2).blk t).view.read (Elt Ideal) f : Vec Ideal S1024x1024 .f32) y = f (((cfg0.win 2).blk t).view.emb y) := rfl

theorem read_gate (f : FVec Ideal S8x1x2048 .f32) (t : Fin cfg0.N) (y : S1x1x1024.Idx) :
    (((cfg0.win 3).blk t).view.read (Elt Ideal) f : Vec Ideal S1x1x1024 .f32) y = f (((cfg0.win 3).blk t).view.emb y) := rfl

theorem read_out (f : FVec Ideal S32768x2048 .f32) (t : Fin cfg0.N) (y : S1024x1024.Idx) :
    (((cfg0.win 4).blk t).view.read (Elt Ideal) f : Vec Ideal S1024x1024 .f32) y = f (((cfg0.win 4).blk t).view.emb y) := rfl

/-! ## The arrays that the call reads -/

variable (m : (ℓ : Loc nD τ sig) → Buf (Elt Ideal) ℓ)

theorem V_act (c : Dev nD) : V m c main_v1 = (truncf .bf16 (shapeCast S32768x2048 (m ((c : Thread nD τ).loc main_arg0) : FVec Ideal S8x4096x2048 .f32)
    shapeCasts_S8x4096x2048_S32768x2048) bitsLt_bf16_f32 : FVec Ideal S32768x2048 .bf16) := by
  simp only [V, hostOps0, TRef.unary, TRef.binary, TRef.toBuf, TRef.ofBuf, cast_eq]
  after_results_simp
  rfl

theorem V_weight (c : Dev nD) : V m c main_v2 = (truncf .bf16 (m ((c : Thread nD τ).loc main_arg1) : FVec Ideal S2048x2048 .f32) bitsLt_bf16_f32 : FVec Ideal S2048x2048 .bf16) := by
  simp only [V, hostOps0, TRef.unary, TRef.binary, TRef.toBuf, TRef.ofBuf, cast_eq]
  after_results_simp

theorem V_res (c : Dev nD) : V m c main_v3 = (shapeCast S32768x2048 (m ((c : Thread nD τ).loc main_arg2) : FVec Ideal S8x4096x2048 .f32)
    shapeCasts_S8x4096x2048_S32768x2048 : FVec Ideal S32768x2048 .f32) := by
  simp only [V, hostOps0, TRef.unary, TRef.binary, TRef.toBuf, TRef.ofBuf, cast_eq]
  after_results_simp
  rfl

theorem V_gate (c : Dev nD) : V m c main_v4 = (shapeCast S8x1x2048 (m ((c : Thread nD τ).loc main_arg3) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem act_apply (a : FVec Ideal S8x4096x2048 .f32) (b : Fin 8) (s : Fin 4096) (k : Fin 2048) :
    (truncf .bf16 (shapeCast S32768x2048 a shapeCasts_S8x4096x2048_S32768x2048) bitsLt_bf16_f32 : FVec Ideal S32768x2048 .bf16)
      (ix2 ⟨4096 * b.val + s.val, by omega⟩ k) = a (ix3 b s k) := by
  pointwise

theorem res_apply (x : FVec Ideal S8x4096x2048 .f32) (b : Fin 8) (s : Fin 4096) (n : Fin 2048) :
    (shapeCast S32768x2048 x shapeCasts_S8x4096x2048_S32768x2048 : FVec Ideal S32768x2048 .f32) (ix2 ⟨4096 * b.val + s.val, by omega⟩ n) = x (ix3 b s n) := by
  pointwise

theorem gate_apply (g : FVec Ideal S8x2048 .f32) (b : Fin 8) (n : Fin 2048) :
    (shapeCast S8x1x2048 g shapeCasts_S8x2048_S8x1x2048 : FVec Ideal S8x1x2048 .f32) (ix3 b 0 n) = g (ix2 b n) := by
  pointwise

/-! ## The whole array -/

/-- Row `1024 i + r` of all the batch's rows, as its sequence and its position there. -/
theorem row_eq (i r : ℕ) : 1024 * i + r = 4096 * (i / 4) + (1024 * (i % 4) + r) := by omega

theorem flushed_eq {c : Dev nD} {a w x g} (ha : a = m ((c : Thread nD τ).loc main_arg0)) (hw : w = m ((c : Thread nD τ).loc main_arg1))
    (hx : x = m ((c : Thread nD τ).loc main_arg2)) (hg : g = m ((c : Thread nD τ).loc main_arg3)) (t : Fin cfg0.N) :
    (dats m 0 c).flushed 4 t = ((cfg0.win 4).blk t).view.read (Elt Ideal) (result a w x g) := by
  have ht := point_lt t
  rw [Cert.OutIdeal.Value.flushed4 m c t, out_eq]
  funext y
  obtain ⟨r, n, rfl⟩ : ∃ (r : Fin 1024) (n : Fin 1024), y = (ix2 r n : S1024x1024.Idx) := ⟨y 0, y 1, (ix2_eta y).symm⟩
  refine Eq.trans ?_ (read_out (result a w x g) t _).symm
  rw [place_out]
  have hrow : (⟨1024 * (t.val / 2) + r.val, by omega⟩ : Fin 32768)
      = ⟨4096 * (⟨t.val / 8, by omega⟩ : Fin 8).val + (⟨1024 * (t.val / 2 % 4) + r.val, by omega⟩ : Fin 4096).val, by dsimp only; omega⟩ :=
    Fin.ext (by dsimp only; omega)
  rw [hrow, result_apply]
  refine Eq.trans (pay_apply (iblk m c 2 t) (iblk m c 3 t) (iblk m c 0 t) (iblk m c 1 t) r n) ?_
  refine congrArg₂ (· + ·) ?_ (congrArg₂ (· * ·) ?_ (Finset.sum_congr rfl fun k _ => congrArg₂ (· * ·) ?_ ?_))
  · refine (read_res (V m c main_v3) t _).trans ?_
    rw [place_res, V_res, ← hx, hrow, res_apply]
  · refine (read_gate (V m c main_v4) t _).trans ?_
    rw [place_gate, V_gate, ← hg, gate_apply]
  · refine (read_act (V m c main_v1) t _).trans ?_
    rw [place_act, V_act, ← ha, hrow, act_apply]
  · refine (read_weight (V m c main_v2) t _).trans ?_
    rw [place_weight, V_weight, ← hw]
    rfl

theorem array_eq {c : Dev nD} {a w x g} (ha : a = m ((c : Thread nD τ).loc main_arg0)) (hw : w = m ((c : Thread nD τ).loc main_arg1))
    (hx : x = m ((c : Thread nD τ).loc main_arg2)) (hg : g = m ((c : Thread nD τ).loc main_arg3)) :
    (dats m 0 c).arrAt 4 cfg0.N = result a w x g :=
  (dats m 0 c).arrAt_eq_of_cover 4 (result a w x g) (fun t _ => flushed_eq m ha hw hx hg t) fun i => by
    have h0 : (i 0 : Nat) < 32768 := (i 0).isLt
    have h1 : (i 1 : Nat) < 2048 := (i 1).isLt
    obtain ⟨t, ht⟩ : ∃ t : Fin cfg0.N, t.val = 2 * ((i 0 : Nat) / 1024) + (i 1 : Nat) / 1024 :=
      ⟨⟨2 * ((i 0 : Nat) / 1024) + (i 1 : Nat) / 1024, by rw [show cfg0.N = 64 from N_0]; omega⟩, rfl⟩
    refine ⟨t, flush0_4 t, ?_⟩
    have hi := index_out t
    show i ∈ ((View.whole main_v5).slice (win0_4.rect t)).set
    rw [View.set_slice_whole, Rect.mem_set_unit]
    intro a
    match a with
    | ⟨0, _⟩ =>
      show win0_4.index t 0 * 1024 ≤ (i 0 : Nat) ∧ (i 0 : Nat) < win0_4.index t 0 * 1024 + 1024
      rw [hi.1]; omega
    | ⟨1, _⟩ =>
      show win0_4.index t 1 * 1024 ≤ (i 1 : Nat) ∧ (i 1 : Nat) < win0_4.index t 1 * 1024 + 1024
      rw [hi.2]; omega

end Cert.Out

end
-- ==== Proof.LastRef.lean ====
/-
  The norm of the stream after the last layer, as the reference computes it, at an index.
-/
module

public import proofs.«01_k».proof.Proof.Gen.LastRefIdeal.Run
public import Idealize.ShloMosaic.Lib.Pointwise
public import Idealize.ShloMosaic.Lib.Claim

@[expose] public section

noncomputable section

namespace Cert.Last

open Idealize.ShloMosaic Cert.LastRefIdeal Cert.LastRefIdeal.Gen Idealize.ShloMosaic.TcCoe Idealize.ShloMosaic.Tactic

/-- A row's number by which the norm scales it, of the sum of the row's squares: the two words are 2048 and the small number added. -/
abbrev inv (q : EReal) : EReal := Ideal.rsqrt (Ideal.div q (Ideal.ofBits .f32 1157627904#32) + Ideal.ofBits .f32 897988541#32)

/-- The reference's lines: each row scaled, then multiplied by the gain. -/
def result (x : FVec Ideal S8x4096x2048 .f32) (g : FVec Ideal S2048 .f32) : FVec Ideal S32768x2048 .f32 :=
  shapeCast _ (mulf (mulf x (broadcastInDim S8x4096x2048 ![0, 1, 2] bcast_S8x4096x1_S8x4096x2048_0_1_2 (Host.rsqrt (addf (Host.divf
    (broadcastInDim S8x4096x1 ![0, 1] bcast_S8x4096_S8x4096x1_0_1 (Host.reduceAdd (mulf x x) (constant S_ .f32 0x00000000#32) reducesTo_S8x4096x2048_S8x4096_d2 h_S_))
    (broadcastInDim S8x4096x1 ![] bcast_S_S8x4096x1 (constant S_ .f32 0x45000000#32)))
    (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g)))
    shapeCasts_S8x4096x2048_S32768x2048

theorem result_apply (x : FVec Ideal S8x4096x2048 .f32) (g : FVec Ideal S2048 .f32) (b : Fin 8) (s : Fin 4096) (n : Fin 2048) :
    result x g (ix2 ⟨4096 * b.val + s.val, by omega⟩ n)
      = x (ix3 b s n) * inv (∑ k : Fin 2048, x (ix3 b s k) * x (ix3 b s k)) * g (ix1 n) := by
  pointwise [result]

end Cert.Last

end
-- ==== Proof.Last.lean ====
/-
  The norm of the stream after the last layer: the array that the call leaves is the reference's.
-/
module

public import proofs.«01_k».proof.Proof.LastRef
public import proofs.«01_k».proof.Proof.Gen.LastIdeal.Value
public import Idealize.ShloMosaic.Lib.Pointwise
public import Idealize.ShloMosaic.Lib.Claim
public import Idealize.ShloMosaic.Lib.Pipeline.Value
public import Idealize.ShloMosaic.Lib.Pipeline.ValueKit.Geometry

@[expose] public section

noncomputable section

namespace Cert.Last

open Idealize.ShloMosaic Cert.LastIdeal Cert.LastIdeal.Gen Idealize.ShloMosaic.TcCoe Idealize.ShloMosaic.Tactic
open Idealize.ShloMosaic.StableHlo

/-! ## One block -/

/-- What the body stores, at an index of the block. -/
theorem pay_apply (X0 : Vec Ideal S512x2048 .f32) (X1 : Vec Ideal S1x2048 .f32) (r : Fin 512) (n : Fin 2048) :
    k0_pay1 X0 X1 (ix2 r n) = X0 (ix2 r n) * inv (∑ k : Fin 2048, X0 (ix2 r k) * X0 (ix2 r k)) * X1 (ix2 0 n) := by
  pointwise [k0_pay1]

/-- The block the body leaves is its one store's. -/
theorem out_eq (X0 : Vec Ideal S512x2048 .f32) (X1 : Vec Ideal S1x2048 .f32) : out0_2 X0 X1 = k0_pay1 X0 X1 := by
  have z2 : (![0, 0] : Fin 2 → ℕ) = fun _ => 0 := by decide
  unfold out0_2
  rw [View.canon_unit_zero z2, View.ld_unit_zero z2, View.ld_unit_zero z2]

/-! ## The blocks' places -/

theorem point_lt (t : Fin cfg0.N) : t.val < 64 := lt_of_lt_of_eq t.isLt N_0

theorem index_row : ∀ t : Fin grid0.N, win0_0.index t 0 = t.val ∧ win0_0.index t 1 = 0 := by decide +kernel
theorem index_gain : ∀ t : Fin grid0.N, win0_1.index t 0 = 0 ∧ win0_1.index t 1 = 0 := by decide +kernel
theorem index_out : ∀ t : Fin grid0.N, win0_2.index t 0 = t.val ∧ win0_2.index t 1 = 0 := by decide +kernel

theorem place_row (t : Fin cfg0.N) (r : Fin 512) (n : Fin 2048) :
    (((cfg0.win 0).blk t).view.emb (ix2 r n : S512x2048.Idx) : S32768x2048.Idx) = ix2 ⟨512 * t.val + r.val, by have := point_lt t; omega⟩ n := by
  have hi := index_row t
  blk_ext [hi.1, hi.2]

theorem place_gain (t : Fin cfg0.N) (n : Fin 2048) :
    (((cfg0.win 1).blk t).view.emb (ix2 0 n : S1x2048.Idx) : S1x2048.Idx) = ix2 0 n := by
  have hi := index_gain t
  blk_ext [hi.1, hi.2]

theorem place_out (t : Fin cfg0.N) (r : Fin 512) (n : Fin 2048) :
    (((cfg0.win 2).blk t).view.emb (ix2 r n : S512x2048.Idx) : S32768x2048.Idx) = ix2 ⟨512 * t.val + r.val, by have := point_lt t; omega⟩ n := by
  have hi := index_out t
  blk_ext [hi.1, hi.2]

theorem read_row (f : FVec Ideal S32768x2048 .f32) (t : Fin cfg0.N) (y : S512x2048.Idx) :
    (((cfg0.win 0).blk t).view.read (Elt Ideal) f : Vec Ideal S512x2048 .f32) y = f (((cfg0.win 0).blk t).view.emb y) := rfl

theorem read_gain (f : FVec Ideal S1x2048 .f32) (t : Fin cfg0.N) (y : S1x2048.Idx) :
    (((cfg0.win 1).blk t).view.read (Elt Ideal) f : Vec Ideal S1x2048 .f32) y = f (((cfg0.win 1).blk t).view.emb y) := rfl

theorem read_out (f : FVec Ideal S32768x2048 .f32) (t : Fin cfg0.N) (y : S512x2048.Idx) :
    (((cfg0.win 2).blk t).view.read (Elt Ideal) f : Vec Ideal S512x2048 .f32) y = f (((cfg0.win 2).blk t).view.emb y) := rfl

/-! ## The arrays that the call reads -/

variable (m : (ℓ : Loc nD τ sig) → Buf (Elt Ideal) ℓ)

theorem V_row (c : Dev nD) : V m c main_v0 = (shapeCast S32768x2048 (m ((c : Thread nD τ).loc main_arg0) : FVec Ideal S8x4096x2048 .f32)
    shapeCasts_S8x4096x2048_S32768x2048 : FVec Ideal S32768x2048 .f32) := by
  simp only [V, hostOps0, TRef.unary, TRef.binary, TRef.toBuf, TRef.ofBuf, cast_eq]
  after_results_simp
  rfl

theorem V_gain (c : Dev nD) : V m c main_v1 = (shapeCast S1x2048 (m ((c : Thread nD τ).loc main_arg1) : FVec Ideal S2048 .f32)
    shapeCasts_S2048_S1x2048 : FVec Ideal S1x2048 .f32) := by
  simp only [V, hostOps0, TRef.unary, TRef.binary, TRef.toBuf, TRef.ofBuf, cast_eq]
  after_results_simp
  rfl

theorem row_apply (x : FVec Ideal S8x4096x2048 .f32) (b : Fin 8) (s : Fin 4096) (n : Fin 2048) :
    (shapeCast S32768x2048 x shapeCasts_S8x4096x2048_S32768x2048 : FVec Ideal S32768x2048 .f32) (ix2 ⟨4096 * b.val + s.val, by omega⟩ n) = x (ix3 b s n) := by
  pointwise

theorem gain_apply (g : FVec Ideal S2048 .f32) (n : Fin 2048) :
    (shapeCast S1x2048 g shapeCasts_S2048_S1x2048 : FVec Ideal S1x2048 .f32) (ix2 0 n) = g (ix1 n) := by
  pointwise

/-! ## The whole array -/

/-- A row of block `t`, at an entry. -/
theorem iblk_row {c : Dev nD} {x} (hx : x = m ((c : Thread nD τ).loc main_arg0)) (t : Fin cfg0.N) (r : Fin 512) (n : Fin 2048) :
    (iblk m c 0 t : Vec Ideal S512x2048 .f32) (ix2 r n)
      = (x : FVec Ideal S8x4096x2048 .f32) (ix3 ⟨t.val / 8, by have := point_lt t; omega⟩ ⟨512 * (t.val % 8) + r.val, by omega⟩ n) := by
  have ht := point_lt t
  refine (read_row (V m c main_v0) t _).trans ?_
  have hrow : (⟨512 * t.val + r.val, by omega⟩ : Fin 32768)
      = ⟨4096 * (⟨t.val / 8, by omega⟩ : Fin 8).val + (⟨512 * (t.val % 8) + r.val, by omega⟩ : Fin 4096).val, by dsimp only; omega⟩ :=
    Fin.ext (by dsimp only; omega)
  rw [place_row, V_row, ← hx, hrow, row_apply]

theorem flushed_eq {c : Dev nD} {x g} (hx : x = m ((c : Thread nD τ).loc main_arg0)) (hg : g = m ((c : Thread nD τ).loc main_arg1)) (t : Fin cfg0.N) :
    (dats m 0 c).flushed 2 t = ((cfg0.win 2).blk t).view.read (Elt Ideal) (result x g) := by
  have ht := point_lt t
  rw [Cert.LastIdeal.Value.flushed2 m c t, out_eq]
  funext y
  obtain ⟨r, n, rfl⟩ : ∃ (r : Fin 512) (n : Fin 2048), y = (ix2 r n : S512x2048.Idx) := ⟨y 0, y 1, (ix2_eta y).symm⟩
  refine Eq.trans ?_ (read_out (result x g) t _).symm
  rw [place_out]
  have hrow : (⟨512 * t.val + r.val, by omega⟩ : Fin 32768)
      = ⟨4096 * (⟨t.val / 8, by omega⟩ : Fin 8).val + (⟨512 * (t.val % 8) + r.val, by omega⟩ : Fin 4096).val, by dsimp only; omega⟩ :=
    Fin.ext (by dsimp only; omega)
  rw [hrow, result_apply]
  refine Eq.trans (pay_apply (iblk m c 0 t) (iblk m c 1 t) r n) ?_
  refine congrArg₂ (· * ·) (congrArg₂ (· * ·) (iblk_row m hx t r n)
    (congrArg inv (Finset.sum_congr rfl fun k _ => congrArg₂ (· * ·) (iblk_row m hx t r k) (iblk_row m hx t r k)))) ?_
  refine (read_gain (V m c main_v1) t _).trans ?_
  rw [place_gain, V_gain, ← hg, gain_apply]

theorem array_eq {c : Dev nD} {x g} (hx : x = m ((c : Thread nD τ).loc main_arg0)) (hg : g = m ((c : Thread nD τ).loc main_arg1)) :
    (dats m 0 c).arrAt 2 cfg0.N = result x g :=
  (dats m 0 c).arrAt_eq_of_cover 2 (result x g) (fun t _ => flushed_eq m hx hg t) fun i => by
    have h0 : (i 0 : Nat) < 32768 := (i 0).isLt
    have h1 : (i 1 : Nat) < 2048 := (i 1).isLt
    obtain ⟨t, ht⟩ : ∃ t : Fin cfg0.N, t.val = (i 0 : Nat) / 512 := ⟨⟨(i 0 : Nat) / 512, by rw [show cfg0.N = 64 from N_0]; omega⟩, rfl⟩
    refine ⟨t, flush0_2 t, ?_⟩
    have hi := index_out t
    show i ∈ ((View.whole main_v2).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.Last

end
-- ==== Proof.InRef.lean ====
/-
  The in-projections of the stick-breaking and of the differential attention, as the reference computes them, at an index:
  the norm with its modulation, the product, the factor on the queries' columns.
-/
module

public import proofs.«01_k».proof.Proof.UpRef
public import proofs.«01_k».proof.Proof.Gen.SbInRefIdeal.Run
public import proofs.«01_k».proof.Proof.Gen.DiffInRefIdeal.Run

@[expose] public section

set_option maxRecDepth 8192

noncomputable section

namespace Cert.In

open Idealize.ShloMosaic Cert.SbInRefIdeal Cert.SbInRefIdeal.Gen Idealize.ShloMosaic.TcCoe Idealize.ShloMosaic.Tactic
open Cert.FfnUp (hidden)

/-- The product with the weight. -/
def product (h : FVec Ideal S8x4096x2048 .f32) (w : FVec Ideal S2048x6144 .f32) : FVec Ideal S8x4096x6144 .f32 :=
  Host.dotGeneral dot_S8x4096x2048_S2048x6144_S8x4096x6144_2_0_01_1_n_n none h w

/-- The first 2048 columns, the queries', times the number of the word `κ`; the batch's rows one after the other. -/
def scaled (κ : BitVec 32) (p : FVec Ideal S8x4096x6144 .f32) : FVec Ideal S32768x6144 .bf16 :=
  truncf .bf16 (shapeCast _ (concatenate S8x4096x6144 2
    [⟨S8x4096x2048, (mulf (extractStridedSlice S8x4096x2048 ![0, 0, 0] p slices_S8x4096x6144_S8x4096x2048_0_0_0)
        (broadcastInDim S8x4096x2048 ![] bcast_S_S8x4096x2048 (constant S_ .f32 κ)))⟩,
      ⟨S8x4096x4096, (extractStridedSlice S8x4096x4096 ![0, 0, 2048] p slices_S8x4096x6144_S8x4096x4096_0_0_2048)⟩]
    concatenates_S8x4096x2048_S8x4096x4096_S8x4096x6144_d2) shapeCasts_S8x4096x6144_S32768x6144) bitsLt_bf16_f32

/-- All the lines. -/
def result (κ : BitVec 32) (x : FVec Ideal S8x4096x2048 .f32) (g : FVec Ideal S2048 .f32) (shift scale : FVec Ideal S8x2048 .f32) (w : FVec Ideal S2048x6144 .f32) :
    FVec Ideal S32768x6144 .bf16 :=
  scaled κ (product (hidden x g shift scale) w)

theorem product_apply (h : FVec Ideal S8x4096x2048 .f32) (w : FVec Ideal S2048x6144 .f32) (b : Fin 8) (s : Fin 4096) (n : Fin 6144) :
    product h w (ix3 b s n) = ∑ k : Fin 2048, h (ix3 b s k) * w (ix2 k n) := by
  pointwise [product]

theorem scaled_apply (κ : BitVec 32) (p : FVec Ideal S8x4096x6144 .f32) (b : Fin 8) (s : Fin 4096) (n : Fin 6144) :
    scaled κ p (ix2 ⟨4096 * b.val + s.val, by omega⟩ n) = p (ix3 b s n) * (if n.val < 2048 then Ideal.ofBits .f32 κ else 1) := by
  pointwise [scaled]
  by_cases h : n.val < 2048
  · rw [dif_pos h, if_pos h]
  · rw [dif_neg h, if_neg h, mul_one]
    exact congrArg (fun z : Fin 6144 => p (ix3 b s z)) (Fin.ext (by dsimp only; omega))

end Cert.In

end
-- ==== Proof.SbIn.lean ====
/-
  The stick-breaking attention's in-projection: the array that the call leaves is the reference's.
-/
module

public import proofs.«01_k».proof.Proof.InRef
public import proofs.«01_k».proof.Proof.Whole
public import proofs.«01_k».proof.Proof.Gen.SbInIdeal.Value
public import Idealize.ShloMosaic.Lib.Pipeline.ValueKit.Geometry

@[expose] public section

set_option maxRecDepth 16384

noncomputable section

namespace Cert.SbIn

open Idealize.ShloMosaic Cert.Whole Cert.SbInIdeal Cert.SbInIdeal.Gen Idealize.ShloMosaic.TcCoe Idealize.ShloMosaic.Tactic
open Idealize.ShloMosaic.StableHlo
open Cert.FfnUp (hidden row hidden_row)

/-- The word of the queries' factor. -/
abbrev κ : BitVec 32 := 0x3E0293EE#32

/-! ## One point: its arithmetic and its stores -/

theorem tile_apply (x : Vec Ideal S1024x2048 .f32) (g : Vec Ideal S1x2048 .f32) (scale shift : Vec Ideal S1x1x2048 .f32) (r : Fin 1024) (k : Fin 2048) :
    k0_pay3 (F := Ideal) x g scale shift (ix2 r k)
      = row (fun l => x (ix2 r l)) (fun l => g (ix2 0 l)) (fun l => scale (ix3 0 0 l)) (fun l => shift (ix3 0 0 l)) k := by
  pointwise [k0_pay3]

/-- One block of the product, the first two columns of blocks times the queries' factor. -/
theorem block_apply (i : grid0.Coords) (H : Vec Ideal S1024x2048 .bf16) (w : Vec Ideal S2048x1024 .bf16) (r n : Fin 1024) :
    k0_pay2 (F := Ideal) i H w (ix2 r n) = (∑ k : Fin 2048, H (ix2 r k) * w (ix2 k n)) * (if (i 1).val < 2 then Ideal.ofBits .f32 κ else 1) := by
  have hi : (i 1).val < 6 := (i 1).isLt
  have e : Scalar.select (Scalar.cmpi .slt (BitVec.ofNat 32 (i 1).val) 2#32) (Scalar.ofBits .f32 κ : Ideal .f32) (Scalar.ofBits .f32 0x3F800000#32)
      = if (i 1).val < 2 then Ideal.ofBits .f32 κ else 1 := by
    have o : (Scalar.ofBits .f32 0x3F800000#32 : Ideal .f32) = 1 := Ideal.ofBits_one_f32
    rw [o]
    generalize (i 1).val = n at hi ⊢
    interval_cases n <;> rfl
  rw [← e]
  pointwise [k0_pay2]

section

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x1024 .bf16) (harg6 : arg6.IsWhole) (arg7 : Memref sig .tc .vmem S1024x1024 .bf16) (harg7 : arg7.IsWhole)
  (arg8 : Memref sig .tc .vmem S1024x2048 .bf16) (harg8 : arg8.IsWhole)
  (x0 : Vec Ideal S1024x2048 .f32) (x1 : Vec Ideal S1x2048 .f32) (x2 x3 : Vec Ideal S1x1x2048 .f32) (x4 : Vec Ideal S2048x1024 .bf16)

theorem scratchA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).2.1
    = [⟨Rect.unit ![0, 0] S1024x2048.size inb_S1024x2048_S1024x2048_0_0, k0_pay3 (F := Ideal) (rd arg2 (harg2.unread x0) ![0, 0] inb_S1024x2048_S1024x2048_0_0)
        (rd arg3 (harg3.unread x1) ![0, 0] inb_S1x2048_S1x2048_0_0) (rd arg4 (harg4.unread x2) ![0, 0, 0] inb_S1x1x2048_S1x1x2048_0_0_0)
        (rd arg5 (harg5.unread x3) ![0, 0, 0] inb_S1x1x2048_S1x1x2048_0_0_0)⟩] := by
  unfold kernelRun0_A
  rfl

theorem outputA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).1
    = [⟨Rect.unit ![0, 0] S1024x1024.size inb_S1024x1024_S1024x1024_0_0, k0_pay2 (F := Ideal) i
        (arg8.view.readCov ((kernelRun0_A (F := Ideal) c i arg2 harg2 arg3 harg3 arg4 harg4 arg5 harg5 arg6 harg6 arg7 harg7 arg8 harg8 hc0 hc1 x0 x1 x2 x3 x4).2.1)
          (Rect.unit ![0, 0] S1024x2048.size inb_S1024x2048_S1024x2048_0_0).toLoadRect)
        (rd arg6 (harg6.unread x4) ![0, 0] inb_S2048x1024_S2048x1024_0_0)⟩] := by
  unfold kernelRun0_A
  rfl

theorem outputB (hc0 : ¬cond0_0 i) (hc1 : cond0_1 i) (xs0 : Vec Ideal S1024x2048 .bf16) :
    (kernelRun0_B (F := Ideal) c i arg2 harg2 arg3 harg3 arg4 harg4 arg5 harg5 arg6 harg6 arg7 harg7 arg8 harg8 hc0 hc1 x0 x1 x2 x3 x4 xs0).1
    = [⟨Rect.unit ![0, 0] S1024x1024.size inb_S1024x1024_S1024x1024_0_0, k0_pay2 (F := Ideal) i
        (rd arg8 (harg8.unread xs0) ![0, 0] inb_S1024x2048_S1024x2048_0_0) (rd arg6 (harg6.unread x4) ![0, 0] inb_S2048x1024_S2048x1024_0_0)⟩] := by
  unfold kernelRun0_B
  rfl

/-- The scratch buffer after a point at the start of a row of blocks. -/
theorem sout_eq (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4 = k0_pay3 (F := Ideal) x0 x1 x2 x3 := by
  unfold sout0_A_0
  rw [View.read_writes_junk_eq_canon, scratchA, View.canon_unit_zero zero2, rd_eq arg2 harg2 x0 zero2, rd_eq arg3 harg3 x1 zero2,
    rd_eq arg4 harg4 x2 zero3, rd_eq arg5 harg5 x3 zero3]

/-- The block a point at the start of a row of blocks writes. -/
theorem outA_eq (hc0 : cond0_0 i) (hc1 : ¬cond0_1 i) :
    out0_A_5 (F := Ideal) c i arg2 harg2 arg3 harg3 arg4 harg4 arg5 harg5 arg6 harg6 arg7 harg7 arg8 harg8 hc0 hc1 x0 x1 x2 x3 x4
      = k0_pay2 (F := Ideal) i (k0_pay3 (F := Ideal) x0 x1 x2 x3) x4 := by
  unfold out0_A_5
  rw [View.read_writes_junk_eq_canon, outputA, View.canon_unit_zero zero2, View.readCov_eq_canon', scratchA, View.canon_unit_zero zero2, rd_eq arg2 harg2 x0 zero2,
    rd_eq arg3 harg3 x1 zero2, rd_eq arg4 harg4 x2 zero3, rd_eq arg5 harg5 x3 zero3, rd_eq arg6 harg6 x4 zero2]
  exact congrArg (fun H => k0_pay2 (F := Ideal) i H x4) (box_eq (e := .bf16) (k0_pay3 (F := Ideal) x0 x1 x2 x3) zero2 inb_S1024x2048_S1024x2048_0_0)

/-- The block any other point writes. -/
theorem outB_eq (hc0 : ¬cond0_0 i) (hc1 : cond0_1 i) (xs0 : Vec Ideal S1024x2048 .bf16) :
    out0_B_5 (F := Ideal) c i arg2 harg2 arg3 harg3 arg4 harg4 arg5 harg5 arg6 harg6 arg7 harg7 arg8 harg8 hc0 hc1 x0 x1 x2 x3 x4 xs0 = k0_pay2 (F := Ideal) i xs0 x4 := by
  unfold out0_B_5
  rw [View.read_writes_junk_eq_canon, outputB, View.canon_unit_zero zero2, rd_eq arg8 harg8 xs0 zero2, rd_eq arg6 harg6 x4 zero2]

end

/-! ## The blocks' places -/

theorem point_lt (t : Fin cfg0.N) : t.val < 192 := lt_of_lt_of_eq t.isLt N_0

theorem coord_col : ∀ t : Fin grid0.N, (grid0.coords t 1).val = t.val % 6 := by decide +kernel
theorem index_tile : ∀ t : Fin grid0.N, win0_0.index t 0 = t.val / 6 ∧ win0_0.index t 1 = 0 := by decide +kernel
theorem index_norm : ∀ t : Fin grid0.N, win0_1.index t 0 = 0 ∧ win0_1.index t 1 = 0 := by decide +kernel
theorem index_scale : ∀ t : Fin grid0.N, win0_2.index t 0 = t.val / 24 ∧ win0_2.index t 1 = 0 ∧ win0_2.index t 2 = 0 := by decide +kernel
theorem index_shift : ∀ t : Fin grid0.N, win0_3.index t 0 = t.val / 24 ∧ win0_3.index t 1 = 0 ∧ win0_3.index t 2 = 0 := by decide +kernel
theorem index_weight : ∀ t : Fin grid0.N, win0_4.index t 0 = 0 ∧ win0_4.index t 1 = t.val % 6 := by decide +kernel
theorem index_out : ∀ t : Fin grid0.N, win0_5.index t 0 = t.val / 6 ∧ win0_5.index t 1 = t.val % 6 := by decide +kernel

theorem place_tile (t : Fin cfg0.N) (r : Fin 1024) (k : Fin 2048) :
    (((cfg0.win 0).blk t).view.emb (ix2 r k : S1024x2048.Idx) : S32768x2048.Idx) = ix2 ⟨1024 * (t.val / 6) + r.val, by have := point_lt t; omega⟩ k := by
  have hi := index_tile t
  blk_ext [hi.1, hi.2]

theorem place_norm (t : Fin cfg0.N) (k : Fin 2048) : (((cfg0.win 1).blk t).view.emb (ix2 0 k : S1x2048.Idx) : S1x2048.Idx) = ix2 0 k := by
  have hi := index_norm t
  blk_ext [hi.1, hi.2]

theorem place_scale (t : Fin cfg0.N) (k : Fin 2048) :
    (((cfg0.win 2).blk t).view.emb (ix3 0 0 k : S1x1x2048.Idx) : S8x1x2048.Idx) = ix3 ⟨t.val / 24, by have := point_lt t; omega⟩ 0 k := by
  have hi := index_scale t
  blk_ext [hi.1, hi.2.1, hi.2.2]

theorem place_shift (t : Fin cfg0.N) (k : Fin 2048) :
    (((cfg0.win 3).blk t).view.emb (ix3 0 0 k : S1x1x2048.Idx) : S8x1x2048.Idx) = ix3 ⟨t.val / 24, by have := point_lt t; omega⟩ 0 k := by
  have hi := index_shift t
  blk_ext [hi.1, hi.2.1, hi.2.2]

theorem place_weight (t : Fin cfg0.N) (k : Fin 2048) (n : Fin 1024) :
    (((cfg0.win 4).blk t).view.emb (ix2 k n : S2048x1024.Idx) : S2048x6144.Idx) = ix2 k ⟨1024 * (t.val % 6) + n.val, by omega⟩ := by
  have hi := index_weight t
  blk_ext [hi.1, hi.2]

theorem place_out (t : Fin cfg0.N) (r : Fin 1024) (n : Fin 1024) :
    (((cfg0.win 5).blk t).view.emb (ix2 r n : S1024x1024.Idx) : S32768x6144.Idx)
      = ix2 ⟨1024 * (t.val / 6) + r.val, by have := point_lt t; omega⟩ ⟨1024 * (t.val % 6) + n.val, by omega⟩ := by
  have hi := index_out t
  blk_ext [hi.1, hi.2]

theorem read_tile (f : FVec Ideal S32768x2048 .f32) (t : Fin cfg0.N) (y : S1024x2048.Idx) :
    (((cfg0.win 0).blk t).view.read (Elt Ideal) f : Vec Ideal S1024x2048 .f32) y = f (((cfg0.win 0).blk t).view.emb y) := rfl

theorem read_norm (f : FVec Ideal S1x2048 .f32) (t : Fin cfg0.N) (y : S1x2048.Idx) :
    (((cfg0.win 1).blk t).view.read (Elt Ideal) f : Vec Ideal S1x2048 .f32) y = f (((cfg0.win 1).blk t).view.emb y) := rfl

theorem read_scale (f : FVec Ideal S8x1x2048 .f32) (t : Fin cfg0.N) (y : S1x1x2048.Idx) :
    (((cfg0.win 2).blk t).view.read (Elt Ideal) f : Vec Ideal S1x1x2048 .f32) y = f (((cfg0.win 2).blk t).view.emb y) := rfl

theorem read_shift (f : FVec Ideal S8x1x2048 .f32) (t : Fin cfg0.N) (y : S1x1x2048.Idx) :
    (((cfg0.win 3).blk t).view.read (Elt Ideal) f : Vec Ideal S1x1x2048 .f32) y = f (((cfg0.win 3).blk t).view.emb y) := rfl

theorem read_weight (f : FVec Ideal S2048x6144 .bf16) (t : Fin cfg0.N) (y : S2048x1024.Idx) :
    (((cfg0.win 4).blk t).view.read (Elt Ideal) f : Vec Ideal S2048x1024 .bf16) y = f (((cfg0.win 4).blk t).view.emb y) := rfl

theorem read_out (f : FVec Ideal S32768x6144 .bf16) (t : Fin cfg0.N) (y : S1024x1024.Idx) :
    (((cfg0.win 5).blk t).view.read (Elt Ideal) f : Vec Ideal S1024x1024 .bf16) y = f (((cfg0.win 5).blk t).view.emb y) := rfl

/-! ## The arrays that the call reads -/

section

variable (m : (ℓ : Loc nD τ sig) → Buf (Elt Ideal) ℓ)

theorem V_rows (c : Dev nD) : V m c main_v0 = (shapeCast S32768x2048 (m ((c : Thread nD τ).loc main_arg0) : FVec Ideal S8x4096x2048 .f32)
    shapeCasts_S8x4096x2048_S32768x2048 : FVec Ideal S32768x2048 .f32) := by
  simp only [V, hostOps0, TRef.unary, TRef.binary, TRef.toBuf, TRef.ofBuf, cast_eq]
  after_results_simp
  rfl

theorem V_weight (c : Dev nD) : V m c main_v1 = (truncf .bf16 (m ((c : Thread nD τ).loc main_arg4) : FVec Ideal S2048x6144 .f32) bitsLt_bf16_f32 : FVec Ideal S2048x6144 .bf16) := by
  simp only [V, hostOps0, TRef.unary, TRef.binary, TRef.toBuf, TRef.ofBuf, cast_eq]
  after_results_simp

theorem V_norm (c : Dev nD) : V m c main_v2 = (shapeCast S1x2048 (m ((c : Thread nD τ).loc main_arg1) : FVec Ideal S2048 .f32)
    shapeCasts_S2048_S1x2048 : FVec Ideal S1x2048 .f32) := by
  simp only [V, hostOps0, TRef.unary, TRef.binary, TRef.toBuf, TRef.ofBuf, cast_eq]
  after_results_simp
  rfl

theorem V_scale (c : Dev nD) : V m c main_v3 = (shapeCast S8x1x2048 (m ((c : Thread nD τ).loc main_arg3) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem V_shift (c : Dev nD) : V m c main_v4 = (shapeCast S8x1x2048 (m ((c : Thread nD τ).loc main_arg2) : FVec Ideal S8x2048 .f32)
    shapeCasts_S8x2048_S8x1x2048 : FVec Ideal S8x1x2048 .f32) := by
  simp only [V, hostOps0, TRef.unary, TRef.binary, TRef.toBuf, TRef.ofBuf, cast_eq]
  after_results_simp
  rfl

theorem rows_apply (x : FVec Ideal S8x4096x2048 .f32) (b : Fin 8) (s : Fin 4096) (n : Fin 2048) :
    (shapeCast S32768x2048 x shapeCasts_S8x4096x2048_S32768x2048 : FVec Ideal S32768x2048 .f32) (ix2 ⟨4096 * b.val + s.val, by omega⟩ n) = x (ix3 b s n) := by
  pointwise

theorem norm_apply (g : FVec Ideal S2048 .f32) (n : Fin 2048) :
    (shapeCast S1x2048 g shapeCasts_S2048_S1x2048 : FVec Ideal S1x2048 .f32) (ix2 0 n) = g (ix1 n) := by
  pointwise

theorem mod_apply (g : FVec Ideal S8x2048 .f32) (b : Fin 8) (n : Fin 2048) :
    (shapeCast S8x1x2048 g shapeCasts_S8x2048_S8x1x2048 : FVec Ideal S8x1x2048 .f32) (ix3 b 0 n) = g (ix2 b n) := by
  pointwise

end

/-! ## The points -/

/-- `H` holds the norm's rows of row block `q`. -/
def Holds (x : FVec Ideal S8x4096x2048 .f32) (g : FVec Ideal S2048 .f32) (shift scale : FVec Ideal S8x2048 .f32) (q : ℕ) (hq : q < 32)
    (H : Vec Ideal S1024x2048 .bf16) : Prop :=
  ∀ (r : Fin 1024) (k : Fin 2048), H (ix2 r k) = hidden x g shift scale (ix3 ⟨q / 4, by omega⟩ ⟨1024 * (q % 4) + r.val, by omega⟩ k)

variable (m : (ℓ : Loc nD τ sig) → Buf (Elt Ideal) ℓ) {c : Dev nD} {x : FVec Ideal S8x4096x2048 .f32} {g : FVec Ideal S2048 .f32}
  {shift scale : FVec Ideal S8x2048 .f32} {w : FVec Ideal S2048x6144 .f32}

theorem row_lt (t : Fin cfg0.N) : t.val / 6 < 32 := by have := point_lt t; omega

variable (hx : x = m ((c : Thread nD τ).loc main_arg0)) (hg : g = m ((c : Thread nD τ).loc main_arg1))
  (hs : shift = m ((c : Thread nD τ).loc main_arg2)) (hc : scale = m ((c : Thread nD τ).loc main_arg3))

include hx hg hs hc in
/-- What a point at the start of a row of blocks leaves in the scratch buffer. -/
theorem tile_holds (t : Fin cfg0.N) :
    Holds x g shift scale (t.val / 6) (row_lt t) (k0_pay3 (F := Ideal) (iblk m c 0 t) (iblk m c 1 t) (iblk m c 2 t) (iblk m c 3 t)) := by
  intro r k
  have ht := point_lt t
  have hb : (⟨t.val / 24, by omega⟩ : Fin 8) = ⟨t.val / 6 / 4, by omega⟩ := Fin.ext (by dsimp only; omega)
  have hrow : (⟨1024 * (t.val / 6) + r.val, by omega⟩ : Fin 32768)
      = ⟨4096 * (⟨t.val / 6 / 4, by omega⟩ : Fin 8).val + (⟨1024 * (t.val / 6 % 4) + r.val, by omega⟩ : Fin 4096).val, by dsimp only; omega⟩ :=
    Fin.ext (by dsimp only; omega)
  have e0 : (fun l => (iblk m c 0 t : Vec Ideal S1024x2048 .f32) (ix2 r l)) = fun l => x (ix3 ⟨t.val / 6 / 4, by omega⟩ ⟨1024 * (t.val / 6 % 4) + r.val, by omega⟩ l) :=
    funext fun l => by
      refine (read_tile (V m c main_v0) t _).trans ?_
      rw [place_tile, V_rows, ← hx, hrow, rows_apply]
  have e1 : (fun l => (iblk m c 1 t : Vec Ideal S1x2048 .f32) (ix2 0 l)) = fun l => g (ix1 l) := funext fun l => by
    refine (read_norm (V m c main_v2) t _).trans ?_
    rw [place_norm, V_norm, ← hg, norm_apply]
  have e2 : (fun l => (iblk m c 2 t : Vec Ideal S1x1x2048 .f32) (ix3 0 0 l)) = fun l => scale (ix2 ⟨t.val / 6 / 4, by omega⟩ l) := funext fun l => by
    refine (read_scale (V m c main_v3) t _).trans ?_
    rw [place_scale, V_scale, ← hc, hb, mod_apply]
  have e3 : (fun l => (iblk m c 3 t : Vec Ideal S1x1x2048 .f32) (ix3 0 0 l)) = fun l => shift (ix2 ⟨t.val / 6 / 4, by omega⟩ l) := funext fun l => by
    refine (read_shift (V m c main_v4) t _).trans ?_
    rw [place_shift, V_shift, ← hs, hb, mod_apply]
  refine (tile_apply (iblk m c 0 t) (iblk m c 1 t) (iblk m c 2 t) (iblk m c 3 t) r k).trans ?_
  rw [e0, e1, e2, e3, hidden_row]

include hx hg hs hc in
/-- The scratch buffer holds the same rows after every point of a row of blocks. -/
theorem scratch_holds : ∀ (n : ℕ) (hn : n < cfg0.N), Holds x g shift scale (n / 6) (row_lt ⟨n, hn⟩) (outsAt0 m c n hn).2
  | n, hn => by
    by_cases h0 : n % 6 = 0
    · rw [outsAt0_A m c ⟨n, hn⟩ h0 (by dsimp only; omega)]
      dsimp only
      rw [sout_eq]
      exact tile_holds m hx hg hs hc ⟨n, hn⟩
    · obtain ⟨k, rfl⟩ : ∃ k, n = k + 1 := ⟨n - 1, by omega⟩
      have ih := scratch_holds k (by omega)
      have e : (k + 1) / 6 = k / 6 := by omega
      rw [outsAt0_B m c ⟨k + 1, hn⟩ h0 (by dsimp only; omega)]
      intro p l
      simp only [e]
      exact ih p l

variable (hw : w = m ((c : Thread nD τ).loc main_arg4))

include hw in
/-- An element of the reference's block, for any factor, of the rows in the scratch buffer. -/
theorem read_result (ζ : BitVec 32) (t : Fin cfg0.N) {H : Vec Ideal S1024x2048 .bf16} (h : Holds x g shift scale (t.val / 6) (row_lt t) H) (r n : Fin 1024) :
    (((cfg0.win 5).blk t).view.read (Elt Ideal) (In.result ζ x g shift scale w) : Vec Ideal S1024x1024 .bf16) (ix2 r n)
      = (∑ k : Fin 2048, H (ix2 r k) * (iblk m c 4 t : Vec Ideal S2048x1024 .bf16) (ix2 k n)) * (if t.val % 6 < 2 then Ideal.ofBits .f32 ζ else 1) := by
  have ht := point_lt t
  refine (read_out (In.result ζ x g shift scale w) t _).trans ?_
  rw [place_out]
  have hrow : (⟨1024 * (t.val / 6) + r.val, by omega⟩ : Fin 32768)
      = ⟨4096 * (⟨t.val / 6 / 4, by omega⟩ : Fin 8).val + (⟨1024 * (t.val / 6 % 4) + r.val, by omega⟩ : Fin 4096).val, by dsimp only; omega⟩ :=
    Fin.ext (by dsimp only; omega)
  have hsum : (∑ k : Fin 2048, H (ix2 r k) * (iblk m c 4 t : Vec Ideal S2048x1024 .bf16) (ix2 k n))
      = ∑ k : Fin 2048, hidden x g shift scale (ix3 ⟨t.val / 6 / 4, by omega⟩ ⟨1024 * (t.val / 6 % 4) + r.val, by omega⟩ k)
          * w (ix2 k ⟨1024 * (t.val % 6) + n.val, by omega⟩) := Finset.sum_congr rfl fun k _ => by
    rw [h r k]
    refine congrArg _ ((read_weight (V m c main_v1) t _).trans ?_)
    rw [place_weight, V_weight, ← hw]
    rfl
  have hif : (if t.val % 6 < 2 then Ideal.ofBits .f32 ζ else 1) = if 1024 * (t.val % 6) + n.val < 2048 then Ideal.ofBits .f32 ζ else 1 :=
    if_congr (by omega) rfl rfl
  rw [hrow, In.result, In.scaled_apply, In.product_apply, hsum, hif]

include hw in
/-- The block a point writes, of the rows in the scratch buffer. -/
theorem point_eq (t : Fin cfg0.N) {H : Vec Ideal S1024x2048 .bf16} (h : Holds x g shift scale (t.val / 6) (row_lt t) H) :
    k0_pay2 (F := Ideal) (grid0.coords t) H (iblk m c 4 t)
      = (((cfg0.win 5).blk t).view.read (Elt Ideal) (In.result κ x g shift scale w) : Vec Ideal S1024x1024 .bf16) := by
  funext y
  obtain ⟨r, n, rfl⟩ : ∃ (r : Fin 1024) (n : Fin 1024), y = (ix2 r n : S1024x1024.Idx) := ⟨y 0, y 1, (ix2_eta y).symm⟩
  rw [block_apply, coord_col, read_result m hw κ t h]

include hx hg hs hc hw in
theorem flushed_eq (t : Fin cfg0.N) : (dats m 0 c).flushed 5 t = ((cfg0.win 5).blk t).view.read (Elt Ideal) (In.result κ x g shift scale w) := by
  by_cases h0 : t.val % 6 = 0
  · rw [Cert.SbInIdeal.Value.flushed5_A m c t h0 (by omega), outA_eq]
    exact point_eq m hw t (tile_holds m hx hg hs hc t)
  · rw [Cert.SbInIdeal.Value.flushed5_B m c t h0 (by omega), outB_eq]
    have H := scratch_holds m hx hg hs hc (t.val - 1) (Nat.lt_of_le_of_lt (Nat.sub_le _ _) t.isLt)
    have e : (t.val - 1) / 6 = t.val / 6 := by omega
    refine point_eq m hw t ?_
    intro p l
    have := H p l
    simp only [e] at this
    exact this

include hx hg hs hc hw in
theorem array_eq : (dats m 0 c).arrAt 5 cfg0.N = In.result κ x g shift scale w :=
  (dats m 0 c).arrAt_eq_of_cover 5 (In.result κ x g shift scale w) (fun t _ => flushed_eq m hx hg hs hc hw t) fun i => by
    have h0 : (i 0 : Nat) < 32768 := (i 0).isLt
    have h1 : (i 1 : Nat) < 6144 := (i 1).isLt
    obtain ⟨t, ht⟩ : ∃ t : Fin cfg0.N, t.val = 6 * ((i 0 : Nat) / 1024) + (i 1 : Nat) / 1024 :=
      ⟨⟨6 * ((i 0 : Nat) / 1024) + (i 1 : Nat) / 1024, by rw [show cfg0.N = 192 from N_0]; omega⟩, rfl⟩
    refine ⟨t, flush0_5 t, ?_⟩
    have hi := index_out t
    show i ∈ ((View.whole main_v5).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [hi.1]; omega
    | ⟨1, _⟩ =>
      show win0_5.index t 1 * 1024 ≤ (i 1 : Nat) ∧ (i 1 : Nat) < win0_5.index t 1 * 1024 + 1024
      rw [hi.2]; omega

end Cert.SbIn

end
-- ==== Proof.DiffIn.lean ====
/-
  The differential attention's in-projection: the array that the call leaves is the reference's.
  The call is the stick-breaking attention's but for the factor, so what doesn't read the factor is that call's.
-/
module

public import proofs.«01_k».proof.Proof.SbIn
public import proofs.«01_k».proof.Proof.Gen.DiffInIdeal.Value

@[expose] public section

set_option maxRecDepth 16384

noncomputable section

namespace Cert.DiffIn

open Idealize.ShloMosaic Cert.Whole Cert.DiffInIdeal Cert.DiffInIdeal.Gen Idealize.ShloMosaic.TcCoe Idealize.ShloMosaic.Tactic
open Idealize.ShloMosaic.StableHlo
open Cert.SbIn (Holds row_lt)

/-- The word of the queries' factor. -/
abbrev κ : BitVec 32 := 0x3E38AA3B#32

/-! ## One point: its arithmetic and its stores -/

/-- One block of the product, the first two columns of blocks times the queries' factor. -/
theorem block_apply (i : grid0.Coords) (H : Vec Ideal S1024x2048 .bf16) (w : Vec Ideal S2048x1024 .bf16) (r n : Fin 1024) :
    k0_pay2 (F := Ideal) i H w (ix2 r n) = (∑ k : Fin 2048, H (ix2 r k) * w (ix2 k n)) * (if (i 1).val < 2 then Ideal.ofBits .f32 κ else 1) := by
  have hi : (i 1).val < 6 := (i 1).isLt
  have e : Scalar.select (Scalar.cmpi .slt (BitVec.ofNat 32 (i 1).val) 2#32) (Scalar.ofBits .f32 κ : Ideal .f32) (Scalar.ofBits .f32 0x3F800000#32)
      = if (i 1).val < 2 then Ideal.ofBits .f32 κ else 1 := by
    have o : (Scalar.ofBits .f32 0x3F800000#32 : Ideal .f32) = 1 := Ideal.ofBits_one_f32
    rw [o]
    generalize (i 1).val = n at hi ⊢
    interval_cases n <;> rfl
  rw [← e]
  pointwise [k0_pay2]

section

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x1024 .bf16) (harg6 : arg6.IsWhole) (arg7 : Memref sig .tc .vmem S1024x1024 .bf16) (harg7 : arg7.IsWhole)
  (arg8 : Memref sig .tc .vmem S1024x2048 .bf16) (harg8 : arg8.IsWhole)
  (x0 : Vec Ideal S1024x2048 .f32) (x1 : Vec Ideal S1x2048 .f32) (x2 x3 : Vec Ideal S1x1x2048 .f32) (x4 : Vec Ideal S2048x1024 .bf16)

theorem scratchA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).2.1
    = [⟨Rect.unit ![0, 0] S1024x2048.size inb_S1024x2048_S1024x2048_0_0, k0_pay3 (F := Ideal) (rd arg2 (harg2.unread x0) ![0, 0] inb_S1024x2048_S1024x2048_0_0)
        (rd arg3 (harg3.unread x1) ![0, 0] inb_S1x2048_S1x2048_0_0) (rd arg4 (harg4.unread x2) ![0, 0, 0] inb_S1x1x2048_S1x1x2048_0_0_0)
        (rd arg5 (harg5.unread x3) ![0, 0, 0] inb_S1x1x2048_S1x1x2048_0_0_0)⟩] := by
  unfold kernelRun0_A
  rfl

theorem outputA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).1
    = [⟨Rect.unit ![0, 0] S1024x1024.size inb_S1024x1024_S1024x1024_0_0, k0_pay2 (F := Ideal) i
        (arg8.view.readCov ((kernelRun0_A (F := Ideal) c i arg2 harg2 arg3 harg3 arg4 harg4 arg5 harg5 arg6 harg6 arg7 harg7 arg8 harg8 hc0 hc1 x0 x1 x2 x3 x4).2.1)
          (Rect.unit ![0, 0] S1024x2048.size inb_S1024x2048_S1024x2048_0_0).toLoadRect)
        (rd arg6 (harg6.unread x4) ![0, 0] inb_S2048x1024_S2048x1024_0_0)⟩] := by
  unfold kernelRun0_A
  rfl

theorem outputB (hc0 : ¬cond0_0 i) (hc1 : cond0_1 i) (xs0 : Vec Ideal S1024x2048 .bf16) :
    (kernelRun0_B (F := Ideal) c i arg2 harg2 arg3 harg3 arg4 harg4 arg5 harg5 arg6 harg6 arg7 harg7 arg8 harg8 hc0 hc1 x0 x1 x2 x3 x4 xs0).1
    = [⟨Rect.unit ![0, 0] S1024x1024.size inb_S1024x1024_S1024x1024_0_0, k0_pay2 (F := Ideal) i
        (rd arg8 (harg8.unread xs0) ![0, 0] inb_S1024x2048_S1024x2048_0_0) (rd arg6 (harg6.unread x4) ![0, 0] inb_S2048x1024_S2048x1024_0_0)⟩] := by
  unfold kernelRun0_B
  rfl

/-- The scratch buffer after a point at the start of a row of blocks. -/
theorem sout_eq (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4 = k0_pay3 (F := Ideal) x0 x1 x2 x3 := by
  unfold sout0_A_0
  rw [View.read_writes_junk_eq_canon, scratchA, View.canon_unit_zero zero2, rd_eq arg2 harg2 x0 zero2, rd_eq arg3 harg3 x1 zero2,
    rd_eq arg4 harg4 x2 zero3, rd_eq arg5 harg5 x3 zero3]

/-- The block a point at the start of a row of blocks writes. -/
theorem outA_eq (hc0 : cond0_0 i) (hc1 : ¬cond0_1 i) :
    out0_A_5 (F := Ideal) c i arg2 harg2 arg3 harg3 arg4 harg4 arg5 harg5 arg6 harg6 arg7 harg7 arg8 harg8 hc0 hc1 x0 x1 x2 x3 x4
      = k0_pay2 (F := Ideal) i (k0_pay3 (F := Ideal) x0 x1 x2 x3) x4 := by
  unfold out0_A_5
  rw [View.read_writes_junk_eq_canon, outputA, View.canon_unit_zero zero2, View.readCov_eq_canon', scratchA, View.canon_unit_zero zero2, rd_eq arg2 harg2 x0 zero2,
    rd_eq arg3 harg3 x1 zero2, rd_eq arg4 harg4 x2 zero3, rd_eq arg5 harg5 x3 zero3, rd_eq arg6 harg6 x4 zero2]
  exact congrArg (fun H => k0_pay2 (F := Ideal) i H x4) (box_eq (e := .bf16) (k0_pay3 (F := Ideal) x0 x1 x2 x3) zero2 inb_S1024x2048_S1024x2048_0_0)

/-- The block any other point writes. -/
theorem outB_eq (hc0 : ¬cond0_0 i) (hc1 : cond0_1 i) (xs0 : Vec Ideal S1024x2048 .bf16) :
    out0_B_5 (F := Ideal) c i arg2 harg2 arg3 harg3 arg4 harg4 arg5 harg5 arg6 harg6 arg7 harg7 arg8 harg8 hc0 hc1 x0 x1 x2 x3 x4 xs0 = k0_pay2 (F := Ideal) i xs0 x4 := by
  unfold out0_B_5
  rw [View.read_writes_junk_eq_canon, outputB, View.canon_unit_zero zero2, rd_eq arg8 harg8 xs0 zero2, rd_eq arg6 harg6 x4 zero2]

end

/-! ## The points -/

theorem coord_col : ∀ t : Fin grid0.N, (grid0.coords t 1).val = t.val % 6 := Cert.SbIn.coord_col
theorem index_out : ∀ t : Fin grid0.N, win0_5.index t 0 = t.val / 6 ∧ win0_5.index t 1 = t.val % 6 := Cert.SbIn.index_out

variable (m : (ℓ : Loc nD τ sig) → Buf (Elt Ideal) ℓ) {c : Dev nD} {x : FVec Ideal S8x4096x2048 .f32} {g : FVec Ideal S2048 .f32}
  {shift scale : FVec Ideal S8x2048 .f32} {w : FVec Ideal S2048x6144 .f32}

variable (hx : x = m ((c : Thread nD τ).loc main_arg0)) (hg : g = m ((c : Thread nD τ).loc main_arg1))
  (hs : shift = m ((c : Thread nD τ).loc main_arg2)) (hc : scale = m ((c : Thread nD τ).loc main_arg3))

include hx hg hs hc in
/-- What a point at the start of a row of blocks leaves in the scratch buffer. -/
theorem tile_holds (t : Fin cfg0.N) :
    Holds x g shift scale (t.val / 6) (row_lt t) (k0_pay3 (F := Ideal) (iblk m c 0 t) (iblk m c 1 t) (iblk m c 2 t) (iblk m c 3 t)) :=
  Cert.SbIn.tile_holds m hx hg hs hc t

include hx hg hs hc in
/-- The scratch buffer holds the same rows after every point of a row of blocks. -/
theorem scratch_holds : ∀ (n : ℕ) (hn : n < cfg0.N), Holds x g shift scale (n / 6) (row_lt ⟨n, hn⟩) (outsAt0 m c n hn).2
  | n, hn => by
    by_cases h0 : n % 6 = 0
    · rw [outsAt0_A m c ⟨n, hn⟩ h0 (by dsimp only; omega)]
      dsimp only
      rw [sout_eq]
      exact tile_holds m hx hg hs hc ⟨n, hn⟩
    · obtain ⟨k, rfl⟩ : ∃ k, n = k + 1 := ⟨n - 1, by omega⟩
      have ih := scratch_holds k (by omega)
      have e : (k + 1) / 6 = k / 6 := by omega
      rw [outsAt0_B m c ⟨k + 1, hn⟩ h0 (by dsimp only; omega)]
      intro p l
      simp only [e]
      exact ih p l

variable (hw : w = m ((c : Thread nD τ).loc main_arg4))

include hw in
/-- The block a point writes, of the rows in the scratch buffer. -/
theorem point_eq (t : Fin cfg0.N) {H : Vec Ideal S1024x2048 .bf16} (h : Holds x g shift scale (t.val / 6) (row_lt t) H) :
    k0_pay2 (F := Ideal) (grid0.coords t) H (iblk m c 4 t)
      = (((cfg0.win 5).blk t).view.read (Elt Ideal) (In.result κ x g shift scale w) : Vec Ideal S1024x1024 .bf16) := by
  funext y
  obtain ⟨r, n, rfl⟩ : ∃ (r : Fin 1024) (n : Fin 1024), y = (ix2 r n : S1024x1024.Idx) := ⟨y 0, y 1, (ix2_eta y).symm⟩
  rw [block_apply, coord_col]
  exact (Cert.SbIn.read_result m hw κ t h r n).symm

include hx hg hs hc hw in
theorem flushed_eq (t : Fin cfg0.N) : (dats m 0 c).flushed 5 t = ((cfg0.win 5).blk t).view.read (Elt Ideal) (In.result κ x g shift scale w) := by
  by_cases h0 : t.val % 6 = 0
  · rw [Cert.DiffInIdeal.Value.flushed5_A m c t h0 (by omega), outA_eq]
    exact point_eq m hw t (tile_holds m hx hg hs hc t)
  · rw [Cert.DiffInIdeal.Value.flushed5_B m c t h0 (by omega), outB_eq]
    have H := scratch_holds m hx hg hs hc (t.val - 1) (Nat.lt_of_le_of_lt (Nat.sub_le _ _) t.isLt)
    have e : (t.val - 1) / 6 = t.val / 6 := by omega
    refine point_eq m hw t ?_
    intro p l
    have := H p l
    simp only [e] at this
    exact this

include hx hg hs hc hw in
theorem array_eq : (dats m 0 c).arrAt 5 cfg0.N = In.result κ x g shift scale w :=
  (dats m 0 c).arrAt_eq_of_cover 5 (In.result κ x g shift scale w) (fun t _ => flushed_eq m hx hg hs hc hw t) fun i => by
    have h0 : (i 0 : Nat) < 32768 := (i 0).isLt
    have h1 : (i 1 : Nat) < 6144 := (i 1).isLt
    obtain ⟨t, ht⟩ : ∃ t : Fin cfg0.N, t.val = 6 * ((i 0 : Nat) / 1024) + (i 1 : Nat) / 1024 :=
      ⟨⟨6 * ((i 0 : Nat) / 1024) + (i 1 : Nat) / 1024, by rw [show cfg0.N = 192 from N_0]; omega⟩, rfl⟩
    refine ⟨t, flush0_5 t, ?_⟩
    have hi := index_out t
    show i ∈ ((View.whole main_v5).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [hi.1]; omega
    | ⟨1, _⟩ =>
      show win0_5.index t 1 * 1024 ≤ (i 1 : Nat) ∧ (i 1 : Nat) < win0_5.index t 1 * 1024 + 1024
      rw [hi.2]; omega

end Cert.DiffIn

end
-- ==== Proof.KvRef.lean ====
/-
  The latent attention's projection of its keys and values, as the reference computes it, at an index: the norm, the product.
-/
module

public import proofs.«01_k».proof.Proof.Gen.KvRefIdeal.Run
public import Idealize.ShloMosaic.Lib.Pointwise
public import Idealize.ShloMosaic.Lib.Claim

@[expose] public section

set_option maxRecDepth 8192

noncomputable section

namespace Cert.Kv

open Idealize.ShloMosaic Cert.KvRefIdeal Cert.KvRefIdeal.Gen Idealize.ShloMosaic.TcCoe Idealize.ShloMosaic.Tactic

/-- The norm: `rmsnorm(a, g)`. -/
def normed (a : FVec Ideal S8x4096x512 .f32) (g : FVec Ideal S512 .f32) : FVec Ideal S8x4096x512 .f32 :=
  mulf (mulf a (broadcastInDim S8x4096x512 ![0, 1, 2] bcast_S8x4096x1_S8x4096x512_0_1_2 (Host.rsqrt (addf (Host.divf
      (broadcastInDim S8x4096x1 ![0, 1] bcast_S8x4096_S8x4096x1_0_1 (Host.reduceAdd (mulf a a) (constant S_ .f32 0x00000000#32) reducesTo_S8x4096x512_S8x4096_d2 h_S_))
      (broadcastInDim S8x4096x1 ![] bcast_S_S8x4096x1 (constant S_ .f32 0x44000000#32)))
      (broadcastInDim S8x4096x1 ![] bcast_S_S8x4096x1 (constant S_ .f32 0x358637BD#32))))))
    (broadcastInDim S8x4096x512 ![0, 1, 2] bcast_S1x1x512_S8x4096x512_0_1_2 (broadcastInDim S1x1x512 ![2] bcast_S512_S1x1x512_2 g))

/-- All the lines: the norm and the product with the weight, the batch's rows one after the other. -/
def result (a : FVec Ideal S8x4096x512 .f32) (g : FVec Ideal S512 .f32) (w : FVec Ideal S512x4096 .f32) : FVec Ideal S32768x4096 .bf16 :=
  truncf .bf16 (shapeCast _ (Host.dotGeneral dot_S8x4096x512_S512x4096_S8x4096x4096_2_0_01_1_n_n none (normed a g) w) shapeCasts_S8x4096x4096_S32768x4096) bitsLt_bf16_f32

/-- A row of the norm: the two words are 512 and the small number added. -/
abbrev row (x g : Fin 512 → EReal) (k : Fin 512) : EReal :=
  x k * Ideal.rsqrt (Ideal.div (∑ l : Fin 512, x l * x l) (Ideal.ofBits .f32 1140850688#32) + Ideal.ofBits .f32 897988541#32) * g k

theorem normed_apply (a : FVec Ideal S8x4096x512 .f32) (g : FVec Ideal S512 .f32) (b : Fin 8) (s : Fin 4096) (k : Fin 512) :
    normed a g (ix3 b s k) = row (fun l => a (ix3 b s l)) (fun l => g (ix1 l)) k := by
  pointwise [normed]

theorem result_apply (a : FVec Ideal S8x4096x512 .f32) (g : FVec Ideal S512 .f32) (w : FVec Ideal S512x4096 .f32) (b : Fin 8) (s : Fin 4096) (n : Fin 4096) :
    result a g w (ix2 ⟨4096 * b.val + s.val, by omega⟩ n) = ∑ k : Fin 512, normed a g (ix3 b s k) * w (ix2 k n) := by
  generalize hh : normed a g = h
  simp only [result, hh]
  pointwise

end Cert.Kv

end
-- ==== Proof.Kv.lean ====
/-
  The latent attention's projection of its keys and values: the array that the call leaves is the reference's.
-/
module

public import proofs.«01_k».proof.Proof.KvRef
public import proofs.«01_k».proof.Proof.Whole
public import proofs.«01_k».proof.Proof.Gen.KvIdeal.Value
public import Idealize.ShloMosaic.Lib.Pipeline.ValueKit.Geometry

@[expose] public section

set_option maxRecDepth 16384

noncomputable section

namespace Cert.Kv

open Idealize.ShloMosaic Cert.Whole Cert.KvIdeal Cert.KvIdeal.Gen Idealize.ShloMosaic.TcCoe Idealize.ShloMosaic.Tactic
open Idealize.ShloMosaic.StableHlo

/-! ## One point: its arithmetic and its stores -/

/-- A row of the tile: the norm, then the modulation. -/
theorem tile_apply (x : Vec Ideal S1024x512 .f32) (g : Vec Ideal S1x512 .f32) (scale shift : Vec Ideal S1x1x512 .f32) (r : Fin 1024) (k : Fin 512) :
    k0_pay2 (F := Ideal) x g scale shift (ix2 r k)
      = row (fun l => x (ix2 r l)) (fun l => g (ix2 0 l)) k * (1 + scale (ix3 0 0 k)) + shift (ix3 0 0 k) := by
  pointwise [k0_pay2]

/-- One block of the product. -/
theorem block_apply (H : Vec Ideal S1024x512 .bf16) (w : Vec Ideal S512x1024 .bf16) (r n : Fin 1024) :
    k0_pay1 (F := Ideal) H w (ix2 r n) = ∑ k : Fin 512, H (ix2 r k) * w (ix2 k n) := by
  pointwise [k0_pay1]

section

variable (c : Dev nD) (i : grid0.Coords) (arg2 : Memref sig .tc .vmem S1024x512 .f32) (harg2 : arg2.IsWhole) (arg3 : Memref sig .tc .vmem S1x512 .f32) (harg3 : arg3.IsWhole)
  (arg4 : Memref sig .tc .vmem S1x1x512 .f32) (harg4 : arg4.IsWhole) (arg5 : Memref sig .tc .vmem S1x1x512 .f32) (harg5 : arg5.IsWhole)
  (arg6 : Memref sig .tc .vmem S512x1024 .bf16) (harg6 : arg6.IsWhole) (arg7 : Memref sig .tc .vmem S1024x1024 .bf16) (harg7 : arg7.IsWhole)
  (arg8 : Memref sig .tc .vmem S1024x512 .bf16) (harg8 : arg8.IsWhole)
  (x0 : Vec Ideal S1024x512 .f32) (x1 : Vec Ideal S1x512 .f32) (x2 x3 : Vec Ideal S1x1x512 .f32) (x4 : Vec Ideal S512x1024 .bf16)

theorem scratchA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).2.1
    = [⟨Rect.unit ![0, 0] S1024x512.size inb_S1024x512_S1024x512_0_0, k0_pay2 (F := Ideal) (rd arg2 (harg2.unread x0) ![0, 0] inb_S1024x512_S1024x512_0_0)
        (rd arg3 (harg3.unread x1) ![0, 0] inb_S1x512_S1x512_0_0) (rd arg4 (harg4.unread x2) ![0, 0, 0] inb_S1x1x512_S1x1x512_0_0_0)
        (rd arg5 (harg5.unread x3) ![0, 0, 0] inb_S1x1x512_S1x1x512_0_0_0)⟩] := by
  unfold kernelRun0_A
  rfl

theorem outputA (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).1
    = [⟨Rect.unit ![0, 0] S1024x1024.size inb_S1024x1024_S1024x1024_0_0, k0_pay1 (F := Ideal)
        (arg8.view.readCov ((kernelRun0_A (F := Ideal) c i arg2 harg2 arg3 harg3 arg4 harg4 arg5 harg5 arg6 harg6 arg7 harg7 arg8 harg8 hc0 hc1 x0 x1 x2 x3 x4).2.1)
          (Rect.unit ![0, 0] S1024x512.size inb_S1024x512_S1024x512_0_0).toLoadRect)
        (rd arg6 (harg6.unread x4) ![0, 0] inb_S512x1024_S512x1024_0_0)⟩] := by
  unfold kernelRun0_A
  rfl

theorem outputB (hc0 : ¬cond0_0 i) (hc1 : cond0_1 i) (xs0 : Vec Ideal S1024x512 .bf16) :
    (kernelRun0_B (F := Ideal) c i arg2 harg2 arg3 harg3 arg4 harg4 arg5 harg5 arg6 harg6 arg7 harg7 arg8 harg8 hc0 hc1 x0 x1 x2 x3 x4 xs0).1
    = [⟨Rect.unit ![0, 0] S1024x1024.size inb_S1024x1024_S1024x1024_0_0, k0_pay1 (F := Ideal)
        (rd arg8 (harg8.unread xs0) ![0, 0] inb_S1024x512_S1024x512_0_0) (rd arg6 (harg6.unread x4) ![0, 0] inb_S512x1024_S512x1024_0_0)⟩] := by
  unfold kernelRun0_B
  rfl

/-- The scratch buffer after a point at the start of a row of blocks. -/
theorem sout_eq (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4 = k0_pay2 (F := Ideal) x0 x1 x2 x3 := by
  unfold sout0_A_0
  rw [View.read_writes_junk_eq_canon, scratchA, View.canon_unit_zero zero2, rd_eq arg2 harg2 x0 zero2, rd_eq arg3 harg3 x1 zero2,
    rd_eq arg4 harg4 x2 zero3, rd_eq arg5 harg5 x3 zero3]

/-- The block a point at the start of a row of blocks writes. -/
theorem outA_eq (hc0 : cond0_0 i) (hc1 : ¬cond0_1 i) :
    out0_A_5 (F := Ideal) c i arg2 harg2 arg3 harg3 arg4 harg4 arg5 harg5 arg6 harg6 arg7 harg7 arg8 harg8 hc0 hc1 x0 x1 x2 x3 x4
      = k0_pay1 (F := Ideal) (k0_pay2 (F := Ideal) x0 x1 x2 x3) x4 := by
  unfold out0_A_5
  rw [View.read_writes_junk_eq_canon, outputA, View.canon_unit_zero zero2, View.readCov_eq_canon', scratchA, View.canon_unit_zero zero2, rd_eq arg2 harg2 x0 zero2,
    rd_eq arg3 harg3 x1 zero2, rd_eq arg4 harg4 x2 zero3, rd_eq arg5 harg5 x3 zero3, rd_eq arg6 harg6 x4 zero2]
  exact congrArg (fun H => k0_pay1 (F := Ideal) H x4) (box_eq (e := .bf16) (k0_pay2 (F := Ideal) x0 x1 x2 x3) zero2 inb_S1024x512_S1024x512_0_0)

/-- The block any other point writes. -/
theorem outB_eq (hc0 : ¬cond0_0 i) (hc1 : cond0_1 i) (xs0 : Vec Ideal S1024x512 .bf16) :
    out0_B_5 (F := Ideal) c i arg2 harg2 arg3 harg3 arg4 harg4 arg5 harg5 arg6 harg6 arg7 harg7 arg8 harg8 hc0 hc1 x0 x1 x2 x3 x4 xs0 = k0_pay1 (F := Ideal) xs0 x4 := by
  unfold out0_B_5
  rw [View.read_writes_junk_eq_canon, outputB, View.canon_unit_zero zero2, rd_eq arg8 harg8 xs0 zero2, rd_eq arg6 harg6 x4 zero2]

end

/-! ## The blocks' places -/

theorem point_lt (t : Fin cfg0.N) : t.val < 128 := lt_of_lt_of_eq t.isLt N_0

theorem index_tile : ∀ t : Fin grid0.N, win0_0.index t 0 = t.val / 4 ∧ win0_0.index t 1 = 0 := by decide +kernel
theorem index_norm : ∀ t : Fin grid0.N, win0_1.index t 0 = 0 ∧ win0_1.index t 1 = 0 := by decide +kernel
theorem index_scale : ∀ t : Fin grid0.N, win0_2.index t 0 = t.val / 16 ∧ win0_2.index t 1 = 0 ∧ win0_2.index t 2 = 0 := by decide +kernel
theorem index_shift : ∀ t : Fin grid0.N, win0_3.index t 0 = t.val / 16 ∧ win0_3.index t 1 = 0 ∧ win0_3.index t 2 = 0 := by decide +kernel
theorem index_weight : ∀ t : Fin grid0.N, win0_4.index t 0 = 0 ∧ win0_4.index t 1 = t.val % 4 := by decide +kernel
theorem index_out : ∀ t : Fin grid0.N, win0_5.index t 0 = t.val / 4 ∧ win0_5.index t 1 = t.val % 4 := by decide +kernel

theorem place_tile (t : Fin cfg0.N) (r : Fin 1024) (k : Fin 512) :
    (((cfg0.win 0).blk t).view.emb (ix2 r k : S1024x512.Idx) : S32768x512.Idx) = ix2 ⟨1024 * (t.val / 4) + r.val, by have := point_lt t; omega⟩ k := by
  have hi := index_tile t
  blk_ext [hi.1, hi.2]

theorem place_norm (t : Fin cfg0.N) (k : Fin 512) : (((cfg0.win 1).blk t).view.emb (ix2 0 k : S1x512.Idx) : S1x512.Idx) = ix2 0 k := by
  have hi := index_norm t
  blk_ext [hi.1, hi.2]

theorem place_scale (t : Fin cfg0.N) (k : Fin 512) :
    (((cfg0.win 2).blk t).view.emb (ix3 0 0 k : S1x1x512.Idx) : S8x1x512.Idx) = ix3 ⟨t.val / 16, by have := point_lt t; omega⟩ 0 k := by
  have hi := index_scale t
  blk_ext [hi.1, hi.2.1, hi.2.2]

theorem place_shift (t : Fin cfg0.N) (k : Fin 512) :
    (((cfg0.win 3).blk t).view.emb (ix3 0 0 k : S1x1x512.Idx) : S8x1x512.Idx) = ix3 ⟨t.val / 16, by have := point_lt t; omega⟩ 0 k := by
  have hi := index_shift t
  blk_ext [hi.1, hi.2.1, hi.2.2]

theorem place_weight (t : Fin cfg0.N) (k : Fin 512) (n : Fin 1024) :
    (((cfg0.win 4).blk t).view.emb (ix2 k n : S512x1024.Idx) : S512x4096.Idx) = ix2 k ⟨1024 * (t.val % 4) + n.val, by omega⟩ := by
  have hi := index_weight t
  blk_ext [hi.1, hi.2]

theorem place_out (t : Fin cfg0.N) (r : Fin 1024) (n : Fin 1024) :
    (((cfg0.win 5).blk t).view.emb (ix2 r n : S1024x1024.Idx) : S32768x4096.Idx)
      = ix2 ⟨1024 * (t.val / 4) + r.val, by have := point_lt t; omega⟩ ⟨1024 * (t.val % 4) + n.val, by omega⟩ := by
  have hi := index_out t
  blk_ext [hi.1, hi.2]

theorem read_tile (f : FVec Ideal S32768x512 .f32) (t : Fin cfg0.N) (y : S1024x512.Idx) :
    (((cfg0.win 0).blk t).view.read (Elt Ideal) f : Vec Ideal S1024x512 .f32) y = f (((cfg0.win 0).blk t).view.emb y) := rfl

theorem read_norm (f : FVec Ideal S1x512 .f32) (t : Fin cfg0.N) (y : S1x512.Idx) :
    (((cfg0.win 1).blk t).view.read (Elt Ideal) f : Vec Ideal S1x512 .f32) y = f (((cfg0.win 1).blk t).view.emb y) := rfl

theorem read_scale (f : FVec Ideal S8x1x512 .f32) (t : Fin cfg0.N) (y : S1x1x512.Idx) :
    (((cfg0.win 2).blk t).view.read (Elt Ideal) f : Vec Ideal S1x1x512 .f32) y = f (((cfg0.win 2).blk t).view.emb y) := rfl

theorem read_shift (f : FVec Ideal S8x1x512 .f32) (t : Fin cfg0.N) (y : S1x1x512.Idx) :
    (((cfg0.win 3).blk t).view.read (Elt Ideal) f : Vec Ideal S1x1x512 .f32) y = f (((cfg0.win 3).blk t).view.emb y) := rfl

theorem read_weight (f : FVec Ideal S512x4096 .bf16) (t : Fin cfg0.N) (y : S512x1024.Idx) :
    (((cfg0.win 4).blk t).view.read (Elt Ideal) f : Vec Ideal S512x1024 .bf16) y = f (((cfg0.win 4).blk t).view.emb y) := rfl

theorem read_out (f : FVec Ideal S32768x4096 .bf16) (t : Fin cfg0.N) (y : S1024x1024.Idx) :
    (((cfg0.win 5).blk t).view.read (Elt Ideal) f : Vec Ideal S1024x1024 .bf16) y = f (((cfg0.win 5).blk t).view.emb y) := rfl

/-! ## The arrays that the call reads -/

section

variable (m : (ℓ : Loc nD τ sig) → Buf (Elt Ideal) ℓ)

theorem V_rows (c : Dev nD) : V m c main_v1 = (shapeCast S32768x512 (m ((c : Thread nD τ).loc main_arg0) : FVec Ideal S8x4096x512 .f32)
    shapeCasts_S8x4096x512_S32768x512 : FVec Ideal S32768x512 .f32) := by
  simp only [V, hostOps0, TRef.unary, TRef.binary, TRef.toBuf, TRef.ofBuf, cast_eq]
  after_results_simp
  rfl

theorem V_weight (c : Dev nD) : V m c main_v2 = (truncf .bf16 (m ((c : Thread nD τ).loc main_arg2) : FVec Ideal S512x4096 .f32) bitsLt_bf16_f32 : FVec Ideal S512x4096 .bf16) := by
  simp only [V, hostOps0, TRef.unary, TRef.binary, TRef.toBuf, TRef.ofBuf, cast_eq]
  after_results_simp

theorem V_norm (c : Dev nD) : V m c main_v3 = (shapeCast S1x512 (m ((c : Thread nD τ).loc main_arg1) : FVec Ideal S512 .f32)
    shapeCasts_S512_S1x512 : FVec Ideal S1x512 .f32) := by
  simp only [V, hostOps0, TRef.unary, TRef.binary, TRef.toBuf, TRef.ofBuf, cast_eq]
  after_results_simp
  rfl

/-- The modulation's two arrays, which here are zero. -/
def zeros : FVec Ideal S8x1x512 .f32 := shapeCast S8x1x512 (broadcastInDim S8x512 ![] bcast_S_S8x512 (constant S_ .f32 0x00000000#32)) shapeCasts_S8x512_S8x1x512

theorem zeros_apply (b : Fin 8) (k : Fin 512) : zeros (ix3 b 0 k) = 0 := by
  pointwise [zeros]

theorem V_scale (c : Dev nD) : V m c main_v4 = zeros := by
  simp only [V, hostOps0, TRef.nullary, TRef.unary, TRef.binary, TRef.toBuf, TRef.ofBuf, cast_eq]
  after_results_simp
  rfl

theorem V_shift (c : Dev nD) : V m c main_v5 = zeros := by
  simp only [V, hostOps0, TRef.nullary, TRef.unary, TRef.binary, TRef.toBuf, TRef.ofBuf, cast_eq]
  after_results_simp
  rfl

theorem rows_apply (x : FVec Ideal S8x4096x512 .f32) (b : Fin 8) (s : Fin 4096) (n : Fin 512) :
    (shapeCast S32768x512 x shapeCasts_S8x4096x512_S32768x512 : FVec Ideal S32768x512 .f32) (ix2 ⟨4096 * b.val + s.val, by omega⟩ n) = x (ix3 b s n) := by
  pointwise

theorem norm_apply (g : FVec Ideal S512 .f32) (n : Fin 512) :
    (shapeCast S1x512 g shapeCasts_S512_S1x512 : FVec Ideal S1x512 .f32) (ix2 0 n) = g (ix1 n) := by
  pointwise

end

/-! ## The points -/

/-- `H` holds the norm's rows of row block `q`. -/
def Holds (x : FVec Ideal S8x4096x512 .f32) (g : FVec Ideal S512 .f32) (q : ℕ) (hq : q < 32)
    (H : Vec Ideal S1024x512 .bf16) : Prop :=
  ∀ (r : Fin 1024) (k : Fin 512), H (ix2 r k) = normed x g (ix3 ⟨q / 4, by omega⟩ ⟨1024 * (q % 4) + r.val, by omega⟩ k)

variable (m : (ℓ : Loc nD τ sig) → Buf (Elt Ideal) ℓ) {c : Dev nD} {x : FVec Ideal S8x4096x512 .f32} {g : FVec Ideal S512 .f32} {w : FVec Ideal S512x4096 .f32}

theorem row_lt (t : Fin cfg0.N) : t.val / 4 < 32 := by have := point_lt t; omega

variable (hx : x = m ((c : Thread nD τ).loc main_arg0)) (hg : g = m ((c : Thread nD τ).loc main_arg1))

include hx hg in
/-- What a point at the start of a row of blocks leaves in the scratch buffer. -/
theorem tile_holds (t : Fin cfg0.N) :
    Holds x g (t.val / 4) (row_lt t) (k0_pay2 (F := Ideal) (iblk m c 0 t) (iblk m c 1 t) (iblk m c 2 t) (iblk m c 3 t)) := by
  intro r k
  have ht := point_lt t
  have hrow : (⟨1024 * (t.val / 4) + r.val, by omega⟩ : Fin 32768)
      = ⟨4096 * (⟨t.val / 4 / 4, by omega⟩ : Fin 8).val + (⟨1024 * (t.val / 4 % 4) + r.val, by omega⟩ : Fin 4096).val, by dsimp only; omega⟩ :=
    Fin.ext (by dsimp only; omega)
  have e0 : (fun l => (iblk m c 0 t : Vec Ideal S1024x512 .f32) (ix2 r l)) = fun l => x (ix3 ⟨t.val / 4 / 4, by omega⟩ ⟨1024 * (t.val / 4 % 4) + r.val, by omega⟩ l) :=
    funext fun l => by
      refine (read_tile (V m c main_v1) t _).trans ?_
      rw [place_tile, V_rows, ← hx, hrow, rows_apply]
  have e1 : (fun l => (iblk m c 1 t : Vec Ideal S1x512 .f32) (ix2 0 l)) = fun l => g (ix1 l) := funext fun l => by
    refine (read_norm (V m c main_v3) t _).trans ?_
    rw [place_norm, V_norm, ← hg, norm_apply]
  have e2 : (iblk m c 2 t : Vec Ideal S1x1x512 .f32) (ix3 0 0 k) = (0 : EReal) := by
    refine (read_scale (V m c main_v4) t _).trans ?_
    rw [place_scale, V_scale, zeros_apply]
  have e3 : (iblk m c 3 t : Vec Ideal S1x1x512 .f32) (ix3 0 0 k) = (0 : EReal) := by
    refine (read_shift (V m c main_v5) t _).trans ?_
    rw [place_shift, V_shift, zeros_apply]
  refine (tile_apply (iblk m c 0 t) (iblk m c 1 t) (iblk m c 2 t) (iblk m c 3 t) r k).trans ?_
  rw [e0, e1, e2, e3, normed_apply, add_zero, add_zero]
  exact mul_one _

include hx hg in
/-- The scratch buffer holds the same rows after every point of a row of blocks. -/
theorem scratch_holds : ∀ (n : ℕ) (hn : n < cfg0.N), Holds x g (n / 4) (row_lt ⟨n, hn⟩) (outsAt0 m c n hn).2
  | n, hn => by
    by_cases h0 : n % 4 = 0
    · rw [outsAt0_A m c ⟨n, hn⟩ h0 (by dsimp only; omega)]
      dsimp only
      rw [sout_eq]
      exact tile_holds m hx hg ⟨n, hn⟩
    · obtain ⟨k, rfl⟩ : ∃ k, n = k + 1 := ⟨n - 1, by omega⟩
      have ih := scratch_holds k (by omega)
      have e : (k + 1) / 4 = k / 4 := by omega
      rw [outsAt0_B m c ⟨k + 1, hn⟩ h0 (by dsimp only; omega)]
      intro p l
      simp only [e]
      exact ih p l

variable (hw : w = m ((c : Thread nD τ).loc main_arg2))

include hw in
/-- The block a point writes, of the rows in the scratch buffer. -/
theorem point_eq (t : Fin cfg0.N) {H : Vec Ideal S1024x512 .bf16} (h : Holds x g (t.val / 4) (row_lt t) H) :
    k0_pay1 (F := Ideal) H (iblk m c 4 t) = (((cfg0.win 5).blk t).view.read (Elt Ideal) (result x g w) : Vec Ideal S1024x1024 .bf16) := by
  have ht := point_lt t
  funext y
  obtain ⟨r, n, rfl⟩ : ∃ (r : Fin 1024) (n : Fin 1024), y = (ix2 r n : S1024x1024.Idx) := ⟨y 0, y 1, (ix2_eta y).symm⟩
  refine Eq.trans ?_ (read_out (result x g w) t _).symm
  rw [place_out]
  have hrow : (⟨1024 * (t.val / 4) + r.val, by omega⟩ : Fin 32768)
      = ⟨4096 * (⟨t.val / 4 / 4, by omega⟩ : Fin 8).val + (⟨1024 * (t.val / 4 % 4) + r.val, by omega⟩ : Fin 4096).val, by dsimp only; omega⟩ :=
    Fin.ext (by dsimp only; omega)
  rw [hrow, result_apply, block_apply]
  refine Finset.sum_congr rfl fun k _ => ?_
  rw [h r k]
  refine congrArg _ ((read_weight (V m c main_v2) t _).trans ?_)
  rw [place_weight, V_weight, ← hw]
  rfl

include hx hg hw in
theorem flushed_eq (t : Fin cfg0.N) : (dats m 0 c).flushed 5 t = ((cfg0.win 5).blk t).view.read (Elt Ideal) (result x g w) := by
  by_cases h0 : t.val % 4 = 0
  · rw [Cert.KvIdeal.Value.flushed5_A m c t h0 (by omega), outA_eq]
    exact point_eq m hw t (tile_holds m hx hg t)
  · rw [Cert.KvIdeal.Value.flushed5_B m c t h0 (by omega), outB_eq]
    have H := scratch_holds m hx hg (t.val - 1) (Nat.lt_of_le_of_lt (Nat.sub_le _ _) t.isLt)
    have e : (t.val - 1) / 4 = t.val / 4 := by omega
    refine point_eq m hw t ?_
    intro p l
    have := H p l
    simp only [e] at this
    exact this

include hx hg hw in
theorem array_eq : (dats m 0 c).arrAt 5 cfg0.N = result x g w :=
  (dats m 0 c).arrAt_eq_of_cover 5 (result x g w) (fun t _ => flushed_eq m hx hg hw t) fun i => by
    have h0 : (i 0 : Nat) < 32768 := (i 0).isLt
    have h1 : (i 1 : Nat) < 4096 := (i 1).isLt
    obtain ⟨t, ht⟩ : ∃ t : Fin cfg0.N, t.val = 4 * ((i 0 : Nat) / 1024) + (i 1 : Nat) / 1024 :=
      ⟨⟨4 * ((i 0 : Nat) / 1024) + (i 1 : Nat) / 1024, by rw [show cfg0.N = 128 from N_0]; omega⟩, rfl⟩
    refine ⟨t, flush0_5 t, ?_⟩
    have hi := index_out t
    show i ∈ ((View.whole main_v6).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [hi.1]; omega
    | ⟨1, _⟩ =>
      show win0_5.index t 1 * 1024 ≤ (i 1 : Nat) ∧ (i 1 : Nat) < win0_5.index t 1 * 1024 + 1024
      rw [hi.2]; omega

end Cert.Kv

end
-- ==== Proof.QueryRef.lean ====
/-
  The latent attention's projection of its queries, as the reference computes it, at an index: the norm, the product, the
  rotary turn of each head's last 64 lanes, the factor, and 256 lanes a head.
-/
module

public import proofs.«01_k».proof.Proof.Gen.QueryRefIdeal.Run
public import Idealize.ShloMosaic.Lib.Pointwise
public import Idealize.ShloMosaic.Lib.Claim

@[expose] public section

set_option maxRecDepth 8192

noncomputable section

namespace Cert.Query

open Idealize.ShloMosaic Cert.QueryRefIdeal Cert.QueryRefIdeal.Gen Idealize.ShloMosaic.TcCoe Idealize.ShloMosaic.Tactic

/-- The norm: `rmsnorm(a, g)`. -/
def normed (a : FVec Ideal S8x4096x768 .f32) (g : FVec Ideal S768 .f32) : FVec Ideal S8x4096x768 .f32 :=
  mulf (mulf a (broadcastInDim S8x4096x768 ![0, 1, 2] bcast_S8x4096x1_S8x4096x768_0_1_2 (Host.rsqrt (addf (Host.divf
      (broadcastInDim S8x4096x1 ![0, 1] bcast_S8x4096_S8x4096x1_0_1 (Host.reduceAdd (mulf a a) (constant S_ .f32 0x00000000#32) reducesTo_S8x4096x768_S8x4096_d2 h_S_))
      (broadcastInDim S8x4096x1 ![] bcast_S_S8x4096x1 (constant S_ .f32 0x44400000#32)))
      (broadcastInDim S8x4096x1 ![] bcast_S_S8x4096x1 (constant S_ .f32 0x358637BD#32))))))
    (broadcastInDim S8x4096x768 ![0, 1, 2] bcast_S1x1x768_S8x4096x768_0_1_2 (broadcastInDim S1x1x768 ![2] bcast_S768_S1x1x768_2 g))

/-- The product with the weight, by heads. -/
def product (h : FVec Ideal S8x4096x768 .f32) (w : FVec Ideal S768x3072 .f32) : FVec Ideal S8x4096x16x192 .f32 :=
  shapeCast _ (Host.dotGeneral dot_S8x4096x768_S768x3072_S8x4096x3072_2_0_01_1_n_n none h w) shapeCasts_S8x4096x3072_S8x4096x16x192

/-- The rotary angles: position times the power of theta. -/
def angle : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of the angles, for each sequence and head. -/
def spread (t : FVec Ideal S4096x32 .f32) : FVec Ideal S8x4096x16x32 .f32 :=
  broadcastInDim S8x4096x16x32 ![0, 1, 2, 3] bcast_S1x4096x1x32_S8x4096x16x32_0_1_2_3 (broadcastInDim S1x4096x1x32 ![1, 3] bcast_S4096x32_S1x4096x1x32_1_3 t)

/-- The first and the second half of a head's rotary lanes. -/
def half₁ (q : FVec Ideal S8x4096x16x192 .f32) : FVec Ideal S8x4096x16x32 .f32 :=
  extractStridedSlice S8x4096x16x32 ![0, 0, 0, 0] (extractStridedSlice S8x4096x16x64 ![0, 0, 0, 128] q slices_S8x4096x16x192_S8x4096x16x64_0_0_0_128) slices_S8x4096x16x64_S8x4096x16x32_0_0_0_0
def half₂ (q : FVec Ideal S8x4096x16x192 .f32) : FVec Ideal S8x4096x16x32 .f32 :=
  extractStridedSlice S8x4096x16x32 ![0, 0, 0, 32] (extractStridedSlice S8x4096x16x64 ![0, 0, 0, 128] q slices_S8x4096x16x192_S8x4096x16x64_0_0_0_128) slices_S8x4096x16x64_S8x4096x16x32_0_0_0_32

/-- The rotary lanes turned, given the cosines and the sines. -/
def turned (q : FVec Ideal S8x4096x16x192 .f32) (C S : FVec Ideal S4096x32 .f32) : FVec Ideal S8x4096x16x64 .f32 :=
  concatenate S8x4096x16x64 3 [⟨S8x4096x16x32, subf (mulf (half₁ q) (spread C)) (mulf (half₂ q) (spread S))⟩,
    ⟨S8x4096x16x32, addf (mulf (half₁ q) (spread S)) (mulf (half₂ q) (spread C))⟩] concatenates_S8x4096x16x32_S8x4096x16x32_S8x4096x16x64_d3

/-- The word of the queries' factor. -/
abbrev κ : BitVec 32 := 0x3DD53B95#32

/-- The heads with their rotary lanes turned, times the factor. -/
def scaled (q : FVec Ideal S8x4096x16x192 .f32) (T : FVec Ideal S8x4096x16x64 .f32) : FVec Ideal S8x4096x16x192 .f32 :=
  mulf (concatenate S8x4096x16x192 3 [⟨S8x4096x16x128, extractStridedSlice S8x4096x16x128 ![0, 0, 0, 0] q slices_S8x4096x16x192_S8x4096x16x128_0_0_0_0⟩,
    ⟨S8x4096x16x64, T⟩] concatenates_S8x4096x16x128_S8x4096x16x64_S8x4096x16x192_d3) (broadcastInDim S8x4096x16x192 ![] bcast_S_S8x4096x16x192 (constant S_ .f32 κ))

/-- The heads in 256 lanes each, as rows. -/
def laid (q : FVec Ideal S8x4096x16x192 .f32) : FVec Ideal S32768x4096 .bf16 :=
  truncf .bf16 (shapeCast _ (pad S8x4096x16x256 ![0, 0, 0, 0] ![0, 0, 0, 64] ![0, 0, 0, 0] q (sitofp .f32 (constantI S_ 32 0#32))
    pads_S8x4096x16x192_S8x4096x16x256_000_000_000_0640 h_S_) shapeCasts_S8x4096x16x256_S32768x4096) bitsLt_bf16_f32

/-- All the lines. -/
def result (a : FVec Ideal S8x4096x768 .f32) (g : FVec Ideal S768 .f32) (w : FVec Ideal S768x3072 .f32) : FVec Ideal S32768x4096 .bf16 :=
  laid (scaled (product (normed a g) w) (turned (product (normed a g) w) (Host.cos angle) (Host.sin angle)))

/-- A row of the norm: the two words are 768 and the small number added. -/
abbrev row (x g : Fin 768 → EReal) (k : Fin 768) : EReal :=
  x k * Ideal.rsqrt (Ideal.div (∑ l : Fin 768, x l * x l) (Ideal.ofBits .f32 1145044992#32) + Ideal.ofBits .f32 897988541#32) * g k

theorem normed_apply (a : FVec Ideal S8x4096x768 .f32) (g : FVec Ideal S768 .f32) (b : Fin 8) (s : Fin 4096) (k : Fin 768) :
    normed a g (ix3 b s k) = row (fun l => a (ix3 b s l)) (fun l => g (ix1 l)) k := by
  pointwise [normed]

theorem product_apply (h : FVec Ideal S8x4096x768 .f32) (w : FVec Ideal S768x3072 .f32) (b : Fin 8) (s : Fin 4096) (hd : Fin 16) (l : Fin 192) :
    product h w (ix4 b s hd l) = ∑ k : Fin 768, h (ix3 b s k) * w (ix2 k ⟨192 * hd.val + l.val, by omega⟩) := by
  pointwise [product]
  simp only [Nat.mul_comm]

theorem laid_apply (q : FVec Ideal S8x4096x16x192 .f32) (b : Fin 8) (s : Fin 4096) (hd : Fin 16) (l : Fin 256) :
    laid q (ix2 ⟨4096 * b.val + s.val, by omega⟩ ⟨256 * hd.val + l.val, by omega⟩) = if h : l.val < 192 then q (ix4 b s hd ⟨l.val, h⟩) else 0 := by
  pointwise [laid]
  split_ifs
  · rfl
  · show (((0#32 : BitVec 32).toInt : ℝ) : EReal) = 0
    simp

theorem half₁_apply (q : FVec Ideal S8x4096x16x192 .f32) (b : Fin 8) (s : Fin 4096) (hd : Fin 16) (e : Fin 32) :
    half₁ q (ix4 b s hd e) = q (ix4 b s hd ⟨128 + e.val, by omega⟩) := by
  pointwise [half₁]

theorem half₂_apply (q : FVec Ideal S8x4096x16x192 .f32) (b : Fin 8) (s : Fin 4096) (hd : Fin 16) (e : Fin 32) :
    half₂ q (ix4 b s hd e) = q (ix4 b s hd ⟨160 + e.val, by omega⟩) := by
  pointwise [half₂]
  congr 3
  omega

theorem spread_apply (t : FVec Ideal S4096x32 .f32) (b : Fin 8) (s : Fin 4096) (hd : Fin 16) (e : Fin 32) :
    spread t (ix4 b s hd e) = t (ix2 s e) := by
  pointwise [spread]

theorem scaled_main (q : FVec Ideal S8x4096x16x192 .f32) (T : FVec Ideal S8x4096x16x64 .f32) (b : Fin 8) (s : Fin 4096) (hd : Fin 16) (l : Fin 128) :
    scaled q T (ix4 b s hd ⟨l.val, by omega⟩) = q (ix4 b s hd ⟨l.val, by omega⟩) * Ideal.ofBits .f32 κ := by
  pointwise [scaled]

theorem scaled_turned (q : FVec Ideal S8x4096x16x192 .f32) (T : FVec Ideal S8x4096x16x64 .f32) (b : Fin 8) (s : Fin 4096) (hd : Fin 16) (e : Fin 64) :
    scaled q T (ix4 b s hd ⟨128 + e.val, by omega⟩) = T (ix4 b s hd e) * Ideal.ofBits .f32 κ := by
  pointwise [scaled]

theorem turned_first (q : FVec Ideal S8x4096x16x192 .f32) (C S : FVec Ideal S4096x32 .f32) (b : Fin 8) (s : Fin 4096) (hd : Fin 16) (e : Fin 32) :
    turned q C S (ix4 b s hd ⟨e.val, by omega⟩) = q (ix4 b s hd ⟨128 + e.val, by omega⟩) * C (ix2 s e) - q (ix4 b s hd ⟨160 + e.val, by omega⟩) * S (ix2 s e) := by
  rw [← half₁_apply q, ← half₂_apply q, ← spread_apply C b s hd e, ← spread_apply S b s hd e]
  generalize h1 : half₁ q = A
  generalize h2 : half₂ q = B
  generalize h3 : spread C = c
  generalize h4 : spread S = d
  simp only [turned, h1, h2, h3, h4]
  pointwise

theorem turned_second (q : FVec Ideal S8x4096x16x192 .f32) (C S : FVec Ideal S4096x32 .f32) (b : Fin 8) (s : Fin 4096) (hd : Fin 16) (e : Fin 32) :
    turned q C S (ix4 b s hd ⟨32 + e.val, by omega⟩) = q (ix4 b s hd ⟨128 + e.val, by omega⟩) * S (ix2 s e) + q (ix4 b s hd ⟨160 + e.val, by omega⟩) * C (ix2 s e) := by
  rw [← half₁_apply q, ← half₂_apply q, ← spread_apply C b s hd e, ← spread_apply S b s hd e]
  generalize h1 : half₁ q = A
  generalize h2 : half₂ q = B
  generalize h3 : spread C = c
  generalize h4 : spread S = d
  simp only [turned, h1, h2, h3, h4]
  pointwise

end Cert.Query

end
-- ==== Proof.QueryStores.lean ====
/-
  The latent attention's projection of its queries: one point's arithmetic, and the eight stores of its block.
-/
module

public import proofs.«01_k».proof.Proof.QueryRef
public import proofs.«01_k».proof.Proof.Whole
public import proofs.«01_k».proof.Proof.Gen.QueryIdeal.Value
public import Idealize.ShloMosaic.Lib.Pipeline.ValueKit.Geometry

@[expose] public section

set_option maxRecDepth 16384

noncomputable section

namespace Cert.Query

open Idealize.ShloMosaic Cert.Whole Cert.QueryIdeal Cert.QueryIdeal.Gen Idealize.ShloMosaic.TcCoe Idealize.ShloMosaic.Tactic
open Idealize.ShloMosaic.StableHlo

/-! ## The arithmetic -/

/-- A row of the tile: the norm, then the modulation. -/
theorem tile_apply (x : Vec Ideal S1024x768 .f32) (g : Vec Ideal S1x768 .f32) (scale shift : Vec Ideal S1x1x768 .f32) (r : Fin 1024) (k : Fin 768) :
    k0_pay3 (F := Ideal) x g scale shift (ix2 r k)
      = row (fun l => x (ix2 r l)) (fun l => g (ix2 0 l)) k * (1 + scale (ix3 0 0 k)) + shift (ix3 0 0 k) := by
  pointwise [k0_pay3]

/-- The product of the tile with a block of the weight, times the factor, which column block `v` selects. -/
abbrev grown (v : BitVec 32) (H : Vec Ideal S1024x768 .bf16) (w : Vec Ideal S768x1024 .bf16) : FVec Ideal S1024x1024 .f32 :=
  k0_pay5 (F := Ideal) (k0_pay4 H w) (Scalar.cmpi .slt v 4#32) (Scalar.ofBits .f32 κ) (Scalar.ofBits .f32 0x3F800000#32)

theorem grown_apply (v : BitVec 32) (hv : Scalar.cmpi .slt v 4#32 = 1#1) (H : Vec Ideal S1024x768 .bf16) (w : Vec Ideal S768x1024 .bf16) (r n : Fin 1024) :
    grown v H w (ix2 r n) = (∑ k : Fin 768, H (ix2 r k) * w (ix2 k n)) * Ideal.ofBits .f32 κ := by
  rw [grown, hv]
  pointwise [k0_pay5, k0_pay4]

/-- 128 columns of a block. -/
abbrev cut (A : FVec Ideal S1024x1024 .f32) (off : ℕ) (h : S1024x1024.Slices ![0, off] S1024x128) : FVec Ideal S1024x128 .f32 :=
  extractStridedSlice S1024x128 ![0, off] A h

/-- A head's last 128 lanes, turned by the three tables. -/
def turn (u : FVec Ideal S1024x128 .f32) (c a b : Vec Ideal S1024x128 .f32) : FVec Ideal S1024x128 .bf16 :=
  truncf .bf16 (addf (addf (mulf u (shapeCast S1024x128 c shapeCasts_S1024x128_S1024x128))
    (mulf (dynamicRotate 1 96#32 none u rotates_S1024x128_d1) (shapeCast S1024x128 a shapeCasts_S1024x128_S1024x128)))
    (mulf (dynamicRotate 1 32#32 none u rotates_S1024x128_d1) (shapeCast S1024x128 b shapeCasts_S1024x128_S1024x128))) bitsLt_bf16_f32

/-- A head's first 128 lanes. -/
abbrev plain (u : FVec Ideal S1024x128 .f32) : FVec Ideal S1024x128 .bf16 := truncf .bf16 u bitsLt_bf16_f32

theorem turn_apply (u : FVec Ideal S1024x128 .f32) (c a b : Vec Ideal S1024x128 .f32) (r : Fin 1024) (l : Fin 128) :
    turn u c a b (ix2 r l) = u (ix2 r l) * c (ix2 r l) + u (ix2 r ⟨(l.val + 32) % 128, by omega⟩) * a (ix2 r l)
      + u (ix2 r ⟨(l.val + 96) % 128, by omega⟩) * b (ix2 r l) := by
  pointwise [turn]
  have e₁ : (⟨(l.val + 128 - 96) % 128, Nat.mod_lt _ (by decide)⟩ : Fin 128) = ⟨(l.val + 32) % 128, by omega⟩ := Fin.ext (by dsimp only; omega)
  have e₂ : (⟨(l.val + 128 - 32) % 128, Nat.mod_lt _ (by decide)⟩ : Fin 128) = ⟨(l.val + 96) % 128, by omega⟩ := Fin.ext (by dsimp only; omega)
  rw [e₁, e₂]

/-! ## The eight stores -/

/-- A block of four heads: in each the first 128 lanes as they are, the last 128 turned. -/
def block (A : FVec Ideal S1024x1024 .f32) (c a b : Vec Ideal S1024x128 .f32) : Vec Ideal S1024x1024 .bf16 := fun y =>
  have h : (y 1 : ℕ) < 1024 := (y 1).isLt
  if (y 1 : ℕ) % 256 < 128 then A y
  else A y * c (ix2 (y 0) ⟨(y 1 : ℕ) % 128, by omega⟩)
    + A (ix2 (y 0) ⟨(y 1 : ℕ) / 128 * 128 + ((y 1 : ℕ) % 128 + 32) % 128, by omega⟩) * a (ix2 (y 0) ⟨(y 1 : ℕ) % 128, by omega⟩)
    + A (ix2 (y 0) ⟨(y 1 : ℕ) / 128 * 128 + ((y 1 : ℕ) % 128 + 96) % 128, by omega⟩) * b (ix2 (y 0) ⟨(y 1 : ℕ) % 128, by omega⟩)

/-- The eight stores, the last first. -/
def pieces (A : FVec Ideal S1024x1024 .f32) (c a b : Vec Ideal S1024x128 .f32) : List (View.Piece (Elt Ideal) S1024x1024 .bf16) :=
  [⟨Rect.unit ![0, 896] S1024x128.size inb_S1024x1024_S1024x128_0_896, turn (cut A 896 slices_S1024x1024_o0_896_S1024x128) c a b⟩,
    ⟨Rect.unit ![0, 768] S1024x128.size inb_S1024x1024_S1024x128_0_768, plain (cut A 768 slices_S1024x1024_o0_768_S1024x128)⟩,
    ⟨Rect.unit ![0, 640] S1024x128.size inb_S1024x1024_S1024x128_0_640, turn (cut A 640 slices_S1024x1024_o0_640_S1024x128) c a b⟩,
    ⟨Rect.unit ![0, 512] S1024x128.size inb_S1024x1024_S1024x128_0_512, plain (cut A 512 slices_S1024x1024_o0_512_S1024x128)⟩,
    ⟨Rect.unit ![0, 384] S1024x128.size inb_S1024x1024_S1024x128_0_384, turn (cut A 384 slices_S1024x1024_o0_384_S1024x128) c a b⟩,
    ⟨Rect.unit ![0, 256] S1024x128.size inb_S1024x1024_S1024x128_0_256, plain (cut A 256 slices_S1024x1024_o0_256_S1024x128)⟩,
    ⟨Rect.unit ![0, 128] S1024x128.size inb_S1024x1024_S1024x128_0_128, turn (cut A 128 slices_S1024x1024_o0_128_S1024x128) c a b⟩,
    ⟨Rect.unit ![0, 0] S1024x128.size inb_S1024x1024_S1024x128_0_0, plain (cut A 0 slices_S1024x1024_o0_0_S1024x128)⟩]

theorem emb_cut (off : ℕ) (h : off + 128 ≤ 1024) (inb : ∀ a, (![0, off] : Fin 2 → ℕ) a + S1024x128.size a ≤ S1024x1024.size a) (r : Fin 1024) (l : Fin 128) :
    ((Rect.unit (s := S1024x1024) ![0, off] S1024x128.size inb).emb (ix2 r l : S1024x128.Idx) : S1024x1024.Idx) = ix2 r ⟨off + l.val, by omega⟩ := by
  funext a
  apply Fin.ext
  match a with
  | ⟨0, _⟩ => show 0 + 1 * r.val = r.val; omega
  | ⟨1, _⟩ => show off + 1 * l.val = off + l.val; omega

theorem cut_apply (A : FVec Ideal S1024x1024 .f32) (off : ℕ) (h : S1024x1024.Slices ![0, off] S1024x128) (hb : off + 128 ≤ 1024) (r : Fin 1024) (l : Fin 128) :
    cut A off h (ix2 r l) = A (ix2 r ⟨off + l.val, by omega⟩) :=
  extractStridedSlice_apply _ _ _ _ _ fun a => match a with
    | ⟨0, _⟩ => by show r.val = 0 + r.val; omega
    | ⟨1, _⟩ => rfl

variable (A : FVec Ideal S1024x1024 .f32) (c a b : Vec Ideal S1024x128 .f32)

theorem plain_block (off : ℕ) (h : S1024x1024.Slices ![0, off] S1024x128) (inb : ∀ a, (![0, off] : Fin 2 → ℕ) a + S1024x128.size a ≤ S1024x1024.size a)
    (hb : off + 128 ≤ 1024) (ho : off % 256 = 0) (x : S1024x128.Idx) :
    plain (cut A off h) x = block A c a b ((Rect.unit (s := S1024x1024) ![0, off] S1024x128.size inb).emb x) := by
  obtain ⟨r, l, rfl⟩ : ∃ (r : Fin 1024) (l : Fin 128), x = ix2 r l := ⟨x 0, x 1, (ix2_eta x).symm⟩
  rw [emb_cut off hb]
  refine (cut_apply A off h hb r l).trans ?_
  exact (if_pos (show (off + l.val) % 256 < 128 by omega)).symm

theorem turn_block (off : ℕ) (h : S1024x1024.Slices ![0, off] S1024x128) (inb : ∀ a, (![0, off] : Fin 2 → ℕ) a + S1024x128.size a ≤ S1024x1024.size a)
    (hb : off + 128 ≤ 1024) (ho : off % 256 = 128) (x : S1024x128.Idx) :
    turn (cut A off h) c a b x = block A c a b ((Rect.unit (s := S1024x1024) ![0, off] S1024x128.size inb).emb x) := by
  obtain ⟨r, l, rfl⟩ : ∃ (r : Fin 1024) (l : Fin 128), x = ix2 r l := ⟨x 0, x 1, (ix2_eta x).symm⟩
  rw [emb_cut off hb, turn_apply, cut_apply A off h hb, cut_apply A off h hb, cut_apply A off h hb]
  refine Eq.trans ?_ (if_neg (show ¬(off + l.val) % 256 < 128 by omega)).symm
  have e : (off + l.val) % 128 = l.val := by omega
  have e' : (off + l.val) / 128 * 128 = off := by omega
  simp only [ix2_0, ix2_1, e, e']

theorem pieces_block : ∀ p ∈ pieces A c a b, ∀ x : p.1.shape.Idx, p.2 x = block A c a b (p.1.emb x) := by
  intro p hp
  simp only [pieces, List.mem_cons, List.not_mem_nil, or_false] at hp
  rcases hp with rfl | rfl | rfl | rfl | rfl | rfl | rfl | rfl
  · exact turn_block A c a b 896 slices_S1024x1024_o0_896_S1024x128 inb_S1024x1024_S1024x128_0_896 (by decide) (by decide)
  · exact plain_block A c a b 768 slices_S1024x1024_o0_768_S1024x128 inb_S1024x1024_S1024x128_0_768 (by decide) (by decide)
  · exact turn_block A c a b 640 slices_S1024x1024_o0_640_S1024x128 inb_S1024x1024_S1024x128_0_640 (by decide) (by decide)
  · exact plain_block A c a b 512 slices_S1024x1024_o0_512_S1024x128 inb_S1024x1024_S1024x128_0_512 (by decide) (by decide)
  · exact turn_block A c a b 384 slices_S1024x1024_o0_384_S1024x128 inb_S1024x1024_S1024x128_0_384 (by decide) (by decide)
  · exact plain_block A c a b 256 slices_S1024x1024_o0_256_S1024x128 inb_S1024x1024_S1024x128_0_256 (by decide) (by decide)
  · exact turn_block A c a b 128 slices_S1024x1024_o0_128_S1024x128 inb_S1024x1024_S1024x128_0_128 (by decide) (by decide)
  · exact plain_block A c a b 0 slices_S1024x1024_o0_0_S1024x128 inb_S1024x1024_S1024x128_0_0 (by decide) (by decide)

/-! ## What a point leaves -/

/-- The word of a point's column block. -/
abbrev word (i : grid0.Coords) : BitVec 32 := BitVec.ofNat 32 (i 1).val

theorem word_lt (i : grid0.Coords) : Scalar.cmpi .slt (word i) 4#32 = 1#1 := by
  have h : ∀ j : Fin 4, Scalar.cmpi .slt (BitVec.ofNat 32 j.val) 4#32 = 1#1 := by decide
  exact h (i 1)

section

variable (c : Dev nD) (i : grid0.Coords) (arg2 : Memref sig .tc .vmem S1024x768 .f32) (harg2 : arg2.IsWhole) (arg3 : Memref sig .tc .vmem S1x768 .f32) (harg3 : arg3.IsWhole)
  (arg4 : Memref sig .tc .vmem S1x1x768 .f32) (harg4 : arg4.IsWhole) (arg5 : Memref sig .tc .vmem S1x1x768 .f32) (harg5 : arg5.IsWhole)
  (arg6 : Memref sig .tc .vmem S768x1024 .bf16) (harg6 : arg6.IsWhole) (arg7 : Memref sig .tc .vmem S1024x128 .f32) (harg7 : arg7.IsWhole)
  (arg8 : Memref sig .tc .vmem S1024x128 .f32) (harg8 : arg8.IsWhole) (arg9 : Memref sig .tc .vmem S1024x128 .f32) (harg9 : arg9.IsWhole)
  (arg10 : Memref sig .tc .vmem S1024x1024 .bf16) (harg10 : arg10.IsWhole) (arg11 : Memref sig .tc .vmem S1024x768 .bf16) (harg11 : arg11.IsWhole)
  (x0 : Vec Ideal S1024x768 .f32) (x1 : Vec Ideal S1x768 .f32) (x2 x3 : Vec Ideal S1x1x768 .f32) (x4 : Vec Ideal S768x1024 .bf16) (x5 x6 x7 : Vec Ideal S1024x128 .f32)

theorem scratchA (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6 x7).2.1
    = [⟨Rect.unit ![0, 0] S1024x768.size inb_S1024x768_S1024x768_0_0, k0_pay3 (F := Ideal) (rd arg2 (harg2.unread x0) ![0, 0] inb_S1024x768_S1024x768_0_0)
        (rd arg3 (harg3.unread x1) ![0, 0] inb_S1x768_S1x768_0_0) (rd arg4 (harg4.unread x2) ![0, 0, 0] inb_S1x1x768_S1x1x768_0_0_0) (rd arg5 (harg5.unread x3) ![0, 0, 0] inb_S1x1x768_S1x1x768_0_0_0)⟩] := by
  unfold kernelRun0_A
  rfl

theorem outputA (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6 x7).1
    = pieces (grown (word i) (arg11.view.readCov ((kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6 x7).2.1)
          (Rect.unit ![0, 0] S1024x768.size inb_S1024x768_S1024x768_0_0).toLoadRect) (rd arg6 (harg6.unread x4) ![0, 0] inb_S768x1024_S768x1024_0_0))
        (rd arg7 (harg7.unread x5) ![0, 0] inb_S1024x128_S1024x128_0_0) (rd arg8 (harg8.unread x6) ![0, 0] inb_S1024x128_S1024x128_0_0)
        (rd arg9 (harg9.unread x7) ![0, 0] inb_S1024x128_S1024x128_0_0) := by
  unfold kernelRun0_A
  rfl

theorem outputB (hc0 : ¬cond0_0 i) (hc1 : cond0_1 i) (xs0 : Vec Ideal S1024x768 .bf16) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0).1
    = pieces (grown (word i) (rd arg11 (harg11.unread xs0) ![0, 0] inb_S1024x768_S1024x768_0_0) (rd arg6 (harg6.unread x4) ![0, 0] inb_S768x1024_S768x1024_0_0))
        (rd arg7 (harg7.unread x5) ![0, 0] inb_S1024x128_S1024x128_0_0) (rd arg8 (harg8.unread x6) ![0, 0] inb_S1024x128_S1024x128_0_0)
        (rd arg9 (harg9.unread x7) ![0, 0] inb_S1024x128_S1024x128_0_0) := by
  unfold kernelRun0_B
  rfl

/-- The scratch buffer after a point at the start of a row of blocks. -/
theorem sout_eq (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 = k0_pay3 (F := Ideal) x0 x1 x2 x3 := by
  unfold sout0_A_0
  rw [View.read_writes_junk_eq_canon, scratchA, View.canon_unit_zero zero2, rd_eq arg2 harg2 x0 zero2, rd_eq arg3 harg3 x1 zero2,
    rd_eq arg4 harg4 x2 zero3, rd_eq arg5 harg5 x3 zero3]

/-- The block a point at the start of a row of blocks writes. -/
theorem outA_eq (hc0 : cond0_0 i) (hc1 : ¬cond0_1 i) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 = block (grown (word i) (k0_pay3 (F := Ideal) x0 x1 x2 x3) x4) x5 x6 x7 := by
  unfold out0_A_8
  funext y
  have hy := cover0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 y
  have e : arg11.view.readCov ((kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6 x7).2.1)
      (Rect.unit ![0, 0] S1024x768.size inb_S1024x768_S1024x768_0_0).toLoadRect = k0_pay3 (F := Ideal) x0 x1 x2 x3 := by
    rw [View.readCov_eq_canon', scratchA, View.canon_unit_zero zero2, rd_eq arg2 harg2 x0 zero2, rd_eq arg3 harg3 x1 zero2,
      rd_eq arg4 harg4 x2 zero3, rd_eq arg5 harg5 x3 zero3]
    exact box_eq (e := .bf16) (k0_pay3 (F := Ideal) x0 x1 x2 x3) zero2 inb_S1024x768_S1024x768_0_0
  rw [View.read_writes_junk_apply_eq_canon]
  rw [outputA, e, rd_eq arg6 harg6 x4 zero2, rd_eq arg7 harg7 x5 zero2, rd_eq arg8 harg8 x6 zero2, rd_eq arg9 harg9 x7 zero2] at hy ⊢
  exact View.canon_apply_of_pieces _ _ (pieces_block _ _ _ _) y hy

/-- The block any other point writes. -/
theorem outB_eq (hc0 : ¬cond0_0 i) (hc1 : cond0_1 i) (xs0 : Vec Ideal S1024x768 .bf16) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0 = block (grown (word i) xs0 x4) x5 x6 x7 := by
  unfold out0_B_8
  funext y
  have hy := cover0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xs0 y
  rw [View.read_writes_junk_apply_eq_canon]
  rw [outputB, rd_eq arg11 harg11 xs0 zero2, rd_eq arg6 harg6 x4 zero2, rd_eq arg7 harg7 x5 zero2, rd_eq arg8 harg8 x6 zero2, rd_eq arg9 harg9 x7 zero2] at hy ⊢
  exact View.canon_apply_of_pieces _ _ (pieces_block _ _ _ _) y hy

end

end Cert.Query

end
-- ==== Proof.Query.lean ====
/-
  The latent attention's projection of its queries: the array that the call leaves is the reference's.
-/
module

public import proofs.«01_k».proof.Proof.QueryStores

@[expose] public section

set_option maxRecDepth 16384

noncomputable section

namespace Cert.Query

open Idealize.ShloMosaic Cert.Whole Cert.QueryIdeal Cert.QueryIdeal.Gen Idealize.ShloMosaic.TcCoe Idealize.ShloMosaic.Tactic
open Idealize.ShloMosaic.StableHlo

/-! ## The blocks' places -/

theorem point_lt (t : Fin cfg0.N) : t.val < 128 := lt_of_lt_of_eq t.isLt N_0

theorem index_tile : ∀ t : Fin grid0.N, win0_0.index t 0 = t.val / 4 ∧ win0_0.index t 1 = 0 := by decide +kernel
theorem index_norm : ∀ t : Fin grid0.N, win0_1.index t 0 = 0 ∧ win0_1.index t 1 = 0 := by decide +kernel
theorem index_scale : ∀ t : Fin grid0.N, win0_2.index t 0 = t.val / 16 ∧ win0_2.index t 1 = 0 ∧ win0_2.index t 2 = 0 := by decide +kernel
theorem index_shift : ∀ t : Fin grid0.N, win0_3.index t 0 = t.val / 16 ∧ win0_3.index t 1 = 0 ∧ win0_3.index t 2 = 0 := by decide +kernel
theorem index_weight : ∀ t : Fin grid0.N, win0_4.index t 0 = 0 ∧ win0_4.index t 1 = t.val % 4 := by decide +kernel
theorem index_cos : ∀ t : Fin grid0.N, win0_5.index t 0 = t.val / 4 % 4 ∧ win0_5.index t 1 = 0 := by decide +kernel
theorem index_sinLow : ∀ t : Fin grid0.N, win0_6.index t 0 = t.val / 4 % 4 ∧ win0_6.index t 1 = 0 := by decide +kernel
theorem index_sinHigh : ∀ t : Fin grid0.N, win0_7.index t 0 = t.val / 4 % 4 ∧ win0_7.index t 1 = 0 := by decide +kernel
theorem index_out : ∀ t : Fin grid0.N, win0_8.index t 0 = t.val / 4 ∧ win0_8.index t 1 = t.val % 4 := by decide +kernel

theorem place_tile (t : Fin cfg0.N) (r : Fin 1024) (k : Fin 768) :
    (((cfg0.win 0).blk t).view.emb (ix2 r k : S1024x768.Idx) : S32768x768.Idx) = ix2 ⟨1024 * (t.val / 4) + r.val, by have := point_lt t; omega⟩ k := by
  have hi := index_tile t
  blk_ext [hi.1, hi.2]

theorem place_norm (t : Fin cfg0.N) (k : Fin 768) : (((cfg0.win 1).blk t).view.emb (ix2 0 k : S1x768.Idx) : S1x768.Idx) = ix2 0 k := by
  have hi := index_norm t
  blk_ext [hi.1, hi.2]

theorem place_scale (t : Fin cfg0.N) (k : Fin 768) :
    (((cfg0.win 2).blk t).view.emb (ix3 0 0 k : S1x1x768.Idx) : S8x1x768.Idx) = ix3 ⟨t.val / 16, by have := point_lt t; omega⟩ 0 k := by
  have hi := index_scale t
  blk_ext [hi.1, hi.2.1, hi.2.2]

theorem place_shift (t : Fin cfg0.N) (k : Fin 768) :
    (((cfg0.win 3).blk t).view.emb (ix3 0 0 k : S1x1x768.Idx) : S8x1x768.Idx) = ix3 ⟨t.val / 16, by have := point_lt t; omega⟩ 0 k := by
  have hi := index_shift t
  blk_ext [hi.1, hi.2.1, hi.2.2]

theorem place_weight (t : Fin cfg0.N) (k : Fin 768) (n : Fin 1024) :
    (((cfg0.win 4).blk t).view.emb (ix2 k n : S768x1024.Idx) : S768x4096.Idx) = ix2 k ⟨1024 * (t.val % 4) + n.val, by omega⟩ := by
  have hi := index_weight t
  blk_ext [hi.1, hi.2]

theorem place_out (t : Fin cfg0.N) (r : Fin 1024) (n : Fin 1024) :
    (((cfg0.win 8).blk t).view.emb (ix2 r n : S1024x1024.Idx) : S32768x4096.Idx)
      = ix2 ⟨1024 * (t.val / 4) + r.val, by have := point_lt t; omega⟩ ⟨1024 * (t.val % 4) + n.val, by omega⟩ := by
  have hi := index_out t
  blk_ext [hi.1, hi.2]

theorem read_tile (f : FVec Ideal S32768x768 .f32) (t : Fin cfg0.N) (y : S1024x768.Idx) :
    (((cfg0.win 0).blk t).view.read (Elt Ideal) f : Vec Ideal S1024x768 .f32) y = f (((cfg0.win 0).blk t).view.emb y) := rfl

theorem read_norm (f : FVec Ideal S1x768 .f32) (t : Fin cfg0.N) (y : S1x768.Idx) :
    (((cfg0.win 1).blk t).view.read (Elt Ideal) f : Vec Ideal S1x768 .f32) y = f (((cfg0.win 1).blk t).view.emb y) := rfl

theorem read_scale (f : FVec Ideal S8x1x768 .f32) (t : Fin cfg0.N) (y : S1x1x768.Idx) :
    (((cfg0.win 2).blk t).view.read (Elt Ideal) f : Vec Ideal S1x1x768 .f32) y = f (((cfg0.win 2).blk t).view.emb y) := rfl

theorem read_shift (f : FVec Ideal S8x1x768 .f32) (t : Fin cfg0.N) (y : S1x1x768.Idx) :
    (((cfg0.win 3).blk t).view.read (Elt Ideal) f : Vec Ideal S1x1x768 .f32) y = f (((cfg0.win 3).blk t).view.emb y) := rfl

theorem read_weight (f : FVec Ideal S768x4096 .bf16) (t : Fin cfg0.N) (y : S768x1024.Idx) :
    (((cfg0.win 4).blk t).view.read (Elt Ideal) f : Vec Ideal S768x1024 .bf16) y = f (((cfg0.win 4).blk t).view.emb y) := rfl

theorem read_out (f : FVec Ideal S32768x4096 .bf16) (t : Fin cfg0.N) (y : S1024x1024.Idx) :
    (((cfg0.win 8).blk t).view.read (Elt Ideal) f : Vec Ideal S1024x1024 .bf16) y = f (((cfg0.win 8).blk t).view.emb y) := rfl

theorem read_cos (f : FVec Ideal S4096x128 .f32) (t : Fin cfg0.N) (r : Fin 1024) (e : Fin 128) :
    (((cfg0.win 5).blk t).view.read (Elt Ideal) f : Vec Ideal S1024x128 .f32) (ix2 r e) = f (ix2 ⟨1024 * (t.val / 4 % 4) + r.val, by omega⟩ e) := by
  have h : (((cfg0.win 5).blk t).view.emb (ix2 r e : S1024x128.Idx) : S4096x128.Idx) = ix2 ⟨1024 * (t.val / 4 % 4) + r.val, by omega⟩ e := by
    have hi := index_cos t
    blk_ext [hi.1, hi.2]
  show f (((cfg0.win 5).blk t).view.emb (ix2 r e : S1024x128.Idx)) = _
  rw [h]

theorem read_sinLow (f : FVec Ideal S4096x128 .f32) (t : Fin cfg0.N) (r : Fin 1024) (e : Fin 128) :
    (((cfg0.win 6).blk t).view.read (Elt Ideal) f : Vec Ideal S1024x128 .f32) (ix2 r e) = f (ix2 ⟨1024 * (t.val / 4 % 4) + r.val, by omega⟩ e) := by
  have h : (((cfg0.win 6).blk t).view.emb (ix2 r e : S1024x128.Idx) : S4096x128.Idx) = ix2 ⟨1024 * (t.val / 4 % 4) + r.val, by omega⟩ e := by
    have hi := index_sinLow t
    blk_ext [hi.1, hi.2]
  show f (((cfg0.win 6).blk t).view.emb (ix2 r e : S1024x128.Idx)) = _
  rw [h]

theorem read_sinHigh (f : FVec Ideal S4096x128 .f32) (t : Fin cfg0.N) (r : Fin 1024) (e : Fin 128) :
    (((cfg0.win 7).blk t).view.read (Elt Ideal) f : Vec Ideal S1024x128 .f32) (ix2 r e) = f (ix2 ⟨1024 * (t.val / 4 % 4) + r.val, by omega⟩ e) := by
  have h : (((cfg0.win 7).blk t).view.emb (ix2 r e : S1024x128.Idx) : S4096x128.Idx) = ix2 ⟨1024 * (t.val / 4 % 4) + r.val, by omega⟩ e := by
    have hi := index_sinHigh t
    blk_ext [hi.1, hi.2]
  show f (((cfg0.win 7).blk t).view.emb (ix2 r e : S1024x128.Idx)) = _
  rw [h]

/-! ## The arrays that the call reads -/

/-- The weight with 256 lanes a head. -/
def padded (w : FVec Ideal S768x3072 .f32) : FVec Ideal S768x4096 .bf16 :=
  truncf .bf16 (shapeCast S768x4096 (pad S768x16x256 ![0, 0, 0] ![0, 0, 64] ![0, 0, 0] (shapeCast S768x16x192 w shapeCasts_S768x3072_S768x16x192)
    (sitofp .f32 (constantI S_ 32 0#32)) pads_S768x16x192_S768x16x256_000_000_0640 h_S_) shapeCasts_S768x16x256_S768x4096) bitsLt_bf16_f32

theorem padded_apply (w : FVec Ideal S768x3072 .f32) (k : Fin 768) (hd : Fin 16) (l : Fin 256) :
    padded w (ix2 k ⟨256 * hd.val + l.val, by omega⟩) = if h : l.val < 192 then w (ix2 k ⟨192 * hd.val + l.val, by omega⟩) else 0 := by
  pointwise [padded]
  split_ifs
  · simp only [Nat.mul_comm]
  · show (((0#32 : BitVec 32).toInt : ℝ) : EReal) = 0
    simp

/-- A table of 128 lanes, of four arrays of 32. -/
abbrev table (A B C D : FVec Ideal S4096x32 .f32) : FVec Ideal S4096x128 .f32 :=
  concatenate S4096x128 1 [⟨S4096x32, A⟩, ⟨S4096x32, B⟩, ⟨S4096x32, C⟩, ⟨S4096x32, D⟩] concatenates_S4096x32_S4096x32_S4096x32_S4096x32_S4096x128_d1

theorem table₀ (A B C D : FVec Ideal S4096x32 .f32) (s : Fin 4096) (e : Fin 32) : table A B C D (ix2 s ⟨e.val, by omega⟩) = A (ix2 s e) := by
  pointwise [table]

theorem table₁ (A B C D : FVec Ideal S4096x32 .f32) (s : Fin 4096) (e : Fin 32) : table A B C D (ix2 s ⟨32 + e.val, by omega⟩) = B (ix2 s e) := by
  pointwise [table]

/-- The lanes that hold zero. -/
def none32 : FVec Ideal S4096x32 .f32 := broadcastInDim S4096x32 ![] bcast_S_S4096x32 (constant S_ .f32 0x00000000#32)

theorem none32_apply (s : Fin 4096) (e : Fin 32) : none32 (ix2 s e) = 0 := by
  pointwise [none32]

theorem table_rest (A B : FVec Ideal S4096x32 .f32) (s : Fin 4096) (e : Fin 64) : table A B none32 none32 (ix2 s ⟨64 + e.val, by omega⟩) = 0 := by
  pointwise [table, none32]
  rw [dif_neg (by omega), dif_neg (by omega)]
  split_ifs <;> rfl

theorem negf_apply (T : FVec Ideal S4096x32 .f32) (s : Fin 4096) (e : Fin 32) : Host.negf T (ix2 s e) = -T (ix2 s e) := rfl

section

variable (m : (ℓ : Loc nD τ sig) → Buf (Elt Ideal) ℓ)

theorem V_rows (c : Dev nD) : V m c main_v4 = (shapeCast S32768x768 (m ((c : Thread nD τ).loc main_arg0) : FVec Ideal S8x4096x768 .f32)
    shapeCasts_S8x4096x768_S32768x768 : FVec Ideal S32768x768 .f32) := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_weight (c : Dev nD) : V m c main_v5 = padded (m ((c : Thread nD τ).loc main_arg2) : FVec Ideal S768x3072 .f32) := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_norm (c : Dev nD) : V m c main_v26 = (shapeCast S1x768 (m ((c : Thread nD τ).loc main_arg1) : FVec Ideal S768 .f32)
    shapeCasts_S768_S1x768 : FVec Ideal S1x768 .f32) := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

/-- The modulation's two arrays, which here are zero. -/
def zeros : FVec Ideal S8x1x768 .f32 := shapeCast S8x1x768 (broadcastInDim S8x768 ![] bcast_S_S8x768 (constant S_ .f32 0x00000000#32)) shapeCasts_S8x768_S8x1x768

theorem zeros_apply (b : Fin 8) (k : Fin 768) : zeros (ix3 b 0 k) = 0 := by
  pointwise [zeros]

theorem V_scale (c : Dev nD) : V m c main_v27 = zeros := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_shift (c : Dev nD) : V m c main_v28 = zeros := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_cos (c : Dev nD) : V m c main_v22 = table (Host.cos angle) (Host.cos angle) none32 none32 := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_sinLow (c : Dev nD) : V m c main_v24 = table (Host.negf (Host.sin angle)) none32 none32 none32 := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem V_sinHigh (c : Dev nD) : V m c main_v25 = table none32 (Host.sin angle) none32 none32 := by
  simp only [V, hostOps0, hostOps0_1, hostOps0_2, List.flatten_cons, List.flatten_nil, List.append_nil, List.cons_append, List.nil_append, TRef.nullary, TRef.unary, TRef.binary, TRef.toBuf, TRef.ofBuf, cast_eq]
  after_results_simp
  rfl

theorem rows_apply (x : FVec Ideal S8x4096x768 .f32) (b : Fin 8) (s : Fin 4096) (n : Fin 768) :
    (shapeCast S32768x768 x shapeCasts_S8x4096x768_S32768x768 : FVec Ideal S32768x768 .f32) (ix2 ⟨4096 * b.val + s.val, by omega⟩ n) = x (ix3 b s n) := by
  pointwise

theorem norm_apply (g : FVec Ideal S768 .f32) (n : Fin 768) :
    (shapeCast S1x768 g shapeCasts_S768_S1x768 : FVec Ideal S1x768 .f32) (ix2 0 n) = g (ix1 n) := by
  pointwise

end

/-! ## The factor, before the turn or after it -/

theorem κ_nonneg : (0 : EReal) ≤ Ideal.ofBits .f32 κ ∧ Ideal.ofBits .f32 κ ≠ ⊤ := by
  obtain ⟨a, h0, ha⟩ : ∃ a : ℝ, 0 ≤ a ∧ Ideal.ofBits .f32 κ = (a : EReal) := by
    simp [Ideal.ofBits, Ideal.ieee]
    exact ⟨_, by positivity, (EReal.coe_mul _ _).symm⟩
  rw [ha]
  exact ⟨EReal.coe_nonneg.mpr h0, EReal.coe_ne_top a⟩

theorem turn_low (x y z C S : EReal) : x * Ideal.ofBits .f32 κ * C + y * Ideal.ofBits .f32 κ * -S + z * 0 = (x * C - y * S) * Ideal.ofBits .f32 κ := by
  rw [mul_zero, add_zero, sub_eq_add_neg, EReal.right_distrib_of_nonneg_of_ne_top κ_nonneg.1 κ_nonneg.2, mul_right_comm x, mul_right_comm y, mul_neg]

theorem turn_high (x y z C S : EReal) : y * Ideal.ofBits .f32 κ * C + z * 0 + x * Ideal.ofBits .f32 κ * S = (x * S + y * C) * Ideal.ofBits .f32 κ := by
  rw [mul_zero, add_zero, EReal.right_distrib_of_nonneg_of_ne_top κ_nonneg.1 κ_nonneg.2, mul_right_comm x, mul_right_comm y, add_comm]

/-! ## The points -/

/-- `H` holds the norm's rows of row block `q`. -/
def Holds (x : FVec Ideal S8x4096x768 .f32) (g : FVec Ideal S768 .f32) (q : ℕ) (hq : q < 32)
    (H : Vec Ideal S1024x768 .bf16) : Prop :=
  ∀ (r : Fin 1024) (k : Fin 768), H (ix2 r k) = normed x g (ix3 ⟨q / 4, by omega⟩ ⟨1024 * (q % 4) + r.val, by omega⟩ k)

variable (m : (ℓ : Loc nD τ sig) → Buf (Elt Ideal) ℓ) {c : Dev nD} {x : FVec Ideal S8x4096x768 .f32} {g : FVec Ideal S768 .f32} {w : FVec Ideal S768x3072 .f32}

theorem row_lt (t : Fin cfg0.N) : t.val / 4 < 32 := by have := point_lt t; omega

variable (hx : x = m ((c : Thread nD τ).loc main_arg0)) (hg : g = m ((c : Thread nD τ).loc main_arg1))

include hx hg in
/-- What a point at the start of a row of blocks leaves in the scratch buffer. -/
theorem tile_holds (t : Fin cfg0.N) :
    Holds x g (t.val / 4) (row_lt t) (k0_pay3 (F := Ideal) (iblk m c 0 t) (iblk m c 1 t) (iblk m c 2 t) (iblk m c 3 t)) := by
  intro r k
  have ht := point_lt t
  have hrow : (⟨1024 * (t.val / 4) + r.val, by omega⟩ : Fin 32768)
      = ⟨4096 * (⟨t.val / 4 / 4, by omega⟩ : Fin 8).val + (⟨1024 * (t.val / 4 % 4) + r.val, by omega⟩ : Fin 4096).val, by dsimp only; omega⟩ :=
    Fin.ext (by dsimp only; omega)
  have e0 : (fun l => (iblk m c 0 t : Vec Ideal S1024x768 .f32) (ix2 r l)) = fun l => x (ix3 ⟨t.val / 4 / 4, by omega⟩ ⟨1024 * (t.val / 4 % 4) + r.val, by omega⟩ l) :=
    funext fun l => by
      refine (read_tile (V m c main_v4) t _).trans ?_
      rw [place_tile, V_rows, ← hx, hrow, rows_apply]
  have e1 : (fun l => (iblk m c 1 t : Vec Ideal S1x768 .f32) (ix2 0 l)) = fun l => g (ix1 l) := funext fun l => by
    refine (read_norm (V m c main_v26) t _).trans ?_
    rw [place_norm, V_norm, ← hg, norm_apply]
  have e2 : (iblk m c 2 t : Vec Ideal S1x1x768 .f32) (ix3 0 0 k) = (0 : EReal) := by
    refine (read_scale (V m c main_v27) t _).trans ?_
    rw [place_scale, V_scale, zeros_apply]
  have e3 : (iblk m c 3 t : Vec Ideal S1x1x768 .f32) (ix3 0 0 k) = (0 : EReal) := by
    refine (read_shift (V m c main_v28) t _).trans ?_
    rw [place_shift, V_shift, zeros_apply]
  refine (tile_apply (iblk m c 0 t) (iblk m c 1 t) (iblk m c 2 t) (iblk m c 3 t) r k).trans ?_
  rw [e0, e1, e2, e3, normed_apply, add_zero, add_zero]
  exact mul_one _

include hx hg in
/-- The scratch buffer holds the same rows after every point of a row of blocks. -/
theorem scratch_holds : ∀ (n : ℕ) (hn : n < cfg0.N), Holds x g (n / 4) (row_lt ⟨n, hn⟩) (outsAt0 m c n hn).2
  | n, hn => by
    by_cases h0 : n % 4 = 0
    · rw [outsAt0_A m c ⟨n, hn⟩ h0 (by dsimp only; omega)]
      dsimp only
      rw [sout_eq]
      exact tile_holds m hx hg ⟨n, hn⟩
    · obtain ⟨k, rfl⟩ : ∃ k, n = k + 1 := ⟨n - 1, by omega⟩
      have ih := scratch_holds k (by omega)
      have e : (k + 1) / 4 = k / 4 := by omega
      rw [outsAt0_B m c ⟨k + 1, hn⟩ h0 (by dsimp only; omega)]
      intro p l
      simp only [e]
      exact ih p l

variable (hw : w = m ((c : Thread nD τ).loc main_arg2))

/-- The head that column block `j` holds `g`-th. -/
abbrev head (t : Fin cfg0.N) (g : Fin 4) : Fin 16 := ⟨4 * (t.val % 4) + g.val, by omega⟩

/-- The sequence and the position of row `r` of a point's tile. -/
abbrev seq (t : Fin cfg0.N) : Fin 8 := ⟨t.val / 4 / 4, by have := point_lt t; omega⟩
abbrev pos (t : Fin cfg0.N) (r : Fin 1024) : Fin 4096 := ⟨1024 * (t.val / 4 % 4) + r.val, by omega⟩

/-- The block's head `g` before the turn: 192 lanes of the product, times the factor, and 64 of zero. -/
def Grown (x : FVec Ideal S8x4096x768 .f32) (g : FVec Ideal S768 .f32) (w : FVec Ideal S768x3072 .f32) (t : Fin cfg0.N) (A : FVec Ideal S1024x1024 .f32) : Prop :=
  ∀ (r : Fin 1024) (u : Fin 4) (l : Fin 256), A (ix2 r ⟨256 * u.val + l.val, by omega⟩)
    = if h : l.val < 192 then product (normed x g) w (ix4 (seq t) (pos t r) (head t u) ⟨l.val, h⟩) * Ideal.ofBits .f32 κ else 0

include hw in
theorem grown_holds (t : Fin cfg0.N) (v : BitVec 32) (hv : Scalar.cmpi .slt v 4#32 = 1#1) {H : Vec Ideal S1024x768 .bf16} (h : Holds x g (t.val / 4) (row_lt t) H) :
    Grown x g w t (grown v H (iblk m c 4 t)) := by
  intro r u l
  have e : ∀ k : Fin 768, (iblk m c 4 t : Vec Ideal S768x1024 .bf16) (ix2 k ⟨256 * u.val + l.val, by omega⟩)
      = if h : l.val < 192 then w (ix2 k ⟨192 * (head t u).val + l.val, by omega⟩) else 0 := fun k => by
    refine (read_weight (V m c main_v5) t _).trans ?_
    rw [place_weight, V_weight, ← hw, ← padded_apply w k (head t u) l]
    exact congrArg (fun n => padded w (ix2 k n)) (Fin.ext (by dsimp only; omega))
  refine (grown_apply v hv H (iblk m c 4 t) r _).trans ?_
  by_cases hl : l.val < 192
  · rw [dif_pos hl, product_apply]
    refine congrArg (· * _) (Finset.sum_congr rfl fun k _ => ?_)
    rw [e k, dif_pos hl, h r k]
  · rw [dif_neg hl]
    refine (congrArg (· * _) (Finset.sum_eq_zero fun k _ => ?_)).trans (zero_mul _)
    rw [e k, dif_neg hl, mul_zero]

/-- Every head's 256 lanes, once turned, are the reference's. -/
theorem block_eq (t : Fin cfg0.N) {A : FVec Ideal S1024x1024 .f32} (h : Grown x g w t A) (r : Fin 1024) (u : Fin 4) (l : Fin 256) :
    block A (iblk m c 5 t) (iblk m c 6 t) (iblk m c 7 t) (ix2 r ⟨256 * u.val + l.val, by omega⟩)
      = result x g w (ix2 ⟨4096 * (seq t).val + (pos t r).val, by have := point_lt t; dsimp only; omega⟩ ⟨256 * (head t u).val + l.val, by omega⟩) := by
  have c5 : ∀ e : Fin 128, (iblk m c 5 t : Vec Ideal S1024x128 .f32) (ix2 r e) = table (Host.cos angle) (Host.cos angle) none32 none32 (ix2 (pos t r) e) := fun e => by
    refine (read_cos (V m c main_v22) t r e).trans ?_
    rw [V_cos]
  have c6 : ∀ e : Fin 128, (iblk m c 6 t : Vec Ideal S1024x128 .f32) (ix2 r e) = table (Host.negf (Host.sin angle)) none32 none32 none32 (ix2 (pos t r) e) := fun e => by
    refine (read_sinLow (V m c main_v24) t r e).trans ?_
    rw [V_sinLow]
  have c7 : ∀ e : Fin 128, (iblk m c 7 t : Vec Ideal S1024x128 .f32) (ix2 r e) = table none32 (Host.sin angle) none32 none32 (ix2 (pos t r) e) := fun e => by
    refine (read_sinHigh (V m c main_v25) t r e).trans ?_
    rw [V_sinHigh]
  rw [result, laid_apply]
  by_cases h0 : l.val < 128
  · rw [dif_pos (by omega)]
    refine (if_pos (show (256 * u.val + l.val) % 256 < 128 by omega)).trans ?_
    rw [h r u l, dif_pos (by omega)]
    exact (scaled_main _ _ _ _ _ ⟨l.val, h0⟩).symm
  · have em : (256 * u.val + l.val) % 128 = l.val - 128 := by omega
    have ed : (256 * u.val + l.val) / 128 * 128 = 256 * u.val + 128 := by omega
    refine (if_neg (show ¬(256 * u.val + l.val) % 256 < 128 by omega)).trans ?_
    simp only [ix2_0, ix2_1, em, ed]
    by_cases h1 : l.val < 160
    · obtain ⟨e, rfl⟩ : ∃ e : Fin 32, l = ⟨128 + e.val, by have := e.isLt; clear * - this; omega⟩ := ⟨⟨l.val - 128, by omega⟩, Fin.ext (by dsimp only; omega)⟩
      have a₁ := h r u ⟨128 + e.val, by omega⟩
      have a₂ := h r u ⟨160 + e.val, by omega⟩
      rw [dif_pos (by dsimp only; omega)] at a₁ a₂ ⊢
      have e₀ : (⟨128 + e.val - 128, by omega⟩ : Fin 128) = ⟨e.val, by omega⟩ := Fin.ext (by dsimp only; omega)
      have e₁ : (⟨256 * u.val + 128 + (128 + e.val - 128 + 32) % 128, by omega⟩ : Fin 1024) = ⟨256 * u.val + (160 + e.val), by omega⟩ := Fin.ext (by dsimp only; omega)
      dsimp only at a₁ a₂ ⊢
      rw [e₀, e₁, a₁, a₂, c5, c6, c7, table₀, table₀, table₀, negf_apply, none32_apply]
      refine (turn_low _ _ _ _ _).trans ?_
      rw [← turned_first]
      exact (scaled_turned _ _ _ _ _ ⟨e.val, by omega⟩).symm
    by_cases h2 : l.val < 192
    · obtain ⟨e, rfl⟩ : ∃ e : Fin 32, l = ⟨160 + e.val, by have := e.isLt; clear * - this; omega⟩ := ⟨⟨l.val - 160, by omega⟩, Fin.ext (by dsimp only; omega)⟩
      have a₁ := h r u ⟨128 + e.val, by omega⟩
      have a₂ := h r u ⟨160 + e.val, by omega⟩
      rw [dif_pos (by dsimp only; omega)] at a₁ a₂ ⊢
      have e₀ : (⟨160 + e.val - 128, by omega⟩ : Fin 128) = ⟨32 + e.val, by omega⟩ := Fin.ext (by dsimp only; omega)
      have e₁ : (⟨256 * u.val + 128 + (160 + e.val - 128 + 96) % 128, by omega⟩ : Fin 1024) = ⟨256 * u.val + (128 + e.val), by omega⟩ := Fin.ext (by dsimp only; omega)
      dsimp only at a₁ a₂ ⊢
      rw [e₀, e₁, a₁, a₂, c5, c6, c7, table₁, table₁, table₁, none32_apply]
      refine (turn_high _ _ _ _ _).trans ?_
      rw [← turned_second]
      have := (scaled_turned (product (normed x g) w) (turned (product (normed x g) w) (Host.cos angle) (Host.sin angle)) (seq t) (pos t r) (head t u) ⟨32 + e.val, by omega⟩).symm
      refine this.trans (congrArg _ ?_)
      congr 1
      exact Fin.ext (by dsimp only; omega)
    · obtain ⟨e, rfl⟩ : ∃ e : Fin 64, l = ⟨192 + e.val, by have := e.isLt; clear * - this; omega⟩ := ⟨⟨l.val - 192, by omega⟩, Fin.ext (by dsimp only; omega)⟩
      have a₁ := h r u ⟨192 + e.val, by omega⟩
      rw [dif_neg (by dsimp only; omega)] at a₁ ⊢
      have e₀ : (⟨192 + e.val - 128, by omega⟩ : Fin 128) = ⟨64 + e.val, by omega⟩ := Fin.ext (by dsimp only; omega)
      dsimp only at a₁ ⊢
      rw [e₀, a₁, c5, c6, c7, table_rest, table_rest, table_rest, mul_zero, mul_zero, mul_zero, add_zero, add_zero]

include hw in
/-- The block a point writes, of the rows in the scratch buffer. -/
theorem point_eq (t : Fin cfg0.N) (v : BitVec 32) (hv : Scalar.cmpi .slt v 4#32 = 1#1) {H : Vec Ideal S1024x768 .bf16} (h : Holds x g (t.val / 4) (row_lt t) H) :
    block (grown v H (iblk m c 4 t)) (iblk m c 5 t) (iblk m c 6 t) (iblk m c 7 t)
      = (((cfg0.win 8).blk t).view.read (Elt Ideal) (result x g w) : Vec Ideal S1024x1024 .bf16) := by
  have ht := point_lt t
  funext y
  obtain ⟨r, n, rfl⟩ : ∃ (r : Fin 1024) (n : Fin 1024), y = (ix2 r n : S1024x1024.Idx) := ⟨y 0, y 1, (ix2_eta y).symm⟩
  obtain ⟨u, l, rfl⟩ : ∃ (u : Fin 4) (l : Fin 256), n = ⟨256 * u.val + l.val, by omega⟩ :=
    ⟨⟨n.val / 256, by omega⟩, ⟨n.val % 256, by omega⟩, Fin.ext (by dsimp only; omega)⟩
  refine Eq.trans ?_ (read_out (result x g w) t _).symm
  rw [place_out, block_eq m t (grown_holds m hw t v hv h) r u l]
  refine congrArg (result x g w) ?_
  congr 1 <;> exact Fin.ext (by dsimp only; omega)

include hx hg hw in
theorem flushed_eq (t : Fin cfg0.N) : (dats m 0 c).flushed 8 t = ((cfg0.win 8).blk t).view.read (Elt Ideal) (result x g w) := by
  by_cases h0 : t.val % 4 = 0
  · rw [Cert.QueryIdeal.Value.flushed8_A m c t h0 (by omega), outA_eq]
    exact point_eq m hw t _ (word_lt _) (tile_holds m hx hg t)
  · rw [Cert.QueryIdeal.Value.flushed8_B m c t h0 (by omega), outB_eq]
    have H := scratch_holds m hx hg (t.val - 1) (Nat.lt_of_le_of_lt (Nat.sub_le _ _) t.isLt)
    have e : (t.val - 1) / 4 = t.val / 4 := by omega
    refine point_eq m hw t _ (word_lt _) ?_
    intro p l
    have := H p l
    simp only [e] at this
    exact this

include hx hg hw in
theorem array_eq : (dats m 0 c).arrAt 8 cfg0.N = result x g w :=
  (dats m 0 c).arrAt_eq_of_cover 8 (result x g w) (fun t _ => flushed_eq m hx hg hw t) fun i => by
    have h0 : (i 0 : Nat) < 32768 := (i 0).isLt
    have h1 : (i 1 : Nat) < 4096 := (i 1).isLt
    obtain ⟨t, ht⟩ : ∃ t : Fin cfg0.N, t.val = 4 * ((i 0 : Nat) / 1024) + (i 1 : Nat) / 1024 :=
      ⟨⟨4 * ((i 0 : Nat) / 1024) + (i 1 : Nat) / 1024, by rw [show cfg0.N = 128 from N_0]; omega⟩, rfl⟩
    refine ⟨t, flush0_8 t, ?_⟩
    have hi := index_out t
    show i ∈ ((View.whole main_v29).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [hi.1]; omega
    | ⟨1, _⟩ =>
      show win0_8.index t 1 * 1024 ≤ (i 1 : Nat) ∧ (i 1 : Nat) < win0_8.index t 1 * 1024 + 1024
      rw [hi.2]; omega

end Cert.Query

end
-- ==== Proof.ModRef.lean ====
/-
  The conditioning of all the layers, as the reference computes it, at an index.
-/
module

public import proofs.«01_k».proof.Proof.Gen.ModRefIdeal.Run
public import Idealize.ShloMosaic.Lib.Pointwise
public import Idealize.ShloMosaic.Lib.Claim

@[expose] public section

noncomputable section

namespace Cert.Mod

open Idealize.ShloMosaic Cert.ModRefIdeal Cert.ModRefIdeal.Gen Idealize.ShloMosaic.TcCoe Idealize.ShloMosaic.Tactic

/-- `silu` of the conditioning vectors. -/
def act (a : FVec Ideal S8x2048 .f32) : FVec Ideal S8x2048 .f32 :=
  mulf a (Host.divf (broadcastInDim S8x2048 ![] bcast_S_S8x2048 (constant S_ .f32 0x3F800000#32))
    (addf (broadcastInDim S8x2048 ![] bcast_S_S8x2048 (constant S_ .f32 0x3F800000#32)) (Host.exp (Host.negf a))))

/-- One layer's product and bias, with a leading dimension of one. -/
def layer (h : FVec Ideal S8x2048 .f32) (w : FVec Ideal S1x2048x12288 .f32) (b : FVec Ideal S1x12288 .f32) : FVec Ideal S1x8x12288 .f32 :=
  broadcastInDim S1x8x12288 ![1, 2] bcast_S8x12288_S1x8x12288_1_2 (addf
    (Host.dotGeneral dot_S8x2048_S2048x12288_S8x12288_1_0_0_1_n_n none h (shapeCast _ w shapeCasts_S1x2048x12288_S2048x12288))
    (broadcastInDim S8x12288 ![0, 1] bcast_S1x12288_S8x12288_0_1 (broadcastInDim S1x12288 ![1] bcast_S12288_S1x12288_1
      (shapeCast _ b shapeCasts_S1x12288_S12288))))

/-- The four layers one after the other. -/
def stacked (p q r s : FVec Ideal S1x8x12288 .f32) : FVec Ideal S4x8x12288 .f32 :=
  concatenate S4x8x12288 0 [⟨S1x8x12288, p⟩, ⟨S1x8x12288, q⟩, ⟨S1x8x12288, r⟩, ⟨S1x8x12288, s⟩]
    concatenates_S1x8x12288_S1x8x12288_S1x8x12288_S1x8x12288_S4x8x12288_d0

/-- All the lines. -/
def result (a : FVec Ideal S8x2048 .f32) (w : FVec Ideal S4x2048x12288 .f32) (b : FVec Ideal S4x12288 .f32) : FVec Ideal S4x8x12288 .f32 :=
  stacked
    (layer (act a) (extractStridedSlice S1x2048x12288 ![0, 0, 0] w slices_S4x2048x12288_S1x2048x12288_0_0_0)
      (extractStridedSlice S1x12288 ![0, 0] b slices_S4x12288_S1x12288_0_0))
    (layer (act a) (extractStridedSlice S1x2048x12288 ![1, 0, 0] w slices_S4x2048x12288_S1x2048x12288_1_0_0)
      (extractStridedSlice S1x12288 ![1, 0] b slices_S4x12288_S1x12288_1_0))
    (layer (act a) (extractStridedSlice S1x2048x12288 ![2, 0, 0] w slices_S4x2048x12288_S1x2048x12288_2_0_0)
      (extractStridedSlice S1x12288 ![2, 0] b slices_S4x12288_S1x12288_2_0))
    (layer (act a) (extractStridedSlice S1x2048x12288 ![3, 0, 0] w slices_S4x2048x12288_S1x2048x12288_3_0_0)
      (extractStridedSlice S1x12288 ![3, 0] b slices_S4x12288_S1x12288_3_0))

/-- `silu` of a number. -/
abbrev silu (z : EReal) : EReal := z * Ideal.div 1 (1 + Ideal.exp (-z))

theorem act_apply (a : FVec Ideal S8x2048 .f32) (r : Fin 8) (k : Fin 2048) : act a (ix2 r k) = silu (a (ix2 r k)) := by
  pointwise [act]

theorem layer_apply (h : FVec Ideal S8x2048 .f32) (w : FVec Ideal S1x2048x12288 .f32) (b : FVec Ideal S1x12288 .f32) (r : Fin 8) (n : Fin 12288) :
    layer h w b (ix3 0 r n) = ∑ k : Fin 2048, h (ix2 r k) * w (ix3 0 k n) + b (ix2 0 n) := by
  pointwise [layer]

theorem weight_apply {o : Fin 3 → ℕ} (w : FVec Ideal S4x2048x12288 .f32) (l : Fin 4) (ho : o = ![l.val, 0, 0]) (hs) (k : Fin 2048) (n : Fin 12288) :
    extractStridedSlice S1x2048x12288 o w hs (ix3 0 k n) = w (ix3 l k n) := by
  subst ho
  pointwise

theorem bias_apply {o : Fin 2 → ℕ} (b : FVec Ideal S4x12288 .f32) (l : Fin 4) (ho : o = ![l.val, 0]) (hs) (n : Fin 12288) :
    extractStridedSlice S1x12288 o b hs (ix2 0 n) = b (ix2 l n) := by
  subst ho
  pointwise

theorem stacked_apply (p q r s : FVec Ideal S1x8x12288 .f32) (l : Fin 4) (b : Fin 8) (n : Fin 12288) :
    stacked p q r s (ix3 l b n) = (match l with | 0 => p | 1 => q | 2 => r | 3 => s) (ix3 0 b n) := by
  match l with
  | 0 => pointwise [stacked]
  | 1 => pointwise [stacked]
  | 2 => pointwise [stacked]
  | 3 => pointwise [stacked]

theorem result_apply (a : FVec Ideal S8x2048 .f32) (w : FVec Ideal S4x2048x12288 .f32) (b : FVec Ideal S4x12288 .f32) (l : Fin 4) (r : Fin 8) (n : Fin 12288) :
    result a w b (ix3 l r n) = ∑ k : Fin 2048, silu (a (ix2 r k)) * w (ix3 l k n) + b (ix2 l n) := by
  unfold result
  rw [stacked_apply]
  match l with
  | 0 => exact (layer_apply _ _ _ r n).trans (congrArg₂ (· + ·) (Finset.sum_congr rfl fun k _ =>
      congrArg₂ (· * ·) (act_apply a r k) (weight_apply w 0 rfl _ k n)) (bias_apply b 0 rfl _ n))
  | 1 => exact (layer_apply _ _ _ r n).trans (congrArg₂ (· + ·) (Finset.sum_congr rfl fun k _ =>
      congrArg₂ (· * ·) (act_apply a r k) (weight_apply w 1 rfl _ k n)) (bias_apply b 1 rfl _ n))
  | 2 => exact (layer_apply _ _ _ r n).trans (congrArg₂ (· + ·) (Finset.sum_congr rfl fun k _ =>
      congrArg₂ (· * ·) (act_apply a r k) (weight_apply w 2 rfl _ k n)) (bias_apply b 2 rfl _ n))
  | 3 => exact (layer_apply _ _ _ r n).trans (congrArg₂ (· + ·) (Finset.sum_congr rfl fun k _ =>
      congrArg₂ (· * ·) (act_apply a r k) (weight_apply w 3 rfl _ k n)) (bias_apply b 3 rfl _ n))

end Cert.Mod

end
-- ==== Proof.Mod.lean ====
/-
  The conditioning of all the layers: the array that the call leaves is the reference's.
-/
module

public import proofs.«01_k».proof.Proof.ModRef
public import proofs.«01_k».proof.Proof.Gen.ModIdeal.Value
public import Idealize.ShloMosaic.Lib.Pointwise
public import Idealize.ShloMosaic.Lib.Claim
public import Idealize.ShloMosaic.Lib.Pipeline.Value
public import Idealize.ShloMosaic.Lib.Pipeline.ValueKit.Geometry

@[expose] public section

noncomputable section

namespace Cert.Mod

open Idealize.ShloMosaic Cert.ModIdeal Cert.ModIdeal.Gen Idealize.ShloMosaic.TcCoe Idealize.ShloMosaic.Tactic
open Idealize.ShloMosaic.StableHlo

/-! ## One block -/

/-- What the body stores, at an index of the block. -/
theorem pay_apply (X0 : Vec Ideal S8x2048 .f32) (X1 : Vec Ideal S1x2048x1024 .f32) (X2 : Vec Ideal S1x1x1024 .f32) (r : Fin 8) (n : Fin 1024) :
    k0_pay1 X0 X1 X2 (ix3 0 r n) = ∑ k : Fin 2048, silu (X0 (ix2 r k)) * X1 (ix3 0 k n) + X2 (ix3 0 0 n) := by
  pointwise [k0_pay1]
  rfl

/-- The block the body leaves is its one store's. -/
theorem out_eq (X0 : Vec Ideal S8x2048 .f32) (X1 : Vec Ideal S1x2048x1024 .f32) (X2 : Vec Ideal S1x1x1024 .f32) : out0_3 X0 X1 X2 = k0_pay1 X0 X1 X2 := by
  have z2 : (![0, 0] : Fin 2 → ℕ) = fun _ => 0 := by decide
  have z3 : (![0, 0, 0] : Fin 3 → ℕ) = fun _ => 0 := by decide
  unfold out0_3
  rw [View.canon_unit_zero z3, View.ld_unit_zero z2, View.ld_unit_zero z3, View.ld_unit_zero z3]

/-! ## The blocks' places -/

theorem point_lt (t : Fin cfg0.N) : t.val < 48 := lt_of_lt_of_eq t.isLt N_0

theorem index_act : ∀ t : Fin grid0.N, win0_0.index t 0 = 0 ∧ win0_0.index t 1 = 0 := by decide +kernel
theorem index_weight : ∀ t : Fin grid0.N, win0_1.index t 0 = t.val / 12 ∧ win0_1.index t 1 = 0 ∧ win0_1.index t 2 = t.val % 12 := by decide +kernel
theorem index_bias : ∀ t : Fin grid0.N, win0_2.index t 0 = t.val / 12 ∧ win0_2.index t 1 = 0 ∧ win0_2.index t 2 = t.val % 12 := by decide +kernel
theorem index_out : ∀ t : Fin grid0.N, win0_3.index t 0 = t.val / 12 ∧ win0_3.index t 1 = 0 ∧ win0_3.index t 2 = t.val % 12 := by decide +kernel

/-- The layer of point `t`, and column `n` of its tile among all the columns. -/
abbrev lay (t : Fin cfg0.N) : Fin 4 := ⟨t.val / 12, by have := point_lt t; omega⟩
abbrev col (t : Fin cfg0.N) (n : Fin 1024) : Fin 12288 := ⟨1024 * (t.val % 12) + n.val, by omega⟩

theorem place_act (t : Fin cfg0.N) (r : Fin 8) (k : Fin 2048) :
    (((cfg0.win 0).blk t).view.emb (ix2 r k : S8x2048.Idx) : S8x2048.Idx) = ix2 r k := by
  have hi := index_act t
  blk_ext [hi.1, hi.2]

theorem place_weight (t : Fin cfg0.N) (k : Fin 2048) (n : Fin 1024) :
    (((cfg0.win 1).blk t).view.emb (ix3 0 k n : S1x2048x1024.Idx) : S4x2048x12288.Idx) = ix3 (lay t) k (col t n) := by
  have hi := index_weight t
  blk_ext [hi.1, hi.2.1, hi.2.2]

theorem place_bias (t : Fin cfg0.N) (n : Fin 1024) :
    (((cfg0.win 2).blk t).view.emb (ix3 0 0 n : S1x1x1024.Idx) : S4x1x12288.Idx) = ix3 (lay t) 0 (col t n) := by
  have hi := index_bias t
  blk_ext [hi.1, hi.2.1, hi.2.2]

theorem place_out (t : Fin cfg0.N) (r : Fin 8) (n : Fin 1024) :
    (((cfg0.win 3).blk t).view.emb (ix3 0 r n : S1x8x1024.Idx) : S4x8x12288.Idx) = ix3 (lay t) r (col t n) := by
  have hi := index_out t
  blk_ext [hi.1, hi.2.1, hi.2.2]

theorem read_act (f : FVec Ideal S8x2048 .f32) (t : Fin cfg0.N) (y : S8x2048.Idx) :
    (((cfg0.win 0).blk t).view.read (Elt Ideal) f : Vec Ideal S8x2048 .f32) y = f (((cfg0.win 0).blk t).view.emb y) := rfl

theorem read_weight (f : FVec Ideal S4x2048x12288 .f32) (t : Fin cfg0.N) (y : S1x2048x1024.Idx) :
    (((cfg0.win 1).blk t).view.read (Elt Ideal) f : Vec Ideal S1x2048x1024 .f32) y = f (((cfg0.win 1).blk t).view.emb y) := rfl

theorem read_bias (f : FVec Ideal S4x1x12288 .f32) (t : Fin cfg0.N) (y : S1x1x1024.Idx) :
    (((cfg0.win 2).blk t).view.read (Elt Ideal) f : Vec Ideal S1x1x1024 .f32) y = f (((cfg0.win 2).blk t).view.emb y) := rfl

theorem read_out (f : FVec Ideal S4x8x12288 .f32) (t : Fin cfg0.N) (y : S1x8x1024.Idx) :
    (((cfg0.win 3).blk t).view.read (Elt Ideal) f : Vec Ideal S1x8x1024 .f32) y = f (((cfg0.win 3).blk t).view.emb y) := rfl

/-! ## The arrays that the call reads -/

variable (m : (ℓ : Loc nD τ sig) → Buf (Elt Ideal) ℓ)

theorem V_act (c : Dev nD) : V m c main_arg0 = m ((c : Thread nD τ).loc main_arg0) := by
  simp only [V, hostOps0, TRef.unary, TRef.binary, TRef.toBuf, TRef.ofBuf, cast_eq]
  after_results_simp

theorem V_weight (c : Dev nD) : V m c main_arg1 = m ((c : Thread nD τ).loc main_arg1) := by
  simp only [V, hostOps0, TRef.unary, TRef.binary, TRef.toBuf, TRef.ofBuf, cast_eq]
  after_results_simp

theorem V_bias (c : Dev nD) : V m c main_v0 = (shapeCast S4x1x12288 (m ((c : Thread nD τ).loc main_arg2) : FVec Ideal S4x12288 .f32)
    shapeCasts_S4x12288_S4x1x12288 : FVec Ideal S4x1x12288 .f32) := by
  simp only [V, hostOps0, TRef.unary, TRef.binary, TRef.toBuf, TRef.ofBuf, cast_eq]
  after_results_simp
  rfl

theorem row_apply (b : FVec Ideal S4x12288 .f32) (l : Fin 4) (n : Fin 12288) :
    (shapeCast S4x1x12288 b shapeCasts_S4x12288_S4x1x12288 : FVec Ideal S4x1x12288 .f32) (ix3 l 0 n) = b (ix2 l n) := by
  pointwise

/-! ## The whole array -/

theorem flushed_eq {c : Dev nD} {a w b} (ha : a = m ((c : Thread nD τ).loc main_arg0)) (hw : w = m ((c : Thread nD τ).loc main_arg1))
    (hb : b = m ((c : Thread nD τ).loc main_arg2)) (t : Fin cfg0.N) :
    (dats m 0 c).flushed 3 t = ((cfg0.win 3).blk t).view.read (Elt Ideal) (result a w b) := by
  rw [Cert.ModIdeal.Value.flushed3 m c t, out_eq]
  funext y
  obtain ⟨r, n, rfl⟩ : ∃ (r : Fin 8) (n : Fin 1024), y = (ix3 0 r n : S1x8x1024.Idx) :=
    ⟨y 1, y 2, (ix3_eta y).symm.trans (congrArg (fun z : Fin 1 => (ix3 z (y 1) (y 2) : S1x8x1024.Idx)) (Subsingleton.elim _ _))⟩
  refine Eq.trans ?_ (read_out (result a w b) t _).symm
  rw [place_out, result_apply]
  refine Eq.trans (pay_apply (iblk m c 0 t) (iblk m c 1 t) (iblk m c 2 t) r n) ?_
  refine congrArg₂ (· + ·) (Finset.sum_congr rfl fun k _ => congrArg₂ (· * ·) (congrArg silu ?_) ?_) ?_
  · refine (read_act (V m c main_arg0) t _).trans ?_
    rw [place_act, V_act, ← ha]
  · refine (read_weight (V m c main_arg1) t _).trans ?_
    rw [place_weight, V_weight, ← hw]
  · refine (read_bias (V m c main_v0) t _).trans ?_
    rw [place_bias, V_bias, ← hb, row_apply]

theorem array_eq {c : Dev nD} {a w b} (ha : a = m ((c : Thread nD τ).loc main_arg0)) (hw : w = m ((c : Thread nD τ).loc main_arg1))
    (hb : b = m ((c : Thread nD τ).loc main_arg2)) : (dats m 0 c).arrAt 3 cfg0.N = result a w b :=
  (dats m 0 c).arrAt_eq_of_cover 3 (result a w b) (fun t _ => flushed_eq m ha hw hb t) fun i => by
    have h0 : (i 0 : Nat) < 4 := (i 0).isLt
    have h1 : (i 1 : Nat) < 8 := (i 1).isLt
    have h2 : (i 2 : Nat) < 12288 := (i 2).isLt
    obtain ⟨t, ht⟩ : ∃ t : Fin cfg0.N, t.val = 12 * (i 0 : Nat) + (i 2 : Nat) / 1024 :=
      ⟨⟨12 * (i 0 : Nat) + (i 2 : Nat) / 1024, by rw [show cfg0.N = 48 from N_0]; omega⟩, rfl⟩
    refine ⟨t, flush0_3 t, ?_⟩
    have hi := index_out t
    show i ∈ ((View.whole main_v1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [hi.1]; omega
    | ⟨1, _⟩ =>
      show win0_3.index t 1 * 8 ≤ (i 1 : Nat) ∧ (i 1 : Nat) < win0_3.index t 1 * 8 + 8
      rw [hi.2.1]; omega
    | ⟨2, _⟩ =>
      show win0_3.index t 2 * 1024 ≤ (i 2 : Nat) ∧ (i 2 : Nat) < win0_3.index t 2 * 1024 + 1024
      rw [hi.2.2]; omega

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.SbIn
public import proofs.«01_k».proof.Proof.Gen.SbIn.Skeleton
public import proofs.«01_k».proof.Proof.Gen.SbIn.Launch
public import proofs.«01_k».proof.Proof.Gen.SbIn.Points
public import proofs.«01_k».proof.Proof.Gen.SbIn.Frame
public import proofs.«01_k».proof.Proof.Gen.SbInIdeal
public import proofs.«01_k».proof.Proof.Gen.SbInIdeal.Skeleton
public import proofs.«01_k».proof.Proof.Gen.SbInIdeal.Launch
public import proofs.«01_k».proof.Proof.Gen.SbInIdeal.Points
public import proofs.«01_k».proof.Proof.Gen.SbInIdeal.Frame
public import proofs.«01_k».proof.Proof.Gen.SbInIdeal.Value
public import proofs.«01_k».proof.Proof.Gen.SbInRefIdeal
public import proofs.«01_k».proof.Proof.Gen.SbInRefIdeal.Run
public import proofs.«01_k».proof.Proof.Gen.DiffIn
public import proofs.«01_k».proof.Proof.Gen.DiffIn.Skeleton
public import proofs.«01_k».proof.Proof.Gen.DiffIn.Launch
public import proofs.«01_k».proof.Proof.Gen.DiffIn.Points
public import proofs.«01_k».proof.Proof.Gen.DiffIn.Frame
public import proofs.«01_k».proof.Proof.Gen.DiffInIdeal
public import proofs.«01_k».proof.Proof.Gen.DiffInIdeal.Skeleton
public import proofs.«01_k».proof.Proof.Gen.DiffInIdeal.Launch
public import proofs.«01_k».proof.Proof.Gen.DiffInIdeal.Points
public import proofs.«01_k».proof.Proof.Gen.DiffInIdeal.Frame
public import proofs.«01_k».proof.Proof.Gen.DiffInIdeal.Value
public import proofs.«01_k».proof.Proof.Gen.DiffInRefIdeal
public import proofs.«01_k».proof.Proof.Gen.DiffInRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Pre_finite
public import proofs.«01_k».proof.Proof.Array
public import proofs.«01_k».proof.Proof.Pre
public import proofs.«01_k».proof.Proof.Up
public import proofs.«01_k».proof.Proof.Down
public import proofs.«01_k».proof.Proof.Out
public import proofs.«01_k».proof.Proof.Last
public import proofs.«01_k».proof.Proof.SbIn
public import proofs.«01_k».proof.Proof.DiffIn
public import proofs.«01_k».proof.Proof.Kv
public import proofs.«01_k».proof.Proof.Query
public import proofs.«01_k».proof.Proof.Mod
public import Idealize.ShloMosaic.Adequacy
public import Idealize.ShloMosaic.Init

@[expose] public section

noncomputable section

namespace Cert.Proof

open Idealize.ShloMosaic Idealize.SL.Sem Cert.Kernel

/-! ## The references' frames: their runs with the result dropped; they declare no semaphore -/

theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_up : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_down : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_out : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem frame_last : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run (F := Ideal) m ρ)

theorem frame_sb_in : Cert.quiescent_SbInRefIdeal (hSbInRefIdeal := Cert.SbInRefIdeal.Gen.facts) := fun m ρ _ =>
  (θ_run Cert.SbInRefIdeal.defs _ _).mono (fun r h => ⟨fun c => (h c).2, sem_eq_zero_of_no_sems (by decide) r.2⟩)
    (Cert.SbInRefIdeal.Value.run (F := Ideal) m ρ)

theorem frame_diff_in : Cert.quiescent_DiffInRefIdeal (hDiffInRefIdeal := Cert.DiffInRefIdeal.Gen.facts) := fun m ρ _ =>
  (θ_run Cert.DiffInRefIdeal.defs _ _).mono (fun r h => ⟨fun c => (h c).2, sem_eq_zero_of_no_sems (by decide) r.2⟩)
    (Cert.DiffInRefIdeal.Value.run (F := Ideal) m ρ)

theorem frame_kv : Cert.quiescent_KvRefIdeal (hKvRefIdeal := Cert.KvRefIdeal.Gen.facts) := fun m ρ _ =>
  (θ_run Cert.KvRefIdeal.defs _ _).mono (fun r h => ⟨fun c => (h c).2, sem_eq_zero_of_no_sems (by decide) r.2⟩)
    (Cert.KvRefIdeal.Value.run (F := Ideal) m ρ)

theorem frame_query : Cert.quiescent_QueryRefIdeal (hQueryRefIdeal := Cert.QueryRefIdeal.Gen.facts) := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem frame_mod : Cert.quiescent_ModRefIdeal (hModRefIdeal := Cert.ModRefIdeal.Gen.facts) := fun m ρ _ =>
  (θ_run Cert.ModRefIdeal.defs _ _).mono (fun r h => ⟨fun c => (h c).2, sem_eq_zero_of_no_sems (by decide) r.2⟩)
    (Cert.ModRefIdeal.Value.run (F := Ideal) m ρ)

/-! ## The values -/

/-- The attention's two results are one array: the kernel's by its blocks, the reference's by its lines. -/
theorem algebraic : Cert.algebraic_KernelIdeal_ReferenceIdeal_pre_finite (hKernelIdeal := Cert.KernelIdeal.Gen.facts)
    (hReferenceIdeal := Cert.ReferenceIdeal.Gen.facts) (hPre_finite := Cert.Flash.preFacts) := fun m ρ m' ρ' hpre hargs =>
  ⟨fun c => Cert.Flash.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h c).1.trans
      (Cert.Flash.array_eq m rfl rfl rfl (Cert.Flash.finite_of _ _ _ (hpre c))), (h c).2⟩)
      (Cert.KernelIdeal.Value.run_blocks (F := Ideal) m ρ),
    (θ_run Cert.ReferenceIdeal.defs _ _).mono (fun _ h c => ⟨(h c).1.trans
      (Cert.Flash.reference_eq m' c _ _ _ (hargs c).1.symm (hargs c).2.1.symm (hargs c).2.2.symm), (h c).2⟩)
      (Cert.ReferenceIdeal.Value.run (F := Ideal) m' ρ')⟩

/-- The feed-forward part's first call: norm with modulation, product, causal convolution, gate. -/
theorem algebraic_up : Cert.algebraic_UpIdeal_UpRefIdeal (hUpIdeal := Cert.UpIdeal.Gen.facts)
    (hUpRefIdeal := Cert.UpRefIdeal.Gen.facts) := fun m ρ m' ρ' _ hargs =>
  ⟨fun c => Cert.FfnUp.result (m ((c.tc : Thread Cert.UpIdeal.nD Cert.UpIdeal.τ).loc Cert.UpIdeal.main_arg0))
      (m ((c.tc : Thread Cert.UpIdeal.nD Cert.UpIdeal.τ).loc Cert.UpIdeal.main_arg1))
      (m ((c.tc : Thread Cert.UpIdeal.nD Cert.UpIdeal.τ).loc Cert.UpIdeal.main_arg2))
      (m ((c.tc : Thread Cert.UpIdeal.nD Cert.UpIdeal.τ).loc Cert.UpIdeal.main_arg3))
      (m ((c.tc : Thread Cert.UpIdeal.nD Cert.UpIdeal.τ).loc Cert.UpIdeal.main_arg4))
      (m ((c.tc : Thread Cert.UpIdeal.nD Cert.UpIdeal.τ).loc Cert.UpIdeal.main_arg5))
      (m ((c.tc : Thread Cert.UpIdeal.nD Cert.UpIdeal.τ).loc Cert.UpIdeal.main_arg6)),
    (θ_run Cert.UpIdeal.defs _ _).mono (fun _ h c => ⟨(h c).1.trans (Cert.FfnUp.array_eq m rfl rfl rfl rfl rfl rfl rfl), (h c).2⟩)
      (Cert.UpIdeal.Value.run_blocks (F := Ideal) m ρ),
    (θ_run Cert.UpRefIdeal.defs _ _).mono (fun _ h c => ⟨(h c).1.trans (Cert.FfnUp.res_eq m' c (hargs c).1.symm (hargs c).2.1.symm (hargs c).2.2.1.symm (hargs c).2.2.2.1.symm (hargs c).2.2.2.2.1.symm (hargs c).2.2.2.2.2.1.symm (hargs c).2.2.2.2.2.2.symm), (h c).2⟩)
      (Cert.UpRefIdeal.Value.run (F := Ideal) m' ρ')⟩

/-- The feed-forward part's second call: product, gate, residual. -/
theorem algebraic_down : Cert.algebraic_DownIdeal_DownRefIdeal (hDownIdeal := Cert.DownIdeal.Gen.facts)
    (hDownRefIdeal := Cert.DownRefIdeal.Gen.facts) := fun m ρ m' ρ' _ hargs =>
  ⟨fun c => Cert.Down.result (m ((c.tc : Thread Cert.DownIdeal.nD Cert.DownIdeal.τ).loc Cert.DownIdeal.main_arg0))
      (m ((c.tc : Thread Cert.DownIdeal.nD Cert.DownIdeal.τ).loc Cert.DownIdeal.main_arg1))
      (m ((c.tc : Thread Cert.DownIdeal.nD Cert.DownIdeal.τ).loc Cert.DownIdeal.main_arg2))
      (m ((c.tc : Thread Cert.DownIdeal.nD Cert.DownIdeal.τ).loc Cert.DownIdeal.main_arg3)),
    (θ_run Cert.DownIdeal.defs _ _).mono (fun _ h c => ⟨(h c).1.trans (Cert.Down.array_eq m rfl rfl rfl rfl), (h c).2⟩)
      (Cert.DownIdeal.Value.run_blocks (F := Ideal) m ρ),
    (θ_run Cert.DownRefIdeal.defs _ _).mono (fun _ h c => ⟨(h c).1.trans (by rw [(hargs c).1, (hargs c).2.1, (hargs c).2.2.1, (hargs c).2.2.2]; rfl), (h c).2⟩)
      (Cert.DownRefIdeal.Value.run (F := Ideal) m' ρ')⟩

/-- A mixer's out-projection: product, gate, residual. -/
theorem algebraic_out : Cert.algebraic_OutIdeal_OutRefIdeal (hOutIdeal := Cert.OutIdeal.Gen.facts)
    (hOutRefIdeal := Cert.OutRefIdeal.Gen.facts) := fun m ρ m' ρ' _ hargs =>
  ⟨fun c => Cert.Out.result (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3)),
    (θ_run Cert.OutIdeal.defs _ _).mono (fun _ h c => ⟨(h c).1.trans (Cert.Out.array_eq m rfl rfl rfl rfl), (h c).2⟩)
      (Cert.OutIdeal.Value.run_blocks (F := Ideal) m ρ),
    (θ_run Cert.OutRefIdeal.defs _ _).mono (fun _ h c => ⟨(h c).1.trans (by rw [(hargs c).1, (hargs c).2.1, (hargs c).2.2.1, (hargs c).2.2.2]; rfl), (h c).2⟩)
      (Cert.OutRefIdeal.Value.run (F := Ideal) m' ρ')⟩

/-- The last norm. -/
theorem algebraic_last : Cert.algebraic_LastIdeal_LastRefIdeal (hLastIdeal := Cert.LastIdeal.Gen.facts)
    (hLastRefIdeal := Cert.LastRefIdeal.Gen.facts) := fun m ρ m' ρ' _ hargs =>
  ⟨fun c => Cert.Last.result (m ((c.tc : Thread Cert.LastIdeal.nD Cert.LastIdeal.τ).loc Cert.LastIdeal.main_arg0))
      (m ((c.tc : Thread Cert.LastIdeal.nD Cert.LastIdeal.τ).loc Cert.LastIdeal.main_arg1)),
    (θ_run Cert.LastIdeal.defs _ _).mono (fun _ h c => ⟨(h c).1.trans (Cert.Last.array_eq m rfl rfl), (h c).2⟩)
      (Cert.LastIdeal.Value.run_blocks (F := Ideal) m ρ),
    (θ_run Cert.LastRefIdeal.defs _ _).mono (fun _ h c => ⟨(h c).1.trans (by rw [(hargs c).1, (hargs c).2]; rfl), (h c).2⟩)
      (Cert.LastRefIdeal.Value.run (F := Ideal) m' ρ')⟩

/-- The stick-breaking attention's in-projection: norm with modulation, product, the queries' factor. -/
theorem algebraic_sb_in : Cert.algebraic_SbInIdeal_SbInRefIdeal (hSbInIdeal := Cert.SbInIdeal.Gen.facts)
    (hSbInRefIdeal := Cert.SbInRefIdeal.Gen.facts) := fun m ρ m' ρ' _ hargs =>
  ⟨fun c => Cert.In.result Cert.SbIn.κ (m ((c.tc : Thread Cert.SbInIdeal.nD Cert.SbInIdeal.τ).loc Cert.SbInIdeal.main_arg0))
      (m ((c.tc : Thread Cert.SbInIdeal.nD Cert.SbInIdeal.τ).loc Cert.SbInIdeal.main_arg1))
      (m ((c.tc : Thread Cert.SbInIdeal.nD Cert.SbInIdeal.τ).loc Cert.SbInIdeal.main_arg2))
      (m ((c.tc : Thread Cert.SbInIdeal.nD Cert.SbInIdeal.τ).loc Cert.SbInIdeal.main_arg3))
      (m ((c.tc : Thread Cert.SbInIdeal.nD Cert.SbInIdeal.τ).loc Cert.SbInIdeal.main_arg4)),
    (θ_run Cert.SbInIdeal.defs _ _).mono (fun _ h c => ⟨(h c).1.trans (Cert.SbIn.array_eq m rfl rfl rfl rfl rfl), (h c).2⟩)
      (Cert.SbInIdeal.Value.run_blocks (F := Ideal) m ρ),
    (θ_run Cert.SbInRefIdeal.defs _ _).mono (fun _ h c => ⟨(h c).1.trans (by rw [(hargs c).1, (hargs c).2.1, (hargs c).2.2.1, (hargs c).2.2.2.1, (hargs c).2.2.2.2]; rfl), (h c).2⟩)
      (Cert.SbInRefIdeal.Value.run (F := Ideal) m' ρ')⟩

/-- The differential attention's in-projection: the same with another factor. -/
theorem algebraic_diff_in : Cert.algebraic_DiffInIdeal_DiffInRefIdeal (hDiffInIdeal := Cert.DiffInIdeal.Gen.facts)
    (hDiffInRefIdeal := Cert.DiffInRefIdeal.Gen.facts) := fun m ρ m' ρ' _ hargs =>
  ⟨fun c => Cert.In.result Cert.DiffIn.κ (m ((c.tc : Thread Cert.DiffInIdeal.nD Cert.DiffInIdeal.τ).loc Cert.DiffInIdeal.main_arg0))
      (m ((c.tc : Thread Cert.DiffInIdeal.nD Cert.DiffInIdeal.τ).loc Cert.DiffInIdeal.main_arg1))
      (m ((c.tc : Thread Cert.DiffInIdeal.nD Cert.DiffInIdeal.τ).loc Cert.DiffInIdeal.main_arg2))
      (m ((c.tc : Thread Cert.DiffInIdeal.nD Cert.DiffInIdeal.τ).loc Cert.DiffInIdeal.main_arg3))
      (m ((c.tc : Thread Cert.DiffInIdeal.nD Cert.DiffInIdeal.τ).loc Cert.DiffInIdeal.main_arg4)),
    (θ_run Cert.DiffInIdeal.defs _ _).mono (fun _ h c => ⟨(h c).1.trans (Cert.DiffIn.array_eq m rfl rfl rfl rfl rfl), (h c).2⟩)
      (Cert.DiffInIdeal.Value.run_blocks (F := Ideal) m ρ),
    (θ_run Cert.DiffInRefIdeal.defs _ _).mono (fun _ h c => ⟨(h c).1.trans (by rw [(hargs c).1, (hargs c).2.1, (hargs c).2.2.1, (hargs c).2.2.2.1, (hargs c).2.2.2.2]; rfl), (h c).2⟩)
      (Cert.DiffInRefIdeal.Value.run (F := Ideal) m' ρ')⟩

/-- The latent attention's projection of its keys and values: norm, product. -/
theorem algebraic_kv : Cert.algebraic_KvIdeal_KvRefIdeal (hKvIdeal := Cert.KvIdeal.Gen.facts)
    (hKvRefIdeal := Cert.KvRefIdeal.Gen.facts) := fun m ρ m' ρ' _ hargs =>
  ⟨fun c => Cert.Kv.result (m ((c.tc : Thread Cert.KvIdeal.nD Cert.KvIdeal.τ).loc Cert.KvIdeal.main_arg0))
      (m ((c.tc : Thread Cert.KvIdeal.nD Cert.KvIdeal.τ).loc Cert.KvIdeal.main_arg1))
      (m ((c.tc : Thread Cert.KvIdeal.nD Cert.KvIdeal.τ).loc Cert.KvIdeal.main_arg2)),
    (θ_run Cert.KvIdeal.defs _ _).mono (fun _ h c => ⟨(h c).1.trans (Cert.Kv.array_eq m rfl rfl rfl), (h c).2⟩)
      (Cert.KvIdeal.Value.run_blocks (F := Ideal) m ρ),
    (θ_run Cert.KvRefIdeal.defs _ _).mono (fun _ h c => ⟨(h c).1.trans (by rw [(hargs c).1, (hargs c).2.1, (hargs c).2.2]; rfl), (h c).2⟩)
      (Cert.KvRefIdeal.Value.run (F := Ideal) m' ρ')⟩

/-- The latent attention's projection of its queries: norm, product, the rotary turn. -/
theorem algebraic_query : Cert.algebraic_QueryIdeal_QueryRefIdeal (hQueryIdeal := Cert.QueryIdeal.Gen.facts)
    (hQueryRefIdeal := Cert.QueryRefIdeal.Gen.facts) := fun m ρ m' ρ' _ hargs =>
  ⟨fun c => Cert.Query.result (m ((c.tc : Thread Cert.QueryIdeal.nD Cert.QueryIdeal.τ).loc Cert.QueryIdeal.main_arg0))
      (m ((c.tc : Thread Cert.QueryIdeal.nD Cert.QueryIdeal.τ).loc Cert.QueryIdeal.main_arg1))
      (m ((c.tc : Thread Cert.QueryIdeal.nD Cert.QueryIdeal.τ).loc Cert.QueryIdeal.main_arg2)),
    (θ_run Cert.QueryIdeal.defs _ _).mono (fun _ h c => ⟨(h c).1.trans (Cert.Query.array_eq m rfl rfl rfl), (h c).2⟩)
      (Cert.QueryIdeal.Value.run_blocks (F := Ideal) m ρ),
    (θ_run Cert.QueryRefIdeal.defs _ _).mono (fun _ h c => ⟨(h c).1.trans (by
        unfold Cert.QueryRefIdeal.Value.res_main_v52
        rw [(hargs c).1, (hargs c).2.1, (hargs c).2.2]
        rfl), (h c).2⟩)
      (Cert.QueryRefIdeal.Value.run (F := Ideal) m' ρ')⟩

/-- The conditioning of all the layers: `silu`, product, bias. -/
theorem algebraic_mod : Cert.algebraic_ModIdeal_ModRefIdeal (hModIdeal := Cert.ModIdeal.Gen.facts)
    (hModRefIdeal := Cert.ModRefIdeal.Gen.facts) := fun m ρ m' ρ' _ hargs =>
  ⟨fun c => Cert.Mod.result (m ((c.tc : Thread Cert.ModIdeal.nD Cert.ModIdeal.τ).loc Cert.ModIdeal.main_arg0))
      (m ((c.tc : Thread Cert.ModIdeal.nD Cert.ModIdeal.τ).loc Cert.ModIdeal.main_arg1))
      (m ((c.tc : Thread Cert.ModIdeal.nD Cert.ModIdeal.τ).loc Cert.ModIdeal.main_arg2)),
    (θ_run Cert.ModIdeal.defs _ _).mono (fun _ h c => ⟨(h c).1.trans (Cert.Mod.array_eq m rfl rfl rfl), (h c).2⟩)
      (Cert.ModIdeal.Value.run_blocks (F := Ideal) m ρ),
    (θ_run Cert.ModRefIdeal.defs _ _).mono (fun _ h c => ⟨(h c).1.trans (by
        rw [(hargs c).1, (hargs c).2.1, (hargs c).2.2]
        rfl), (h c).2⟩)
      (Cert.ModRefIdeal.Value.run (F := Ideal) m' ρ')⟩

/-- Every claim: the frames by the runs, the named constant by its rule, the values by the theorems above. -/
theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Last.Gen.facts, Cert.LastIdeal.Gen.facts, Cert.LastRefIdeal.Gen.facts,
    Cert.SbIn.Gen.facts, Cert.SbInIdeal.Gen.facts, Cert.SbInRefIdeal.Gen.facts,
    Cert.DiffIn.Gen.facts, Cert.DiffInIdeal.Gen.facts, Cert.DiffInRefIdeal.Gen.facts,
    Cert.Kv.Gen.facts, Cert.KvIdeal.Gen.facts, Cert.KvRefIdeal.Gen.facts,
    Cert.Query.Gen.facts, Cert.QueryIdeal.Gen.facts, Cert.QueryRefIdeal.Gen.facts,
    Cert.Mod.Gen.facts, Cert.ModIdeal.Gen.facts, Cert.ModRefIdeal.Gen.facts,
    Cert.Flash.preFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.Up.Gen.frame m ρ, fun m ρ _ => Cert.UpIdeal.Gen.frame m ρ, frame_up,
    fun m ρ _ => Cert.Down.Gen.frame m ρ, fun m ρ _ => Cert.DownIdeal.Gen.frame m ρ, frame_down,
    fun m ρ _ => Cert.Out.Gen.frame m ρ, fun m ρ _ => Cert.OutIdeal.Gen.frame m ρ, frame_out,
    fun m ρ _ => Cert.Last.Gen.frame m ρ, fun m ρ _ => Cert.LastIdeal.Gen.frame m ρ, frame_last,
    fun m ρ _ => Cert.SbIn.Gen.frame m ρ, fun m ρ _ => Cert.SbInIdeal.Gen.frame m ρ, frame_sb_in,
    fun m ρ _ => Cert.DiffIn.Gen.frame m ρ, fun m ρ _ => Cert.DiffInIdeal.Gen.frame m ρ, frame_diff_in,
    fun m ρ _ => Cert.Kv.Gen.frame m ρ, fun m ρ _ => Cert.KvIdeal.Gen.frame m ρ, frame_kv,
    fun m ρ _ => Cert.Query.Gen.frame m ρ, fun m ρ _ => Cert.QueryIdeal.Gen.frame m ρ, frame_query,
    fun m ρ _ => Cert.Mod.Gen.frame m ρ, fun m ρ _ => Cert.ModIdeal.Gen.frame m ρ, frame_mod,
    IdealRules.named_const.statement _ _ _ _ _ rfl, algebraic, trivial, algebraic_up, trivial, algebraic_down, trivial, algebraic_out, trivial, algebraic_last,
    trivial, algebraic_sb_in, trivial, algebraic_diff_in, trivial, algebraic_kv, trivial, algebraic_query, trivial, algebraic_mod⟩

end Cert.Proof

end
